-- ==== Defs.lean ====
def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnIdeal_values_finite [hPre_values_finite : Cert.Pre_values_finite.Facts] (m : (ℓ : Loc Cert.GdnIdeal.nD Cert.GdnIdeal.τ Cert.GdnIdeal.sig) → Buf (Elt Ideal) ℓ) : Prop :=
  ∀ c : Dev Cert.GdnIdeal.nD,
    (Cert.Pre_values_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4)) (m ((c.tc : Thread Cert.GdnIdeal.nD Cert.GdnIdeal.τ).loc Cert.GdnIdeal.main_arg5)) (m ((c.tc : Thread Cert.GdnIdeal.nD Cert.GdnIdeal.τ).loc Cert.GdnIdeal.main_arg6))).1 = (fun _ => 1#1)
    ∧ (Cert.Pre_values_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4)) (m ((c.tc : Thread Cert.GdnIdeal.nD Cert.GdnIdeal.τ).loc Cert.GdnIdeal.main_arg5)) (m ((c.tc : Thread Cert.GdnIdeal.nD Cert.GdnIdeal.τ).loc Cert.GdnIdeal.main_arg6))).2.1 = (fun _ => 1#1)
    ∧ (Cert.Pre_values_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4)) (m ((c.tc : Thread Cert.GdnIdeal.nD Cert.GdnIdeal.τ).loc Cert.GdnIdeal.main_arg5)) (m ((c.tc : Thread Cert.GdnIdeal.nD Cert.GdnIdeal.τ).loc Cert.GdnIdeal.main_arg6))).2.2 = (fun _ => 1#1)

def Pre_GdnRefIdeal (m : (ℓ : Loc Cert.GdnRefIdeal.nD Cert.GdnRefIdeal.τ Cert.GdnRefIdeal.sig) → Buf (Elt Ideal) ℓ) : Prop :=
  True

def Pre_GdnRefIdeal_values_finite [hPre_values_finite : Cert.Pre_values_finite.Facts] (m : (ℓ : Loc Cert.GdnRefIdeal.nD Cert.GdnRefIdeal.τ Cert.GdnRefIdeal.sig) → Buf (Elt Ideal) ℓ) : Prop :=
  ∀ c : Dev Cert.GdnRefIdeal.nD,
    (Cert.Pre_values_finite.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4)) (m ((c.tc : Thread Cert.GdnRefIdeal.nD Cert.GdnRefIdeal.τ).loc Cert.GdnRefIdeal.main_arg5)) (m ((c.tc : Thread Cert.GdnRefIdeal.nD Cert.GdnRefIdeal.τ).loc Cert.GdnRefIdeal.main_arg6))).1 = (fun _ => 1#1)
    ∧ (Cert.Pre_values_finite.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4)) (m ((c.tc : Thread Cert.GdnRefIdeal.nD Cert.GdnRefIdeal.τ).loc Cert.GdnRefIdeal.main_arg5)) (m ((c.tc : Thread Cert.GdnRefIdeal.nD Cert.GdnRefIdeal.τ).loc Cert.GdnRefIdeal.main_arg6))).2.1 = (fun _ => 1#1)
    ∧ (Cert.Pre_values_finite.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4)) (m ((c.tc : Thread Cert.GdnRefIdeal.nD Cert.GdnRefIdeal.τ).loc Cert.GdnRefIdeal.main_arg5)) (m ((c.tc : Thread Cert.GdnRefIdeal.nD Cert.GdnRefIdeal.τ).loc Cert.GdnRefIdeal.main_arg6))).2.2 = (fun _ => 1#1)

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_HgrnPrompt (m : (ℓ : Loc Cert.HgrnPrompt.nD Cert.HgrnPrompt.τ Cert.HgrnPrompt.sig) → Buf (Elt Bits) ℓ) : Prop :=
  True

def Pre_HgrnPromptIdeal (m : (ℓ : Loc Cert.HgrnPromptIdeal.nD Cert.HgrnPromptIdeal.τ Cert.HgrnPromptIdeal.sig) → Buf (Elt Ideal) ℓ) : Prop :=
  True

def Pre_HgrnPromptRefIdeal (m : (ℓ : Loc Cert.HgrnPromptRefIdeal.nD Cert.HgrnPromptRefIdeal.τ Cert.HgrnPromptRefIdeal.sig) → Buf (Elt Ideal) ℓ) : Prop :=
  True

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6))
      ∧ r.2.sem = fun _ => 0)

def quiescent_GdnIdeal_pre_values_finite [hGdnIdeal : Cert.GdnIdeal.Facts] [hPre_values_finite : Cert.Pre_values_finite.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal_values_finite m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6))
      ∧ r.2.sem = fun _ => 0)

def quiescent_GdnRefIdeal_pre_values_finite [hGdnRefIdeal : Cert.GdnRefIdeal.Facts] [hPre_values_finite : Cert.Pre_values_finite.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal_values_finite m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8)
      ∧ r.2.mem ((c.tc : Thread Cert.FfnSample.nD Cert.FfnSample.τ).loc Cert.FfnSample.main_arg9) = m ((c.tc : Thread Cert.FfnSample.nD Cert.FfnSample.τ).loc Cert.FfnSample.main_arg9)
      ∧ r.2.mem ((c.tc : Thread Cert.FfnSample.nD Cert.FfnSample.τ).loc Cert.FfnSample.main_arg10) = m ((c.tc : Thread Cert.FfnSample.nD Cert.FfnSample.τ).loc Cert.FfnSample.main_arg10)
      ∧ r.2.mem ((c.tc : Thread Cert.FfnSample.nD Cert.FfnSample.τ).loc Cert.FfnSample.main_arg11) = m ((c.tc : Thread Cert.FfnSample.nD Cert.FfnSample.τ).loc Cert.FfnSample.main_arg11)
      ∧ r.2.mem ((c.tc : Thread Cert.FfnSample.nD Cert.FfnSample.τ).loc Cert.FfnSample.main_arg12) = m ((c.tc : Thread Cert.FfnSample.nD Cert.FfnSample.τ).loc Cert.FfnSample.main_arg12))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
      ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
      ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10)
      ∧ r.2.mem ((c.tc : Thread Cert.FfnSampleIdeal.nD Cert.FfnSampleIdeal.τ).loc Cert.FfnSampleIdeal.main_arg11) = m ((c.tc : Thread Cert.FfnSampleIdeal.nD Cert.FfnSampleIdeal.τ).loc Cert.FfnSampleIdeal.main_arg11)
      ∧ r.2.mem ((c.tc : Thread Cert.FfnSampleIdeal.nD Cert.FfnSampleIdeal.τ).loc Cert.FfnSampleIdeal.main_arg12) = m ((c.tc : Thread Cert.FfnSampleIdeal.nD Cert.FfnSampleIdeal.τ).loc Cert.FfnSampleIdeal.main_arg12))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6)
      ∧ r.2.mem ((c.tc : Thread Cert.FfnSampleRefIdeal.nD Cert.FfnSampleRefIdeal.τ).loc Cert.FfnSampleRefIdeal.main_arg7) = m ((c.tc : Thread Cert.FfnSampleRefIdeal.nD Cert.FfnSampleRefIdeal.τ).loc Cert.FfnSampleRefIdeal.main_arg7)
      ∧ r.2.mem ((c.tc : Thread Cert.FfnSampleRefIdeal.nD Cert.FfnSampleRefIdeal.τ).loc Cert.FfnSampleRefIdeal.main_arg8) = m ((c.tc : Thread Cert.FfnSampleRefIdeal.nD Cert.FfnSampleRefIdeal.τ).loc Cert.FfnSampleRefIdeal.main_arg8)
      ∧ r.2.mem ((c.tc : Thread Cert.FfnSampleRefIdeal.nD Cert.FfnSampleRefIdeal.τ).loc Cert.FfnSampleRefIdeal.main_arg9) = m ((c.tc : Thread Cert.FfnSampleRefIdeal.nD Cert.FfnSampleRefIdeal.τ).loc Cert.FfnSampleRefIdeal.main_arg9)
      ∧ r.2.mem ((c.tc : Thread Cert.FfnSampleRefIdeal.nD Cert.FfnSampleRefIdeal.τ).loc Cert.FfnSampleRefIdeal.main_arg10) = m ((c.tc : Thread Cert.FfnSampleRefIdeal.nD Cert.FfnSampleRefIdeal.τ).loc Cert.FfnSampleRefIdeal.main_arg10)
      ∧ r.2.mem ((c.tc : Thread Cert.FfnSampleRefIdeal.nD Cert.FfnSampleRefIdeal.τ).loc Cert.FfnSampleRefIdeal.main_arg11) = m ((c.tc : Thread Cert.FfnSampleRefIdeal.nD Cert.FfnSampleRefIdeal.τ).loc Cert.FfnSampleRefIdeal.main_arg11)
      ∧ r.2.mem ((c.tc : Thread Cert.FfnSampleRefIdeal.nD Cert.FfnSampleRefIdeal.τ).loc Cert.FfnSampleRefIdeal.main_arg12) = m ((c.tc : Thread Cert.FfnSampleRefIdeal.nD Cert.FfnSampleRefIdeal.τ).loc Cert.FfnSampleRefIdeal.main_arg12))
      ∧ r.2.sem = fun _ => 0)

def quiescent_HgrnPrompt [hHgrnPrompt : Cert.HgrnPrompt.Facts] : Prop :=
  ∀ (m : (ℓ : Loc Cert.HgrnPrompt.nD Cert.HgrnPrompt.τ Cert.HgrnPrompt.sig) → Buf (Elt Bits) ℓ) (g : Dev Cert.HgrnPrompt.nD → PrngReg), Pre_HgrnPrompt m →
    θ_run (Cert.HgrnPrompt.defs (F := Bits)) (onTc (τ := Cert.HgrnPrompt.τ) (Cert.HgrnPrompt.main (F := Bits))) ⟨m, fun _ => 0, g⟩ (fun r => (∀ c : Dev Cert.HgrnPrompt.nD,
      r.2.mem ((c.tc : Thread Cert.HgrnPrompt.nD Cert.HgrnPrompt.τ).loc Cert.HgrnPrompt.main_arg0) = m ((c.tc : Thread Cert.HgrnPrompt.nD Cert.HgrnPrompt.τ).loc Cert.HgrnPrompt.main_arg0)
      ∧ r.2.mem ((c.tc : Thread Cert.HgrnPrompt.nD Cert.HgrnPrompt.τ).loc Cert.HgrnPrompt.main_arg1) = m ((c.tc : Thread Cert.HgrnPrompt.nD Cert.HgrnPrompt.τ).loc Cert.HgrnPrompt.main_arg1)
      ∧ r.2.mem ((c.tc : Thread Cert.HgrnPrompt.nD Cert.HgrnPrompt.τ).loc Cert.HgrnPrompt.main_arg2) = m ((c.tc : Thread Cert.HgrnPrompt.nD Cert.HgrnPrompt.τ).loc Cert.HgrnPrompt.main_arg2))
      ∧ r.2.sem = fun _ => 0)

def quiescent_HgrnPromptIdeal [hHgrnPromptIdeal : Cert.HgrnPromptIdeal.Facts] : Prop :=
  ∀ (m : (ℓ : Loc Cert.HgrnPromptIdeal.nD Cert.HgrnPromptIdeal.τ Cert.HgrnPromptIdeal.sig) → Buf (Elt Ideal) ℓ) (g : Dev Cert.HgrnPromptIdeal.nD → PrngReg), Pre_HgrnPromptIdeal m →
    θ_run (Cert.HgrnPromptIdeal.defs (F := Ideal)) (onTc (τ := Cert.HgrnPromptIdeal.τ) (Cert.HgrnPromptIdeal.main (F := Ideal))) ⟨m, fun _ => 0, g⟩ (fun r => (∀ c : Dev Cert.HgrnPromptIdeal.nD,
      r.2.mem ((c.tc : Thread Cert.HgrnPromptIdeal.nD Cert.HgrnPromptIdeal.τ).loc Cert.HgrnPromptIdeal.main_arg0) = m ((c.tc : Thread Cert.HgrnPromptIdeal.nD Cert.HgrnPromptIdeal.τ).loc Cert.HgrnPromptIdeal.main_arg0)
      ∧ r.2.mem ((c.tc : Thread Cert.HgrnPromptIdeal.nD Cert.HgrnPromptIdeal.τ).loc Cert.HgrnPromptIdeal.main_arg1) = m ((c.tc : Thread Cert.HgrnPromptIdeal.nD Cert.HgrnPromptIdeal.τ).loc Cert.HgrnPromptIdeal.main_arg1)
      ∧ r.2.mem ((c.tc : Thread Cert.HgrnPromptIdeal.nD Cert.HgrnPromptIdeal.τ).loc Cert.HgrnPromptIdeal.main_arg2) = m ((c.tc : Thread Cert.HgrnPromptIdeal.nD Cert.HgrnPromptIdeal.τ).loc Cert.HgrnPromptIdeal.main_arg2))
      ∧ r.2.sem = fun _ => 0)

def quiescent_HgrnPromptRefIdeal [hHgrnPromptRefIdeal : Cert.HgrnPromptRefIdeal.Facts] : Prop :=
  ∀ (m : (ℓ : Loc Cert.HgrnPromptRefIdeal.nD Cert.HgrnPromptRefIdeal.τ Cert.HgrnPromptRefIdeal.sig) → Buf (Elt Ideal) ℓ) (g : Dev Cert.HgrnPromptRefIdeal.nD → PrngReg), Pre_HgrnPromptRefIdeal m →
    θ_run (Cert.HgrnPromptRefIdeal.defs (F := Ideal)) (onTc (τ := Cert.HgrnPromptRefIdeal.τ) (Cert.HgrnPromptRefIdeal.main (F := Ideal))) ⟨m, fun _ => 0, g⟩ (fun r => (∀ c : Dev Cert.HgrnPromptRefIdeal.nD,
      r.2.mem ((c.tc : Thread Cert.HgrnPromptRefIdeal.nD Cert.HgrnPromptRefIdeal.τ).loc Cert.HgrnPromptRefIdeal.main_arg0) = m ((c.tc : Thread Cert.HgrnPromptRefIdeal.nD Cert.HgrnPromptRefIdeal.τ).loc Cert.HgrnPromptRefIdeal.main_arg0)
      ∧ r.2.mem ((c.tc : Thread Cert.HgrnPromptRefIdeal.nD Cert.HgrnPromptRefIdeal.τ).loc Cert.HgrnPromptRefIdeal.main_arg1) = m ((c.tc : Thread Cert.HgrnPromptRefIdeal.nD Cert.HgrnPromptRefIdeal.τ).loc Cert.HgrnPromptRefIdeal.main_arg1)
      ∧ r.2.mem ((c.tc : Thread Cert.HgrnPromptRefIdeal.nD Cert.HgrnPromptRefIdeal.τ).loc Cert.HgrnPromptRefIdeal.main_arg2) = m ((c.tc : Thread Cert.HgrnPromptRefIdeal.nD Cert.HgrnPromptRefIdeal.τ).loc Cert.HgrnPromptRefIdeal.main_arg2))
      ∧ r.2.sem = fun _ => 0)

def preserves_Mlstm_MlstmIdeal : Prop :=
  True

def preserves_Hgrn_HgrnIdeal : Prop :=
  True

def preserves_Ffn_FfnIdeal : Prop :=
  True

def preserves_Proj_ProjIdeal : Prop :=
  True

def preserves_Gdn_GdnIdeal : Prop :=
  True

def preserves_FfnSample_FfnSampleIdeal : Prop :=
  True

def preserves_HgrnPrompt_HgrnPromptIdeal : Prop :=
  True

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)
      ∧ m' ((c.tc : Thread Cert.MlstmRefIdeal.nD Cert.MlstmRefIdeal.τ).loc Cert.MlstmRefIdeal.main_arg6) = m ((c.tc : Thread Cert.MlstmIdeal.nD Cert.MlstmIdeal.τ).loc Cert.MlstmIdeal.main_arg6)) →
    ∃ (v0 : (c : Dev Cert.MlstmIdeal.nD) → Buf (Elt Ideal) ((c.tc : Thread Cert.MlstmIdeal.nD Cert.MlstmIdeal.τ).loc Cert.MlstmIdeal.main_v8_0)) (v1 : (c : Dev Cert.MlstmIdeal.nD) → Buf (Elt Ideal) ((c.tc : Thread Cert.MlstmIdeal.nD Cert.MlstmIdeal.τ).loc Cert.MlstmIdeal.main_v8_1)) (v2 : (c : Dev Cert.MlstmIdeal.nD) → Buf (Elt Ideal) ((c.tc : Thread Cert.MlstmIdeal.nD Cert.MlstmIdeal.τ).loc Cert.MlstmIdeal.main_v8_2)) (v3 : (c : Dev Cert.MlstmIdeal.nD) → Buf (Elt Ideal) ((c.tc : Thread Cert.MlstmIdeal.nD Cert.MlstmIdeal.τ).loc Cert.MlstmIdeal.main_v8_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v8_0) = v0 c
          ∧ r.2.mem ((c.tc : Thread Cert.MlstmIdeal.nD Cert.MlstmIdeal.τ).loc Cert.MlstmIdeal.main_v8_1) = v1 c
          ∧ r.2.mem ((c.tc : Thread Cert.MlstmIdeal.nD Cert.MlstmIdeal.τ).loc Cert.MlstmIdeal.main_v8_2) = v2 c
          ∧ r.2.mem ((c.tc : Thread Cert.MlstmIdeal.nD Cert.MlstmIdeal.τ).loc Cert.MlstmIdeal.main_v8_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v121) = v0 c
          ∧ r.2.mem ((c.tc : Thread Cert.MlstmRefIdeal.nD Cert.MlstmRefIdeal.τ).loc Cert.MlstmRefIdeal.main_v93) = v1 c
          ∧ r.2.mem ((c.tc : Thread Cert.MlstmRefIdeal.nD Cert.MlstmRefIdeal.τ).loc Cert.MlstmRefIdeal.main_v98) = v2 c
          ∧ r.2.mem ((c.tc : Thread Cert.MlstmRefIdeal.nD Cert.MlstmRefIdeal.τ).loc Cert.MlstmRefIdeal.main_v122) = v3 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5)
          ∧ r.2.mem ((c.tc : Thread Cert.MlstmRefIdeal.nD Cert.MlstmRefIdeal.τ).loc Cert.MlstmRefIdeal.main_arg6) = m' ((c.tc : Thread Cert.MlstmRefIdeal.nD Cert.MlstmRefIdeal.τ).loc Cert.MlstmRefIdeal.main_arg6))

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v2_0)) (v1 : (c : Dev Cert.HgrnIdeal.nD) → Buf (Elt Ideal) ((c.tc : Thread Cert.HgrnIdeal.nD Cert.HgrnIdeal.τ).loc Cert.HgrnIdeal.main_v2_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v2_0) = v0 c
          ∧ r.2.mem ((c.tc : Thread Cert.HgrnIdeal.nD Cert.HgrnIdeal.τ).loc Cert.HgrnIdeal.main_v2_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v95) = v0 c
          ∧ r.2.mem ((c.tc : Thread Cert.HgrnRefIdeal.nD Cert.HgrnRefIdeal.τ).loc Cert.HgrnRefIdeal.main_v77) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v72) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12))

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v8) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)
      ∧ m' ((c.tc : Thread Cert.FfnSampleRefIdeal.nD Cert.FfnSampleRefIdeal.τ).loc Cert.FfnSampleRefIdeal.main_arg7) = m ((c.tc : Thread Cert.FfnSampleIdeal.nD Cert.FfnSampleIdeal.τ).loc Cert.FfnSampleIdeal.main_arg7)
      ∧ m' ((c.tc : Thread Cert.FfnSampleRefIdeal.nD Cert.FfnSampleRefIdeal.τ).loc Cert.FfnSampleRefIdeal.main_arg8) = m ((c.tc : Thread Cert.FfnSampleIdeal.nD Cert.FfnSampleIdeal.τ).loc Cert.FfnSampleIdeal.main_arg8)
      ∧ m' ((c.tc : Thread Cert.FfnSampleRefIdeal.nD Cert.FfnSampleRefIdeal.τ).loc Cert.FfnSampleRefIdeal.main_arg9) = m ((c.tc : Thread Cert.FfnSampleIdeal.nD Cert.FfnSampleIdeal.τ).loc Cert.FfnSampleIdeal.main_arg9)
      ∧ m' ((c.tc : Thread Cert.FfnSampleRefIdeal.nD Cert.FfnSampleRefIdeal.τ).loc Cert.FfnSampleRefIdeal.main_arg10) = m ((c.tc : Thread Cert.FfnSampleIdeal.nD Cert.FfnSampleIdeal.τ).loc Cert.FfnSampleIdeal.main_arg10)
      ∧ m' ((c.tc : Thread Cert.FfnSampleRefIdeal.nD Cert.FfnSampleRefIdeal.τ).loc Cert.FfnSampleRefIdeal.main_arg11) = m ((c.tc : Thread Cert.FfnSampleIdeal.nD Cert.FfnSampleIdeal.τ).loc Cert.FfnSampleIdeal.main_arg11)
      ∧ m' ((c.tc : Thread Cert.FfnSampleRefIdeal.nD Cert.FfnSampleRefIdeal.τ).loc Cert.FfnSampleRefIdeal.main_arg12) = m ((c.tc : Thread Cert.FfnSampleIdeal.nD Cert.FfnSampleIdeal.τ).loc Cert.FfnSampleIdeal.main_arg12)) →
    ∃ (v0 : (c : Dev Cert.FfnSampleIdeal.nD) → Buf (Elt Ideal) ((c.tc : Thread Cert.FfnSampleIdeal.nD Cert.FfnSampleIdeal.τ).loc Cert.FfnSampleIdeal.main_v8)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v8) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
          ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
          ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10)
          ∧ r.2.mem ((c.tc : Thread Cert.FfnSampleIdeal.nD Cert.FfnSampleIdeal.τ).loc Cert.FfnSampleIdeal.main_arg11) = m ((c.tc : Thread Cert.FfnSampleIdeal.nD Cert.FfnSampleIdeal.τ).loc Cert.FfnSampleIdeal.main_arg11)
          ∧ r.2.mem ((c.tc : Thread Cert.FfnSampleIdeal.nD Cert.FfnSampleIdeal.τ).loc Cert.FfnSampleIdeal.main_arg12) = m ((c.tc : Thread Cert.FfnSampleIdeal.nD Cert.FfnSampleIdeal.τ).loc Cert.FfnSampleIdeal.main_arg12))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v72) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6)
          ∧ r.2.mem ((c.tc : Thread Cert.FfnSampleRefIdeal.nD Cert.FfnSampleRefIdeal.τ).loc Cert.FfnSampleRefIdeal.main_arg7) = m' ((c.tc : Thread Cert.FfnSampleRefIdeal.nD Cert.FfnSampleRefIdeal.τ).loc Cert.FfnSampleRefIdeal.main_arg7)
          ∧ r.2.mem ((c.tc : Thread Cert.FfnSampleRefIdeal.nD Cert.FfnSampleRefIdeal.τ).loc Cert.FfnSampleRefIdeal.main_arg8) = m' ((c.tc : Thread Cert.FfnSampleRefIdeal.nD Cert.FfnSampleRefIdeal.τ).loc Cert.FfnSampleRefIdeal.main_arg8)
          ∧ r.2.mem ((c.tc : Thread Cert.FfnSampleRefIdeal.nD Cert.FfnSampleRefIdeal.τ).loc Cert.FfnSampleRefIdeal.main_arg9) = m' ((c.tc : Thread Cert.FfnSampleRefIdeal.nD Cert.FfnSampleRefIdeal.τ).loc Cert.FfnSampleRefIdeal.main_arg9)
          ∧ r.2.mem ((c.tc : Thread Cert.FfnSampleRefIdeal.nD Cert.FfnSampleRefIdeal.τ).loc Cert.FfnSampleRefIdeal.main_arg10) = m' ((c.tc : Thread Cert.FfnSampleRefIdeal.nD Cert.FfnSampleRefIdeal.τ).loc Cert.FfnSampleRefIdeal.main_arg10)
          ∧ r.2.mem ((c.tc : Thread Cert.FfnSampleRefIdeal.nD Cert.FfnSampleRefIdeal.τ).loc Cert.FfnSampleRefIdeal.main_arg11) = m' ((c.tc : Thread Cert.FfnSampleRefIdeal.nD Cert.FfnSampleRefIdeal.τ).loc Cert.FfnSampleRefIdeal.main_arg11)
          ∧ r.2.mem ((c.tc : Thread Cert.FfnSampleRefIdeal.nD Cert.FfnSampleRefIdeal.τ).loc Cert.FfnSampleRefIdeal.main_arg12) = m' ((c.tc : Thread Cert.FfnSampleRefIdeal.nD Cert.FfnSampleRefIdeal.τ).loc Cert.FfnSampleRefIdeal.main_arg12))

def algebraic_HgrnPromptIdeal_HgrnPromptRefIdeal [hHgrnPromptIdeal : Cert.HgrnPromptIdeal.Facts] [hHgrnPromptRefIdeal : Cert.HgrnPromptRefIdeal.Facts] : Prop :=
  ∀ (m : (ℓ : Loc Cert.HgrnPromptIdeal.nD Cert.HgrnPromptIdeal.τ Cert.HgrnPromptIdeal.sig) → Buf (Elt Ideal) ℓ) (g : Dev Cert.HgrnPromptIdeal.nD → PrngReg)
    (m' : (ℓ : Loc Cert.HgrnPromptRefIdeal.nD Cert.HgrnPromptRefIdeal.τ Cert.HgrnPromptRefIdeal.sig) → Buf (Elt Ideal) ℓ) (g' : Dev Cert.HgrnPromptRefIdeal.nD → PrngReg), Pre_HgrnPromptIdeal m →
    (∀ c : Dev Cert.HgrnPromptIdeal.nD,
      m' ((c.tc : Thread Cert.HgrnPromptRefIdeal.nD Cert.HgrnPromptRefIdeal.τ).loc Cert.HgrnPromptRefIdeal.main_arg0) = m ((c.tc : Thread Cert.HgrnPromptIdeal.nD Cert.HgrnPromptIdeal.τ).loc Cert.HgrnPromptIdeal.main_arg0)
      ∧ m' ((c.tc : Thread Cert.HgrnPromptRefIdeal.nD Cert.HgrnPromptRefIdeal.τ).loc Cert.HgrnPromptRefIdeal.main_arg1) = m ((c.tc : Thread Cert.HgrnPromptIdeal.nD Cert.HgrnPromptIdeal.τ).loc Cert.HgrnPromptIdeal.main_arg1)
      ∧ m' ((c.tc : Thread Cert.HgrnPromptRefIdeal.nD Cert.HgrnPromptRefIdeal.τ).loc Cert.HgrnPromptRefIdeal.main_arg2) = m ((c.tc : Thread Cert.HgrnPromptIdeal.nD Cert.HgrnPromptIdeal.τ).loc Cert.HgrnPromptIdeal.main_arg2)) →
    ∃ (v0 : (c : Dev Cert.HgrnPromptIdeal.nD) → Buf (Elt Ideal) ((c.tc : Thread Cert.HgrnPromptIdeal.nD Cert.HgrnPromptIdeal.τ).loc Cert.HgrnPromptIdeal.main_v3_1)),
      θ_run (Cert.HgrnPromptIdeal.defs (F := Ideal)) (onTc (τ := Cert.HgrnPromptIdeal.τ) (Cert.HgrnPromptIdeal.main (F := Ideal))) ⟨m, fun _ => 0, g⟩ (fun r => ∀ c : Dev Cert.HgrnPromptIdeal.nD,
          r.2.mem ((c.tc : Thread Cert.HgrnPromptIdeal.nD Cert.HgrnPromptIdeal.τ).loc Cert.HgrnPromptIdeal.main_v3_1) = v0 c
          ∧ r.2.mem ((c.tc : Thread Cert.HgrnPromptIdeal.nD Cert.HgrnPromptIdeal.τ).loc Cert.HgrnPromptIdeal.main_arg0) = m ((c.tc : Thread Cert.HgrnPromptIdeal.nD Cert.HgrnPromptIdeal.τ).loc Cert.HgrnPromptIdeal.main_arg0)
          ∧ r.2.mem ((c.tc : Thread Cert.HgrnPromptIdeal.nD Cert.HgrnPromptIdeal.τ).loc Cert.HgrnPromptIdeal.main_arg1) = m ((c.tc : Thread Cert.HgrnPromptIdeal.nD Cert.HgrnPromptIdeal.τ).loc Cert.HgrnPromptIdeal.main_arg1)
          ∧ r.2.mem ((c.tc : Thread Cert.HgrnPromptIdeal.nD Cert.HgrnPromptIdeal.τ).loc Cert.HgrnPromptIdeal.main_arg2) = m ((c.tc : Thread Cert.HgrnPromptIdeal.nD Cert.HgrnPromptIdeal.τ).loc Cert.HgrnPromptIdeal.main_arg2))
      ∧ θ_run (Cert.HgrnPromptRefIdeal.defs (F := Ideal)) (onTc (τ := Cert.HgrnPromptRefIdeal.τ) (Cert.HgrnPromptRefIdeal.main (F := Ideal))) ⟨m', fun _ => 0, g'⟩ (fun r => ∀ c : Dev Cert.HgrnPromptRefIdeal.nD,
          r.2.mem ((c.tc : Thread Cert.HgrnPromptRefIdeal.nD Cert.HgrnPromptRefIdeal.τ).loc Cert.HgrnPromptRefIdeal.main_v43_4) = v0 c
          ∧ r.2.mem ((c.tc : Thread Cert.HgrnPromptRefIdeal.nD Cert.HgrnPromptRefIdeal.τ).loc Cert.HgrnPromptRefIdeal.main_arg0) = m' ((c.tc : Thread Cert.HgrnPromptRefIdeal.nD Cert.HgrnPromptRefIdeal.τ).loc Cert.HgrnPromptRefIdeal.main_arg0)
          ∧ r.2.mem ((c.tc : Thread Cert.HgrnPromptRefIdeal.nD Cert.HgrnPromptRefIdeal.τ).loc Cert.HgrnPromptRefIdeal.main_arg1) = m' ((c.tc : Thread Cert.HgrnPromptRefIdeal.nD Cert.HgrnPromptRefIdeal.τ).loc Cert.HgrnPromptRefIdeal.main_arg1)
          ∧ r.2.mem ((c.tc : Thread Cert.HgrnPromptRefIdeal.nD Cert.HgrnPromptRefIdeal.τ).loc Cert.HgrnPromptRefIdeal.main_arg2) = m' ((c.tc : Thread Cert.HgrnPromptRefIdeal.nD Cert.HgrnPromptRefIdeal.τ).loc Cert.HgrnPromptRefIdeal.main_arg2))

def algebraic_GdnIdeal_GdnRefIdeal_pre_values_finite [hGdnIdeal : Cert.GdnIdeal.Facts] [hGdnRefIdeal : Cert.GdnRefIdeal.Facts] [hPre_values_finite : Cert.Pre_values_finite.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal_values_finite m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)
      ∧ m' ((c.tc : Thread Cert.GdnRefIdeal.nD Cert.GdnRefIdeal.τ).loc Cert.GdnRefIdeal.main_arg3) = m ((c.tc : Thread Cert.GdnIdeal.nD Cert.GdnIdeal.τ).loc Cert.GdnIdeal.main_arg3)
      ∧ m' ((c.tc : Thread Cert.GdnRefIdeal.nD Cert.GdnRefIdeal.τ).loc Cert.GdnRefIdeal.main_arg4) = m ((c.tc : Thread Cert.GdnIdeal.nD Cert.GdnIdeal.τ).loc Cert.GdnIdeal.main_arg4)
      ∧ m' ((c.tc : Thread Cert.GdnRefIdeal.nD Cert.GdnRefIdeal.τ).loc Cert.GdnRefIdeal.main_arg5) = m ((c.tc : Thread Cert.GdnIdeal.nD Cert.GdnIdeal.τ).loc Cert.GdnIdeal.main_arg5)
      ∧ m' ((c.tc : Thread Cert.GdnRefIdeal.nD Cert.GdnRefIdeal.τ).loc Cert.GdnRefIdeal.main_arg6) = m ((c.tc : Thread Cert.GdnIdeal.nD Cert.GdnIdeal.τ).loc Cert.GdnIdeal.main_arg6)) →
    ∃ (v0 : (c : Dev Cert.GdnIdeal.nD) → Buf (Elt Ideal) ((c.tc : Thread Cert.GdnIdeal.nD Cert.GdnIdeal.τ).loc Cert.GdnIdeal.main_v14_0)) (v1 : (c : Dev Cert.GdnIdeal.nD) → Buf (Elt Ideal) ((c.tc : Thread Cert.GdnIdeal.nD Cert.GdnIdeal.τ).loc Cert.GdnIdeal.main_v14_1)) (v2 : (c : Dev Cert.GdnIdeal.nD) → Buf (Elt Ideal) ((c.tc : Thread Cert.GdnIdeal.nD Cert.GdnIdeal.τ).loc Cert.GdnIdeal.main_v14_2)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v14_0) = v0 c
          ∧ r.2.mem ((c.tc : Thread Cert.GdnIdeal.nD Cert.GdnIdeal.τ).loc Cert.GdnIdeal.main_v14_1) = v1 c
          ∧ r.2.mem ((c.tc : Thread Cert.GdnIdeal.nD Cert.GdnIdeal.τ).loc Cert.GdnIdeal.main_v14_2) = v2 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
          ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
          ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v349) = v0 c
          ∧ r.2.mem ((c.tc : Thread Cert.GdnRefIdeal.nD Cert.GdnRefIdeal.τ).loc Cert.GdnRefIdeal.main_v331) = v1 c
          ∧ r.2.mem ((c.tc : Thread Cert.GdnRefIdeal.nD Cert.GdnRefIdeal.τ).loc Cert.GdnRefIdeal.main_v35) = v2 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2)
          ∧ r.2.mem ((c.tc : Thread Cert.GdnRefIdeal.nD Cert.GdnRefIdeal.τ).loc Cert.GdnRefIdeal.main_arg3) = m' ((c.tc : Thread Cert.GdnRefIdeal.nD Cert.GdnRefIdeal.τ).loc Cert.GdnRefIdeal.main_arg3)
          ∧ r.2.mem ((c.tc : Thread Cert.GdnRefIdeal.nD Cert.GdnRefIdeal.τ).loc Cert.GdnRefIdeal.main_arg4) = m' ((c.tc : Thread Cert.GdnRefIdeal.nD Cert.GdnRefIdeal.τ).loc Cert.GdnRefIdeal.main_arg4)
          ∧ r.2.mem ((c.tc : Thread Cert.GdnRefIdeal.nD Cert.GdnRefIdeal.τ).loc Cert.GdnRefIdeal.main_arg5) = m' ((c.tc : Thread Cert.GdnRefIdeal.nD Cert.GdnRefIdeal.τ).loc Cert.GdnRefIdeal.main_arg5)
          ∧ r.2.mem ((c.tc : Thread Cert.GdnRefIdeal.nD Cert.GdnRefIdeal.τ).loc Cert.GdnRefIdeal.main_arg6) = m' ((c.tc : Thread Cert.GdnRefIdeal.nD Cert.GdnRefIdeal.τ).loc Cert.GdnRefIdeal.main_arg6))

def Claim : Prop :=
  ∃ (hMlstm : Cert.Mlstm.Facts) (hMlstmIdeal : Cert.MlstmIdeal.Facts) (hMlstmRefIdeal : Cert.MlstmRefIdeal.Facts) (hHgrn : Cert.Hgrn.Facts) (hHgrnIdeal : Cert.HgrnIdeal.Facts) (hHgrnRefIdeal : Cert.HgrnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hGdn : Cert.Gdn.Facts) (hGdnIdeal : Cert.GdnIdeal.Facts) (hGdnRefIdeal : Cert.GdnRefIdeal.Facts) (hFfnSample : Cert.FfnSample.Facts) (hFfnSampleIdeal : Cert.FfnSampleIdeal.Facts) (hFfnSampleRefIdeal : Cert.FfnSampleRefIdeal.Facts) (hHgrnPrompt : Cert.HgrnPrompt.Facts) (hHgrnPromptIdeal : Cert.HgrnPromptIdeal.Facts) (hHgrnPromptRefIdeal : Cert.HgrnPromptRefIdeal.Facts) (hPre_values_finite : Cert.Pre_values_finite.Facts),
    quiescent_Mlstm (hMlstm := hMlstm)
    ∧ quiescent_MlstmIdeal (hMlstmIdeal := hMlstmIdeal)
    ∧ quiescent_MlstmRefIdeal (hMlstmRefIdeal := hMlstmRefIdeal)
    ∧ quiescent_Hgrn (hHgrn := hHgrn)
    ∧ quiescent_HgrnIdeal (hHgrnIdeal := hHgrnIdeal)
    ∧ quiescent_HgrnRefIdeal (hHgrnRefIdeal := hHgrnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Gdn (hGdn := hGdn)
    ∧ quiescent_GdnIdeal (hGdnIdeal := hGdnIdeal)
    ∧ quiescent_GdnIdeal_pre_values_finite (hGdnIdeal := hGdnIdeal) (hPre_values_finite := hPre_values_finite)
    ∧ quiescent_GdnRefIdeal (hGdnRefIdeal := hGdnRefIdeal)
    ∧ quiescent_GdnRefIdeal_pre_values_finite (hGdnRefIdeal := hGdnRefIdeal) (hPre_values_finite := hPre_values_finite)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_HgrnPrompt (hHgrnPrompt := hHgrnPrompt)
    ∧ quiescent_HgrnPromptIdeal (hHgrnPromptIdeal := hHgrnPromptIdeal)
    ∧ quiescent_HgrnPromptRefIdeal (hHgrnPromptRefIdeal := hHgrnPromptRefIdeal)
    ∧ preserves_Mlstm_MlstmIdeal
    ∧ preserves_Hgrn_HgrnIdeal
    ∧ preserves_Ffn_FfnIdeal
    ∧ preserves_Proj_ProjIdeal
    ∧ preserves_Gdn_GdnIdeal
    ∧ preserves_FfnSample_FfnSampleIdeal
    ∧ preserves_HgrnPrompt_HgrnPromptIdeal
    ∧ algebraic_MlstmIdeal_MlstmRefIdeal (hMlstmIdeal := hMlstmIdeal) (hMlstmRefIdeal := hMlstmRefIdeal)
    ∧ algebraic_HgrnIdeal_HgrnRefIdeal (hHgrnIdeal := hHgrnIdeal) (hHgrnRefIdeal := hHgrnRefIdeal)
    ∧ algebraic_FfnIdeal_FfnRefIdeal (hFfnIdeal := hFfnIdeal) (hFfnRefIdeal := hFfnRefIdeal)
    ∧ algebraic_ProjIdeal_ProjRefIdeal (hProjIdeal := hProjIdeal) (hProjRefIdeal := hProjRefIdeal)
    ∧ algebraic_FfnSampleIdeal_FfnSampleRefIdeal (hFfnSampleIdeal := hFfnSampleIdeal) (hFfnSampleRefIdeal := hFfnSampleRefIdeal)
    ∧ algebraic_HgrnPromptIdeal_HgrnPromptRefIdeal (hHgrnPromptIdeal := hHgrnPromptIdeal) (hHgrnPromptRefIdeal := hHgrnPromptRefIdeal)
    ∧ algebraic_GdnIdeal_GdnRefIdeal_pre_values_finite (hGdnIdeal := hGdnIdeal) (hGdnRefIdeal := hGdnRefIdeal) (hPre_values_finite := hPre_values_finite)
-- ==== Pre_values_finite.lean ====
abbrev S1024x8832 : Shape := ⟨2, ![1024, 8832]⟩
abbrev S4x1536 : Shape := ⟨2, ![4, 1536]⟩
abbrev S4 : Shape := ⟨1, ![4]⟩
abbrev S512 : Shape := ⟨1, ![512]⟩
abbrev S128x4x128x128 : Shape := ⟨4, ![128, 4, 128, 128]⟩
abbrev S128x3x1536 : Shape := ⟨3, ![128, 3, 1536]⟩
abbrev S1024x512 : Shape := ⟨2, ![1024, 512]⟩
abbrev S_ : Shape := ⟨0, ![]⟩
abbrev S4x512 : Shape := ⟨2, ![4, 512]⟩
abbrev S128x3x512 : Shape := ⟨3, ![128, 3, 512]⟩

class Facts : Prop where
  slices_S1024x8832_S1024x512_0_3072 : S1024x8832.Slices ![0, 3072] S1024x512
  bcast_S_S1024x512 : S_.BroadcastsInDim S1024x512 (![] : Fin 0 → Fin S1024x512.rank)
  slices_S4x1536_S4x512_0_1024 : S4x1536.Slices ![0, 1024] S4x512
  bcast_S_S4x512 : S_.BroadcastsInDim S4x512 (![] : Fin 0 → Fin S4x512.rank)
  slices_S128x3x1536_S128x3x512_0_0_1024 : S128x3x1536.Slices ![0, 0, 1024] S128x3x512
  bcast_S_S128x3x512 : S_.BroadcastsInDim S128x3x512 (![] : Fin 0 → Fin S128x3x512.rank)

variable [Facts]

def fn {F : FTy → Type} [FloatOps F] (main_arg0 : FVec F S1024x8832 .f32) (main_arg1 : FVec F S4x1536 .f32) (main_arg2 : FVec F S4 .f32) (main_arg3 : FVec F S4 .f32) (main_arg4 : FVec F S512 .f32) (main_arg5 : FVec F S128x4x128x128 .f32) (main_arg6 : FVec F S128x3x1536 .f32) : IVec S1024x512 1 × IVec S4x512 1 × IVec S128x3x512 1 :=
  let main_v0 : FVec F S1024x512 .f32 := (extractStridedSlice S1024x512 ![0, 3072] · slices_S1024x8832_S1024x512_0_3072) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_v4 : FVec F S4x512 .f32 := (extractStridedSlice S4x512 ![0, 1024] · slices_S4x1536_S4x512_0_1024) main_arg1
  let main_v5 : FVec F S4x512 .f32 := Host.absf main_v4
  let main_cst_0 : FVec F S_ .f32 := constant S_ .f32 0x7F800000#32
  let main_v6 : FVec F S4x512 .f32 := broadcastInDim S4x512 ![] bcast_S_S4x512 main_cst_0
  let main_v7 : IVec S4x512 1 := cmpf .olt main_v5 main_v6
  let main_v8 : FVec F S128x3x512 .f32 := (extractStridedSlice S128x3x512 ![0, 0, 1024] · slices_S128x3x1536_S128x3x512_0_0_1024) main_arg6
  let main_v9 : FVec F S128x3x512 .f32 := Host.absf main_v8
  let main_cst_1 : FVec F S_ .f32 := constant S_ .f32 0x7F800000#32
  let main_v10 : FVec F S128x3x512 .f32 := broadcastInDim S128x3x512 ![] bcast_S_S128x3x512 main_cst_1
  let main_v11 : IVec S128x3x512 1 := cmpf .olt main_v9 main_v10
  (main_v3, main_v7, main_v11)
-- ==== Mlstm.lean ====
abbrev S1024x8832 : Shape := ⟨2, ![1024, 8832]⟩
abbrev S4 : Shape := ⟨1, ![4]⟩
abbrev S512 : Shape := ⟨1, ![512]⟩
abbrev S128x4x128x64 : Shape := ⟨4, ![128, 4, 128, 64]⟩
abbrev S128x4x64 : Shape := ⟨3, ![128, 4, 64]⟩
abbrev S128x4 : Shape := ⟨2, ![128, 4]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S1x512 : Shape := ⟨2, ![1, 512]⟩
abbrev S128x4x1 : Shape := ⟨3, ![128, 4, 1]⟩
abbrev S1024x512 : Shape := ⟨2, ![1024, 512]⟩
abbrev S8x512 : Shape := ⟨2, ![8, 512]⟩
abbrev S8x128 : Shape := ⟨2, ![8, 128]⟩
abbrev S1x4x128x64 : Shape := ⟨4, ![1, 4, 128, 64]⟩
abbrev S1x4x64 : Shape := ⟨3, ![1, 4, 64]⟩
abbrev S1x4x1 : Shape := ⟨3, ![1, 4, 1]⟩
abbrev S4x128x64 : Shape := ⟨3, ![4, 128, 64]⟩
abbrev S4x1x64 : Shape := ⟨3, ![4, 1, 64]⟩
abbrev S1x1x128x64 : Shape := ⟨4, ![1, 1, 128, 64]⟩
abbrev S128x64 : Shape := ⟨2, ![128, 64]⟩
abbrev S1x128x64 : Shape := ⟨3, ![1, 128, 64]⟩
abbrev S1x1x64 : Shape := ⟨3, ![1, 1, 64]⟩
abbrev S1x64 : Shape := ⟨2, ![1, 64]⟩
abbrev S1x1x1 : Shape := ⟨3, ![1, 1, 1]⟩
abbrev S1x1 : Shape := ⟨2, ![1, 1]⟩
abbrev S8x8 : Shape := ⟨2, ![8, 8]⟩
abbrev S8x64 : Shape := ⟨2, ![8, 64]⟩
abbrev S8x1 : Shape := ⟨2, ![8, 1]⟩
abbrev S1x8 : Shape := ⟨2, ![1, 8]⟩
abbrev S64 : Shape := ⟨1, ![64]⟩

abbrev nBuf : Space → Nat
  | .hbm => 22
  | .vmem => 27
  | .smem => 0
  | _ => 0

abbrev bufTy : (tb : Table) → Fin (tcTables nBuf tb) → BufTy
  | .hbm, ⟨0, _⟩ => ⟨S1024x8832, .f32⟩
  | .hbm, ⟨1, _⟩ => ⟨S4, .f32⟩
  | .hbm, ⟨2, _⟩ => ⟨S4, .f32⟩
  | .hbm, ⟨3, _⟩ => ⟨S512, .f32⟩
  | .hbm, ⟨4, _⟩ => ⟨S128x4x128x64, .f32⟩
  | .hbm, ⟨5, _⟩ => ⟨S128x4x64, .f32⟩
  | .hbm, ⟨6, _⟩ => ⟨S128x4, .f32⟩
  | .hbm, ⟨7, _⟩ => ⟨S8, .f32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S1x512, .f32⟩
  | .hbm, ⟨17, _⟩ => ⟨S128x4x1, .f32⟩
  | .hbm, ⟨18, _⟩ => ⟨S1024x512, .f32⟩
  | .hbm, ⟨19, _⟩ => ⟨S128x4x128x64, .f32⟩
  | .hbm, ⟨20, _⟩ => ⟨S128x4x64, .f32⟩
  | .hbm, ⟨21, _⟩ => ⟨S128x4x1, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | .local _ .vmem, ⟨9, _⟩ => ⟨S1x512, .f32⟩
  | .local _ .vmem, ⟨10, _⟩ => ⟨S1x4x128x64, .f32⟩
  | .local _ .vmem, ⟨11, _⟩ => ⟨S1x4x128x64, .f32⟩
  | .local _ .vmem, ⟨12, _⟩ => ⟨S1x4x64, .f32⟩
  | .local _ .vmem, ⟨13, _⟩ => ⟨S1x4x64, .f32⟩
  | .local _ .vmem, ⟨14, _⟩ => ⟨S1x4x1, .f32⟩
  | .local _ .vmem, ⟨15, _⟩ => ⟨S1x4x1, .f32⟩
  | .local _ .vmem, ⟨16, _⟩ => ⟨S8x512, .f32⟩
  | .local _ .vmem, ⟨17, _⟩ => ⟨S8x512, .f32⟩
  | .local _ .vmem, ⟨18, _⟩ => ⟨S1x4x128x64, .f32⟩
  | .local _ .vmem, ⟨19, _⟩ => ⟨S1x4x128x64, .f32⟩
  | .local _ .vmem, ⟨20, _⟩ => ⟨S1x4x64, .f32⟩
  | .local _ .vmem, ⟨21, _⟩ => ⟨S1x4x64, .f32⟩
  | .local _ .vmem, ⟨22, _⟩ => ⟨S1x4x1, .f32⟩
  | .local _ .vmem, ⟨23, _⟩ => ⟨S1x4x1, .f32⟩
  | .local _ .vmem, ⟨24, _⟩ => ⟨S4x128x64, .f32⟩
  | .local _ .vmem, ⟨25, _⟩ => ⟨S4x1x64, .f32⟩
  | .local _ .vmem, ⟨26, _⟩ => ⟨S8x128, .f32⟩
  | _, _ => ⟨S1024x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_172 : BitVec 32 := 0#32
  let v554 : BitVec 1 := Scalar.cmpi .eq arg1 c0_i32_172
  let v555 : BitVec 32 := Scalar.extui v554
  let c0_i32_173 : BitVec 32 := 0#32
  let v556 : BitVec 1 := Scalar.cmpi .ne v555 c0_i32_173
  v556

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c14_i32 : BitVec 32 := 14#32
  let c0_i32 : BitVec 32 := 0#32
  ![v1.toNat, c14_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c15_i32 : BitVec 32 := 15#32
  let c0_i32 : BitVec 32 := 0#32
  ![v1.toNat, c15_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c16_i32 : BitVec 32 := 16#32
  let c0_i32 : BitVec 32 := 0#32
  ![v1.toNat, c16_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c68_i32 : BitVec 32 := 68#32
  let c0_i32 : BitVec 32 := 0#32
  ![v1.toNat, c68_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MlstmRefIdeal.lean ====
abbrev S1024x8832 : Shape := ⟨2, ![1024, 8832]⟩
abbrev S4 : Shape := ⟨1, ![4]⟩
abbrev S512 : Shape := ⟨1, ![512]⟩
abbrev S128x4x128x64 : Shape := ⟨4, ![128, 4, 128, 64]⟩
abbrev S128x4x64 : Shape := ⟨3, ![128, 4, 64]⟩
abbrev S128x4 : Shape := ⟨2, ![128, 4]⟩
abbrev S128x8x8832 : Shape := ⟨3, ![128, 8, 8832]⟩
abbrev S128x8x256 : Shape := ⟨3, ![128, 8, 256]⟩
abbrev S128x8x512 : Shape := ⟨3, ![128, 8, 512]⟩
abbrev S128x8x4 : Shape := ⟨3, ![128, 8, 4]⟩
abbrev S1x1x4 : Shape := ⟨3, ![1, 1, 4]⟩
abbrev S128x4x8 : Shape := ⟨3, ![128, 4, 8]⟩
abbrev S_ : Shape := ⟨0, ![]⟩
abbrev S128x8x4x64 : Shape := ⟨4, ![128, 8, 4, 64]⟩
abbrev S128x4x8x64 : Shape := ⟨4, ![128, 4, 8, 64]⟩
abbrev S128x8x4x128 : Shape := ⟨4, ![128, 8, 4, 128]⟩
abbrev S128x4x8x128 : Shape := ⟨4, ![128, 4, 8, 128]⟩
abbrev S8x8 : Shape := ⟨2, ![8, 8]⟩
abbrev S128x4x8x1 : Shape := ⟨4, ![128, 4, 8, 1]⟩
abbrev S128x4x1x8 : Shape := ⟨4, ![128, 4, 1, 8]⟩
abbrev S128x4x8x8 : Shape := ⟨4, ![128, 4, 8, 8]⟩
abbrev S128x4x1 : Shape := ⟨3, ![128, 4, 1]⟩
abbrev S128x4x1x1 : Shape := ⟨4, ![128, 4, 1, 1]⟩
abbrev S1x1x512 : Shape := ⟨3, ![1, 1, 512]⟩
abbrev S1024x512 : Shape := ⟨2, ![1024, 512]⟩

abbrev nBuf : Space → Nat
  | .hbm => 177
  | .vmem => 0
  | .smem => 0
  | _ => 0

abbrev hbmTy0_0 (i : Nat) : BufTy := match i % 128 with
  | 0 => ⟨S1024x8832, .f32⟩
  | 1 => ⟨S4, .f32⟩
  | 2 => ⟨S4, .f32⟩
  | 3 => ⟨S512, .f32⟩
  | 4 => ⟨S128x4x128x64, .f32⟩
  | 5 => ⟨S128x4x64, .f32⟩
  | 6 => ⟨S128x4, .f32⟩
  | 7 => ⟨S128x8x8832, .f32⟩
  | 8 => ⟨S128x8x256, .f32⟩
  | 9 => ⟨S128x8x256, .f32⟩
  | 10 => ⟨S128x8x512, .f32⟩
  | 11 => ⟨S128x8x512, .f32⟩
  | 12 => ⟨S128x8x4, .f32⟩
  | 13 => ⟨S128x8x4, .f32⟩
  | 14 => ⟨S1x1x4, .f32⟩
  | 15 => ⟨S128x8x4, .f32⟩
  | 16 => ⟨S128x8x4, .f32⟩
  | 17 => ⟨S128x4x8, .f32⟩
  | 18 => ⟨S1x1x4, .f32⟩
  | 19 => ⟨S128x8x4, .f32⟩
  | 20 => ⟨S128x8x4, .f32⟩
  | 21 => ⟨S128x8x4, .f32⟩
  | 22 => ⟨S_, .f32⟩
  | 23 => ⟨S128x8x4, .f32⟩
  | 24 => ⟨S128x8x4, .f32⟩
  | 25 => ⟨S128x8x4, .f32⟩
  | 26 => ⟨S128x8x4, .f32⟩
  | 27 => ⟨S128x8x4, .i1⟩
  | 28 => ⟨S128x8x4, .f32⟩
  | 29 => ⟨S128x8x4, .f32⟩
  | 30 => ⟨S128x8x4, .f32⟩
  | 31 => ⟨S128x8x4, .f32⟩
  | 32 => ⟨S128x8x4, .f32⟩
  | 33 => ⟨S128x8x4, .f32⟩
  | 34 => ⟨S128x8x4, .f32⟩
  | 35 => ⟨S128x8x4, .f32⟩
  | 36 => ⟨S128x8x4, .f32⟩
  | 37 => ⟨S128x4x8, .f32⟩
  | 38 => ⟨S128x8x4x64, .f32⟩
  | 39 => ⟨S128x4x8x64, .f32⟩
  | 40 => ⟨S_, .f32⟩
  | 41 => ⟨S128x4x8x64, .f32⟩
  | 42 => ⟨S128x4x8x64, .f32⟩
  | 43 => ⟨S128x8x4x64, .f32⟩
  | 44 => ⟨S128x4x8x64, .f32⟩
  | 45 => ⟨S128x8x4x128, .f32⟩
  | 46 => ⟨S128x4x8x128, .f32⟩
  | 47 => ⟨S_, .i1⟩
  | 48 => ⟨S8x8, .i1⟩
  | 49 => ⟨S8x8, .i32⟩
  | 50 => ⟨S_, .i32⟩
  | 51 => ⟨S8x8, .i32⟩
  | 52 => ⟨S8x8, .i32⟩
  | 53 => ⟨S8x8, .i32⟩
  | 54 => ⟨S8x8, .i1⟩
  | 55 => ⟨S_, .i1⟩
  | 56 => ⟨S8x8, .i1⟩
  | 57 => ⟨S8x8, .i1⟩
  | 58 => ⟨S_, .f32⟩
  | 59 => ⟨S_, .f32⟩
  | 60 => ⟨S128x4x8, .f32⟩
  | 61 => ⟨S128x4x8x1, .f32⟩
  | 62 => ⟨S128x4x1x8, .f32⟩
  | 63 => ⟨S128x4x8x8, .f32⟩
  | 64 => ⟨S128x4x8x8, .f32⟩
  | 65 => ⟨S128x4x8x8, .f32⟩
  | 66 => ⟨S128x4x1x8, .f32⟩
  | 67 => ⟨S128x4x8x8, .f32⟩
  | 68 => ⟨S128x4x8x8, .f32⟩
  | 69 => ⟨S_, .f32⟩
  | 70 => ⟨S_, .f32⟩
  | 71 => ⟨S128x4x8x8, .i1⟩
  | 72 => ⟨S128x4x8x8, .f32⟩
  | 73 => ⟨S128x4x8x8, .f32⟩
  | 74 => ⟨S128x4x1, .f32⟩
  | 75 => ⟨S128x4x8, .f32⟩
  | 76 => ⟨S128x4x8, .f32⟩
  | 77 => ⟨S_, .f32⟩
  | 78 => ⟨S128x4x8, .f32⟩
  | 79 => ⟨S128x4x8, .f32⟩
  | 80 => ⟨S128x4x8, .f32⟩
  | 81 => ⟨S128x4x8, .f32⟩
  | 82 => ⟨S128x4x8x8, .f32⟩
  | 83 => ⟨S128x4x8x1, .f32⟩
  | 84 => ⟨S128x4x8x8, .f32⟩
  | 85 => ⟨S128x4x8x8, .f32⟩
  | 86 => ⟨S_, .f32⟩
  | 87 => ⟨S_, .f32⟩
  | 88 => ⟨S128x4x8x8, .i1⟩
  | 89 => ⟨S128x4x8x8, .f32⟩
  | 90 => ⟨S128x4x8x8, .f32⟩
  | 91 => ⟨S128x4x8x8, .f32⟩
  | 92 => ⟨S_, .f32⟩
  | 93 => ⟨S_, .f32⟩
  | 94 => ⟨S128x4x8x8, .i1⟩
  | 95 => ⟨S128x4x8x8, .f32⟩
  | 96 => ⟨S128x4x8x8, .f32⟩
  | 97 => ⟨S128x4x8x8, .f32⟩
  | 98 => ⟨S128x4x8x1, .f32⟩
  | 99 => ⟨S128x4x8x128, .f32⟩
  | 100 => ⟨S128x4x8x128, .f32⟩
  | 101 => ⟨S128x4x8x128, .f32⟩
  | 102 => ⟨S128x4x8x128, .f32⟩
  | 103 => ⟨S128x4x8x128, .f32⟩
  | 104 => ⟨S128x4x8, .f32⟩
  | 105 => ⟨S128x4x8, .f32⟩
  | 106 => ⟨S_, .f32⟩
  | 107 => ⟨S128x4x8, .f32⟩
  | 108 => ⟨S128x4x8, .f32⟩
  | 109 => ⟨S128x4x8, .f32⟩
  | 110 => ⟨S128x4x8, .f32⟩
  | 111 => ⟨S128x4x8, .f32⟩
  | 112 => ⟨S128x4x8, .f32⟩
  | 113 => ⟨S128x4x8x1, .f32⟩
  | 114 => ⟨S128x4x8x128, .f32⟩
  | 115 => ⟨S128x4x8x128, .f32⟩
  | 116 => ⟨S128x4x1, .f32⟩
  | 117 => ⟨S128x4x8, .f32⟩
  | 118 => ⟨S128x4x8, .f32⟩
  | 119 => ⟨S128x4x8, .f32⟩
  | 120 => ⟨S128x4x1, .f32⟩
  | 121 => ⟨S128x4, .f32⟩
  | 122 => ⟨S128x4, .f32⟩
  | 123 => ⟨S_, .f32⟩
  | 124 => ⟨S128x4, .f32⟩
  | 125 => ⟨S128x4, .f32⟩
  | 126 => ⟨S128x4x1, .f32⟩
  | 127 => ⟨S128x4, .f32⟩
  | _ => ⟨S1024x8832, .f32⟩

abbrev hbmTy0_1 (i : Nat) : BufTy := match i % 128 with
  | 0 => ⟨S128x4, .f32⟩
  | 1 => ⟨S128x4, .f32⟩
  | 2 => ⟨S128x4, .f32⟩
  | 3 => ⟨S128x4x1, .f32⟩
  | 4 => ⟨S128x4x8, .f32⟩
  | 5 => ⟨S128x4x8, .f32⟩
  | 6 => ⟨S128x4x8, .f32⟩
  | 7 => ⟨S128x4x1x1, .f32⟩
  | 8 => ⟨S128x4x128x64, .f32⟩
  | 9 => ⟨S128x4x128x64, .f32⟩
  | 10 => ⟨S128x4x8x1, .f32⟩
  | 11 => ⟨S128x4x8x128, .f32⟩
  | 12 => ⟨S128x4x8x128, .f32⟩
  | 13 => ⟨S128x4x128x64, .f32⟩
  | 14 => ⟨S128x4x128x64, .f32⟩
  | 15 => ⟨S128x4x1, .f32⟩
  | 16 => ⟨S128x4x64, .f32⟩
  | 17 => ⟨S128x4x64, .f32⟩
  | 18 => ⟨S128x4x64, .f32⟩
  | 19 => ⟨S128x4x64, .f32⟩
  | 20 => ⟨S128x4x8x128, .f32⟩
  | 21 => ⟨S_, .f32⟩
  | 22 => ⟨S128x4x8, .f32⟩
  | 23 => ⟨S128x4x8x1, .f32⟩
  | 24 => ⟨S_, .f32⟩
  | 25 => ⟨S128x4x8x1, .f32⟩
  | 26 => ⟨S128x4x8x1, .f32⟩
  | 27 => ⟨S_, .f32⟩
  | 28 => ⟨S128x4x8x1, .f32⟩
  | 29 => ⟨S128x4x8x1, .f32⟩
  | 30 => ⟨S128x4x8x1, .f32⟩
  | 31 => ⟨S128x4x8x128, .f32⟩
  | 32 => ⟨S128x4x8x128, .f32⟩
  | 33 => ⟨S128x8x4x128, .f32⟩
  | 34 => ⟨S128x8x512, .f32⟩
  | 35 => ⟨S1x1x512, .f32⟩
  | 36 => ⟨S128x8x512, .f32⟩
  | 37 => ⟨S128x8x512, .f32⟩
  | 38 => ⟨S128x8x512, .f32⟩
  | 39 => ⟨S128x8x512, .f32⟩
  | 40 => ⟨S_, .f32⟩
  | 41 => ⟨S128x8x512, .f32⟩
  | 42 => ⟨S128x8x512, .f32⟩
  | 43 => ⟨S_, .f32⟩
  | 44 => ⟨S128x8x512, .f32⟩
  | 45 => ⟨S128x8x512, .f32⟩
  | 46 => ⟨S128x8x512, .f32⟩
  | 47 => ⟨S1024x512, .f32⟩
  | 48 => ⟨S128x4x1, .f32⟩
  | _ => ⟨S1024x8832, .f32⟩

abbrev hbmTy (i : Nat) : BufTy := match i / 128 with
  | 0 => hbmTy0_0 i
  | 1 => hbmTy0_1 i
  | _ => ⟨S1024x8832, .f32⟩

abbrev bufTy : (tb : Table) → Fin (tcTables nBuf tb) → BufTy
  | .hbm, ⟨i, _⟩ => hbmTy i
  | _, _ => ⟨S1024x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_0 : Ref sig .tc := ⟨.hbm, 55, rfl⟩
abbrev main_call1_v5 : Ref sig .tc := ⟨.hbm, 56, rfl⟩
abbrev main_v25 : Ref sig .tc := ⟨.hbm, 57, rfl⟩
abbrev main_call2_call0_cst : Ref sig .tc := ⟨.hbm, 58, rfl⟩
abbrev main_call2_call0_v0 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_0 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_1 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_2 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v47 : Ref sig .tc := ⟨.hbm, 90, rfl⟩
abbrev main_v48 : Ref sig .tc := ⟨.hbm, 91, rfl⟩
abbrev main_cst_3 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_4 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_5 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_6 : Ref sig .tc := ⟨.hbm, 149, rfl⟩
abbrev main_v100 : Ref sig .tc := ⟨.hbm, 150, rfl⟩
abbrev main_v101 : Ref sig .tc := ⟨.hbm, 151, rfl⟩
abbrev main_cst_7 : Ref sig .tc := ⟨.hbm, 152, rfl⟩
abbrev main_v102 : Ref sig .tc := ⟨.hbm, 153, rfl⟩
abbrev main_v103 : Ref sig .tc := ⟨.hbm, 154, rfl⟩
abbrev main_cst_8 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_9 : Ref sig .tc := ⟨.hbm, 168, rfl⟩
abbrev main_v116 : Ref sig .tc := ⟨.hbm, 169, rfl⟩
abbrev main_v117 : Ref sig .tc := ⟨.hbm, 170, rfl⟩
abbrev main_cst_10 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩

abbrev nD : Nat := 1
abbrev τ : Topo := Topo.v7x

variable {F : FTy → Type} [FloatOps F]
-- ==== Hgrn.lean ====
abbrev S1024x8832 : Shape := ⟨2, ![1024, 8832]⟩
abbrev S512 : Shape := ⟨1, ![512]⟩
abbrev S128x4x128x128 : Shape := ⟨4, ![128, 4, 128, 128]⟩
abbrev S1x512 : Shape := ⟨2, ![1, 512]⟩
abbrev S1024x512 : Shape := ⟨2, ![1024, 512]⟩
abbrev S8x2048 : Shape := ⟨2, ![8, 2048]⟩
abbrev S1x4x128x128 : Shape := ⟨4, ![1, 4, 128, 128]⟩
abbrev S8x512 : Shape := ⟨2, ![8, 512]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S8x8 : Shape := ⟨2, ![8, 8]⟩
abbrev S8x1 : Shape := ⟨2, ![8, 1]⟩
abbrev S8x128 : Shape := ⟨2, ![8, 128]⟩
abbrev S1x128 : Shape := ⟨2, ![1, 128]⟩
abbrev S8 : Shape := ⟨1, ![8]⟩

abbrev nBuf : Space → Nat
  | .hbm => 8
  | .vmem => 11
  | .smem => 0
  | _ => 0

abbrev bufTy : (tb : Table) → Fin (tcTables nBuf tb) → BufTy
  | .hbm, ⟨0, _⟩ => ⟨S1024x8832, .f32⟩
  | .hbm, ⟨1, _⟩ => ⟨S512, .f32⟩
  | .hbm, ⟨2, _⟩ => ⟨S512, .f32⟩
  | .hbm, ⟨3, _⟩ => ⟨S128x4x128x128, .f32⟩
  | .hbm, ⟨4, _⟩ => ⟨S1x512, .f32⟩
  | .hbm, ⟨5, _⟩ => ⟨S1x512, .f32⟩
  | .hbm, ⟨6, _⟩ => ⟨S1024x512, .f32⟩
  | .hbm, ⟨7, _⟩ => ⟨S128x4x128x128, .f32⟩
  | .local _ .vmem, ⟨0, _⟩ => ⟨S8x2048, .f32⟩
  | .local _ .vmem, ⟨1, _⟩ => ⟨S8x2048, .f32⟩
  | .local _ .vmem, ⟨2, _⟩ => ⟨S1x512, .f32⟩
  | .local _ .vmem, ⟨3, _⟩ => ⟨S1x512, .f32⟩
  | .local _ .vmem, ⟨4, _⟩ => ⟨S1x4x128x128, .f32⟩
  | .local _ .vmem, ⟨5, _⟩ => ⟨S1x4x128x128, .f32⟩
  | .local _ .vmem, ⟨6, _⟩ => ⟨S8x512, .f32⟩
  | .local _ .vmem, ⟨7, _⟩ => ⟨S8x512, .f32⟩
  | .local _ .vmem, ⟨8, _⟩ => ⟨S1x4x128x128, .f32⟩
  | .local _ .vmem, ⟨9, _⟩ => ⟨S1x4x128x128, .f32⟩
  | .local _ .vmem, ⟨10, _⟩ => ⟨S4x128x128, .f32⟩
  | _, _ => ⟨S1024x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_185 : BitVec 32 := 0#32
  let v1014 : BitVec 1 := Scalar.cmpi .eq arg1 c0_i32_185
  let v1015 : BitVec 32 := Scalar.extui v1014
  let c0_i32_186 : BitVec 32 := 0#32
  let v1016 : BitVec 1 := Scalar.cmpi .ne v1015 c0_i32_186
  v1016

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== HgrnRefIdeal.lean ====
abbrev S1024x8832 : Shape := ⟨2, ![1024, 8832]⟩
abbrev S512 : Shape := ⟨1, ![512]⟩
abbrev S128x4x128x128 : Shape := ⟨4, ![128, 4, 128, 128]⟩
abbrev S128x8x8832 : Shape := ⟨3, ![128, 8, 8832]⟩
abbrev S128x8x512 : Shape := ⟨3, ![128, 8, 512]⟩
abbrev S_ : Shape := ⟨0, ![]⟩
abbrev S1x1x512 : Shape := ⟨3, ![1, 1, 512]⟩
abbrev S128x8x4x128 : Shape := ⟨4, ![128, 8, 4, 128]⟩
abbrev S128x4x8x128 : Shape := ⟨4, ![128, 4, 8, 128]⟩
abbrev S8x8 : Shape := ⟨2, ![8, 8]⟩
abbrev S128x4x8x1x128 : Shape := ⟨5, ![128, 4, 8, 1, 128]⟩
abbrev S128x4x1x8x128 : Shape := ⟨5, ![128, 4, 1, 8, 128]⟩
abbrev S128x4x8x8x128 : Shape := ⟨5, ![128, 4, 8, 8, 128]⟩
abbrev S8x8x1 : Shape := ⟨3, ![8, 8, 1]⟩
abbrev S128x4x8x8 : Shape := ⟨4, ![128, 4, 8, 8]⟩
abbrev S128x4x1x128 : Shape := ⟨4, ![128, 4, 1, 128]⟩
abbrev S128x4x128 : Shape := ⟨3, ![128, 4, 128]⟩
abbrev S128x4x128x1 : Shape := ⟨4, ![128, 4, 128, 1]⟩
abbrev S128x4x8 : Shape := ⟨3, ![128, 4, 8]⟩
abbrev S128x4x8x1 : Shape := ⟨4, ![128, 4, 8, 1]⟩
abbrev S1024x512 : Shape := ⟨2, ![1024, 512]⟩

abbrev nBuf : Space → Nat
  | .hbm => 145
  | .vmem => 0
  | .smem => 0
  | _ => 0

abbrev hbmTy0_0 (i : Nat) : BufTy := match i % 128 with
  | 0 => ⟨S1024x8832, .f32⟩
  | 1 => ⟨S512, .f32⟩
  | 2 => ⟨S512, .f32⟩
  | 3 => ⟨S128x4x128x128, .f32⟩
  | 4 => ⟨S128x8x8832, .f32⟩
  | 5 => ⟨S128x8x512, .f32⟩
  | 6 => ⟨S128x8x512, .f32⟩
  | 7 => ⟨S128x8x512, .f32⟩
  | 8 => ⟨S128x8x512, .f32⟩
  | 9 => ⟨S_, .f32⟩
  | 10 => ⟨S512, .f32⟩
  | 11 => ⟨S512, .f32⟩
  | 12 => ⟨S128x8x512, .f32⟩
  | 13 => ⟨S128x8x512, .f32⟩
  | 14 => ⟨S_, .f32⟩
  | 15 => ⟨S128x8x512, .f32⟩
  | 16 => ⟨S128x8x512, .f32⟩
  | 17 => ⟨S_, .f32⟩
  | 18 => ⟨S128x8x512, .f32⟩
  | 19 => ⟨S128x8x512, .f32⟩
  | 20 => ⟨S1x1x512, .f32⟩
  | 21 => ⟨S128x8x512, .f32⟩
  | 22 => ⟨S128x8x512, .f32⟩
  | 23 => ⟨S1x1x512, .f32⟩
  | 24 => ⟨S128x8x512, .f32⟩
  | 25 => ⟨S128x8x512, .f32⟩
  | 26 => ⟨S128x8x512, .f32⟩
  | 27 => ⟨S_, .f32⟩
  | 28 => ⟨S512, .f32⟩
  | 29 => ⟨S512, .f32⟩
  | 30 => ⟨S128x8x512, .f32⟩
  | 31 => ⟨S128x8x512, .f32⟩
  | 32 => ⟨S128x8x512, .f32⟩
  | 33 => ⟨S_, .f32⟩
  | 34 => ⟨S128x8x512, .f32⟩
  | 35 => ⟨S128x8x512, .f32⟩
  | 36 => ⟨S_, .f32⟩
  | 37 => ⟨S128x8x512, .f32⟩
  | 38 => ⟨S128x8x512, .f32⟩
  | 39 => ⟨S1x1x512, .f32⟩
  | 40 => ⟨S128x8x512, .f32⟩
  | 41 => ⟨S128x8x512, .f32⟩
  | 42 => ⟨S128x8x512, .f32⟩
  | 43 => ⟨S128x8x512, .f32⟩
  | 44 => ⟨S_, .f32⟩
  | 45 => ⟨S128x8x512, .f32⟩
  | 46 => ⟨S128x8x512, .f32⟩
  | 47 => ⟨S_, .f32⟩
  | 48 => ⟨S128x8x512, .f32⟩
  | 49 => ⟨S128x8x512, .f32⟩
  | 50 => ⟨S128x8x512, .f32⟩
  | 51 => ⟨S128x8x4x128, .f32⟩
  | 52 => ⟨S128x4x8x128, .f32⟩
  | 53 => ⟨S128x8x4x128, .f32⟩
  | 54 => ⟨S128x4x8x128, .f32⟩
  | 55 => ⟨S128x8x4x128, .f32⟩
  | 56 => ⟨S128x4x8x128, .f32⟩
  | 57 => ⟨S128x8x4x128, .f32⟩
  | 58 => ⟨S128x4x8x128, .f32⟩
  | 59 => ⟨S_, .i1⟩
  | 60 => ⟨S8x8, .i1⟩
  | 61 => ⟨S8x8, .i32⟩
  | 62 => ⟨S_, .i32⟩
  | 63 => ⟨S8x8, .i32⟩
  | 64 => ⟨S8x8, .i32⟩
  | 65 => ⟨S8x8, .i32⟩
  | 66 => ⟨S8x8, .i1⟩
  | 67 => ⟨S_, .i1⟩
  | 68 => ⟨S8x8, .i1⟩
  | 69 => ⟨S8x8, .i1⟩
  | 70 => ⟨S_, .f32⟩
  | 71 => ⟨S_, .f32⟩
  | 72 => ⟨S128x4x8x128, .f32⟩
  | 73 => ⟨S128x4x8x1x128, .f32⟩
  | 74 => ⟨S128x4x1x8x128, .f32⟩
  | 75 => ⟨S128x4x8x8x128, .f32⟩
  | 76 => ⟨S128x4x8x8x128, .f32⟩
  | 77 => ⟨S128x4x8x8x128, .f32⟩
  | 78 => ⟨S8x8x1, .i1⟩
  | 79 => ⟨S_, .f32⟩
  | 80 => ⟨S_, .f32⟩
  | 81 => ⟨S128x4x8x8x128, .i1⟩
  | 82 => ⟨S128x4x8x8x128, .f32⟩
  | 83 => ⟨S128x4x8x8x128, .f32⟩
  | 84 => ⟨S128x4x8x8x128, .f32⟩
  | 85 => ⟨S_, .f32⟩
  | 86 => ⟨S_, .f32⟩
  | 87 => ⟨S128x4x8x8x128, .i1⟩
  | 88 => ⟨S128x4x8x8x128, .f32⟩
  | 89 => ⟨S128x4x8x8x128, .f32⟩
  | 90 => ⟨S128x4x8x1x128, .f32⟩
  | 91 => ⟨S128x4x1x8x128, .f32⟩
  | 92 => ⟨S128x4x8x8x128, .f32⟩
  | 93 => ⟨S128x4x8x8x128, .f32⟩
  | 94 => ⟨S128x4x8x8x128, .f32⟩
  | 95 => ⟨S128x4x8x8x128, .f32⟩
  | 96 => ⟨S_, .f32⟩
  | 97 => ⟨S128x4x8x8, .f32⟩
  | 98 => ⟨S128x4x8x128, .f32⟩
  | 99 => ⟨S128x4x8x128, .f32⟩
  | 100 => ⟨S128x4x8x128, .f32⟩
  | 101 => ⟨S128x4x8x128, .f32⟩
  | 102 => ⟨S128x4x8x128, .f32⟩
  | 103 => ⟨S128x4x1x128, .f32⟩
  | 104 => ⟨S128x4x128, .f32⟩
  | 105 => ⟨S128x4x128, .f32⟩
  | 106 => ⟨S128x4x128x1, .f32⟩
  | 107 => ⟨S128x4x128x128, .f32⟩
  | 108 => ⟨S128x4x128x128, .f32⟩
  | 109 => ⟨S128x4x1x128, .f32⟩
  | 110 => ⟨S128x4x8x128, .f32⟩
  | 111 => ⟨S128x4x8x128, .f32⟩
  | 112 => ⟨S128x4x8x128, .f32⟩
  | 113 => ⟨S128x4x8x128, .f32⟩
  | 114 => ⟨S128x4x128x128, .f32⟩
  | 115 => ⟨S128x4x128x128, .f32⟩
  | 116 => ⟨S128x4x8x128, .f32⟩
  | 117 => ⟨S_, .f32⟩
  | 118 => ⟨S128x4x8, .f32⟩
  | 119 => ⟨S128x4x8x1, .f32⟩
  | 120 => ⟨S_, .f32⟩
  | 121 => ⟨S128x4x8x1, .f32⟩
  | 122 => ⟨S128x4x8x1, .f32⟩
  | 123 => ⟨S_, .f32⟩
  | 124 => ⟨S128x4x8x1, .f32⟩
  | 125 => ⟨S128x4x8x1, .f32⟩
  | 126 => ⟨S128x4x8x1, .f32⟩
  | 127 => ⟨S128x4x8x128, .f32⟩
  | _ => ⟨S1024x8832, .f32⟩

abbrev hbmTy0_1 (i : Nat) : BufTy := match i % 128 with
  | 0 => ⟨S128x4x8x128, .f32⟩
  | 1 => ⟨S128x8x4x128, .f32⟩
  | 2 => ⟨S128x8x512, .f32⟩
  | 3 => ⟨S1x1x512, .f32⟩
  | 4 => ⟨S128x8x512, .f32⟩
  | 5 => ⟨S128x8x512, .f32⟩
  | 6 => ⟨S128x8x512, .f32⟩
  | 7 => ⟨S128x8x512, .f32⟩
  | 8 => ⟨S_, .f32⟩
  | 9 => ⟨S128x8x512, .f32⟩
  | 10 => ⟨S128x8x512, .f32⟩
  | 11 => ⟨S_, .f32⟩
  | 12 => ⟨S128x8x512, .f32⟩
  | 13 => ⟨S128x8x512, .f32⟩
  | 14 => ⟨S128x8x512, .f32⟩
  | 15 => ⟨S128x8x512, .f32⟩
  | 16 => ⟨S1024x512, .f32⟩
  | _ => ⟨S1024x8832, .f32⟩

abbrev hbmTy (i : Nat) : BufTy := match i / 128 with
  | 0 => hbmTy0_0 i
  | 1 => hbmTy0_1 i
  | _ => ⟨S1024x8832, .f32⟩

abbrev bufTy : (tb : Table) → Fin (tcTables nBuf tb) → BufTy
  | .hbm, ⟨i, _⟩ => hbmTy i
  | _, _ => ⟨S1024x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c : Ref sig .tc := ⟨.hbm, 59, rfl⟩
abbrev main_v41 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_0 : Ref sig .tc := ⟨.hbm, 67, rfl⟩
abbrev main_call1_v5 : Ref sig .tc := ⟨.hbm, 68, rfl⟩
abbrev main_v42 : Ref sig .tc := ⟨.hbm, 69, rfl⟩
abbrev main_call2_call0_cst : Ref sig .tc := ⟨.hbm, 70, rfl⟩
abbrev main_call2_call0_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_5 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v50 : Ref sig .tc := ⟨.hbm, 83, rfl⟩
abbrev main_v51 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_7 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_8 : Ref sig .tc := ⟨.hbm, 117, rfl⟩
abbrev main_v79 : Ref sig .tc := ⟨.hbm, 118, rfl⟩
abbrev main_v80 : Ref sig .tc := ⟨.hbm, 119, rfl⟩
abbrev main_cst_9 : Ref sig .tc := ⟨.hbm, 120, rfl⟩
abbrev main_v81 : Ref sig .tc := ⟨.hbm, 121, rfl⟩
abbrev main_v82 : Ref sig .tc := ⟨.hbm, 122, rfl⟩
abbrev main_cst_10 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call5_v0 : Ref sig .tc := ⟨.hbm, 134, rfl⟩
abbrev main_call5_v1 : Ref sig .tc := ⟨.hbm, 135, rfl⟩
abbrev main_call5_cst : Ref sig .tc := ⟨.hbm, 136, rfl⟩
abbrev main_call5_v2 : Ref sig .tc := ⟨.hbm, 137, rfl⟩
abbrev main_call5_v3 : Ref sig .tc := ⟨.hbm, 138, rfl⟩
abbrev main_call5_cst_0 : Ref sig .tc := ⟨.hbm, 139, rfl⟩
abbrev main_call5_v4 : Ref sig .tc := ⟨.hbm, 140, rfl⟩
abbrev main_call5_v5 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩

abbrev nD : Nat := 1
abbrev τ : Topo := Topo.v7x

variable {F : FTy → Type} [FloatOps F]
-- ==== Ffn.lean ====
abbrev S16384x512 : Shape := ⟨2, ![16384, 512]⟩
abbrev S16384x8832 : Shape := ⟨2, ![16384, 8832]⟩
abbrev S16384x1024 : Shape := ⟨2, ![16384, 1024]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 22
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8832, .f32⟩
  | .hbm, ⟨4, _⟩ => ⟨S16384x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S3x512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x5632, .bf16⟩
  | .hbm, ⟨18, _⟩ => ⟨S2816x1024, .bf16⟩
  | .hbm, ⟨19, _⟩ => ⟨S1x1024, .f32⟩
  | .hbm, ⟨20, _⟩ => ⟨S1x1024, .f32⟩
  | .hbm, ⟨21, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FfnIdeal.lean ====
abbrev S16384x512 : Shape := ⟨2, ![16384, 512]⟩
abbrev S16384x8832 : Shape := ⟨2, ![16384, 8832]⟩
abbrev S16384x1024 : Shape := ⟨2, ![16384, 1024]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 22
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8832, .f32⟩
  | .hbm, ⟨4, _⟩ => ⟨S16384x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S3x512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x5632, .bf16⟩
  | .hbm, ⟨18, _⟩ => ⟨S2816x1024, .bf16⟩
  | .hbm, ⟨19, _⟩ => ⟨S1x1024, .f32⟩
  | .hbm, ⟨20, _⟩ => ⟨S1x1024, .f32⟩
  | .hbm, ⟨21, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FfnRefIdeal.lean ====
abbrev S16384x512 : Shape := ⟨2, ![16384, 512]⟩
abbrev S16384x8832 : Shape := ⟨2, ![16384, 8832]⟩
abbrev S16384x1024 : Shape := ⟨2, ![16384, 1024]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1x512 : Shape := ⟨3, ![16384, 1, 512]⟩
abbrev S16384x3x512 : Shape := ⟨3, ![16384, 3, 512]⟩
abbrev S3x1024x16384 : Shape := ⟨3, ![3, 1024, 16384]⟩
abbrev S16384x3x1024 : Shape := ⟨3, ![16384, 3, 1024]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 109
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8832, .f32⟩
  | .hbm, ⟨4, _⟩ => ⟨S16384x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S16384x1x512, .f32⟩
  | .hbm, ⟨14, _⟩ => ⟨S16384x1x512, .f32⟩
  | .hbm, ⟨15, _⟩ => ⟨S16384x1x512, .f32⟩
  | .hbm, ⟨16, _⟩ => ⟨S16384x3x512, .f32⟩
  | .hbm, ⟨17, _⟩ => ⟨S3x1024x16384, .f32⟩
  | .hbm, ⟨18, _⟩ => ⟨S16384x3x1024, .f32⟩
  | .hbm, ⟨19, _⟩ => ⟨S16384x3072, .f32⟩
  | .hbm, ⟨20, _⟩ => ⟨S16384x3x1024, .f32⟩
  | .hbm, ⟨21, _⟩ => ⟨S16384x3x1024, .f32⟩
  | .hbm, ⟨22, _⟩ => ⟨S16384x3x1024, .f32⟩
  | .hbm, ⟨23, _⟩ => ⟨S_, .f32⟩
  | .hbm, ⟨24, _⟩ => ⟨S16384x3x1024, .f32⟩
  | .hbm, ⟨25, _⟩ => ⟨S16384x3x1024, .f32⟩
  | .hbm, ⟨26, _⟩ => ⟨S_, .f32⟩
  | .hbm, ⟨27, _⟩ => ⟨S16384x3x1024, .f32⟩
  | .hbm, ⟨28, _⟩ => ⟨S16384x3x1024, .f32⟩
  | .hbm, ⟨29, _⟩ => ⟨S16384x3x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x5632, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S_, .f32⟩
  | .hbm, ⟨70, _⟩ => ⟨S16384x2816, .f32⟩
  | .hbm, ⟨71, _⟩ => ⟨S16384x2816, .f32⟩
  | .hbm, ⟨72, _⟩ => ⟨S_, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x1024, .f32⟩
  | .hbm, ⟨78, _⟩ => ⟨S_, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S16384x1, .f32⟩
  | .hbm, ⟨101, _⟩ => ⟨S16384x1024, .f32⟩
  | .hbm, ⟨102, _⟩ => ⟨S16384x1024, .f32⟩
  | .hbm, ⟨103, _⟩ => ⟨S1x1024, .f32⟩
  | .hbm, ⟨104, _⟩ => ⟨S16384x1024, .f32⟩
  | .hbm, ⟨105, _⟩ => ⟨S16384x1024, .f32⟩
  | .hbm, ⟨106, _⟩ => ⟨S1x1024, .f32⟩
  | .hbm, ⟨107, _⟩ => ⟨S16384x1024, .f32⟩
  | .hbm, ⟨108, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== Proj.lean ====
abbrev S16384x1024 : Shape := ⟨2, ![16384, 1024]⟩
abbrev S1024x8720 : Shape := ⟨2, ![1024, 8720]⟩
abbrev S1024x2048 : Shape := ⟨2, ![1024, 2048]⟩
abbrev S1024x1536 : Shape := ⟨2, ![1024, 1536]⟩
abbrev S1024x8 : Shape := ⟨2, ![1024, 8]⟩
abbrev S1024x3072 : Shape := ⟨2, ![1024, 3072]⟩
abbrev S_ : Shape := ⟨0, ![]⟩
abbrev S1024x112 : Shape := ⟨2, ![1024, 112]⟩
abbrev S1024x8832 : Shape := ⟨2, ![1024, 8832]⟩
abbrev S16384x8832 : Shape := ⟨2, ![16384, 8832]⟩
abbrev S1024x1024 : Shape := ⟨2, ![1024, 1024]⟩
abbrev S1024x2944 : Shape := ⟨2, ![1024, 2944]⟩

abbrev nBuf : Space → Nat
  | .hbm => 13
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x8720, .f32⟩
  | .hbm, ⟨2, _⟩ => ⟨S1024x2048, .f32⟩
  | .hbm, ⟨3, _⟩ => ⟨S1024x1536, .f32⟩
  | .hbm, ⟨4, _⟩ => ⟨S1024x8, .f32⟩
  | .hbm, ⟨5, _⟩ => ⟨S1024x2048, .f32⟩
  | .hbm, ⟨6, _⟩ => ⟨S1024x8, .f32⟩
  | .hbm, ⟨7, _⟩ => ⟨S1024x3072, .f32⟩
  | .hbm, ⟨8, _⟩ => ⟨S_, .f32⟩
  | .hbm, ⟨9, _⟩ => ⟨S1024x112, .f32⟩
  | .hbm, ⟨10, _⟩ => ⟨S1024x8832, .f32⟩
  | .hbm, ⟨11, _⟩ => ⟨S1024x8832, .bf16⟩
  | .hbm, ⟨12, _⟩ => ⟨S16384x8832, .f32⟩
  | .local _ .vmem, ⟨0, _⟩ => ⟨S1024x1024, .f32⟩
  | .local _ .vmem, ⟨1, _⟩ => ⟨S1024x1024, .f32⟩
  | .local _ .vmem, ⟨2, _⟩ => ⟨S1024x2944, .bf16⟩
  | .local _ .vmem, ⟨3, _⟩ => ⟨S1024x2944, .bf16⟩
  | .local _ .vmem, ⟨4, _⟩ => ⟨S1024x2944, .f32⟩
  | .local _ .vmem, ⟨5, _⟩ => ⟨S1024x2944, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x1024 : Shape := ⟨2, ![16384, 1024]⟩
abbrev S1024x8720 : Shape := ⟨2, ![1024, 8720]⟩
abbrev S16384x8720 : Shape := ⟨2, ![16384, 8720]⟩
abbrev S16384x2048 : Shape := ⟨2, ![16384, 2048]⟩
abbrev S16384x3072 : Shape := ⟨2, ![16384, 3072]⟩
abbrev S16384x1536 : Shape := ⟨2, ![16384, 1536]⟩
abbrev S16384x8 : Shape := ⟨2, ![16384, 8]⟩
abbrev S_ : Shape := ⟨0, ![]⟩
abbrev S16384x112 : Shape := ⟨2, ![16384, 112]⟩
abbrev S16384x8832 : Shape := ⟨2, ![16384, 8832]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x8720, .f32⟩
  | .hbm, ⟨2, _⟩ => ⟨S16384x8720, .f32⟩
  | .hbm, ⟨3, _⟩ => ⟨S16384x2048, .f32⟩
  | .hbm, ⟨4, _⟩ => ⟨S16384x2048, .f32⟩
  | .hbm, ⟨5, _⟩ => ⟨S16384x3072, .f32⟩
  | .hbm, ⟨6, _⟩ => ⟨S16384x1536, .f32⟩
  | .hbm, ⟨7, _⟩ => ⟨S16384x8, .f32⟩
  | .hbm, ⟨8, _⟩ => ⟨S16384x8, .f32⟩
  | .hbm, ⟨9, _⟩ => ⟨S_, .f32⟩
  | .hbm, ⟨10, _⟩ => ⟨S16384x112, .f32⟩
  | .hbm, ⟨11, _⟩ => ⟨S16384x8832, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gdn.lean ====
abbrev S1024x8832 : Shape := ⟨2, ![1024, 8832]⟩
abbrev S4x1536 : Shape := ⟨2, ![4, 1536]⟩
abbrev S4 : Shape := ⟨1, ![4]⟩
abbrev S512 : Shape := ⟨1, ![512]⟩
abbrev S128x4x128x128 : Shape := ⟨4, ![128, 4, 128, 128]⟩
abbrev S128x3x1536 : Shape := ⟨3, ![128, 3, 1536]⟩
abbrev S_ : Shape := ⟨0, ![]⟩
abbrev S128x8x1536 : Shape := ⟨3, ![128, 8, 1536]⟩
abbrev S1x128 : Shape := ⟨2, ![1, 128]⟩
abbrev S1 : Shape := ⟨1, ![1]⟩
abbrev S2 : Shape := ⟨1, ![2]⟩
abbrev S1x512 : Shape := ⟨2, ![1, 512]⟩
abbrev S1024x512 : Shape := ⟨2, ![1024, 512]⟩
abbrev S8x2048 : Shape := ⟨2, ![8, 2048]⟩
abbrev S8x128 : Shape := ⟨2, ![8, 128]⟩
abbrev S1x4x128x128 : Shape := ⟨4, ![1, 4, 128, 128]⟩
abbrev S1x8x1536 : Shape := ⟨3, ![1, 8, 1536]⟩
abbrev S8x512 : Shape := ⟨2, ![8, 512]⟩
abbrev S1x3x1536 : Shape := ⟨3, ![1, 3, 1536]⟩
abbrev S4x128x128 : Shape := ⟨3, ![4, 128, 128]⟩
abbrev S16x1536 : Shape := ⟨2, ![16, 1536]⟩
abbrev S8x1536 : Shape := ⟨2, ![8, 1536]⟩
abbrev S1x1x128x128 : Shape := ⟨4, ![1, 1, 128, 128]⟩
abbrev S128x128 : Shape := ⟨2, ![128, 128]⟩
abbrev S1x128x128 : Shape := ⟨3, ![1, 128, 128]⟩
abbrev S1x1536 : Shape := ⟨2, ![1, 1536]⟩
abbrev S8x8 : Shape := ⟨2, ![8, 8]⟩
abbrev S8 : Shape := ⟨1, ![8]⟩
abbrev S8x1 : Shape := ⟨2, ![8, 1]⟩
abbrev S1x8 : Shape := ⟨2, ![1, 8]⟩
abbrev S8x256 : Shape := ⟨2, ![8, 256]⟩
abbrev S1x1 : Shape := ⟨2, ![1, 1]⟩
abbrev S3x1536 : Shape := ⟨2, ![3, 1536]⟩

abbrev nBuf : Space → Nat
  | .hbm => 32
  | .vmem => 21
  | .smem => 0
  | _ => 0

abbrev bufTy : (tb : Table) → Fin (tcTables nBuf tb) → BufTy
  | .hbm, ⟨0, _⟩ => ⟨S1024x8832, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S512, .f32⟩
  | .hbm, ⟨5, _⟩ => ⟨S128x4x128x128, .f32⟩
  | .hbm, ⟨6, _⟩ => ⟨S128x3x1536, .f32⟩
  | .hbm, ⟨7, _⟩ => ⟨S_, .i32⟩
  | .hbm, ⟨8, _⟩ => ⟨S_, .f32⟩
  | .hbm, ⟨9, _⟩ => ⟨S128x8x1536, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S1x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S1x512, .f32⟩
  | .hbm, ⟨29, _⟩ => ⟨S1024x512, .f32⟩
  | .hbm, ⟨30, _⟩ => ⟨S128x4x128x128, .f32⟩
  | .hbm, ⟨31, _⟩ => ⟨S128x3x1536, .f32⟩
  | .local _ .vmem, ⟨0, _⟩ => ⟨S8x2048, .f32⟩
  | .local _ .vmem, ⟨1, _⟩ => ⟨S8x2048, .f32⟩
  | .local _ .vmem, ⟨2, _⟩ => ⟨S8x128, .f32⟩
  | .local _ .vmem, ⟨3, _⟩ => ⟨S8x128, .f32⟩
  | .local _ .vmem, ⟨4, _⟩ => ⟨S4x1536, .f32⟩
  | .local _ .vmem, ⟨5, _⟩ => ⟨S1x128, .f32⟩
  | .local _ .vmem, ⟨6, _⟩ => ⟨S1x128, .f32⟩
  | .local _ .vmem, ⟨7, _⟩ => ⟨S1x512, .f32⟩
  | .local _ .vmem, ⟨8, _⟩ => ⟨S1x4x128x128, .f32⟩
  | .local _ .vmem, ⟨9, _⟩ => ⟨S1x4x128x128, .f32⟩
  | .local _ .vmem, ⟨10, _⟩ => ⟨S1x8x1536, .f32⟩
  | .local _ .vmem, ⟨11, _⟩ => ⟨S1x8x1536, .f32⟩
  | .local _ .vmem, ⟨12, _⟩ => ⟨S8x512, .f32⟩
  | .local _ .vmem, ⟨13, _⟩ => ⟨S8x512, .f32⟩
  | .local _ .vmem, ⟨14, _⟩ => ⟨S1x4x128x128, .f32⟩
  | .local _ .vmem, ⟨15, _⟩ => ⟨S1x4x128x128, .f32⟩
  | .local _ .vmem, ⟨16, _⟩ => ⟨S1x3x1536, .f32⟩
  | .local _ .vmem, ⟨17, _⟩ => ⟨S1x3x1536, .f32⟩
  | .local _ .vmem, ⟨18, _⟩ => ⟨S4x128x128, .f32⟩
  | .local _ .vmem, ⟨19, _⟩ => ⟨S16x1536, .f32⟩
  | .local _ .vmem, ⟨20, _⟩ => ⟨S8x1536, .f32⟩
  | _, _ => ⟨S1024x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_177 : BitVec 32 := 0#32
  let v546 : BitVec 1 := Scalar.cmpi .eq arg1 c0_i32_177
  let v547 : BitVec 32 := Scalar.extui v546
  let c0_i32_178 : BitVec 32 := 0#32
  let v548 : BitVec 1 := Scalar.cmpi .ne v547 c0_i32_178
  v548

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c68_i32 : BitVec 32 := 68#32
  let c0_i32 : BitVec 32 := 0#32
  ![v1.toNat, c68_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GdnRefIdeal.lean ====
abbrev S1024x8832 : Shape := ⟨2, ![1024, 8832]⟩
abbrev S4x1536 : Shape := ⟨2, ![4, 1536]⟩
abbrev S4 : Shape := ⟨1, ![4]⟩
abbrev S512 : Shape := ⟨1, ![512]⟩
abbrev S128x4x128x128 : Shape := ⟨4, ![128, 4, 128, 128]⟩
abbrev S128x3x1536 : Shape := ⟨3, ![128, 3, 1536]⟩
abbrev S128x8x8832 : Shape := ⟨3, ![128, 8, 8832]⟩
abbrev S128x8x1536 : Shape := ⟨3, ![128, 8, 1536]⟩
abbrev S128x8x512 : Shape := ⟨3, ![128, 8, 512]⟩
abbrev S128x8x4 : Shape := ⟨3, ![128, 8, 4]⟩
abbrev S128x11x1536 : Shape := ⟨3, ![128, 11, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S128x8x4x128 : Shape := ⟨4, ![128, 8, 4, 128]⟩
abbrev S128x4x8x128 : Shape := ⟨4, ![128, 4, 8, 128]⟩
abbrev S128x4x8 : Shape := ⟨3, ![128, 4, 8]⟩
abbrev S128x4x8x1 : Shape := ⟨4, ![128, 4, 8, 1]⟩
abbrev S1x1x4 : Shape := ⟨3, ![1, 1, 4]⟩
abbrev S8x8 : Shape := ⟨2, ![8, 8]⟩
abbrev S128x4x1x8 : Shape := ⟨4, ![128, 4, 1, 8]⟩
abbrev S128x4x8x8 : Shape := ⟨4, ![128, 4, 8, 8]⟩
abbrev S128x4x8x256 : Shape := ⟨4, ![128, 4, 8, 256]⟩
abbrev S128x4x1x256 : Shape := ⟨4, ![128, 4, 1, 256]⟩
abbrev S128x4x256 : Shape := ⟨3, ![128, 4, 256]⟩
abbrev S128x4x1x1 : Shape := ⟨4, ![128, 4, 1, 1]⟩
abbrev S128x4 : Shape := ⟨2, ![128, 4]⟩
abbrev S128x4x1 : Shape := ⟨3, ![128, 4, 1]⟩
abbrev S1x1x512 : Shape := ⟨3, ![1, 1, 512]⟩
abbrev S1024x512 : Shape := ⟨2, ![1024, 512]⟩

abbrev nBuf : Space → Nat
  | .hbm => 433
  | .vmem => 0
  | .smem => 0
  | _ => 0

abbrev hbmTy0_0 (i : Nat) : BufTy := match i % 128 with
  | 0 => ⟨S1024x8832, .f32⟩
  | 1 => ⟨S4x1536, .f32⟩
  | 2 => ⟨S4, .f32⟩
  | 3 => ⟨S4, .f32⟩
  | 4 => ⟨S512, .f32⟩
  | 5 => ⟨S128x4x128x128, .f32⟩
  | 6 => ⟨S128x3x1536, .f32⟩
  | 7 => ⟨S128x8x8832, .f32⟩
  | 8 => ⟨S128x8x1536, .f32⟩
  | 9 => ⟨S128x8x512, .f32⟩
  | 10 => ⟨S128x8x4, .f32⟩
  | 11 => ⟨S128x8x4, .f32⟩
  | 12 => ⟨S128x11x1536, .f32⟩
  | 13 => ⟨S128x8x1536, .f32⟩
  | 14 => ⟨S1x1536, .f32⟩
  | 15 => ⟨S1536, .f32⟩
  | 16 => ⟨S1x1x1536, .f32⟩
  | 17 => ⟨S128x8x1536, .f32⟩
  | 18 => ⟨S128x8x1536, .f32⟩
  | 19 => ⟨S_, .f32⟩
  | 20 => ⟨S128x8x1536, .f32⟩
  | 21 => ⟨S128x8x1536, .f32⟩
  | 22 => ⟨S128x8x1536, .f32⟩
  | 23 => ⟨S1x1536, .f32⟩
  | 24 => ⟨S1536, .f32⟩
  | 25 => ⟨S1x1x1536, .f32⟩
  | 26 => ⟨S128x8x1536, .f32⟩
  | 27 => ⟨S128x8x1536, .f32⟩
  | 28 => ⟨S128x8x1536, .f32⟩
  | 29 => ⟨S128x8x1536, .f32⟩
  | 30 => ⟨S1x1536, .f32⟩
  | 31 => ⟨S1536, .f32⟩
  | 32 => ⟨S1x1x1536, .f32⟩
  | 33 => ⟨S128x8x1536, .f32⟩
  | 34 => ⟨S128x8x1536, .f32⟩
  | 35 => ⟨S128x8x1536, .f32⟩
  | 36 => ⟨S128x8x1536, .f32⟩
  | 37 => ⟨S1x1536, .f32⟩
  | 38 => ⟨S1536, .f32⟩
  | 39 => ⟨S1x1x1536, .f32⟩
  | 40 => ⟨S128x8x1536, .f32⟩
  | 41 => ⟨S128x8x1536, .f32⟩
  | 42 => ⟨S128x8x1536, .f32⟩
  | 43 => ⟨S128x3x1536, .f32⟩
  | 44 => ⟨S128x8x1536, .f32⟩
  | 45 => ⟨S128x8x1536, .f32⟩
  | 46 => ⟨S_, .f32⟩
  | 47 => ⟨S128x8x1536, .f32⟩
  | 48 => ⟨S128x8x1536, .f32⟩
  | 49 => ⟨S_, .f32⟩
  | 50 => ⟨S128x8x1536, .f32⟩
  | 51 => ⟨S128x8x1536, .f32⟩
  | 52 => ⟨S128x8x1536, .f32⟩
  | 53 => ⟨S128x8x512, .f32⟩
  | 54 => ⟨S128x8x4x128, .f32⟩
  | 55 => ⟨S128x4x8x128, .f32⟩
  | 56 => ⟨S128x8x512, .f32⟩
  | 57 => ⟨S128x8x4x128, .f32⟩
  | 58 => ⟨S128x4x8x128, .f32⟩
  | 59 => ⟨S128x8x512, .f32⟩
  | 60 => ⟨S128x8x4x128, .f32⟩
  | 61 => ⟨S128x4x8x128, .f32⟩
  | 62 => ⟨S128x4x8x128, .f32⟩
  | 63 => ⟨S_, .f32⟩
  | 64 => ⟨S128x4x8, .f32⟩
  | 65 => ⟨S128x4x8x1, .f32⟩
  | 66 => ⟨S_, .f32⟩
  | 67 => ⟨S128x4x8x1, .f32⟩
  | 68 => ⟨S128x4x8x1, .f32⟩
  | 69 => ⟨S128x4x8x1, .f32⟩
  | 70 => ⟨S128x4x8x128, .f32⟩
  | 71 => ⟨S128x4x8x128, .f32⟩
  | 72 => ⟨S_, .f32⟩
  | 73 => ⟨S128x4x8x128, .f32⟩
  | 74 => ⟨S128x4x8x128, .f32⟩
  | 75 => ⟨S128x4x8x128, .f32⟩
  | 76 => ⟨S_, .f32⟩
  | 77 => ⟨S128x4x8, .f32⟩
  | 78 => ⟨S128x4x8x1, .f32⟩
  | 79 => ⟨S_, .f32⟩
  | 80 => ⟨S128x4x8x1, .f32⟩
  | 81 => ⟨S128x4x8x1, .f32⟩
  | 82 => ⟨S128x4x8x1, .f32⟩
  | 83 => ⟨S128x4x8x128, .f32⟩
  | 84 => ⟨S128x4x8x128, .f32⟩
  | 85 => ⟨S128x8x4, .f32⟩
  | 86 => ⟨S128x8x4, .f32⟩
  | 87 => ⟨S_, .f32⟩
  | 88 => ⟨S128x8x4, .f32⟩
  | 89 => ⟨S128x8x4, .f32⟩
  | 90 => ⟨S_, .f32⟩
  | 91 => ⟨S128x8x4, .f32⟩
  | 92 => ⟨S128x8x4, .f32⟩
  | 93 => ⟨S128x4x8, .f32⟩
  | 94 => ⟨S4, .f32⟩
  | 95 => ⟨S4, .f32⟩
  | 96 => ⟨S1x1x4, .f32⟩
  | 97 => ⟨S128x8x4, .f32⟩
  | 98 => ⟨S128x8x4, .f32⟩
  | 99 => ⟨S_, .f32⟩
  | 100 => ⟨S128x8x4, .f32⟩
  | 101 => ⟨S128x8x4, .f32⟩
  | 102 => ⟨S128x8x4, .f32⟩
  | 103 => ⟨S128x8x4, .f32⟩
  | 104 => ⟨S128x8x4, .i1⟩
  | 105 => ⟨S128x8x4, .f32⟩
  | 106 => ⟨S128x8x4, .f32⟩
  | 107 => ⟨S128x8x4, .f32⟩
  | 108 => ⟨S128x8x4, .f32⟩
  | 109 => ⟨S128x8x4, .f32⟩
  | 110 => ⟨S128x8x4, .f32⟩
  | 111 => ⟨S128x8x4, .f32⟩
  | 112 => ⟨S128x8x4, .f32⟩
  | 113 => ⟨S1x1x4, .f32⟩
  | 114 => ⟨S128x8x4, .f32⟩
  | 115 => ⟨S128x8x4, .f32⟩
  | 116 => ⟨S128x4x8, .f32⟩
  | 117 => ⟨S_, .i1⟩
  | 118 => ⟨S8x8, .i1⟩
  | 119 => ⟨S8x8, .i32⟩
  | 120 => ⟨S_, .i32⟩
  | 121 => ⟨S8x8, .i32⟩
  | 122 => ⟨S8x8, .i32⟩
  | 123 => ⟨S8x8, .i32⟩
  | 124 => ⟨S8x8, .i1⟩
  | 125 => ⟨S_, .i1⟩
  | 126 => ⟨S8x8, .i1⟩
  | 127 => ⟨S8x8, .i1⟩
  | _ => ⟨S1024x8832, .f32⟩

abbrev hbmTy0_1 (i : Nat) : BufTy := match i % 128 with
  | 0 => ⟨S_, .i1⟩
  | 1 => ⟨S8x8, .i1⟩
  | 2 => ⟨S8x8, .i32⟩
  | 3 => ⟨S_, .i32⟩
  | 4 => ⟨S8x8, .i32⟩
  | 5 => ⟨S8x8, .i32⟩
  | 6 => ⟨S8x8, .i32⟩
  | 7 => ⟨S8x8, .i1⟩
  | 8 => ⟨S_, .i1⟩
  | 9 => ⟨S8x8, .i1⟩
  | 10 => ⟨S8x8, .i1⟩
  | 11 => ⟨S_, .f32⟩
  | 12 => ⟨S_, .f32⟩
  | 13 => ⟨S128x4x8, .f32⟩
  | 14 => ⟨S128x4x8x1, .f32⟩
  | 15 => ⟨S128x4x1x8, .f32⟩
  | 16 => ⟨S128x4x8x8, .f32⟩
  | 17 => ⟨S128x4x8x8, .f32⟩
  | 18 => ⟨S128x4x8x8, .f32⟩
  | 19 => ⟨S128x4x8x1, .f32⟩
  | 20 => ⟨S128x4x8x8, .f32⟩
  | 21 => ⟨S128x4x8x8, .f32⟩
  | 22 => ⟨S128x4x8x8, .f32⟩
  | 23 => ⟨S_, .f32⟩
  | 24 => ⟨S_, .f32⟩
  | 25 => ⟨S128x4x8x8, .i1⟩
  | 26 => ⟨S128x4x8x8, .f32⟩
  | 27 => ⟨S128x4x8x8, .f32⟩
  | 28 => ⟨S128x4x8x8, .f32⟩
  | 29 => ⟨S_, .f32⟩
  | 30 => ⟨S_, .f32⟩
  | 31 => ⟨S128x4x8x8, .i1⟩
  | 32 => ⟨S128x4x8x8, .f32⟩
  | 33 => ⟨S128x4x8x8, .f32⟩
  | 34 => ⟨S128x4x8x8, .f32⟩
  | 35 => ⟨S128x4x8x1, .f32⟩
  | 36 => ⟨S128x4x8x128, .f32⟩
  | 37 => ⟨S128x4x8x128, .f32⟩
  | 38 => ⟨S128x4x8, .f32⟩
  | 39 => ⟨S128x4x8, .f32⟩
  | 40 => ⟨S128x4x8x1, .f32⟩
  | 41 => ⟨S128x4x8x128, .f32⟩
  | 42 => ⟨S128x4x8x128, .f32⟩
  | 43 => ⟨S128x4x8x256, .f32⟩
  | 44 => ⟨S128x4x1x256, .f32⟩
  | 45 => ⟨S128x4x256, .f32⟩
  | 46 => ⟨S128x4x1x256, .f32⟩
  | 47 => ⟨S128x4x256, .f32⟩
  | 48 => ⟨S128x4x1x1, .f32⟩
  | 49 => ⟨S128x4, .f32⟩
  | 50 => ⟨S128x4x1, .f32⟩
  | 51 => ⟨S128x4x256, .f32⟩
  | 52 => ⟨S128x4x256, .f32⟩
  | 53 => ⟨S128x4x256, .f32⟩
  | 54 => ⟨S128x4x1x256, .f32⟩
  | 55 => ⟨S128x4x256, .f32⟩
  | 56 => ⟨S128x4x1x1, .f32⟩
  | 57 => ⟨S128x4, .f32⟩
  | 58 => ⟨S128x4x1, .f32⟩
  | 59 => ⟨S128x4x256, .f32⟩
  | 60 => ⟨S128x4x256, .f32⟩
  | 61 => ⟨S128x4x256, .f32⟩
  | 62 => ⟨S128x4x1x1, .f32⟩
  | 63 => ⟨S128x4, .f32⟩
  | 64 => ⟨S128x4x1, .f32⟩
  | 65 => ⟨S128x4x256, .f32⟩
  | 66 => ⟨S128x4x256, .f32⟩
  | 67 => ⟨S128x4x256, .f32⟩
  | 68 => ⟨S128x4x1x256, .f32⟩
  | 69 => ⟨S128x4x256, .f32⟩
  | 70 => ⟨S128x4x1x1, .f32⟩
  | 71 => ⟨S128x4, .f32⟩
  | 72 => ⟨S128x4x1, .f32⟩
  | 73 => ⟨S128x4x256, .f32⟩
  | 74 => ⟨S128x4x256, .f32⟩
  | 75 => ⟨S128x4x256, .f32⟩
  | 76 => ⟨S128x4x1x1, .f32⟩
  | 77 => ⟨S128x4, .f32⟩
  | 78 => ⟨S128x4x1, .f32⟩
  | 79 => ⟨S128x4x256, .f32⟩
  | 80 => ⟨S128x4x256, .f32⟩
  | 81 => ⟨S128x4x256, .f32⟩
  | 82 => ⟨S128x4x1x1, .f32⟩
  | 83 => ⟨S128x4, .f32⟩
  | 84 => ⟨S128x4x1, .f32⟩
  | 85 => ⟨S128x4x256, .f32⟩
  | 86 => ⟨S128x4x256, .f32⟩
  | 87 => ⟨S128x4x256, .f32⟩
  | 88 => ⟨S128x4x1x256, .f32⟩
  | 89 => ⟨S128x4x256, .f32⟩
  | 90 => ⟨S128x4x1x1, .f32⟩
  | 91 => ⟨S128x4, .f32⟩
  | 92 => ⟨S128x4x1, .f32⟩
  | 93 => ⟨S128x4x256, .f32⟩
  | 94 => ⟨S128x4x256, .f32⟩
  | 95 => ⟨S128x4x256, .f32⟩
  | 96 => ⟨S128x4x1x1, .f32⟩
  | 97 => ⟨S128x4, .f32⟩
  | 98 => ⟨S128x4x1, .f32⟩
  | 99 => ⟨S128x4x256, .f32⟩
  | 100 => ⟨S128x4x256, .f32⟩
  | 101 => ⟨S128x4x256, .f32⟩
  | 102 => ⟨S128x4x1x1, .f32⟩
  | 103 => ⟨S128x4, .f32⟩
  | 104 => ⟨S128x4x1, .f32⟩
  | 105 => ⟨S128x4x256, .f32⟩
  | 106 => ⟨S128x4x256, .f32⟩
  | 107 => ⟨S128x4x256, .f32⟩
  | 108 => ⟨S128x4x1x1, .f32⟩
  | 109 => ⟨S128x4, .f32⟩
  | 110 => ⟨S128x4x1, .f32⟩
  | 111 => ⟨S128x4x256, .f32⟩
  | 112 => ⟨S128x4x256, .f32⟩
  | 113 => ⟨S128x4x256, .f32⟩
  | 114 => ⟨S128x4x1x256, .f32⟩
  | 115 => ⟨S128x4x256, .f32⟩
  | 116 => ⟨S128x4x1x1, .f32⟩
  | 117 => ⟨S128x4, .f32⟩
  | 118 => ⟨S128x4x1, .f32⟩
  | 119 => ⟨S128x4x256, .f32⟩
  | 120 => ⟨S128x4x256, .f32⟩
  | 121 => ⟨S128x4x256, .f32⟩
  | 122 => ⟨S128x4x1x1, .f32⟩
  | 123 => ⟨S128x4, .f32⟩
  | 124 => ⟨S128x4x1, .f32⟩
  | 125 => ⟨S128x4x256, .f32⟩
  | 126 => ⟨S128x4x256, .f32⟩
  | 127 => ⟨S128x4x256, .f32⟩
  | _ => ⟨S1024x8832, .f32⟩

abbrev hbmTy0_2 (i : Nat) : BufTy := match i % 128 with
  | 0 => ⟨S128x4x1x1, .f32⟩
  | 1 => ⟨S128x4, .f32⟩
  | 2 => ⟨S128x4x1, .f32⟩
  | 3 => ⟨S128x4x256, .f32⟩
  | 4 => ⟨S128x4x256, .f32⟩
  | 5 => ⟨S128x4x256, .f32⟩
  | 6 => ⟨S128x4x1x1, .f32⟩
  | 7 => ⟨S128x4, .f32⟩
  | 8 => ⟨S128x4x1, .f32⟩
  | 9 => ⟨S128x4x256, .f32⟩
  | 10 => ⟨S128x4x256, .f32⟩
  | 11 => ⟨S128x4x256, .f32⟩
  | 12 => ⟨S128x4x1x1, .f32⟩
  | 13 => ⟨S128x4, .f32⟩
  | 14 => ⟨S128x4x1, .f32⟩
  | 15 => ⟨S128x4x256, .f32⟩
  | 16 => ⟨S128x4x256, .f32⟩
  | 17 => ⟨S128x4x256, .f32⟩
  | 18 => ⟨S128x4x1x256, .f32⟩
  | 19 => ⟨S128x4x256, .f32⟩
  | 20 => ⟨S128x4x1x1, .f32⟩
  | 21 => ⟨S128x4, .f32⟩
  | 22 => ⟨S128x4x1, .f32⟩
  | 23 => ⟨S128x4x256, .f32⟩
  | 24 => ⟨S128x4x256, .f32⟩
  | 25 => ⟨S128x4x256, .f32⟩
  | 26 => ⟨S128x4x1x1, .f32⟩
  | 27 => ⟨S128x4, .f32⟩
  | 28 => ⟨S128x4x1, .f32⟩
  | 29 => ⟨S128x4x256, .f32⟩
  | 30 => ⟨S128x4x256, .f32⟩
  | 31 => ⟨S128x4x256, .f32⟩
  | 32 => ⟨S128x4x1x1, .f32⟩
  | 33 => ⟨S128x4, .f32⟩
  | 34 => ⟨S128x4x1, .f32⟩
  | 35 => ⟨S128x4x256, .f32⟩
  | 36 => ⟨S128x4x256, .f32⟩
  | 37 => ⟨S128x4x256, .f32⟩
  | 38 => ⟨S128x4x1x1, .f32⟩
  | 39 => ⟨S128x4, .f32⟩
  | 40 => ⟨S128x4x1, .f32⟩
  | 41 => ⟨S128x4x256, .f32⟩
  | 42 => ⟨S128x4x256, .f32⟩
  | 43 => ⟨S128x4x256, .f32⟩
  | 44 => ⟨S128x4x1x1, .f32⟩
  | 45 => ⟨S128x4, .f32⟩
  | 46 => ⟨S128x4x1, .f32⟩
  | 47 => ⟨S128x4x256, .f32⟩
  | 48 => ⟨S128x4x256, .f32⟩
  | 49 => ⟨S128x4x256, .f32⟩
  | 50 => ⟨S128x4x1x1, .f32⟩
  | 51 => ⟨S128x4, .f32⟩
  | 52 => ⟨S128x4x1, .f32⟩
  | 53 => ⟨S128x4x256, .f32⟩
  | 54 => ⟨S128x4x256, .f32⟩
  | 55 => ⟨S128x4x256, .f32⟩
  | 56 => ⟨S128x4x1x256, .f32⟩
  | 57 => ⟨S128x4x256, .f32⟩
  | 58 => ⟨S128x4x1x1, .f32⟩
  | 59 => ⟨S128x4, .f32⟩
  | 60 => ⟨S128x4x1, .f32⟩
  | 61 => ⟨S128x4x256, .f32⟩
  | 62 => ⟨S128x4x256, .f32⟩
  | 63 => ⟨S128x4x256, .f32⟩
  | 64 => ⟨S128x4x1x1, .f32⟩
  | 65 => ⟨S128x4, .f32⟩
  | 66 => ⟨S128x4x1, .f32⟩
  | 67 => ⟨S128x4x256, .f32⟩
  | 68 => ⟨S128x4x256, .f32⟩
  | 69 => ⟨S128x4x256, .f32⟩
  | 70 => ⟨S128x4x1x1, .f32⟩
  | 71 => ⟨S128x4, .f32⟩
  | 72 => ⟨S128x4x1, .f32⟩
  | 73 => ⟨S128x4x256, .f32⟩
  | 74 => ⟨S128x4x256, .f32⟩
  | 75 => ⟨S128x4x256, .f32⟩
  | 76 => ⟨S128x4x1x1, .f32⟩
  | 77 => ⟨S128x4, .f32⟩
  | 78 => ⟨S128x4x1, .f32⟩
  | 79 => ⟨S128x4x256, .f32⟩
  | 80 => ⟨S128x4x256, .f32⟩
  | 81 => ⟨S128x4x256, .f32⟩
  | 82 => ⟨S128x4x1x1, .f32⟩
  | 83 => ⟨S128x4, .f32⟩
  | 84 => ⟨S128x4x1, .f32⟩
  | 85 => ⟨S128x4x256, .f32⟩
  | 86 => ⟨S128x4x256, .f32⟩
  | 87 => ⟨S128x4x256, .f32⟩
  | 88 => ⟨S128x4x1x1, .f32⟩
  | 89 => ⟨S128x4, .f32⟩
  | 90 => ⟨S128x4x1, .f32⟩
  | 91 => ⟨S128x4x256, .f32⟩
  | 92 => ⟨S128x4x256, .f32⟩
  | 93 => ⟨S128x4x256, .f32⟩
  | 94 => ⟨S128x4x1x1, .f32⟩
  | 95 => ⟨S128x4, .f32⟩
  | 96 => ⟨S128x4x1, .f32⟩
  | 97 => ⟨S128x4x256, .f32⟩
  | 98 => ⟨S128x4x256, .f32⟩
  | 99 => ⟨S128x4x256, .f32⟩
  | 100 => ⟨S128x4x1x256, .f32⟩
  | 101 => ⟨S128x4x1x256, .f32⟩
  | 102 => ⟨S128x4x1x256, .f32⟩
  | 103 => ⟨S128x4x1x256, .f32⟩
  | 104 => ⟨S128x4x1x256, .f32⟩
  | 105 => ⟨S128x4x1x256, .f32⟩
  | 106 => ⟨S128x4x1x256, .f32⟩
  | 107 => ⟨S128x4x1x256, .f32⟩
  | 108 => ⟨S128x4x8x256, .f32⟩
  | 109 => ⟨S128x4x8x128, .f32⟩
  | 110 => ⟨S128x4x8x128, .f32⟩
  | 111 => ⟨S128x4x8x128, .f32⟩
  | 112 => ⟨S128x4x8x128, .f32⟩
  | 113 => ⟨S128x4x8x8, .f32⟩
  | 114 => ⟨S_, .f32⟩
  | 115 => ⟨S_, .f32⟩
  | 116 => ⟨S128x4x8x8, .i1⟩
  | 117 => ⟨S128x4x8x8, .f32⟩
  | 118 => ⟨S128x4x8x8, .f32⟩
  | 119 => ⟨S128x4x8x8, .f32⟩
  | 120 => ⟨S_, .f32⟩
  | 121 => ⟨S_, .f32⟩
  | 122 => ⟨S128x4x8x8, .i1⟩
  | 123 => ⟨S128x4x8x8, .f32⟩
  | 124 => ⟨S128x4x8x8, .f32⟩
  | 125 => ⟨S128x4x8x8, .f32⟩
  | 126 => ⟨S128x4x8, .f32⟩
  | 127 => ⟨S128x4x8x1, .f32⟩
  | _ => ⟨S1024x8832, .f32⟩

abbrev hbmTy0_3 (i : Nat) : BufTy := match i % 128 with
  | 0 => ⟨S128x4x8x128, .f32⟩
  | 1 => ⟨S128x4x8x128, .f32⟩
  | 2 => ⟨S128x4x8x128, .f32⟩
  | 3 => ⟨S128x4x8x128, .f32⟩
  | 4 => ⟨S128x4x8x128, .f32⟩
  | 5 => ⟨S128x4x1, .f32⟩
  | 6 => ⟨S128x4, .f32⟩
  | 7 => ⟨S128x4, .f32⟩
  | 8 => ⟨S128x4x1x1, .f32⟩
  | 9 => ⟨S128x4x128x128, .f32⟩
  | 10 => ⟨S128x4x128x128, .f32⟩
  | 11 => ⟨S128x4x1, .f32⟩
  | 12 => ⟨S128x4x8, .f32⟩
  | 13 => ⟨S128x4x8, .f32⟩
  | 14 => ⟨S128x4x8, .f32⟩
  | 15 => ⟨S128x4x8x1, .f32⟩
  | 16 => ⟨S128x4x8x128, .f32⟩
  | 17 => ⟨S128x4x8x128, .f32⟩
  | 18 => ⟨S128x4x128x128, .f32⟩
  | 19 => ⟨S128x4x128x128, .f32⟩
  | 20 => ⟨S128x4x8x128, .f32⟩
  | 21 => ⟨S_, .f32⟩
  | 22 => ⟨S128x4x8, .f32⟩
  | 23 => ⟨S128x4x8x1, .f32⟩
  | 24 => ⟨S_, .f32⟩
  | 25 => ⟨S128x4x8x1, .f32⟩
  | 26 => ⟨S128x4x8x1, .f32⟩
  | 27 => ⟨S_, .f32⟩
  | 28 => ⟨S128x4x8x1, .f32⟩
  | 29 => ⟨S128x4x8x1, .f32⟩
  | 30 => ⟨S128x4x8x1, .f32⟩
  | 31 => ⟨S128x4x8x128, .f32⟩
  | 32 => ⟨S128x4x8x128, .f32⟩
  | 33 => ⟨S128x8x4x128, .f32⟩
  | 34 => ⟨S128x8x512, .f32⟩
  | 35 => ⟨S1x1x512, .f32⟩
  | 36 => ⟨S128x8x512, .f32⟩
  | 37 => ⟨S128x8x512, .f32⟩
  | 38 => ⟨S128x8x512, .f32⟩
  | 39 => ⟨S128x8x512, .f32⟩
  | 40 => ⟨S_, .f32⟩
  | 41 => ⟨S128x8x512, .f32⟩
  | 42 => ⟨S128x8x512, .f32⟩
  | 43 => ⟨S_, .f32⟩
  | 44 => ⟨S128x8x512, .f32⟩
  | 45 => ⟨S128x8x512, .f32⟩
  | 46 => ⟨S128x8x512, .f32⟩
  | 47 => ⟨S128x8x512, .f32⟩
  | 48 => ⟨S1024x512, .f32⟩
  | _ => ⟨S1024x8832, .f32⟩

abbrev hbmTy (i : Nat) : BufTy := match i / 128 with
  | 0 => hbmTy0_0 i
  | 1 => hbmTy0_1 i
  | 2 => hbmTy0_2 i
  | 3 => hbmTy0_3 i
  | _ => ⟨S1024x8832, .f32⟩

abbrev bufTy : (tb : Table) → Fin (tcTables nBuf tb) → BufTy
  | .hbm, ⟨i, _⟩ => hbmTy i
  | _, _ => ⟨S1024x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_0 : Ref sig .tc := ⟨.hbm, 63, rfl⟩
abbrev main_v47 : Ref sig .tc := ⟨.hbm, 64, rfl⟩
abbrev main_v48 : Ref sig .tc := ⟨.hbm, 65, rfl⟩
abbrev main_cst_1 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_2 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_cst_4 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c : Ref sig .tc := ⟨.hbm, 117, rfl⟩
abbrev main_v81 : Ref sig .tc := ⟨.hbm, 118, rfl⟩
abbrev main_call2_v0 : Ref sig .tc := ⟨.hbm, 119, rfl⟩
abbrev main_call2_c : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_c_0 : Ref sig .tc := ⟨.hbm, 125, rfl⟩
abbrev main_call2_v5 : Ref sig .tc := ⟨.hbm, 126, rfl⟩
abbrev main_v82 : Ref sig .tc := ⟨.hbm, 127, rfl⟩
abbrev main_c_7 : Ref sig .tc := ⟨.hbm, 128, rfl⟩
abbrev main_v83 : Ref sig .tc := ⟨.hbm, 129, rfl⟩
abbrev main_call3_v0 : Ref sig .tc := ⟨.hbm, 130, rfl⟩
abbrev main_call3_c : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_c_0 : Ref sig .tc := ⟨.hbm, 136, rfl⟩
abbrev main_call3_v5 : Ref sig .tc := ⟨.hbm, 137, rfl⟩
abbrev main_v84 : Ref sig .tc := ⟨.hbm, 138, rfl⟩
abbrev main_call4_call0_cst : Ref sig .tc := ⟨.hbm, 139, rfl⟩
abbrev main_call4_call0_v0 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_8 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_v95 : Ref sig .tc := ⟨.hbm, 155, rfl⟩
abbrev main_v96 : Ref sig .tc := ⟨.hbm, 156, rfl⟩
abbrev main_cst_9 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_cst_10 : Ref sig .tc := ⟨.hbm, 370, rfl⟩
abbrev main_call7_v0 : Ref sig .tc := ⟨.hbm, 371, rfl⟩
abbrev main_call7_v1 : Ref sig .tc := ⟨.hbm, 372, rfl⟩
abbrev main_call7_v2 : Ref sig .tc := ⟨.hbm, 373, rfl⟩
abbrev main_v306 : Ref sig .tc := ⟨.hbm, 374, rfl⟩
abbrev main_v307 : Ref sig .tc := ⟨.hbm, 375, rfl⟩
abbrev main_cst_11 : Ref sig .tc := ⟨.hbm, 376, rfl⟩
abbrev main_call8_v0 : Ref sig .tc := ⟨.hbm, 377, rfl⟩
abbrev main_call8_v1 : Ref sig .tc := ⟨.hbm, 378, rfl⟩
abbrev main_call8_v2 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_cst_12 : Ref sig .tc := ⟨.hbm, 405, rfl⟩
abbrev main_v333 : Ref sig .tc := ⟨.hbm, 406, rfl⟩
abbrev main_v334 : Ref sig .tc := ⟨.hbm, 407, rfl⟩
abbrev main_cst_13 : Ref sig .tc := ⟨.hbm, 408, rfl⟩
abbrev main_v335 : Ref sig .tc := ⟨.hbm, 409, rfl⟩
abbrev main_v336 : Ref sig .tc := ⟨.hbm, 410, rfl⟩
abbrev main_cst_14 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_call9_v0 : Ref sig .tc := ⟨.hbm, 422, rfl⟩
abbrev main_call9_v1 : Ref sig .tc := ⟨.hbm, 423, rfl⟩
abbrev main_call9_cst : Ref sig .tc := ⟨.hbm, 424, rfl⟩
abbrev main_call9_v2 : Ref sig .tc := ⟨.hbm, 425, rfl⟩
abbrev main_call9_v3 : Ref sig .tc := ⟨.hbm, 426, rfl⟩
abbrev main_call9_cst_0 : Ref sig .tc := ⟨.hbm, 427, rfl⟩
abbrev main_call9_v4 : Ref sig .tc := ⟨.hbm, 428, rfl⟩
abbrev main_call9_v5 : Ref sig .tc := ⟨.hbm, 429, rfl⟩
abbrev main_v347 : Ref sig .tc := ⟨.hbm, 430, rfl⟩
abbrev main_v348 : Ref sig .tc := ⟨.hbm, 431, rfl⟩
abbrev main_v349 : Ref sig .tc := ⟨.hbm, 432, rfl⟩

abbrev nD : Nat := 1
abbrev τ : Topo := Topo.v7x

variable {F : FTy → Type} [FloatOps F]
-- ==== FfnSample.lean ====
abbrev S1024x512 : Shape := ⟨2, ![1024, 512]⟩
abbrev S1024x8832 : Shape := ⟨2, ![1024, 8832]⟩
abbrev S1024x1024 : Shape := ⟨2, ![1024, 1024]⟩
abbrev S3x512x1024 : Shape := ⟨3, ![3, 512, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 22
  | .vmem => 24
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x8832, .f32⟩
  | .hbm, ⟨4, _⟩ => ⟨S1024x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S3x512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x5632, .bf16⟩
  | .hbm, ⟨18, _⟩ => ⟨S2816x1024, .bf16⟩
  | .hbm, ⟨19, _⟩ => ⟨S1x1024, .f32⟩
  | .hbm, ⟨20, _⟩ => ⟨S1x1024, .f32⟩
  | .hbm, ⟨21, _⟩ => ⟨S1024x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FfnSampleRefIdeal.lean ====
abbrev S1024x512 : Shape := ⟨2, ![1024, 512]⟩
abbrev S1024x8832 : Shape := ⟨2, ![1024, 8832]⟩
abbrev S1024x1024 : Shape := ⟨2, ![1024, 1024]⟩
abbrev S3x512x1024 : Shape := ⟨3, ![3, 512, 1024]⟩
abbrev S1024 : Shape := ⟨1, ![1024]⟩
abbrev S1024x5632 : Shape := ⟨2, ![1024, 5632]⟩
abbrev S2816x1024 : Shape := ⟨2, ![2816, 1024]⟩
abbrev S1024x1x512 : Shape := ⟨3, ![1024, 1, 512]⟩
abbrev S1024x3x512 : Shape := ⟨3, ![1024, 3, 512]⟩
abbrev S3x1024x1024 : Shape := ⟨3, ![3, 1024, 1024]⟩
abbrev S1024x3x1024 : Shape := ⟨3, ![1024, 3, 1024]⟩
abbrev S1024x3072 : Shape := ⟨2, ![1024, 3072]⟩
abbrev S_ : Shape := ⟨0, ![]⟩
abbrev S1024x1 : Shape := ⟨2, ![1024, 1]⟩
abbrev S1x1024 : Shape := ⟨2, ![1, 1024]⟩
abbrev S1024x2816 : Shape := ⟨2, ![1024, 2816]⟩

abbrev nBuf : Space → Nat
  | .hbm => 109
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x8832, .f32⟩
  | .hbm, ⟨4, _⟩ => ⟨S1024x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S1024x1x512, .f32⟩
  | .hbm, ⟨14, _⟩ => ⟨S1024x1x512, .f32⟩
  | .hbm, ⟨15, _⟩ => ⟨S1024x1x512, .f32⟩
  | .hbm, ⟨16, _⟩ => ⟨S1024x3x512, .f32⟩
  | .hbm, ⟨17, _⟩ => ⟨S3x1024x1024, .f32⟩
  | .hbm, ⟨18, _⟩ => ⟨S1024x3x1024, .f32⟩
  | .hbm, ⟨19, _⟩ => ⟨S1024x3072, .f32⟩
  | .hbm, ⟨20, _⟩ => ⟨S1024x3x1024, .f32⟩
  | .hbm, ⟨21, _⟩ => ⟨S1024x3x1024, .f32⟩
  | .hbm, ⟨22, _⟩ => ⟨S1024x3x1024, .f32⟩
  | .hbm, ⟨23, _⟩ => ⟨S_, .f32⟩
  | .hbm, ⟨24, _⟩ => ⟨S1024x3x1024, .f32⟩
  | .hbm, ⟨25, _⟩ => ⟨S1024x3x1024, .f32⟩
  | .hbm, ⟨26, _⟩ => ⟨S_, .f32⟩
  | .hbm, ⟨27, _⟩ => ⟨S1024x3x1024, .f32⟩
  | .hbm, ⟨28, _⟩ => ⟨S1024x3x1024, .f32⟩
  | .hbm, ⟨29, _⟩ => ⟨S1024x3x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024, .f32⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S_, .f32⟩
  | .hbm, ⟨47, _⟩ => ⟨S1024, .f32⟩
  | .hbm, ⟨48, _⟩ => ⟨S1024x1, .f32⟩
  | .hbm, ⟨49, _⟩ => ⟨S_, .f32⟩
  | .hbm, ⟨50, _⟩ => ⟨S1024x1, .f32⟩
  | .hbm, ⟨51, _⟩ => ⟨S1024x1, .f32⟩
  | .hbm, ⟨52, _⟩ => ⟨S_, .f32⟩
  | .hbm, ⟨53, _⟩ => ⟨S1024x1, .f32⟩
  | .hbm, ⟨54, _⟩ => ⟨S1024x1, .f32⟩
  | .hbm, ⟨55, _⟩ => ⟨S1024x1, .f32⟩
  | .hbm, ⟨56, _⟩ => ⟨S1024x1024, .f32⟩
  | .hbm, ⟨57, _⟩ => ⟨S1024x1024, .f32⟩
  | .hbm, ⟨58, _⟩ => ⟨S1x1024, .f32⟩
  | .hbm, ⟨59, _⟩ => ⟨S1024x1024, .f32⟩
  | .hbm, ⟨60, _⟩ => ⟨S1024x1024, .f32⟩
  | .hbm, ⟨61, _⟩ => ⟨S1x1024, .f32⟩
  | .hbm, ⟨62, _⟩ => ⟨S1024x1024, .f32⟩
  | .hbm, ⟨63, _⟩ => ⟨S1024x1024, .f32⟩
  | .hbm, ⟨64, _⟩ => ⟨S1024x5632, .f32⟩
  | .hbm, ⟨65, _⟩ => ⟨S1024x2816, .f32⟩
  | .hbm, ⟨66, _⟩ => ⟨S1024x2816, .f32⟩
  | .hbm, ⟨67, _⟩ => ⟨S1024x2816, .f32⟩
  | .hbm, ⟨68, _⟩ => ⟨S1024x2816, .f32⟩
  | .hbm, ⟨69, _⟩ => ⟨S_, .f32⟩
  | .hbm, ⟨70, _⟩ => ⟨S1024x2816, .f32⟩
  | .hbm, ⟨71, _⟩ => ⟨S1024x2816, .f32⟩
  | .hbm, ⟨72, _⟩ => ⟨S_, .f32⟩
  | .hbm, ⟨73, _⟩ => ⟨S1024x2816, .f32⟩
  | .hbm, ⟨74, _⟩ => ⟨S1024x2816, .f32⟩
  | .hbm, ⟨75, _⟩ => ⟨S1024x2816, .f32⟩
  | .hbm, ⟨76, _⟩ => ⟨S1024x2816, .f32⟩
  | .hbm, ⟨77, _⟩ => ⟨S1024x1024, .f32⟩
  | .hbm, ⟨78, _⟩ => ⟨S_, .f32⟩
  | .hbm, ⟨79, _⟩ => ⟨S1024x1024, .f32⟩
  | .hbm, ⟨80, _⟩ => ⟨S1024x1024, .f32⟩
  | .hbm, ⟨81, _⟩ => ⟨S1024x1024, .f32⟩
  | .hbm, ⟨82, _⟩ => ⟨S_, .f32⟩
  | .hbm, ⟨83, _⟩ => ⟨S1024, .f32⟩
  | .hbm, ⟨84, _⟩ => ⟨S1024x1, .f32⟩
  | .hbm, ⟨85, _⟩ => ⟨S_, .f32⟩
  | .hbm, ⟨86, _⟩ => ⟨S1024x1, .f32⟩
  | .hbm, ⟨87, _⟩ => ⟨S1024x1, .f32⟩
  | .hbm, ⟨88, _⟩ => ⟨S1024x1024, .f32⟩
  | .hbm, ⟨89, _⟩ => ⟨S1024x1024, .f32⟩
  | .hbm, ⟨90, _⟩ => ⟨S1024x1024, .f32⟩
  | .hbm, ⟨91, _⟩ => ⟨S_, .f32⟩
  | .hbm, ⟨92, _⟩ => ⟨S1024, .f32⟩
  | .hbm, ⟨93, _⟩ => ⟨S1024x1, .f32⟩
  | .hbm, ⟨94, _⟩ => ⟨S_, .f32⟩
  | .hbm, ⟨95, _⟩ => ⟨S1024x1, .f32⟩
  | .hbm, ⟨96, _⟩ => ⟨S1024x1, .f32⟩
  | .hbm, ⟨97, _⟩ => ⟨S_, .f32⟩
  | .hbm, ⟨98, _⟩ => ⟨S1024x1, .f32⟩
  | .hbm, ⟨99, _⟩ => ⟨S1024x1, .f32⟩
  | .hbm, ⟨100, _⟩ => ⟨S1024x1, .f32⟩
  | .hbm, ⟨101, _⟩ => ⟨S1024x1024, .f32⟩
  | .hbm, ⟨102, _⟩ => ⟨S1024x1024, .f32⟩
  | .hbm, ⟨103, _⟩ => ⟨S1x1024, .f32⟩
  | .hbm, ⟨104, _⟩ => ⟨S1024x1024, .f32⟩
  | .hbm, ⟨105, _⟩ => ⟨S1024x1024, .f32⟩
  | .hbm, ⟨106, _⟩ => ⟨S1x1024, .f32⟩
  | .hbm, ⟨107, _⟩ => ⟨S1024x1024, .f32⟩
  | .hbm, ⟨108, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== HgrnPrompt.lean ====
abbrev S16384x8832 : Shape := ⟨2, ![16384, 8832]⟩
abbrev S512 : Shape := ⟨1, ![512]⟩
abbrev S1x512 : Shape := ⟨2, ![1, 512]⟩
abbrev S_ : Shape := ⟨0, ![]⟩
abbrev S8x4x128x128 : Shape := ⟨4, ![8, 4, 128, 128]⟩
abbrev S16384x512 : Shape := ⟨2, ![16384, 512]⟩
abbrev S256x2048 : Shape := ⟨2, ![256, 2048]⟩
abbrev S1x4x128x128 : Shape := ⟨4, ![1, 4, 128, 128]⟩
abbrev S256x512 : Shape := ⟨2, ![256, 512]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x64 : Shape := ⟨2, ![64, 64]⟩
abbrev S64x512 : Shape := ⟨2, ![64, 512]⟩
abbrev S16x1 : Shape := ⟨2, ![16, 1]⟩
abbrev S64x128 : Shape := ⟨2, ![64, 128]⟩
abbrev S16x128 : Shape := ⟨2, ![16, 128]⟩
abbrev S1x128 : Shape := ⟨2, ![1, 128]⟩
abbrev S16 : Shape := ⟨1, ![16]⟩
abbrev S16x16 : Shape := ⟨2, ![16, 16]⟩
abbrev S32x128 : Shape := ⟨2, ![32, 128]⟩
abbrev S16x32 : Shape := ⟨2, ![16, 32]⟩
abbrev S48x128 : Shape := ⟨2, ![48, 128]⟩
abbrev S16x48 : Shape := ⟨2, ![16, 48]⟩
abbrev S64 : Shape := ⟨1, ![64]⟩
abbrev S64x1 : Shape := ⟨2, ![64, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x8832, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S_, .f32⟩
  | .hbm, ⟨6, _⟩ => ⟨S8x4x128x128, .f32⟩
  | .hbm, ⟨7, _⟩ => ⟨S16384x512, .f32⟩
  | .hbm, ⟨8, _⟩ => ⟨S8x4x128x128, .f32⟩
  | .local _ .vmem, ⟨0, _⟩ => ⟨S256x2048, .f32⟩
  | .local _ .vmem, ⟨1, _⟩ => ⟨S256x2048, .f32⟩
  | .local _ .vmem, ⟨2, _⟩ => ⟨S1x512, .f32⟩
  | .local _ .vmem, ⟨3, _⟩ => ⟨S1x512, .f32⟩
  | .local _ .vmem, ⟨4, _⟩ => ⟨S1x4x128x128, .f32⟩
  | .local _ .vmem, ⟨5, _⟩ => ⟨S1x4x128x128, .f32⟩
  | .local _ .vmem, ⟨6, _⟩ => ⟨S256x512, .f32⟩
  | .local _ .vmem, ⟨7, _⟩ => ⟨S256x512, .f32⟩
  | .local _ .vmem, ⟨8, _⟩ => ⟨S1x4x128x128, .f32⟩
  | .local _ .vmem, ⟨9, _⟩ => ⟨S1x4x128x128, .f32⟩
  | .local _ .vmem, ⟨10, _⟩ => ⟨S4x128x128, .f32⟩
  | _, _ => ⟨S16384x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  v7
def k0_off1 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v16 : Index := Scalar.indexCast v8
  let c512 : Index := 512#32
  ![v16.toNat, 512]
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v35 : Index := Scalar.indexCast v8
  let c0_8 : Index := 0#32
  ![v35.toNat, 0]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v39 : Index := Scalar.indexCast v8
  let c1024 : Index := 1024#32
  ![v39.toNat, 1024]
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v41 : Index := Scalar.indexCast v8
  let c1536 : Index := 1536#32
  ![v41.toNat, 1536]
def k0_off5 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v1766 : Index := Scalar.indexCast v8
  let c0_272 : Index := 0#32
  ![v1766.toNat, 0]
def k0_off6 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v3490 : Index := Scalar.indexCast v8
  let c128_546 : Index := 128#32
  ![v3490.toNat, 128]
def k0_off7 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v5214 : Index := Scalar.indexCast v8
  let c256_820 : Index := 256#32
  ![v5214.toNat, 256]
def k0_off8 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v6938 : Index := Scalar.indexCast v8
  let c384_1094 : Index := 384#32
  ![v6938.toNat, 384]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== HgrnPromptRefIdeal.lean ====
abbrev S16384x8832 : Shape := ⟨2, ![16384, 8832]⟩
abbrev S512 : Shape := ⟨1, ![512]⟩
abbrev S8x2048x8832 : Shape := ⟨3, ![8, 2048, 8832]⟩
abbrev S8x2048x512 : Shape := ⟨3, ![8, 2048, 512]⟩
abbrev S_ : Shape := ⟨0, ![]⟩
abbrev S1x1x512 : Shape := ⟨3, ![1, 1, 512]⟩
abbrev S8x4x128x128 : Shape := ⟨4, ![8, 4, 128, 128]⟩
abbrev S8x2048x4x128 : Shape := ⟨4, ![8, 2048, 4, 128]⟩
abbrev S8x4x2048x128 : Shape := ⟨4, ![8, 4, 2048, 128]⟩
abbrev S8x4x32x64x128 : Shape := ⟨5, ![8, 4, 32, 64, 128]⟩
abbrev S32x8x4x64x128 : Shape := ⟨5, ![32, 8, 4, 64, 128]⟩
abbrev S1x8x4x64x128 : Shape := ⟨5, ![1, 8, 4, 64, 128]⟩
abbrev S8x4x64x128 : Shape := ⟨4, ![8, 4, 64, 128]⟩
abbrev S8x4x1x128 : Shape := ⟨4, ![8, 4, 1, 128]⟩
abbrev S8x4x128 : Shape := ⟨3, ![8, 4, 128]⟩
abbrev S8x4x128x1 : Shape := ⟨4, ![8, 4, 128, 1]⟩

abbrev nBuf : Space → Nat
  | .hbm => 97
  | .vmem => 0
  | .smem => 0
  | _ => 0

abbrev bufTy : (tb : Table) → Fin (tcTables nBuf tb) → BufTy
  | .hbm, ⟨0, _⟩ => ⟨S16384x8832, .f32⟩
  | .hbm, ⟨1, _⟩ => ⟨S512, .f32⟩
  | .hbm, ⟨2, _⟩ => ⟨S512, .f32⟩
  | .hbm, ⟨3, _⟩ => ⟨S8x2048x8832, .f32⟩
  | .hbm, ⟨4, _⟩ => ⟨S8x2048x512, .f32⟩
  | .hbm, ⟨5, _⟩ => ⟨S8x2048x512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S8x2048x512, .f32⟩
  | .hbm, ⟨10, _⟩ => ⟨S8x2048x512, .f32⟩
  | .hbm, ⟨11, _⟩ => ⟨S_, .f32⟩
  | .hbm, ⟨12, _⟩ => ⟨S8x2048x512, .f32⟩
  | .hbm, ⟨13, _⟩ => ⟨S8x2048x512, .f32⟩
  | .hbm, ⟨14, _⟩ => ⟨S_, .f32⟩
  | .hbm, ⟨15, _⟩ => ⟨S8x2048x512, .f32⟩
  | .hbm, ⟨16, _⟩ => ⟨S8x2048x512, .f32⟩
  | .hbm, ⟨17, _⟩ => ⟨S1x1x512, .f32⟩
  | .hbm, ⟨18, _⟩ => ⟨S8x2048x512, .f32⟩
  | .hbm, ⟨19, _⟩ => ⟨S8x2048x512, .f32⟩
  | .hbm, ⟨20, _⟩ => ⟨S1x1x512, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S_, .f32⟩
  | .hbm, ⟨31, _⟩ => ⟨S8x2048x512, .f32⟩
  | .hbm, ⟨32, _⟩ => ⟨S8x2048x512, .f32⟩
  | .hbm, ⟨33, _⟩ => ⟨S_, .f32⟩
  | .hbm, ⟨34, _⟩ => ⟨S8x2048x512, .f32⟩
  | .hbm, ⟨35, _⟩ => ⟨S8x2048x512, .f32⟩
  | .hbm, ⟨36, _⟩ => ⟨S1x1x512, .f32⟩
  | .hbm, ⟨37, _⟩ => ⟨S8x2048x512, .f32⟩
  | .hbm, ⟨38, _⟩ => ⟨S8x2048x512, .f32⟩
  | .hbm, ⟨39, _⟩ => ⟨S_, .f32⟩
  | .hbm, ⟨40, _⟩ => ⟨S8x4x128x128, .f32⟩
  | .hbm, ⟨41, _⟩ => ⟨S8x2048x4x128, .f32⟩
  | .hbm, ⟨42, _⟩ => ⟨S8x4x2048x128, .f32⟩
  | .hbm, ⟨43, _⟩ => ⟨S8x4x32x64x128, .f32⟩
  | .hbm, ⟨44, _⟩ => ⟨S32x8x4x64x128, .f32⟩
  | .hbm, ⟨45, _⟩ => ⟨S8x2048x4x128, .f32⟩
  | .hbm, ⟨46, _⟩ => ⟨S8x4x2048x128, .f32⟩
  | .hbm, ⟨47, _⟩ => ⟨S8x4x32x64x128, .f32⟩
  | .hbm, ⟨48, _⟩ => ⟨S32x8x4x64x128, .f32⟩
  | .hbm, ⟨49, _⟩ => ⟨S8x2048x4x128, .f32⟩
  | .hbm, ⟨50, _⟩ => ⟨S8x4x2048x128, .f32⟩
  | .hbm, ⟨51, _⟩ => ⟨S8x4x32x64x128, .f32⟩
  | .hbm, ⟨52, _⟩ => ⟨S32x8x4x64x128, .f32⟩
  | .hbm, ⟨53, _⟩ => ⟨S_, .i32⟩
  | .hbm, ⟨54, _⟩ => ⟨S32x8x4x64x128, .f32⟩
  | .hbm, ⟨55, _⟩ => ⟨S32x8x4x64x128, .f32⟩
  | .hbm, ⟨56, _⟩ => ⟨S32x8x4x64x128, .f32⟩
  | .hbm, ⟨57, _⟩ => ⟨S_, .i32⟩
  | .hbm, ⟨58, _⟩ => ⟨S8x4x128x128, .f32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x8x4x64x128, .f32⟩
  | .hbm, ⟨66, _⟩ => ⟨S8x4x64x128, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x8x4x64x128, .f32⟩
  | .hbm, ⟨72, _⟩ => ⟨S8x4x64x128, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1x8x4x64x128, .f32⟩
  | .hbm, ⟨78, _⟩ => ⟨S8x4x64x128, .f32⟩
  | .hbm, ⟨79, _⟩ => ⟨S_, .f32⟩
  | .hbm, ⟨80, _⟩ => ⟨S_, .f32⟩
  | .hbm, ⟨81, _⟩ => ⟨S8x4x64x128, .f32⟩
  | .hbm, ⟨82, _⟩ => ⟨S8x4x1x128, .f32⟩
  | .hbm, ⟨83, _⟩ => ⟨S8x4x128, .f32⟩
  | .hbm, ⟨84, _⟩ => ⟨S8x4x128, .f32⟩
  | .hbm, ⟨85, _⟩ => ⟨S8x4x128x1, .f32⟩
  | .hbm, ⟨86, _⟩ => ⟨S8x4x128x128, .f32⟩
  | .hbm, ⟨87, _⟩ => ⟨S8x4x128x128, .f32⟩
  | .hbm, ⟨88, _⟩ => ⟨S8x4x1x128, .f32⟩
  | .hbm, ⟨89, _⟩ => ⟨S8x4x64x128, .f32⟩
  | .hbm, ⟨90, _⟩ => ⟨S8x4x64x128, .f32⟩
  | .hbm, ⟨91, _⟩ => ⟨S8x4x64x128, .f32⟩
  | .hbm, ⟨92, _⟩ => ⟨S8x4x64x128, .f32⟩
  | .hbm, ⟨93, _⟩ => ⟨S8x4x128x128, .f32⟩
  | .hbm, ⟨94, _⟩ => ⟨S8x4x128x128, .f32⟩
  | .hbm, ⟨95, _⟩ => ⟨S_, .i32⟩
  | .hbm, ⟨96, _⟩ => ⟨S_, .i32⟩
  | _, _ => ⟨S16384x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev main_v43_3 : Ref sig .tc := ⟨.hbm, 57, rfl⟩
abbrev main_v43_4 : Ref sig .tc := ⟨.hbm, 58, rfl⟩
abbrev main_while0c_c_10 : Ref sig .tc := ⟨.hbm, 59, rfl⟩
abbrev main_while0c_v44 : Ref sig .tc := ⟨.hbm, 60, rfl⟩
abbrev main_while0b_call0_c : Ref sig .tc := ⟨.hbm, 61, rfl⟩
abbrev main_while0b_call0_c_0 : Ref sig .tc := ⟨.hbm, 62, rfl⟩
abbrev main_while0b_call0_c_1 : Ref sig .tc := ⟨.hbm, 63, rfl⟩
abbrev main_while0b_call0_c_2 : Ref sig .tc := ⟨.hbm, 64, rfl⟩
abbrev main_while0b_call0_v0 : Ref sig .tc := ⟨.hbm, 65, rfl⟩
abbrev main_while0b_v44 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_call1_c_1 : Ref sig .tc := ⟨.hbm, 69, rfl⟩
abbrev main_while0b_call1_c_2 : Ref sig .tc := ⟨.hbm, 70, rfl⟩
abbrev main_while0b_call1_v0 : Ref sig .tc := ⟨.hbm, 71, rfl⟩
abbrev main_while0b_v45 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_c_2 : Ref sig .tc := ⟨.hbm, 76, rfl⟩
abbrev main_while0b_call2_v0 : Ref sig .tc := ⟨.hbm, 77, rfl⟩
abbrev main_while0b_v46 : Ref sig .tc := ⟨.hbm, 78, rfl⟩
abbrev main_while0b_call3_call0_cst : Ref sig .tc := ⟨.hbm, 79, rfl⟩
abbrev main_while0b_call3_call0_v0 : Ref sig .tc := ⟨.hbm, 80, rfl⟩
abbrev main_while0b_v47 : Ref sig .tc := ⟨.hbm, 81, rfl⟩
abbrev main_while0b_v48 : Ref sig .tc := ⟨.hbm, 82, rfl⟩
abbrev main_while0b_v49 : Ref sig .tc := ⟨.hbm, 83, rfl⟩
abbrev main_while0b_v50 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_c_10 : Ref sig .tc := ⟨.hbm, 95, rfl⟩
abbrev main_while0b_v61 : Ref sig .tc := ⟨.hbm, 96, rfl⟩

abbrev nD : Nat := 1
abbrev τ : Topo := Topo.v7x

variable {F : FTy → Type} [FloatOps F]

abbrev main_while0_count : Scf.Loop 32 := ⟨0#32, 32#32, 1#32⟩
-- ==== Proof.RunningSum.lean ====
module

public import Idealize.ShloMosaic.Lib.Pipeline.ValueKit
public import Idealize.ShloMosaic.Lib.Pointwise

@[expose] public section

set_option maxRecDepth 16384

noncomputable section

open Idealize.ShloMosaic Idealize.ShloMosaic.TcCoe

namespace Cert.RunningSum

/-- The sum of the entries up to and including position `t`, the later ones counted as zero. -/
def upTo (f : Fin 8 → EReal) (t : Fin 8) : EReal := ∑ s : Fin 8, if s ≤ t then f s else 0

/-- Adding the terms of a list one after another to `r` adds their sum. -/
theorem foldl_add {α : Type} (g : α → EReal) (l : List α) (r : EReal) :
    l.foldl (fun r n => r + g n) r = r + (l.map g).sum := by
  induction l generalizing r with
  | nil => simp
  | cons a l ih => simp [ih, add_assoc]

/-- Adding the terms in the order of their numbers is the sum over all of them. -/
theorem foldl_finRange {n : ℕ} (g : Fin n → EReal) :
    (List.finRange n).foldl (fun r k => r + g k) 0 = ∑ k, g k := by
  rw [foldl_add, zero_add, Fin.sum_univ_def]

/-- An eight-entry table continued by zero. -/
def padded (f : Fin 8 → EReal) (n : ℕ) : EReal := if h : n < 8 then f ⟨n, h⟩ else 0

/-- Inside the table the continuation is the entry. -/
theorem padded_of_lt (f : Fin 8 → EReal) {n : ℕ} (h : n < 8) : padded f n = f ⟨n, h⟩ := dif_pos h

/-- Eight places of which the first seven may lie before the array: the entries read there are those up to `t`. -/
theorem shifted (f : Fin 8 → EReal) (t : Fin 8) :
    (∑ k : Fin 8, if 7 ≤ t.val + k.val then padded f (t.val + k.val - 7) else 0) = upTo f t := by
  have e : ∀ s : Fin 8, f s = padded f s.val := fun s => by simp [padded]
  unfold upTo
  simp only [e, Fin.sum_univ_eight, Fin.le_def]
  generalize padded f = p
  fin_vals t with ht <;> simp [ht]

/-- A sum over the positions of a window of eight along the last of three axes. -/
theorem sum_window3 (g : (⟨3, ![1, 1, 8]⟩ : Shape).Idx → EReal) : ∑ w, g w = ∑ k : Fin 8, g (ix3 0 0 k) := by
  symm
  refine Fintype.sum_bijective (fun k : Fin 8 => (ix3 0 0 k : (⟨3, ![1, 1, 8]⟩ : Shape).Idx)) ⟨fun a b h => ?_, fun y => ?_⟩ _ _ fun _ => rfl
  · exact congrFun h 2
  · idx_vars y
    obtain rfl : y0 = 0 := Subsingleton.elim (α := Fin 1) _ _
    obtain rfl : y1 = 0 := Subsingleton.elim (α := Fin 1) _ _
    exact ⟨_, rfl⟩

/-- The host's running sum along the last axis of a [128, 4, 8] array: entry `t` is the sum of the entries up to `t`. -/
theorem window3 (x : (⟨3, ![128, 4, 8]⟩ : Shape).Idx → EReal) (init)
    (h : (⟨3, ![128, 4, 8]⟩ : Shape).ReduceWindows ![1, 1, 8] ![1, 1, 1] ![0, 0, 7] ![0, 0, 0] ⟨3, ![128, 4, 8]⟩) (hu)
    (h0 : init (Shape.Idx.first (s := ⟨0, ![]⟩) hu) = 0) (a : Fin 128) (b : Fin 4) (t : Fin 8) :
    Host.reduceWindowAdd (F := Ideal) (φ := .f32) ![1, 1, 8] ![1, 1, 1] ![0, 0, 7] ![0, 0, 0] x init h hu (ix3 a b t) = upTo (fun s => x (ix3 a b s)) t := by
  unfold Host.reduceWindowAdd
  rw [h0, Ideal.hostReduceWindowAdd_def]
  unfold Ideal.hostReduceWindowAdd Host.reduceWindow
  refine (foldl_finRange _).trans ?_
  refine (Fintype.sum_equiv ((⟨3, ![1, 1, 8]⟩ : Shape).rowMajor.symm) _
    (fun w : (⟨3, ![1, 1, 8]⟩ : Shape).Idx => if 7 ≤ t.val + (w 2).val then padded (fun s => x (ix3 a b s)) (t.val + (w 2).val - 7) else 0)
    fun k => ?_).trans ((sum_window3 _).trans (shifted _ t))
  let w := (⟨3, ![1, 1, 8]⟩ : Shape).rowMajor.symm k
  have h0 : (w 0).val < 1 := (w 0).isLt
  have h1 : (w 1).val < 1 := (w 1).isLt
  have h2 : (w 2).val < 8 := (w 2).isLt
  have ha := a.isLt
  have hb := b.isLt
  have ht := t.isLt
  by_cases hp : 7 ≤ t.val + (w 2).val
  · refine Eq.trans ?_ (if_pos hp).symm
    refine (dif_pos fun c => ?_).trans ?_
    rotate_left
    · refine Eq.trans ?_ (padded_of_lt (n := t.val + (w 2).val - 7) _ (by omega)).symm
      refine congrArg x (funext fun c => ?_)
      fin_cases c
      · exact Fin.ext (show a.val * 1 + (w 0).val - 0 = a.val by omega)
      · exact Fin.ext (show b.val * 1 + (w 1).val - 0 = b.val by omega)
      · exact Fin.ext (show t.val * 1 + (w 2).val - 7 = t.val + (w 2).val - 7 by omega)
    · fin_cases c
      · show 0 ≤ a.val * 1 + (w 0).val ∧ a.val * 1 + (w 0).val - 0 < 128
        omega
      · show 0 ≤ b.val * 1 + (w 1).val ∧ b.val * 1 + (w 1).val - 0 < 4
        omega
      · show 7 ≤ t.val * 1 + (w 2).val ∧ t.val * 1 + (w 2).val - 7 < 8
        omega
  · refine Eq.trans ?_ (if_neg hp).symm
    refine dif_neg fun hin => ?_
    have h7 : 7 ≤ t.val * 1 + (w 2).val := (hin 2).1
    omega

/-- A sum over the positions of a window of eight along the third of four axes. -/
theorem sum_window4 (g : (⟨4, ![1, 1, 8, 1]⟩ : Shape).Idx → EReal) : ∑ w, g w = ∑ k : Fin 8, g (ix4 0 0 k 0) := by
  symm
  refine Fintype.sum_bijective (fun k : Fin 8 => (ix4 0 0 k 0 : (⟨4, ![1, 1, 8, 1]⟩ : Shape).Idx)) ⟨fun a b h => ?_, fun y => ?_⟩ _ _ fun _ => rfl
  · exact congrFun h 2
  · idx_vars y
    obtain rfl : y0 = 0 := Subsingleton.elim (α := Fin 1) _ _
    obtain rfl : y1 = 0 := Subsingleton.elim (α := Fin 1) _ _
    obtain rfl : y3 = 0 := Subsingleton.elim (α := Fin 1) _ _
    exact ⟨_, rfl⟩

/-- The host's running sum along the third axis of a [128, 4, 8, 128] array: entry `t` is the sum of the entries up to `t`. -/
theorem window4 (x : (⟨4, ![128, 4, 8, 128]⟩ : Shape).Idx → EReal) (init)
    (h : (⟨4, ![128, 4, 8, 128]⟩ : Shape).ReduceWindows ![1, 1, 8, 1] ![1, 1, 1, 1] ![0, 0, 7, 0] ![0, 0, 0, 0] ⟨4, ![128, 4, 8, 128]⟩) (hu)
    (h0 : init (Shape.Idx.first (s := ⟨0, ![]⟩) hu) = 0) (a : Fin 128) (b : Fin 4) (t : Fin 8) (d : Fin 128) :
    Host.reduceWindowAdd (F := Ideal) (φ := .f32) ![1, 1, 8, 1] ![1, 1, 1, 1] ![0, 0, 7, 0] ![0, 0, 0, 0] x init h hu (ix4 a b t d)
      = upTo (fun s => x (ix4 a b s d)) t := by
  unfold Host.reduceWindowAdd
  rw [h0, Ideal.hostReduceWindowAdd_def]
  unfold Ideal.hostReduceWindowAdd Host.reduceWindow
  refine (foldl_finRange _).trans ?_
  refine (Fintype.sum_equiv ((⟨4, ![1, 1, 8, 1]⟩ : Shape).rowMajor.symm) _
    (fun w : (⟨4, ![1, 1, 8, 1]⟩ : Shape).Idx => if 7 ≤ t.val + (w 2).val then padded (fun s => x (ix4 a b s d)) (t.val + (w 2).val - 7) else 0)
    fun k => ?_).trans ((sum_window4 _).trans (shifted _ t))
  let w := (⟨4, ![1, 1, 8, 1]⟩ : Shape).rowMajor.symm k
  have h0 : (w 0).val < 1 := (w 0).isLt
  have h1 : (w 1).val < 1 := (w 1).isLt
  have h2 : (w 2).val < 8 := (w 2).isLt
  have h3 : (w 3).val < 1 := (w 3).isLt
  have ha := a.isLt
  have hb := b.isLt
  have ht := t.isLt
  have hd := d.isLt
  by_cases hp : 7 ≤ t.val + (w 2).val
  · refine Eq.trans ?_ (if_pos hp).symm
    refine (dif_pos fun c => ?_).trans ?_
    rotate_left
    · refine Eq.trans ?_ (padded_of_lt (n := t.val + (w 2).val - 7) _ (by omega)).symm
      refine congrArg x (funext fun c => ?_)
      fin_cases c
      · exact Fin.ext (show a.val * 1 + (w 0).val - 0 = a.val by omega)
      · exact Fin.ext (show b.val * 1 + (w 1).val - 0 = b.val by omega)
      · exact Fin.ext (show t.val * 1 + (w 2).val - 7 = t.val + (w 2).val - 7 by omega)
      · exact Fin.ext (show d.val * 1 + (w 3).val - 0 = d.val by omega)
    · fin_cases c
      · show 0 ≤ a.val * 1 + (w 0).val ∧ a.val * 1 + (w 0).val - 0 < 128
        omega
      · show 0 ≤ b.val * 1 + (w 1).val ∧ b.val * 1 + (w 1).val - 0 < 4
        omega
      · show 7 ≤ t.val * 1 + (w 2).val ∧ t.val * 1 + (w 2).val - 7 < 8
        omega
      · show 0 ≤ d.val * 1 + (w 3).val ∧ d.val * 1 + (w 3).val - 0 < 128
        omega
  · refine Eq.trans ?_ (if_neg hp).symm
    refine dif_neg fun hin => ?_
    have h7 : 7 ≤ t.val * 1 + (w 2).val := (hin 2).1
    omega

end Cert.RunningSum

end
-- ==== Proof.MlstmSpec.lean ====
module

public import proofs.«01_k».proof.Proof.RunningSum

@[expose] public section

set_option maxRecDepth 16384

noncomputable section

open Idealize.ShloMosaic Idealize.ShloMosaic.TcCoe
open Cert.RunningSum

namespace Cert.MlstmHead

/-- What one head of one batch row enters the recurrence with: queries (scaled), keys and values of eight tokens, the
    input gates, the running sums of the log forget gates, and the carried stabilizer, matrix and normalizer. -/
@[ext] structure Head where
  q : Fin 8 → Fin 64 → EReal
  k : Fin 8 → Fin 64 → EReal
  v : Fin 8 → Fin 128 → EReal
  ic : Fin 8 → EReal
  bc : Fin 8 → EReal
  m0 : EReal
  c0 : Fin 128 → Fin 64 → EReal
  n0 : Fin 64 → EReal

/-- The mask's value above the diagonal, -1e30 as a 32-bit float. -/
def low : EReal := Ideal.ofBits .f32 0xF149F2CA#32
/-- Where a maximum starts. -/
def bottom : EReal := Ideal.ofBits .f32 0xFF800000#32

/-- The log forget gate of a preactivation: minus the softplus of its negative. -/
def logForget (p : EReal) : EReal := -(max (-p) 0 + Ideal.log1p (Ideal.exp (-(FloatOps.absf (F := Ideal) (φ := .f32) (-p)))))

namespace Head

variable (H : Head)

/-- The log weight of token `s` in the output of token `t`. -/
def decay (t s : Fin 8) : EReal := if s ≤ t then H.bc t - H.bc s + H.ic s else low
/-- The stabilizer of token `t`. -/
def stab (t : Fin 8) : EReal := max (H.bc t + H.m0) (Finset.univ.fold max bottom fun s => H.decay t s)
/-- The weight of the carried state in the output of token `t`. -/
def inter (t : Fin 8) : EReal := Ideal.exp (H.bc t + H.m0 - H.stab t)
/-- The weighted score of token `s` for token `t`. -/
def score (t s : Fin 8) : EReal :=
  if s ≤ t then (∑ x, H.q t x * H.k s x) * Ideal.exp (H.decay t s - H.stab t) else 0
/-- The numerator of the output. -/
def numer (t : Fin 8) (v : Fin 128) : EReal := H.inter t * (∑ x, H.q t x * H.c0 v x) + ∑ s, H.score t s * H.v s v
/-- The normalizer of the output. -/
def denom (t : Fin 8) : EReal := H.inter t * (∑ x, H.q t x * H.n0 x) + ∑ s, H.score t s
/-- The head's output before its norm. -/
def hidden (t : Fin 8) (v : Fin 128) : EReal :=
  Ideal.div (H.numer t v) (max (FloatOps.absf (F := Ideal) (φ := .f32) (H.denom t)) (Ideal.exp (-H.stab t)))
/-- The head's output over its root mean square. -/
def normed (t : Fin 8) (v : Fin 128) : EReal :=
  H.hidden t v * Ideal.rsqrt (Ideal.div (∑ x, H.hidden t x * H.hidden t x) (Ideal.ofBits .f32 0x43000000#32)
    + Ideal.ofBits .f32 0x358637BD#32)
/-- The log weight of token `s` in the new state. -/
def tail (s : Fin 8) : EReal := H.bc 7 - H.bc s + H.ic s
/-- The new stabilizer. -/
def mNew : EReal := max (H.bc 7 + H.m0) (Finset.univ.fold max bottom fun s => H.tail s)
/-- The weight of the carried state in the new one. -/
def wOld : EReal := Ideal.exp (H.bc 7 + H.m0 - H.mNew)
/-- The weight of token `s` in the new state. -/
def wKey (s : Fin 8) : EReal := Ideal.exp (H.tail s - H.mNew)
/-- The new matrix. -/
def cNew (v : Fin 128) (x : Fin 64) : EReal := H.wOld * H.c0 v x + ∑ s, H.wKey s * H.v s v * H.k s x
/-- The new normalizer. -/
def nNew (x : Fin 64) : EReal := H.wOld * H.n0 x + ∑ s, H.wKey s * H.k s x

end Head

variable (P : (⟨2, ![1024, 8832]⟩ : Shape).Idx → EReal) (bmi bmf : (⟨1, ![4]⟩ : Shape).Idx → EReal)
  (g : (⟨1, ![512]⟩ : Shape).Idx → EReal) (stc : (⟨4, ![128, 4, 128, 64]⟩ : Shape).Idx → EReal)
  (stn : (⟨3, ![128, 4, 64]⟩ : Shape).Idx → EReal) (stm : (⟨2, ![128, 4]⟩ : Shape).Idx → EReal)

/-- Column `j` of token `t` of batch row `b` in the projected array. -/
def col (b : Fin 128) (t : Fin 8) (j : ℕ) (hj : j < 8832 := by omega) : EReal :=
  P (ix2 ⟨8 * b.val + t.val, by omega⟩ ⟨j, hj⟩)

/-- The head `h` of batch row `b`, read off the projected array, the gate biases and the carried state. -/
def head (b : Fin 128) (h : Fin 4) : Head where
  q t x := col P b t (7168 + (64 * h.val + x.val)) * Ideal.ofBits .f32 0x3E000000#32
  k t x := col P b t (7424 + (64 * h.val + x.val))
  v t x := col P b t (7680 + (128 * h.val + x.val))
  ic t := col P b t (8704 + h.val) + bmi (ix1 h)
  bc t := upTo (fun s => logForget (col P b s (8708 + h.val) + bmf (ix1 h))) t
  m0 := stm (ix2 b h)
  c0 v x := stc (ix4 b h v x)
  n0 x := stn (ix3 b h x)

/-- The branch's output at token `t` of batch row `b`, lane `v` of head `h`: the normed head, the norm's gain and the
    sigmoid of the output gate. -/
def outAt (b : Fin 128) (t : Fin 8) (h : Fin 4) (v : Fin 128) : EReal :=
  (head P bmi bmf stc stn stm b h).normed t v * g (ix1 ⟨128 * h.val + v.val, by omega⟩)
    * Ideal.logistic (col P b t (8192 + (128 * h.val + v.val)))

/-- The branch's output as an array. -/
def outY : (⟨2, ![1024, 512]⟩ : Shape).Idx → EReal := fun i =>
  outAt P bmi bmf g stc stn stm ⟨(i 0).val / 8, by have h : (i 0).val < 1024 := (i 0).isLt; omega⟩
    ⟨(i 0).val % 8, by omega⟩ ⟨(i 1).val / 128, by have h : (i 1).val < 512 := (i 1).isLt; omega⟩ ⟨(i 1).val % 128, by omega⟩

/-- The new matrices as an array. -/
def outC : (⟨4, ![128, 4, 128, 64]⟩ : Shape).Idx → EReal := fun i =>
  (head P bmi bmf stc stn stm (i 0) (i 1)).cNew (i 2) (i 3)

/-- The new normalizers as an array. -/
def outN : (⟨3, ![128, 4, 64]⟩ : Shape).Idx → EReal := fun i =>
  (head P bmi bmf stc stn stm (i 0) (i 1)).nNew (i 2)

/-- The new stabilizers as an array. -/
def outM : (⟨3, ![128, 4, 1]⟩ : Shape).Idx → EReal := fun i =>
  (head P bmi bmf stc stn stm (i 0) (i 1)).mNew

end Cert.MlstmHead

end
-- ==== Proof.MlstmBlock.lean ====
module

public import proofs.«01_k».proof.Proof.Gen.MlstmIdeal.Value
public import proofs.«01_k».proof.Proof.MlstmSpec

@[expose] public section

set_option maxRecDepth 16384

noncomputable section

open Idealize.ShloMosaic Idealize.ShloMosaic.TcCoe Idealize.SL.Sem
open Cert.MlstmHead Cert.RunningSum

namespace Cert.MlstmIdeal.Block

open Cert.MlstmIdeal Cert.MlstmIdeal.Gen

/-- The mask of the past is one at and below the diagonal. -/
theorem mask_at (t s : Fin 8) : k0_pay29 (ix2 t s) = if s ≤ t then 1#1 else 0#1 := by
  pointwise [k0_pay29]
  revert t s
  decide

/-- The mask of the diagonal is one there. -/
theorem eye_at (t s : Fin 8) : k0_pay30 (ix2 t s) = if t = s then 1#1 else 0#1 := by
  pointwise [k0_pay30]
  revert t s
  decide

theorem select_ite {α : Type} (p : Prop) [Decidable p] (a b : α) :
    Scalar.select (if p then 1#1 else 0#1) a b = if p then a else b := by
  by_cases h : p <;> simp [h, Scalar.select]

/-- The gates' preactivations: the small columns plus the bias row. -/
theorem pre_at (a : Vec Ideal S8x128 .f32) (b : Vec Ideal S1x128 .f32) (t : Fin 8) (j : Fin 128) :
    k0_pay31 (F := Ideal) a b (ix2 t j) = a (ix2 t j) + b (ix2 0 j) := by
  pointwise [k0_pay31]

/-- The conversion of a word is its signed value. -/
theorem sitofp_word (w : BitVec 32) : (FloatOps.sitofp (F := Ideal) .f32 w : EReal) = ((w.toInt : ℝ) : EReal) := rfl

/-- The product with the mask of the past is the running sum of the log forget gates. -/
theorem sums_at (a : Vec Ideal S8x128 .f32) (b : Vec Ideal S1x128 .f32) (t : Fin 8) (j : Fin 128) :
    k0_pay32 (F := Ideal) a b (ix2 t j) = upTo (fun s => logForget (a (ix2 s j) + b (ix2 0 j))) t := by
  pointwise [k0_pay32]
  unfold upTo
  change @Eq EReal _ _
  refine Finset.sum_congr rfl fun s _ => ?_
  rw [mask_at, pre_at]
  unfold logForget
  simp only [zero_sub]
  by_cases h : s ≤ t
  · rw [if_pos h, if_pos h]
    refine (congrArg (· * _) (?_ : _ = (1 : EReal))).trans (one_mul _)
    simp [sitofp_word]
  · rw [if_neg h, if_neg h]
    refine (congrArg (· * _) (?_ : _ = (0 : EReal))).trans (zero_mul _)
    simp [sitofp_word]

/-- One head's vectors, read as the head they hold. -/
def vecs (q k : FVec Ideal S8x64 .f32) (v : FVec Ideal S8x128 .f32) (ic bc : FVec Ideal S8x1 .f32) (m : Vec Ideal S1x1 .f32)
    (C : FVec Ideal S128x64 .f32) (n : FVec Ideal S1x64 .f32) : Head where
  q t x := q (ix2 t x)
  k t x := k (ix2 t x)
  v t x := v (ix2 t x)
  ic t := ic (ix2 t 0)
  bc t := bc (ix2 t 0)
  m0 := m (ix2 0 0)
  c0 v x := C (ix2 v x)
  n0 x := n (ix2 0 x)

section

variable (q k : FVec Ideal S8x64 .f32) (v : FVec Ideal S8x128 .f32) (ic bc : FVec Ideal S8x1 .f32) (m : Vec Ideal S1x1 .f32)
    (C : FVec Ideal S128x64 .f32) (n : FVec Ideal S1x64 .f32)

theorem decay_at (t s : Fin 8) : k0_pay40 k0_pay29 k0_pay30 ic bc (ix2 t s) = (vecs q k v ic bc m C n).decay t s := by
  pointwise [k0_pay40]
  simp only [mask_at, eye_at, select_ite]
  rw [Finset.sum_ite_eq', Finset.sum_ite_eq']
  simp only [Finset.mem_univ, if_true]
  rfl

theorem stab_at (t : Fin 8) : k0_pay42 k0_pay29 k0_pay30 ic bc m (ix2 t 0) = (vecs q k v ic bc m C n).stab t := by
  pointwise [k0_pay42, k0_pay41]
  simp only [decay_at q k v ic bc m C n]
  rfl

theorem inter_at (t : Fin 8) : k0_pay43 k0_pay29 k0_pay30 ic bc m (ix2 t 0) = (vecs q k v ic bc m C n).inter t := by
  unfold k0_pay43
  pointwise [k0_pay41]
  rw [stab_at q k v ic bc m C n]
  rfl

theorem score_at (t s : Fin 8) : k0_pay44 k0_pay29 k0_pay30 q k ic bc m (ix2 t s) = (vecs q k v ic bc m C n).score t s := by
  unfold k0_pay44
  pointwise []
  rw [stab_at q k v ic bc m C n, decay_at q k v ic bc m C n, mask_at]
  simp only [select_ite]
  unfold Head.score
  by_cases h : s ≤ t
  · simp only [if_pos h]
    rfl
  · simp only [if_neg h]

/-- What the head's output before its norm holds. -/
theorem hidden_at (t : Fin 8) (w : Fin 128) (z : FVec Ideal S8x128 .f32) :
    k0_pay47 q v n (k0_pay42 k0_pay29 k0_pay30 ic bc m) (k0_pay43 k0_pay29 k0_pay30 ic bc m) (k0_pay44 k0_pay29 k0_pay30 q k ic bc m)
      (k0_pay45 q) (truncf .bf16 C bitsLt_bf16_f32) (constant S8x128 .f32 0x00000000#32) (ix2 t w) = (vecs q k v ic bc m C n).hidden t w := by
  unfold k0_pay47
  pointwise [k0_pay45]
  simp only [stab_at q k v ic bc m C n, inter_at q k v ic bc m C n, score_at q k v ic bc m C n, zero_sub]
  rfl

theorem tail_at (s : Fin 8) : k0_pay49 ic bc (ix2 s 0) = (vecs q k v ic bc m C n).tail s := by
  pointwise [k0_pay49, k0_pay48]
  rfl

theorem mNew_at : k0_pay50 ic bc m (ix2 0 0) = (vecs q k v ic bc m C n).mNew := by
  pointwise [k0_pay50, k0_pay48]
  simp only [tail_at q k v ic bc m C n]
  rfl

theorem wOld_at : k0_pay51 ic bc m (ix2 0 0) = (vecs q k v ic bc m C n).wOld := by
  pointwise [k0_pay51, k0_pay48]
  simp only [mNew_at q k v ic bc m C n]
  rfl

theorem wKey_at (s : Fin 8) : k0_pay52 ic bc m (ix2 s 0) = (vecs q k v ic bc m C n).wKey s := by
  pointwise [k0_pay52]
  simp only [mNew_at q k v ic bc m C n, tail_at q k v ic bc m C n]
  rfl

/-- What the new matrix's block holds. -/
theorem cNew_at (w : Fin 128) (x : Fin 64) :
    k0_pay16 (k0_pay53 k v ic bc m C) (ix4 0 0 w x) = (vecs q k v ic bc m C n).cNew w x := by
  pointwise [k0_pay16, k0_pay53]
  simp only [wOld_at q k v ic bc m C n, wKey_at q k v ic bc m C n]
  unfold Head.cNew
  refine congrArg₂ (· + ·) rfl (Finset.sum_congr rfl fun s _ => ?_)
  exact congrArg₂ (· * ·) (mul_comm _ _) rfl

/-- What the new normalizer's block holds. -/
theorem nNew_at (x : Fin 64) :
    k0_pay17 (k0_pay56 k (k0_pay54 ic bc m n) (k0_pay55 ic bc m)) (ix3 0 0 x) = (vecs q k v ic bc m C n).nNew x := by
  pointwise [k0_pay17, k0_pay56, k0_pay54, k0_pay55]
  simp only [wOld_at q k v ic bc m C n, wKey_at q k v ic bc m C n]
  rfl

/-- What the new stabilizer's block holds. -/
theorem mOut_at : k0_pay18 (fun _ => k0_pay57 (k0_pay50 ic bc m) (ix2 0 0)) (ix3 0 0 0) = (vecs q k v ic bc m C n).mNew := by
  pointwise [k0_pay18, k0_pay57]
  exact mNew_at q k v ic bc m C n

end

end Cert.MlstmIdeal.Block

end
-- ==== Proof.MlstmArray.lean ====
/-
  What the mLSTM kernel reads: each window's block at a grid point, element by element, as the launched arrays.
-/
module

public import proofs.«01_k».proof.Proof.Gen.MlstmIdeal.Value
public import Idealize.ShloMosaic.Lib.Pipeline.ReadBack
public import Idealize.ShloMosaic.Lib.Routing.OpsSet
public import proofs.«01_k».proof.Proof.MlstmBlock

@[expose] public section

set_option maxRecDepth 16384

noncomputable section

open Idealize.ShloMosaic Idealize.ShloMosaic.TcCoe Idealize.SL.Sem
open Idealize.ShloMosaic.Pipeline (Dat)
open Cert.MlstmHead Cert.RunningSum

namespace Cert.MlstmIdeal.Array

open Cert.MlstmIdeal Cert.MlstmIdeal.Gen

/-- The bias row's scatter starts at the row's first entry. -/
theorem start_zero (k : S8.Idx) (a : Fin 2) : scatter_S1x128_S2_S8_0_0_01_0.start k (fun _ : S2.Idx => 0#32) a = 0 := by
  unfold ScatterDims.start
  split
  · rfl
  · rfl

theorem window_row (k : Fin 8) : scatter_S1x128_S2_S8_0_0_01_0.window (ix1 k) 0 = 0 := rfl

theorem window_lane (k : Fin 8) : scatter_S1x128_S2_S8_0_0_01_0.window (ix1 k) 1 = k.val := rfl

/-- Update `k` of the bias row's scatter lands at entry `k` of the row. -/
theorem lands (k : Fin 8) (j : Fin 128) :
    scatter_S1x128_S2_S8_0_0_01_0.resultIdx? (ix1 k) (fun _ : S2.Idx => 0#32) = some (ix2 0 j) ↔ k.val = j.val := by
  rw [Routing.resultIdx?_eq_some]
  constructor
  · intro h
    have h1 := h 1
    rw [start_zero, window_lane] at h1
    change (0 : Int) + (k.val : Int) = (j.val : Int) at h1
    omega
  · intro h a
    rw [start_zero]
    fin_cases a
    · rfl
    · change (0 : Int) + (k.val : Int) = (j.val : Int)
      omega

variable (m : (ℓ : Loc nD τ sig) → Buf (Elt Ideal) ℓ) (ρ : Dev nD → PrngReg)

/-- Entry `j < 8` of the bias row is entry `j` of the two gates' biases in a row. -/
theorem bias (c : Dev nD) (k : Fin 8) :
    V m c main_v5 (ix2 0 ⟨k.val, by omega⟩)
      = concatenate S8 0 [⟨S4, m ((c : Thread nD τ).loc main_arg1)⟩, ⟨S4, m ((c : Thread nD τ).loc main_arg2)⟩] concatenates_S4_S4_S8_d0 (ix1 k) := by
  show StableHlo.after hostOps0 (fun b => m (c, b)) _ _ = _
  unfold hostOps0
  after_results
  have e : ∀ i : IVec S2 32, i = (fun _ => 0#32) → ∀ (x : S1x128.Idx → EReal) (u : S8.Idx → EReal), Host.scatter scatter_S1x128_S2_S8_0_0_01_0 (fun _ b => b) x i u (ix2 0 ⟨k.val, by omega⟩) = u (ix1 k) := by
    intro i hi x u
    subst hi
    refine Routing.scatter_set_hit _ _ _ _ _ _ (fun y hy => ?_) (ix1 k) ((lands k _).2 rfl)
    idx_vars y
    exact congrArg u (congrArg ix1 (Fin.ext ((lands y0 _).1 hy)))
  refine e _ ?_ _ _
  funext i
  idx_vars i
  pointwise []
  split_ifs <;> rfl

/-- The projected array, the gate biases, the norm's gain and the carried state, as launched. -/
abbrev P (c : Dev nD) : FVec Ideal S1024x8832 .f32 := m ((c : Thread nD τ).loc main_arg0)
abbrev bmi (c : Dev nD) : FVec Ideal S4 .f32 := m ((c : Thread nD τ).loc main_arg1)
abbrev bmf (c : Dev nD) : FVec Ideal S4 .f32 := m ((c : Thread nD τ).loc main_arg2)
abbrev gain (c : Dev nD) : FVec Ideal S512 .f32 := m ((c : Thread nD τ).loc main_arg3)
abbrev stc (c : Dev nD) : FVec Ideal S128x4x128x64 .f32 := m ((c : Thread nD τ).loc main_arg4)
abbrev stn (c : Dev nD) : FVec Ideal S128x4x64 .f32 := m ((c : Thread nD τ).loc main_arg5)
abbrev stm (c : Dev nD) : FVec Ideal S128x4 .f32 := m ((c : Thread nD τ).loc main_arg6)

/-- The batch row a grid point takes. -/
abbrev row (t : Fin cfg0.N) : Fin 128 := ⟨t.val, t.isLt⟩

/-- Each input window's block index at a grid point, on every axis. -/
theorem idx : ∀ t : Fin cfg0.N, (win0_0.index t 0 = t.val ∧ win0_0.index t 1 = 14 ∧ win0_1.index t 0 = t.val ∧ win0_1.index t 1 = 15
    ∧ win0_2.index t 0 = t.val ∧ win0_2.index t 1 = 16 ∧ win0_3.index t 0 = t.val ∧ win0_3.index t 1 = 68)
    ∧ (win0_4.index t 0 = 0 ∧ win0_4.index t 1 = 0 ∧ win0_5.index t 0 = 0 ∧ win0_5.index t 1 = 0)
    ∧ (win0_6.index t 0 = t.val ∧ win0_6.index t 1 = 0 ∧ win0_6.index t 2 = 0 ∧ win0_6.index t 3 = 0)
    ∧ (win0_7.index t 0 = t.val ∧ win0_7.index t 1 = 0 ∧ win0_7.index t 2 = 0)
    ∧ (win0_8.index t 0 = t.val ∧ win0_8.index t 1 = 0 ∧ win0_8.index t 2 = 0) :=
  (by decide +kernel : ∀ t : Fin grid0.N, (win0_0.index t 0 = t.val ∧ win0_0.index t 1 = 14 ∧ win0_1.index t 0 = t.val ∧ win0_1.index t 1 = 15
    ∧ win0_2.index t 0 = t.val ∧ win0_2.index t 1 = 16 ∧ win0_3.index t 0 = t.val ∧ win0_3.index t 1 = 68)
    ∧ (win0_4.index t 0 = 0 ∧ win0_4.index t 1 = 0 ∧ win0_5.index t 0 = 0 ∧ win0_5.index t 1 = 0)
    ∧ (win0_6.index t 0 = t.val ∧ win0_6.index t 1 = 0 ∧ win0_6.index t 2 = 0 ∧ win0_6.index t 3 = 0)
    ∧ (win0_7.index t 0 = t.val ∧ win0_7.index t 1 = 0 ∧ win0_7.index t 2 = 0)
    ∧ (win0_8.index t 0 = t.val ∧ win0_8.index t 1 = 0 ∧ win0_8.index t 2 = 0))

/-- Each output window's block index at a grid point, on every axis. -/
theorem idxOut : ∀ t : Fin cfg0.N, (win0_9.index t 0 = t.val ∧ win0_9.index t 1 = 0)
    ∧ (win0_10.index t 0 = t.val ∧ win0_10.index t 1 = 0 ∧ win0_10.index t 2 = 0 ∧ win0_10.index t 3 = 0)
    ∧ (win0_11.index t 0 = t.val ∧ win0_11.index t 1 = 0 ∧ win0_11.index t 2 = 0)
    ∧ (win0_12.index t 0 = t.val ∧ win0_12.index t 1 = 0 ∧ win0_12.index t 2 = 0) :=
  (by decide +kernel : ∀ t : Fin grid0.N, (win0_9.index t 0 = t.val ∧ win0_9.index t 1 = 0)
    ∧ (win0_10.index t 0 = t.val ∧ win0_10.index t 1 = 0 ∧ win0_10.index t 2 = 0 ∧ win0_10.index t 3 = 0)
    ∧ (win0_11.index t 0 = t.val ∧ win0_11.index t 1 = 0 ∧ win0_11.index t 2 = 0)
    ∧ (win0_12.index t 0 = t.val ∧ win0_12.index t 1 = 0 ∧ win0_12.index t 2 = 0))

/-- The query and key block. -/
theorem qk_at (c : Dev nD) (t : Fin cfg0.N) (s : Fin 8) (j : Fin 512) :
    X0_0 m c t (ix2 s j) = col (P m c) (row t) s (7168 + j.val) := by
  obtain ⟨⟨h00, h01, -⟩, -⟩ := idx t
  refine (dif_pos (moved0_0 t (ix2 s j))).trans ?_
  unfold col
  blk_ext [iblk, V_main_arg0, h00, h01]

/-- The value block. -/
theorem v_at (c : Dev nD) (t : Fin cfg0.N) (s : Fin 8) (j : Fin 512) :
    X0_1 m c t (ix2 s j) = col (P m c) (row t) s (7680 + j.val) := by
  obtain ⟨⟨-, -, h00, h01, -⟩, -⟩ := idx t
  refine (dif_pos (moved0_1 t (ix2 s j))).trans ?_
  unfold col
  blk_ext [iblk, V_main_arg0, h00, h01]

/-- The output gate block. -/
theorem og_at (c : Dev nD) (t : Fin cfg0.N) (s : Fin 8) (j : Fin 512) :
    X0_2 m c t (ix2 s j) = col (P m c) (row t) s (8192 + j.val) := by
  obtain ⟨⟨-, -, -, -, h00, h01, -⟩, -⟩ := idx t
  refine (dif_pos (moved0_2 t (ix2 s j))).trans ?_
  unfold col
  blk_ext [iblk, V_main_arg0, h00, h01]

/-- The gates' block. -/
theorem sm_at (c : Dev nD) (t : Fin cfg0.N) (s : Fin 8) (j : Fin 128) :
    iblk m c 3 t (ix2 s j) = col (P m c) (row t) s (8704 + j.val) := by
  obtain ⟨⟨-, -, -, -, -, -, h00, h01⟩, -⟩ := idx t
  unfold col
  blk_ext [iblk, V_main_arg0, h00, h01]

/-- The bias block holds the input gates' biases, -/
theorem bias_i (c : Dev nD) (t : Fin cfg0.N) (h : Fin 4) (hh : h.val < 128) :
    iblk m c 4 t (ix2 0 ⟨h.val, hh⟩) = bmi m c (ix1 h) := by
  obtain ⟨-, ⟨h00, h01, -⟩, -⟩ := idx t
  refine Eq.trans ?_ ((bias m c ⟨h.val, by omega⟩).trans ?_)
  · blk_ext [iblk, h00, h01]
  · pointwise []

/-- and behind them the forget gates' biases. -/
theorem bias_f (c : Dev nD) (t : Fin cfg0.N) (h : Fin 4) (hh : 4 + h.val < 128) :
    iblk m c 4 t (ix2 0 ⟨4 + h.val, hh⟩) = bmf m c (ix1 h) := by
  obtain ⟨-, ⟨h00, h01, -⟩, -⟩ := idx t
  refine Eq.trans ?_ ((bias m c ⟨4 + h.val, by omega⟩).trans ?_)
  · blk_ext [iblk, h00, h01]
  · pointwise []

/-- The gain block. -/
theorem gain_at (c : Dev nD) (t : Fin cfg0.N) (j : Fin 512) :
    iblk m c 5 t (ix2 0 j) = gain m c (ix1 j) := by
  obtain ⟨-, ⟨-, -, h00, h01⟩, -⟩ := idx t
  have e : V m c main_v6 = broadcastInDim S1x512 ![1] bcast_S512_S1x512_1 (gain m c) := by
    show StableHlo.after hostOps0 (fun b => m (c, b)) _ = _
    unfold hostOps0
    after_results
    all_goals rfl
  refine Eq.trans ?_ ((congrFun e (ix2 0 j)).trans ?_)
  · blk_ext [iblk, h00, h01]
  · pointwise []

/-- The carried matrices' block. -/
theorem c_at (c : Dev nD) (t : Fin cfg0.N) (h : Fin 4) (v : Fin 128) (x : Fin 64) :
    iblk m c 6 t (ix4 0 h v x) = stc m c (ix4 (row t) h v x) := by
  obtain ⟨-, -, ⟨h00, h01, h02, h03⟩, -⟩ := idx t
  blk_ext [iblk, V_main_arg4, h00, h01, h02, h03]

/-- The carried normalizers' block. -/
theorem n_at (c : Dev nD) (t : Fin cfg0.N) (h : Fin 4) (x : Fin 64) :
    iblk m c 7 t (ix3 0 h x) = stn m c (ix3 (row t) h x) := by
  obtain ⟨-, -, -, ⟨h00, h01, h02⟩, -⟩ := idx t
  blk_ext [iblk, V_main_arg5, h00, h01, h02]

/-- The carried stabilizers' block. -/
theorem m_at (c : Dev nD) (t : Fin cfg0.N) (h : Fin 4) :
    iblk m c 8 t (ix3 0 h 0) = stm m c (ix2 (row t) h) := by
  obtain ⟨-, -, -, -, ⟨h00, h01, h02⟩⟩ := idx t
  have e : V m c main_v7 = broadcastInDim S128x4x1 ![0, 1] bcast_S128x4_S128x4x1_0_1 (stm m c) := by
    show StableHlo.after hostOps0 (fun b => m (c, b)) _ = _
    unfold hostOps0
    after_results
    all_goals rfl
  refine Eq.trans ?_ ((congrFun e (ix3 (row t) h 0)).trans ?_)
  · blk_ext [iblk, h00, h01, h02]
  · pointwise []
    rfl

end Cert.MlstmIdeal.Array

end
-- ==== Proof.MlstmFinal.lean ====
/-
  The mLSTM kernel's four result arrays are the arrays of MlstmSpec, read off the launched arguments.
-/
module

public import proofs.«01_k».proof.Proof.Gen.MlstmIdeal.Value
public import Idealize.ShloMosaic.Lib.Pipeline.ReadBack
public import Idealize.ShloMosaic.Lib.Routing.OpsSet
public import proofs.«01_k».proof.Proof.MlstmArray

@[expose] public section

set_option maxRecDepth 16384

noncomputable section

open Idealize.ShloMosaic Idealize.ShloMosaic.TcCoe Idealize.SL.Sem
open Idealize.ShloMosaic.Pipeline (Dat)
open Cert.MlstmHead Cert.RunningSum

namespace Cert.MlstmIdeal.Array

open Cert.MlstmIdeal Cert.MlstmIdeal.Gen Cert.MlstmIdeal.Block

/-- A cell of the stabilizer's scratch reads the first element of the row last stored there. -/
theorem readCov_cell {r : Nat} {e : EltTy} (v : View sig .tc .vmem S8x128 e) (w : S1x128.Idx → Elt Ideal e) (L) (inb inb') :
    v.readCov ((⟨Rect.unit (s := S8x128) ![r, 0] ![1, 128] inb, w⟩ : View.Piece (Elt Ideal) S8x128 e) :: L) (Rect.unit (s := S8x128) ![r, 0] ![1, 1] inb').toLoadRect
      = fun _ => w (ix2 0 0) := by
  rw [View.readCov_eq_canon']
  funext j
  refine Eq.trans (congrArg _ ?_) (View.canon_cons_emb (Rect.unit (s := S8x128) ![r, 0] ![1, 128] inb) w L (ix2 0 0))
  idx_vars j
  funext a
  refine Fin.ext ?_
  fin_cases a
  · show r + 1 * j0.val = r + 1 * 0
    have h : j0.val < 1 := j0.isLt
    omega
  · show 0 + 1 * j1.val = 0 + 1 * 0
    have h : j1.val < 1 := j1.isLt
    omega

variable (m : (ℓ : Loc nD τ sig) → Buf (Elt Ideal) ℓ) (ρ : Dev nD → PrngReg)

/-- A head's vectors hold that head when each element is the block's element it is sliced from. -/
theorem vecs_eq (c : Dev nD) (t : Fin cfg0.N) (h : Fin 4) {q k : FVec Ideal S8x64 .f32} {v : FVec Ideal S8x128 .f32} {ic bc : FVec Ideal S8x1 .f32}
    {mm : Vec Ideal S1x1 .f32} {C : FVec Ideal S128x64 .f32} {n : FVec Ideal S1x64 .f32}
    (hq : ∀ s x, q (ix2 s x) = (show EReal from X0_0 m c t (ix2 s ⟨64 * h.val + x.val, by omega⟩)) * Ideal.ofBits .f32 0x3E000000#32)
    (hk : ∀ s x, k (ix2 s x) = X0_0 m c t (ix2 s ⟨256 + 64 * h.val + x.val, by omega⟩))
    (hv : ∀ s x, v (ix2 s x) = X0_1 m c t (ix2 s ⟨128 * h.val + x.val, by omega⟩))
    (hi : ∀ s, ic (ix2 s 0) = k0_pay31 (iblk m c 3 t) (iblk m c 4 t) (ix2 s ⟨h.val, by omega⟩))
    (hb : ∀ s, bc (ix2 s 0) = k0_pay32 (iblk m c 3 t) (iblk m c 4 t) (ix2 s ⟨4 + h.val, by omega⟩))
    (hm : mm (ix2 0 0) = iblk m c 8 t (ix3 0 h 0))
    (hC : ∀ w x, C (ix2 w x) = iblk m c 6 t (ix4 0 h w x))
    (hn : ∀ x, n (ix2 0 x) = iblk m c 7 t (ix3 0 h x)) :
    vecs q k v ic bc mm C n = head (P m c) (bmi m c) (bmf m c) (stc m c) (stn m c) (stm m c) (row t) h := by
  have e : ∀ (b : Fin 128) (s : Fin 8) (i j : ℕ) (hi hj), i = j → col (P m c) b s i hi = col (P m c) b s j hj := by
    intro b s i j hi hj hij
    subst hij
    rfl
  refine Head.ext ?_ ?_ ?_ ?_ ?_ ?_ ?_ ?_
  · funext s x
    exact (hq s x).trans (congrArg (· * _) ((qk_at m c t s _).trans (e _ _ _ _ _ _ rfl)))
  · funext s x
    exact (hk s x).trans ((qk_at m c t s _).trans (e _ _ _ _ _ _ (by dsimp only; omega)))
  · funext s x
    exact (hv s x).trans (v_at m c t s _)
  · funext s
    refine (hi s).trans ((pre_at _ _ s _).trans ?_)
    exact congrArg₂ (· + ·) (sm_at m c t s _) (bias_i m c t h _)
  · funext s
    refine (hb s).trans ((sums_at _ _ s _).trans ?_)
    show _ = upTo (fun r => logForget (col (P m c) (row t) r (8708 + h.val) + bmf m c (ix1 h))) s
    refine congrArg (fun f : Fin 8 → EReal => upTo f s) (funext fun r => congrArg logForget ?_)
    exact congrArg₂ (· + ·) ((sm_at m c t r _).trans (e _ _ _ _ _ _ (by dsimp only; omega))) (bias_f m c t h _)
  · exact hm.trans (m_at m c t h)
  · funext w x
    exact (hC w x).trans (c_at m c t h w x)
  · funext x
    exact (hn x).trans (n_at m c t h x)

/-- Head 0's vectors hold head 0. -/
theorem head0 (c : Dev nD) (t : Fin cfg0.N) :
    vecs (k0_pay33 (X0_0 m c t)) (k0_pay34 (X0_0 m c t)) (k0_pay35 (X0_1 m c t)) (k0_pay36 (iblk m c 3 t) (iblk m c 4 t))
      (k0_pay37 (iblk m c 3 t) (iblk m c 4 t)) (fun _ => k0_pay7 (View.ld (iblk m c 8 t) (Rect.unit ![0, 0, 0] ![1, 1, 1] inb_S1x4x1_S1x1x1_0_0_0)) (ix2 0 0))
      (k0_pay38 (k0_pay5 (View.ld (iblk m c 6 t) (Rect.unit ![0, 0, 0, 0] ![1, 1, 128, 64] inb_S1x4x128x64_S1x1x128x64_0_0_0_0))))
      (k0_pay39 (k0_pay6 (View.ld (iblk m c 7 t) (Rect.unit ![0, 0, 0] ![1, 1, 64] inb_S1x4x64_S1x1x64_0_0_0))))
      = head (P m c) (bmi m c) (bmf m c) (stc m c) (stn m c) (stm m c) (row t) 0 := by
  refine vecs_eq m c t 0 ?_ ?_ ?_ ?_ ?_ ?_ ?_ ?_
  all_goals intros
  all_goals pointwise [k0_pay33, k0_pay34, k0_pay35, k0_pay36, k0_pay37, k0_pay7, k0_pay38, k0_pay5, k0_pay39, k0_pay6]

/-- Head 1's vectors hold head 1. -/
theorem head1 (c : Dev nD) (t : Fin cfg0.N) :
    vecs (k0_pay59 (X0_0 m c t)) (k0_pay60 (X0_0 m c t)) (k0_pay61 (X0_1 m c t)) (k0_pay62 (k0_pay31 (iblk m c 3 t) (iblk m c 4 t)))
      (k0_pay63 (k0_pay32 (iblk m c 3 t) (iblk m c 4 t))) (fun _ => k0_pay7 (View.ld (iblk m c 8 t) (Rect.unit ![0, 1, 0] ![1, 1, 1] inb_S1x4x1_S1x1x1_0_1_0)) (ix2 0 0))
      (k0_pay64 (k0_pay5 (View.ld (iblk m c 6 t) (Rect.unit ![0, 1, 0, 0] ![1, 1, 128, 64] inb_S1x4x128x64_S1x1x128x64_0_1_0_0))))
      (k0_pay65 (k0_pay6 (View.ld (iblk m c 7 t) (Rect.unit ![0, 1, 0] ![1, 1, 64] inb_S1x4x64_S1x1x64_0_1_0))))
      = head (P m c) (bmi m c) (bmf m c) (stc m c) (stn m c) (stm m c) (row t) 1 := by
  refine vecs_eq m c t 1 ?_ ?_ ?_ ?_ ?_ ?_ ?_ ?_
  all_goals intros
  all_goals pointwise [k0_pay59, k0_pay60, k0_pay61, k0_pay62, k0_pay63, k0_pay7, k0_pay64, k0_pay5, k0_pay65, k0_pay6]

/-- Head 2's vectors hold head 2. -/
theorem head2 (c : Dev nD) (t : Fin cfg0.N) :
    vecs (k0_pay85 (X0_0 m c t)) (k0_pay86 (X0_0 m c t)) (k0_pay87 (X0_1 m c t)) (k0_pay88 (k0_pay31 (iblk m c 3 t) (iblk m c 4 t)))
      (k0_pay89 (k0_pay32 (iblk m c 3 t) (iblk m c 4 t))) (fun _ => k0_pay7 (View.ld (iblk m c 8 t) (Rect.unit ![0, 2, 0] ![1, 1, 1] inb_S1x4x1_S1x1x1_0_2_0)) (ix2 0 0))
      (k0_pay90 (k0_pay5 (View.ld (iblk m c 6 t) (Rect.unit ![0, 2, 0, 0] ![1, 1, 128, 64] inb_S1x4x128x64_S1x1x128x64_0_2_0_0))))
      (k0_pay91 (k0_pay6 (View.ld (iblk m c 7 t) (Rect.unit ![0, 2, 0] ![1, 1, 64] inb_S1x4x64_S1x1x64_0_2_0))))
      = head (P m c) (bmi m c) (bmf m c) (stc m c) (stn m c) (stm m c) (row t) 2 := by
  refine vecs_eq m c t 2 ?_ ?_ ?_ ?_ ?_ ?_ ?_ ?_
  all_goals intros
  all_goals pointwise [k0_pay85, k0_pay86, k0_pay87, k0_pay88, k0_pay89, k0_pay7, k0_pay90, k0_pay5, k0_pay91, k0_pay6]

/-- Head 3's vectors hold head 3. -/
theorem head3 (c : Dev nD) (t : Fin cfg0.N) :
    vecs (k0_pay109 (X0_0 m c t)) (k0_pay110 (X0_0 m c t)) (k0_pay111 (X0_1 m c t)) (k0_pay112 (k0_pay31 (iblk m c 3 t) (iblk m c 4 t)))
      (k0_pay113 (k0_pay32 (iblk m c 3 t) (iblk m c 4 t))) (fun _ => k0_pay7 (View.ld (iblk m c 8 t) (Rect.unit ![0, 3, 0] ![1, 1, 1] inb_S1x4x1_S1x1x1_0_3_0)) (ix2 0 0))
      (k0_pay114 (k0_pay5 (View.ld (iblk m c 6 t) (Rect.unit ![0, 3, 0, 0] ![1, 1, 128, 64] inb_S1x4x128x64_S1x1x128x64_0_3_0_0))))
      (k0_pay115 (k0_pay6 (View.ld (iblk m c 7 t) (Rect.unit ![0, 3, 0] ![1, 1, 64] inb_S1x4x64_S1x1x64_0_3_0))))
      = head (P m c) (bmi m c) (bmf m c) (stc m c) (stn m c) (stm m c) (row t) 3 := by
  refine vecs_eq m c t 3 ?_ ?_ ?_ ?_ ?_ ?_ ?_ ?_
  all_goals intros
  all_goals pointwise [k0_pay109, k0_pay110, k0_pay111, k0_pay112, k0_pay113, k0_pay7, k0_pay114, k0_pay5, k0_pay115, k0_pay6]

/-- The new stabilizers. -/
theorem finalM (c : Dev nD) : (dats m 0 c).arrAt 12 cfg0.N
    = outM (P m c) (bmi m c) (bmf m c) (stc m c) (stn m c) (stm m c) := by
  refine (dats m 0 c).arrAt_eq_of_covers 12 _ (by decide +kernel) fun t hf y => ?_
  blk_simp
  rw [after0_12]
  unfold outsAt0
  dsimp only
  frame_open
  simp (disch := decide) only [↓ View.readCov_skip, ↓ View.readCov_cons_toLoadRect, ↓ View.readCov_fill, readCov_cell]
  frame_out
  have e : outM (P m c) (bmi m c) (bmf m c) (stc m c) (stn m c) (stm m c) (((View.whole main_v8_3).slice (win0_12.rect t)).emb y)
      = (head (P m c) (bmi m c) (bmf m c) (stc m c) (stn m c) (stm m c) (row t) (y 1)).mNew := by
    obtain ⟨-, -, -, h00, h01, h02⟩ := idxOut t
    refine (?_ : _ = outM _ _ _ _ _ _ (ix3 (row t) (y 1) 0)).trans rfl
    blk_ext [h00, h01, h02]
  rw [e]
  clear e
  canon_tiles x h
  · idx_vars x
    obtain rfl : x0 = 0 := Subsingleton.elim (α := Fin 1) _ _
    obtain rfl : x1 = 0 := Subsingleton.elim (α := Fin 1) _ _
    obtain rfl : x2 = 0 := Subsingleton.elim (α := Fin 1) _ _
    rw [show y 1 = (3 : Fin 4) from Fin.ext h1]
    exact (mOut_at _ _ _ _ _ _ _ _).trans (congrArg Head.mNew (head3 m c t))
  · idx_vars x
    obtain rfl : x0 = 0 := Subsingleton.elim (α := Fin 1) _ _
    obtain rfl : x1 = 0 := Subsingleton.elim (α := Fin 1) _ _
    obtain rfl : x2 = 0 := Subsingleton.elim (α := Fin 1) _ _
    rw [show y 1 = (2 : Fin 4) from Fin.ext h1]
    exact (mOut_at _ _ _ _ _ _ _ _).trans (congrArg Head.mNew (head2 m c t))
  · idx_vars x
    obtain rfl : x0 = 0 := Subsingleton.elim (α := Fin 1) _ _
    obtain rfl : x1 = 0 := Subsingleton.elim (α := Fin 1) _ _
    obtain rfl : x2 = 0 := Subsingleton.elim (α := Fin 1) _ _
    rw [show y 1 = (1 : Fin 4) from Fin.ext h1]
    exact (mOut_at _ _ _ _ _ _ _ _).trans (congrArg Head.mNew (head1 m c t))
  · idx_vars x
    obtain rfl : x0 = 0 := Subsingleton.elim (α := Fin 1) _ _
    obtain rfl : x1 = 0 := Subsingleton.elim (α := Fin 1) _ _
    obtain rfl : x2 = 0 := Subsingleton.elim (α := Fin 1) _ _
    rw [show y 1 = (0 : Fin 4) from Fin.ext h1]
    exact (mOut_at _ _ _ _ _ _ _ _).trans (congrArg Head.mNew (head0 m c t))

/-- The new matrices. -/
theorem finalC (c : Dev nD) : (dats m 0 c).arrAt 10 cfg0.N
    = outC (P m c) (bmi m c) (bmf m c) (stc m c) (stn m c) (stm m c) := by
  refine (dats m 0 c).arrAt_eq_of_covers 10 _ (by decide +kernel) fun t hf y => ?_
  blk_simp
  rw [after0_10]
  unfold outsAt0
  dsimp only
  frame_open
  simp (disch := decide) only [↓ View.readCov_skip, ↓ View.readCov_cons_toLoadRect, ↓ View.readCov_fill, readCov_cell]
  frame_out
  have e : outC (P m c) (bmi m c) (bmf m c) (stc m c) (stn m c) (stm m c) (((View.whole main_v8_1).slice (win0_10.rect t)).emb y)
      = (head (P m c) (bmi m c) (bmf m c) (stc m c) (stn m c) (stm m c) (row t) (y 1)).cNew (y 2) (y 3) := by
    obtain ⟨-, ⟨h00, h01, h02, h03⟩, -⟩ := idxOut t
    refine (?_ : _ = outC _ _ _ _ _ _ (ix4 (row t) (y 1) (y 2) (y 3))).trans rfl
    blk_ext [h00, h01, h02, h03]
  rw [e]
  clear e
  canon_tiles x h
  · idx_vars x
    obtain rfl : x0 = 0 := Subsingleton.elim (α := Fin 1) _ _
    obtain rfl : x1 = 0 := Subsingleton.elim (α := Fin 1) _ _
    rw [show y 1 = (3 : Fin 4) from Fin.ext h1, show y 2 = x2 from Fin.ext h2, show y 3 = x3 from Fin.ext h3]
    exact (cNew_at _ _ _ _ _ _ _ _ x2 x3).trans (congrArg (fun H => Head.cNew H x2 x3) (head3 m c t))
  · idx_vars x
    obtain rfl : x0 = 0 := Subsingleton.elim (α := Fin 1) _ _
    obtain rfl : x1 = 0 := Subsingleton.elim (α := Fin 1) _ _
    rw [show y 1 = (2 : Fin 4) from Fin.ext h1, show y 2 = x2 from Fin.ext h2, show y 3 = x3 from Fin.ext h3]
    exact (cNew_at _ _ _ _ _ _ _ _ x2 x3).trans (congrArg (fun H => Head.cNew H x2 x3) (head2 m c t))
  · idx_vars x
    obtain rfl : x0 = 0 := Subsingleton.elim (α := Fin 1) _ _
    obtain rfl : x1 = 0 := Subsingleton.elim (α := Fin 1) _ _
    rw [show y 1 = (1 : Fin 4) from Fin.ext h1, show y 2 = x2 from Fin.ext h2, show y 3 = x3 from Fin.ext h3]
    exact (cNew_at _ _ _ _ _ _ _ _ x2 x3).trans (congrArg (fun H => Head.cNew H x2 x3) (head1 m c t))
  · idx_vars x
    obtain rfl : x0 = 0 := Subsingleton.elim (α := Fin 1) _ _
    obtain rfl : x1 = 0 := Subsingleton.elim (α := Fin 1) _ _
    rw [show y 1 = (0 : Fin 4) from Fin.ext h1, show y 2 = x2 from Fin.ext h2, show y 3 = x3 from Fin.ext h3]
    exact (cNew_at _ _ _ _ _ _ _ _ x2 x3).trans (congrArg (fun H => Head.cNew H x2 x3) (head0 m c t))

/-- The new normalizers. -/
theorem finalN (c : Dev nD) : (dats m 0 c).arrAt 11 cfg0.N
    = outN (P m c) (bmi m c) (bmf m c) (stc m c) (stn m c) (stm m c) := by
  refine (dats m 0 c).arrAt_eq_of_covers 11 _ (by decide +kernel) fun t hf y => ?_
  blk_simp
  rw [after0_11]
  unfold outsAt0
  dsimp only
  frame_open
  simp (disch := decide) only [↓ View.readCov_skip, ↓ View.readCov_cons_toLoadRect, ↓ View.readCov_fill, readCov_cell]
  frame_out
  have e : outN (P m c) (bmi m c) (bmf m c) (stc m c) (stn m c) (stm m c) (((View.whole main_v8_2).slice (win0_11.rect t)).emb y)
      = (head (P m c) (bmi m c) (bmf m c) (stc m c) (stn m c) (stm m c) (row t) (y 1)).nNew (y 2) := by
    obtain ⟨-, -, ⟨h00, h01, h02⟩, -⟩ := idxOut t
    refine (?_ : _ = outN _ _ _ _ _ _ (ix3 (row t) (y 1) (y 2))).trans rfl
    blk_ext [h00, h01, h02]
  rw [e]
  clear e
  canon_tiles x h
  · idx_vars x
    obtain rfl : x0 = 0 := Subsingleton.elim (α := Fin 1) _ _
    obtain rfl : x1 = 0 := Subsingleton.elim (α := Fin 1) _ _
    rw [show y 1 = (3 : Fin 4) from Fin.ext h1, show y 2 = x2 from Fin.ext h2]
    exact (nNew_at _ _ _ _ _ _ _ _ x2).trans (congrArg (fun H => Head.nNew H x2) (head3 m c t))
  · idx_vars x
    obtain rfl : x0 = 0 := Subsingleton.elim (α := Fin 1) _ _
    obtain rfl : x1 = 0 := Subsingleton.elim (α := Fin 1) _ _
    rw [show y 1 = (2 : Fin 4) from Fin.ext h1, show y 2 = x2 from Fin.ext h2]
    exact (nNew_at _ _ _ _ _ _ _ _ x2).trans (congrArg (fun H => Head.nNew H x2) (head2 m c t))
  · idx_vars x
    obtain rfl : x0 = 0 := Subsingleton.elim (α := Fin 1) _ _
    obtain rfl : x1 = 0 := Subsingleton.elim (α := Fin 1) _ _
    rw [show y 1 = (1 : Fin 4) from Fin.ext h1, show y 2 = x2 from Fin.ext h2]
    exact (nNew_at _ _ _ _ _ _ _ _ x2).trans (congrArg (fun H => Head.nNew H x2) (head1 m c t))
  · idx_vars x
    obtain rfl : x0 = 0 := Subsingleton.elim (α := Fin 1) _ _
    obtain rfl : x1 = 0 := Subsingleton.elim (α := Fin 1) _ _
    rw [show y 1 = (0 : Fin 4) from Fin.ext h1, show y 2 = x2 from Fin.ext h2]
    exact (nNew_at _ _ _ _ _ _ _ _ x2).trans (congrArg (fun H => Head.nNew H x2) (head0 m c t))

end Cert.MlstmIdeal.Array

end
-- ==== Proof.MlstmOutput.lean ====
/-
  The mLSTM kernel's output array is the array of MlstmSpec, read off the launched arguments.
-/
module

public import proofs.«01_k».proof.Proof.Gen.MlstmIdeal.Value
public import Idealize.ShloMosaic.Lib.Pipeline.ReadBack
public import Idealize.ShloMosaic.Lib.Routing.OpsSet
public import proofs.«01_k».proof.Proof.MlstmFinal

@[expose] public section

set_option maxRecDepth 16384

noncomputable section

open Idealize.ShloMosaic Idealize.ShloMosaic.TcCoe Idealize.SL.Sem
open Idealize.ShloMosaic.Pipeline (Dat)
open Cert.MlstmHead Cert.RunningSum

namespace Cert.MlstmIdeal.Array

open Cert.MlstmIdeal Cert.MlstmIdeal.Gen Cert.MlstmIdeal.Block

variable (m : (ℓ : Loc nD τ sig) → Buf (Elt Ideal) ℓ)

/-- The output of a token, from the head's output before its norm. -/
theorem out_eq (c : Dev nD) (t : Fin cfg0.N) (h : Fin 4) (s : Fin 8) (w : Fin 128) {b : FVec Ideal S8x128 .f32} {g0 o0 : EReal}
    (hb : ∀ x, b (ix2 s x) = (head (P m c) (bmi m c) (bmf m c) (stc m c) (stn m c) (stm m c) (row t) h).hidden s x)
    (hg : g0 = iblk m c 5 t (ix2 0 ⟨128 * h.val + w.val, by omega⟩)) (ho : o0 = X0_2 m c t (ix2 s ⟨128 * h.val + w.val, by omega⟩)) :
    b (ix2 s w) * Ideal.rsqrt (Ideal.div (∑ x, b (ix2 s x) * b (ix2 s x)) (Ideal.ofBits .f32 0x43000000#32)
      + Ideal.ofBits .f32 0x358637BD#32) * g0 * Ideal.logistic o0 = outAt (P m c) (bmi m c) (bmf m c) (gain m c) (stc m c) (stn m c) (stm m c) (row t) s h w := by
  subst hg ho
  simp only [hb]
  refine congrArg₂ (· * ·) (congrArg₂ (· * ·) rfl (gain_at m c t _)) (congrArg Ideal.logistic (og_at m c t s _))

/-- The element of a token at a lane of the whole row is the element at that lane's head and place in the head. -/
theorem out_lane (c : Dev nD) (t : Fin cfg0.N) (a j : ℕ) (ha : a < 8) (s : Fin 8) (h : Fin 4) (w : Fin 128) (h0 : a = s.val) (h1 : j = 128 * h.val + w.val) :
    outAt (P m c) (bmi m c) (bmf m c) (gain m c) (stc m c) (stn m c) (stm m c) (row t) ⟨a, ha⟩ ⟨j / 128, by omega⟩ ⟨j % 128, by omega⟩ = outAt (P m c) (bmi m c) (bmf m c) (gain m c) (stc m c) (stn m c) (stm m c) (row t) s h w := by
  subst h0 h1
  congr 1
  · exact Fin.ext (by dsimp only; omega)
  · exact Fin.ext (by dsimp only; omega)

/-- A head's block over its root mean square, times the gain and the gate, element by element; one statement per head. -/
theorem gate0 (o : Vec Ideal S8x512 .f32) (b : FVec Ideal S8x128 .f32) (g : Vec Ideal S1x128 .f32) (s : Fin 8) (w : Fin 128) :
    k0_pay58 o b g (ix2 s w) = b (ix2 s w) * Ideal.rsqrt (Ideal.div (∑ x, b (ix2 s x) * b (ix2 s x)) (Ideal.ofBits .f32 0x43000000#32)
      + Ideal.ofBits .f32 0x358637BD#32) * g (ix2 0 w) * Ideal.logistic (o (ix2 s ⟨w.val, by omega⟩)) := by
  pointwise [k0_pay58]

theorem gate1 (o : Vec Ideal S8x512 .f32) (b : FVec Ideal S8x128 .f32) (g : Vec Ideal S1x128 .f32) (s : Fin 8) (w : Fin 128) :
    k0_pay84 o b g (ix2 s w) = b (ix2 s w) * Ideal.rsqrt (Ideal.div (∑ x, b (ix2 s x) * b (ix2 s x)) (Ideal.ofBits .f32 0x43000000#32)
      + Ideal.ofBits .f32 0x358637BD#32) * g (ix2 0 w) * Ideal.logistic (o (ix2 s ⟨128 + w.val, by omega⟩)) := by
  pointwise [k0_pay84]

theorem gate2 (o : Vec Ideal S8x512 .f32) (b : FVec Ideal S8x128 .f32) (g : Vec Ideal S1x128 .f32) (s : Fin 8) (w : Fin 128) :
    k0_pay108 o b g (ix2 s w) = b (ix2 s w) * Ideal.rsqrt (Ideal.div (∑ x, b (ix2 s x) * b (ix2 s x)) (Ideal.ofBits .f32 0x43000000#32)
      + Ideal.ofBits .f32 0x358637BD#32) * g (ix2 0 w) * Ideal.logistic (o (ix2 s ⟨256 + w.val, by omega⟩)) := by
  pointwise [k0_pay108]

theorem gate3 (o : Vec Ideal S8x512 .f32) (b : FVec Ideal S8x128 .f32) (g : Vec Ideal S1x128 .f32) (s : Fin 8) (w : Fin 128) :
    k0_pay2 o b g (ix2 s w) = b (ix2 s w) * Ideal.rsqrt (Ideal.div (∑ x, b (ix2 s x) * b (ix2 s x)) (Ideal.ofBits .f32 0x43000000#32)
      + Ideal.ofBits .f32 0x358637BD#32) * g (ix2 0 w) * Ideal.logistic (o (ix2 s ⟨384 + w.val, by omega⟩)) := by
  pointwise [k0_pay2]

set_option maxHeartbeats 800000 in
/-- The output. -/
theorem finalY (c : Dev nD) : (dats m 0 c).arrAt 9 cfg0.N
    = outY (P m c) (bmi m c) (bmf m c) (gain m c) (stc m c) (stn m c) (stm m c) := by
  refine (dats m 0 c).arrAt_eq_of_covers 9 _ (by decide +kernel) fun t hf y => ?_
  blk_simp
  rw [after0_9]
  unfold outsAt0
  dsimp only
  frame_open
  simp (disch := decide) only [↓ View.readCov_skip, ↓ View.readCov_cons_toLoadRect, ↓ View.readCov_fill, readCov_cell]
  frame_out
  have e : outY (P m c) (bmi m c) (bmf m c) (gain m c) (stc m c) (stn m c) (stm m c) (((View.whole main_v8_0).slice (win0_9.rect t)).emb y)
      = outAt (P m c) (bmi m c) (bmf m c) (gain m c) (stc m c) (stn m c) (stm m c) (row t) ⟨(y 0).val, by have h : (y 0).val < 8 := (y 0).isLt; omega⟩ ⟨(y 1).val / 128, by have h : (y 1).val < 512 := (y 1).isLt; omega⟩ ⟨(y 1).val % 128, by omega⟩ := by
    obtain ⟨⟨h00, h01⟩, -⟩ := idxOut t
    have hy0 : (y 0).val < 8 := (y 0).isLt
    have ht : t.val < 128 := t.isLt
    refine (?_ : _ = outY (P m c) (bmi m c) (bmf m c) (gain m c) (stc m c) (stn m c) (stm m c) (ix2 ⟨8 * t.val + (y 0).val, by omega⟩ (y 1))).trans ?_
    · blk_ext [h00, h01]
    · unfold outY
      congr 1
      · refine Fin.ext ?_
        show (8 * t.val + (y 0).val) / 8 = t.val
        omega
      · refine Fin.ext ?_
        show (8 * t.val + (y 0).val) % 8 = (y 0).val
        omega
  rw [e]
  clear e
  have y0 : (y 0).val < 8 := (y 0).isLt
  have y1 : (y 1).val < 512 := (y 1).isLt
  canon_tiles x h
  · idx_vars x
    rw [out_lane m c t _ _ _ x0 3 x1 h0 (by simpa using h1)]
    refine (gate3 _ _ _ x0 x1).trans (out_eq m c t 3 x0 x1 (fun z => ?_) ?_ ?_)
    · exact (hidden_at _ _ _ _ _ _ _ _ x0 z (constant S8x128 .f32 0x00000000#32)).trans (congrArg (fun H => Head.hidden H x0 z) (head3 m c t))
    · pointwise []
    · exact congrArg (fun i => X0_2 m c t (ix2 x0 i)) (Fin.ext (by simp))
  · idx_vars x
    rw [out_lane m c t _ _ _ x0 2 x1 h0 (by simpa using h1)]
    refine (gate2 _ _ _ x0 x1).trans (out_eq m c t 2 x0 x1 (fun z => ?_) ?_ ?_)
    · exact (hidden_at _ _ _ _ _ _ _ _ x0 z (constant S8x128 .f32 0x00000000#32)).trans (congrArg (fun H => Head.hidden H x0 z) (head2 m c t))
    · pointwise []
    · exact congrArg (fun i => X0_2 m c t (ix2 x0 i)) (Fin.ext (by simp))
  · idx_vars x
    rw [out_lane m c t _ _ _ x0 1 x1 h0 (by simpa using h1)]
    refine (gate1 _ _ _ x0 x1).trans (out_eq m c t 1 x0 x1 (fun z => ?_) ?_ ?_)
    · exact (hidden_at _ _ _ _ _ _ _ _ x0 z (constant S8x128 .f32 0x00000000#32)).trans (congrArg (fun H => Head.hidden H x0 z) (head1 m c t))
    · pointwise []
    · exact congrArg (fun i => X0_2 m c t (ix2 x0 i)) (Fin.ext (by simp))
  · idx_vars x
    rw [out_lane m c t _ _ _ x0 0 x1 h0 (by simpa using h1)]
    refine (gate0 _ _ _ x0 x1).trans (out_eq m c t 0 x0 x1 (fun z => ?_) ?_ ?_)
    · exact (hidden_at _ _ _ _ _ _ _ _ x0 z (constant S8x128 .f32 0x00000000#32)).trans (congrArg (fun H => Head.hidden H x0 z) (head0 m c t))
    · pointwise []
    · exact congrArg (fun i => X0_2 m c t (ix2 x0 i)) (Fin.ext (by simp))

end Cert.MlstmIdeal.Array

end
-- ==== Proof.MlstmReference.lean ====
/-
  What the mLSTM reference computes, element by element: the head of MlstmSpec, step by step.
-/
module

public import proofs.«01_k».proof.Proof.Gen.MlstmRefIdeal.Run
public import proofs.«01_k».proof.Proof.MlstmSpec
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Cert.MlstmHead Cert.RunningSum

namespace Cert.MlstmRefIdeal.Elements

open Cert.MlstmRefIdeal Cert.MlstmRefIdeal.Gen Cert.MlstmRefIdeal.Value

variable (V : Valuation τ sig (Elt Ideal))

/-- The projected array, the gate biases, the norm's gain and the carried state the reference is given. -/
abbrev P : FVec Ideal S1024x8832 .f32 := V (Proc.devRef .tc main_arg0)
abbrev bmi : FVec Ideal S4 .f32 := V (Proc.devRef .tc main_arg1)
abbrev bmf : FVec Ideal S4 .f32 := V (Proc.devRef .tc main_arg2)
abbrev gain : FVec Ideal S512 .f32 := V (Proc.devRef .tc main_arg3)
abbrev stc : FVec Ideal S128x4x128x64 .f32 := V (Proc.devRef .tc main_arg4)
abbrev stn : FVec Ideal S128x4x64 .f32 := V (Proc.devRef .tc main_arg5)
abbrev stm : FVec Ideal S128x4 .f32 := V (Proc.devRef .tc main_arg6)

/-- The head of a batch row, from those arrays. -/
abbrev H (b : Fin 128) (h : Fin 4) : Head := head (P V) (bmi V) (bmf V) (stc V) (stn V) (stm V) b h

/-- The mask of the past is one at and below the diagonal. -/
theorem mask_at (t s : Fin 8) : res_main_v25 V (ix2 t s) = if s ≤ t then 1#1 else 0#1 := by
  pointwise [res_main_v25]
  revert t s
  decide

theorem select_ite {α : Type} (p : Prop) [Decidable p] (a b : α) :
    Scalar.select (if p then 1#1 else 0#1) a b = if p then a else b := by
  by_cases h : p <;> simp [h, Scalar.select]

/-- An element of the projected array by its row and column. -/
theorem elt {i j : ℕ} {hi : i < 1024} {hj : j < 8832} {b : Fin 128} {t : Fin 8} {j' : ℕ} {hj' : j' < 8832} (ei : i = 8 * b.val + t.val) (ej : j = j') :
    P V (ix2 ⟨i, hi⟩ ⟨j, hj⟩) = col (P V) b t j' hj' := by
  subst ei ej
  rfl

/-- The reference's arrays, element by element, are the head's values of the same names. -/
theorem ic_at (b : Fin 128) (h : Fin 4) (t : Fin 8) : res_main_v10 V (ix3 b h t) = (H V b h).ic t := by
  pointwise [res_main_v10, res_main_v0]
  exact congrArg₂ (· + ·) (elt V (by omega) rfl) rfl

theorem q_at (b : Fin 128) (h : Fin 4) (t : Fin 8) (x : Fin 64) : res_main_v19 V (ix4 b h t x) = (H V b h).q t x := by
  pointwise [res_main_v19, res_main_v0]
  exact congrArg (· * _) (elt V (by omega) (by omega))

theorem k_at (b : Fin 128) (h : Fin 4) (t : Fin 8) (x : Fin 64) : res_main_v21 V (ix4 b h t x) = (H V b h).k t x := by
  pointwise [res_main_v21, res_main_v0]
  exact elt V (by omega) (by omega)

theorem v_at (b : Fin 128) (h : Fin 4) (t : Fin 8) (x : Fin 128) : res_main_v23 V (ix4 b h t x) = (H V b h).v t x := by
  pointwise [res_main_v23, res_main_v0]
  exact elt V (by omega) (by omega)

theorem bc_at (b : Fin 128) (h : Fin 4) (t : Fin 8) : res_main_v26 V (ix3 b h t) = (H V b h).bc t := by
  unfold res_main_v26
  refine (window3 _ _ _ (by decide) ?_ b h t).trans ?_
  · pointwise []
  show _ = upTo (fun s => logForget (col (P V) b s (8708 + h.val) + bmf V (ix1 h))) t
  refine congrArg (fun f : Fin 8 → EReal => upTo f t) (funext fun s => ?_)
  clean_types
  pointwise [res_main_call0_v0, res_main_call0_call0_v3, res_main_call0_call0_cst, res_main_v0]
  rw [if_neg fun hne => hne rfl]
  have e : P V (ix2 ⟨b.val * 8 + s.val, by omega⟩ ⟨8708 + h.val, by omega⟩) = col (P V) b s (8708 + h.val) := elt V (by omega) rfl
  exact congrArg (fun z => logForget (z + bmf V (ix1 h))) e

theorem decay_at (b : Fin 128) (h : Fin 4) (t s : Fin 8) : res_main_v35 V (ix4 b h t s) = (H V b h).decay t s := by
  pointwise [res_main_v35]
  simp only [mask_at, bc_at, ic_at, select_ite]
  rfl

theorem inner_at (b : Fin 128) (h : Fin 4) (t : Fin 8) : res_main_v38 V (ix3 b h t) = (H V b h).bc t + (H V b h).m0 := by
  pointwise [res_main_v38]
  rw [bc_at]
  rfl

theorem stab_at (b : Fin 128) (h : Fin 4) (t : Fin 8) : res_main_v40 V (ix3 b h t) = (H V b h).stab t := by
  unfold res_main_v40
  clean_types
  pointwise []
  simp only [inner_at, decay_at]
  rfl

theorem inter_at (b : Fin 128) (h : Fin 4) (t : Fin 8) : res_main_v42 V (ix3 b h t) = (H V b h).inter t := by
  pointwise [res_main_v42]
  rw [inner_at, stab_at]
  rfl

theorem score_at (b : Fin 128) (h : Fin 4) (t s : Fin 8) : res_main_v50 V (ix4 b h t s) = (H V b h).score t s := by
  pointwise [res_main_v50]
  simp only [mask_at, stab_at, decay_at, select_ite, q_at, k_at]
  unfold Head.score
  by_cases hs : s ≤ t
  · simp only [if_pos hs]
  · simp only [if_neg hs]
    refine (congrArg (_ * ·) (?_ : _ = (0 : EReal))).trans (mul_zero (M₀ := EReal) _)
    pointwise [id]

theorem hidden_at (b : Fin 128) (h : Fin 4) (t : Fin 8) (v : Fin 128) : res_main_v67 V (ix4 b h t v) = (H V b h).hidden t v := by
  unfold res_main_v67
  clean_types
  pointwise []
  simp only [stab_at, inter_at, score_at, q_at, v_at]
  have e : ∑ x, stn V (ix3 b h x) * (H V b h).q t x = ∑ x, (H V b h).q t x * (H V b h).n0 x := Finset.sum_congr rfl fun x _ => mul_comm _ _
  exact congrArg (fun z => Ideal.div _ (max (FloatOps.absf (F := Ideal) (φ := .f32) ((H V b h).inter t * z + _)) _)) e

theorem tail_at (b : Fin 128) (h : Fin 4) (s : Fin 8) : res_main_v71 V (ix3 b h s) = (H V b h).tail s := by
  pointwise [res_main_v71]
  rw [bc_at, bc_at, ic_at]
  rfl

theorem mNew_at (b : Fin 128) (h : Fin 4) : res_main_v76 V (ix2 b h) = (H V b h).mNew := by
  unfold res_main_v76
  clean_types
  pointwise []
  simp only [bc_at, tail_at]
  rfl

theorem wOld_at (b : Fin 128) (h : Fin 4) : res_main_v81 V (ix2 b h) = (H V b h).wOld := by
  pointwise [res_main_v81]
  rw [bc_at, mNew_at]
  rfl

theorem wKey_at (b : Fin 128) (h : Fin 4) (s : Fin 8) : res_main_v85 V (ix3 b h s) = (H V b h).wKey s := by
  pointwise [res_main_v85]
  rw [tail_at, mNew_at]
  rfl

/-- The output the reference returns. -/
theorem y_eq : val3 V (Proc.devRef .tc main_v121) = outY (P V) (bmi V) (bmf V) (gain V) (stc V) (stn V) (stm V) := by
  rw [val3_main_v121]
  funext i
  clean_types
  idx_vars i
  pointwise [res_main_v0]
  simp only [hidden_at]
  refine congrArg₂ (· * ·) (congrArg₂ (· * ·) rfl ?_) (congrArg Ideal.logistic ?_)
  · exact congrArg (gain V) (congrArg ix1 (Fin.ext (by show i1.val = 128 * (i1.val / 128) + i1.val % 128; omega)))
  · refine elt V (t := ⟨i0.val % 8, by omega⟩) (b := ⟨i0.val / 8, by omega⟩) ?_ ?_
    · show i0.val = 8 * (i0.val / 8) + i0.val % 8
      omega
    · show 8192 + i1.val = 8192 + (128 * (i1.val / 128) + i1.val % 128)
      omega

/-- The new matrices the reference returns. -/
theorem c_eq : val3 V (Proc.devRef .tc main_v93) = outC (P V) (bmi V) (bmf V) (stc V) (stn V) (stm V) := by
  rw [val3_main_v93]
  funext i
  clean_types
  idx_vars i
  pointwise [res_main_v0]
  simp only [wOld_at, wKey_at, k_at, v_at]
  rfl

/-- The new normalizers the reference returns. -/
theorem n_eq : val3 V (Proc.devRef .tc main_v98) = outN (P V) (bmi V) (bmf V) (stc V) (stn V) (stm V) := by
  rw [val3_main_v98]
  funext i
  clean_types
  idx_vars i
  pointwise [res_main_v0]
  simp only [wOld_at, wKey_at, k_at]
  rfl

/-- The new stabilizers the reference returns. -/
theorem m_eq : val3 V (Proc.devRef .tc main_v122) = outM (P V) (bmi V) (bmf V) (stc V) (stn V) (stm V) := by
  rw [val3_main_v122]
  funext i
  clean_types
  idx_vars i
  pointwise [res_main_v0]
  exact mNew_at V i0 i1

end Cert.MlstmRefIdeal.Elements

end
-- ==== Proof.MlstmClaims.lean ====
/-
  The claims about the matrix-memory recurrence, from the runs of the kernel and of the reference.
-/
module

public import proofs.«01_k».proof.Defs
public import proofs.«01_k».proof.Proof.Gen.Mlstm.Frame
public import proofs.«01_k».proof.Proof.MlstmOutput
public import proofs.«01_k».proof.Proof.MlstmReference
public import Idealize.ShloMosaic.Lib.Quiescent

@[expose] public section

noncomputable section

open Idealize.ShloMosaic Idealize.ShloMosaic.TcCoe Idealize.SL.Sem Idealize.ShloMosaic.StableHlo

namespace Cert.Proof.MlstmClaims

/-- The kernel's run ends, its arguments are unchanged and its semaphores are at zero. -/
theorem frame : Cert.quiescent_Mlstm := fun m ρ _ => Cert.Mlstm.Gen.frame m ρ
/-- The same for the kernel over the extended reals. -/
theorem frameIdeal : Cert.quiescent_MlstmIdeal := fun m ρ _ => Cert.MlstmIdeal.Gen.frame m ρ
/-- The same for the reference. -/
theorem frameRef : Cert.quiescent_MlstmRefIdeal := fun m ρ _ =>
  (θ_run Cert.MlstmRefIdeal.defs _ _).mono (fun r h => ⟨fun c => (h c).2.2.2.2, sem_eq_zero_of_no_sems (by decide) r.2⟩)
    (Cert.MlstmRefIdeal.Value.run (F := Ideal) m ρ)

/-- No operation of the kernel was replaced by its idealization. -/
theorem preserves : Cert.preserves_Mlstm_MlstmIdeal := trivial

section Reference
open Cert.MlstmRefIdeal Cert.MlstmRefIdeal.Gen Cert.MlstmRefIdeal.Value

/-- The reference's run ends, and the memory holds what its definitions compute from the arguments. -/
theorem reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v121) = val3 (launchContents m c) (Proc.devRef .tc main_v121)
      ∧ r.2.mem ((c.tc : Thread nD τ).loc main_v93) = val3 (launchContents m c) (Proc.devRef .tc main_v93)
      ∧ r.2.mem ((c.tc : Thread nD τ).loc main_v98) = val3 (launchContents m c) (Proc.devRef .tc main_v98)
      ∧ r.2.mem ((c.tc : Thread nD τ).loc main_v122) = val3 (launchContents m c) (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val3_main_v121 (launchContents m c)).symm,
    (h c).2.1.trans (val3_main_v93 (launchContents m c)).symm, (h c).2.2.1.trans (val3_main_v98 (launchContents m c)).symm,
    (h c).2.2.2.1.trans (val3_main_v122 (launchContents m c)).symm, (h c).2.2.2.2⟩) (run (F := Ideal) m ρ)

end Reference

open Cert.MlstmIdeal.Array in
/-- The kernel's output and its three final states are the reference's, from arguments that agree. -/
theorem algebraic : Cert.algebraic_MlstmIdeal_MlstmRefIdeal := by
  intro m ρ m' ρ' _ hag
  have e : ∀ c : Dev Cert.MlstmIdeal.nD, Cert.MlstmRefIdeal.Elements.P (launchContents m' c) = P m c
      ∧ Cert.MlstmRefIdeal.Elements.bmi (launchContents m' c) = bmi m c
      ∧ Cert.MlstmRefIdeal.Elements.bmf (launchContents m' c) = bmf m c
      ∧ Cert.MlstmRefIdeal.Elements.gain (launchContents m' c) = gain m c
      ∧ Cert.MlstmRefIdeal.Elements.stc (launchContents m' c) = stc m c
      ∧ Cert.MlstmRefIdeal.Elements.stn (launchContents m' c) = stn m c
      ∧ Cert.MlstmRefIdeal.Elements.stm (launchContents m' c) = stm m c := hag
  refine ⟨fun c => (Cert.MlstmIdeal.Gen.dats m 0 c).arrAt 9 Cert.MlstmIdeal.cfg0.N,
    fun c => (Cert.MlstmIdeal.Gen.dats m 0 c).arrAt 10 Cert.MlstmIdeal.cfg0.N,
    fun c => (Cert.MlstmIdeal.Gen.dats m 0 c).arrAt 11 Cert.MlstmIdeal.cfg0.N,
    fun c => (Cert.MlstmIdeal.Gen.dats m 0 c).arrAt 12 Cert.MlstmIdeal.cfg0.N,
    Cert.MlstmIdeal.Value.run_blocks (F := Ideal) m ρ, ?_⟩
  refine (θ_run Cert.MlstmRefIdeal.defs _ _).mono (fun _ h c => ?_) (reference m' ρ')
  obtain ⟨e0, e1, e2, e3, e4, e5, e6⟩ := e c
  obtain ⟨hy, hc, hn, hm, hargs⟩ := h c
  refine ⟨?_, ?_, ?_, ?_, hargs⟩
  · beta_reduce
    rw [finalY m c, ← e0, ← e1, ← e2, ← e3, ← e4, ← e5, ← e6]
    exact hy.trans (Cert.MlstmRefIdeal.Elements.y_eq _)
  · beta_reduce
    rw [finalC m c, ← e0, ← e1, ← e2, ← e4, ← e5, ← e6]
    exact hc.trans (Cert.MlstmRefIdeal.Elements.c_eq _)
  · beta_reduce
    rw [finalN m c, ← e0, ← e1, ← e2, ← e4, ← e5, ← e6]
    exact hn.trans (Cert.MlstmRefIdeal.Elements.n_eq _)
  · beta_reduce
    rw [finalM m c, ← e0, ← e1, ← e2, ← e4, ← e5, ← e6]
    exact hm.trans (Cert.MlstmRefIdeal.Elements.m_eq _)

end Cert.Proof.MlstmClaims

end
-- ==== Proof.HgrnSpec.lean ====
module

public import proofs.«01_k».proof.Proof.RunningSum

@[expose] public section

set_option maxRecDepth 16384

noncomputable section

open Idealize.ShloMosaic Idealize.ShloMosaic.TcCoe
open Cert.RunningSum

namespace Cert.HgrnHead

/-- What one head of one batch row enters the recurrence with: queries, keys and values of eight tokens, the running sums
    of the log forget gates lane by lane, and the carried state by key and value lane. -/
@[ext] structure Head where
  q : Fin 8 → Fin 128 → EReal
  k : Fin 8 → Fin 128 → EReal
  v : Fin 8 → Fin 128 → EReal
  b : Fin 8 → Fin 128 → EReal
  s0 : Fin 128 → Fin 128 → EReal

/-- The key of a preactivation under a lower bound: one minus the forget gate. -/
def key (lb a : EReal) : EReal := (1 - lb) * Ideal.logistic (-a)
/-- The log forget gate of a preactivation under a lower bound. -/
def logForget (lb a : EReal) : EReal := Ideal.log (lb + (1 - lb) * Ideal.logistic a)
/-- The sigmoid-weighted value. -/
def silu (a : EReal) : EReal := a * Ideal.logistic a

namespace Head

variable (H : Head)

/-- What of lane `x` of token `s` is left at token `t`. -/
def decay (t s : Fin 8) (x : Fin 128) : EReal := if s ≤ t then Ideal.exp (H.b t x - H.b s x) else 0
/-- The score of token `s` for token `t`. -/
def score (t s : Fin 8) : EReal := ∑ x, H.q t x * H.k s x * H.decay t s x
/-- The head's output before its norm: the carried state's part and the block's tokens' part. -/
def hidden (t : Fin 8) (w : Fin 128) : EReal := ∑ x, H.q t x * Ideal.exp (H.b t x) * H.s0 x w + ∑ s, H.score t s * H.v s w
/-- The head's output over its root mean square. -/
def normed (t : Fin 8) (w : Fin 128) : EReal :=
  H.hidden t w * Ideal.rsqrt (Ideal.div (∑ x, H.hidden t x * H.hidden t x) (Ideal.ofBits .f32 0x43000000#32)
    + Ideal.ofBits .f32 0x358637BD#32)
/-- The new state. -/
def sNew (x w : Fin 128) : EReal := Ideal.exp (H.b 7 x) * H.s0 x w + ∑ s, H.k s x * Ideal.exp (H.b 7 x - H.b s x) * H.v s w

end Head

variable (P : (⟨2, ![1024, 8832]⟩ : Shape).Idx → EReal) (lb g : (⟨1, ![512]⟩ : Shape).Idx → EReal)
  (st : (⟨4, ![128, 4, 128, 128]⟩ : Shape).Idx → EReal)

/-- Column `j` of token `t` of batch row `b` in the projected array. -/
def col (b : Fin 128) (t : Fin 8) (j : ℕ) (hj : j < 8832 := by omega) : EReal :=
  P (ix2 ⟨8 * b.val + t.val, by omega⟩ ⟨j, hj⟩)

/-- The head `h` of batch row `b`, read off the projected array, the gates' lower bounds and the carried state. -/
def head (b : Fin 128) (h : Fin 4) : Head where
  q t x := silu (col P b t (128 * h.val + x.val))
  k t x := key (lb (ix1 ⟨128 * h.val + x.val, by omega⟩)) (col P b t (512 + (128 * h.val + x.val)))
  v t x := col P b t (1024 + (128 * h.val + x.val))
  b t x := upTo (fun s => logForget (lb (ix1 ⟨128 * h.val + x.val, by omega⟩)) (col P b s (512 + (128 * h.val + x.val)))) t
  s0 x w := st (ix4 b h x w)

/-- The branch's output at token `t` of batch row `b`, lane `w` of head `h`: the normed head, the norm's gain and the
    output gate. -/
def outAt (b : Fin 128) (t : Fin 8) (h : Fin 4) (w : Fin 128) : EReal :=
  (head P lb st b h).normed t w * g (ix1 ⟨128 * h.val + w.val, by omega⟩)
    * silu (col P b t (1536 + (128 * h.val + w.val)))

/-- The branch's output as an array. -/
def outY : (⟨2, ![1024, 512]⟩ : Shape).Idx → EReal := fun i =>
  outAt P lb g st ⟨(i 0).val / 8, by have h : (i 0).val < 1024 := (i 0).isLt; omega⟩
    ⟨(i 0).val % 8, by omega⟩ ⟨(i 1).val / 128, by have h : (i 1).val < 512 := (i 1).isLt; omega⟩ ⟨(i 1).val % 128, by omega⟩

/-- The new states as an array. -/
def outS : (⟨4, ![128, 4, 128, 128]⟩ : Shape).Idx → EReal := fun i => (head P lb st (i 0) (i 1)).sNew (i 2) (i 3)

end Cert.HgrnHead

end
-- ==== Proof.HgrnBlock.lean ====
/-
  What one head of the HGRN kernel's block computes: the head of HgrnSpec, from the head's vectors.
-/
module

public import proofs.«01_k».proof.Proof.Gen.HgrnIdeal.Value
public import proofs.«01_k».proof.Proof.HgrnSpec

@[expose] public section

set_option maxRecDepth 16384

noncomputable section

open Idealize.ShloMosaic Idealize.ShloMosaic.TcCoe Idealize.SL.Sem
open Cert.HgrnHead Cert.RunningSum

namespace Cert.HgrnIdeal.Block

open Cert.HgrnIdeal Cert.HgrnIdeal.Gen

theorem select_ite {α : Type} (p : Prop) [Decidable p] (a b : α) :
    Scalar.select (if p then 1#1 else 0#1) a b = if p then a else b := by
  by_cases h : p <;> simp [h, Scalar.select]

/-- The conversion of a word is its signed value. -/
theorem sitofp_word (w : BitVec 32) : (FloatOps.sitofp (F := Ideal) .f32 w : EReal) = ((w.toInt : ℝ) : EReal) := rfl

/-- The tokens' numbers down a column. -/
abbrev rows : IVec S8x1 32 := iota Kind.tc S8x1 32 [0] iota_S8x1_d0_w32

/-- The mask of the past. -/
theorem past_at (t s : Fin 8) :
    IntOp.cmpi CmpIPredicate.sge (BitVec.ofNat 32 t.val) (BitVec.ofNat 32 s.val) = if s ≤ t then 1#1 else 0#1 := by
  revert t s
  decide

/-- The keys. -/
theorem key_at (lb : Vec Ideal S1x512 .f32) (a : Vec Ideal S8x512 .f32) (t : Fin 8) (j : Fin 512) :
    k0_pay12 (F := Ideal) lb a (ix2 t j) = key (lb (ix2 0 j)) (a (ix2 t j)) := by
  pointwise [k0_pay12, k0_pay11]
  simp only [zero_sub]
  rfl

/-- The product with the mask of the past is the running sum of the log forget gates. -/
theorem sums_at (lb : Vec Ideal S1x512 .f32) (a : Vec Ideal S8x512 .f32) (t : Fin 8) (j : Fin 512) :
    k0_pay13 (F := Ideal) lb a (ix2 t j) = upTo (fun s => logForget (lb (ix2 0 j)) (a (ix2 s j))) t := by
  pointwise [k0_pay13, k0_pay11]
  unfold upTo
  change @Eq EReal _ _
  refine Finset.sum_congr rfl fun s _ => ?_
  rw [past_at]
  by_cases h : s ≤ t
  · rw [if_pos h, if_pos h]
    refine (congrArg (· * _) (?_ : _ = (1 : EReal))).trans (one_mul _)
    simp [sitofp_word]
  · rw [if_neg h, if_neg h]
    refine (congrArg (· * _) (?_ : _ = (0 : EReal))).trans (zero_mul _)
    simp [sitofp_word]

/-- Token `s`'s part added to the output: its scores against every token, times its value. -/
def added (s : ℕ) (hs : S8x128.Slices ![s, 0] S1x128) (q k v b acc : FVec Ideal S8x128 .f32) : FVec Ideal S8x128 .f32 :=
  addf acc (mulf
    (broadcastTo S8x128 (shapeCast S8x1 (multiReduction .add [1] S8
      (mulf (mulf
        (select (broadcastTo S8x128 (shapeCast S8x1 (cmpi .sge rows (broadcast S8x1 (BitVec.ofNat 32 s))) shapeCasts_S8x1_S8x1) broadcasts_S8x1_S8x128)
          (exp (select (broadcastTo S8x128 (shapeCast S8x1 (cmpi .sge rows (broadcast S8x1 (BitVec.ofNat 32 s))) shapeCasts_S8x1_S8x1) broadcasts_S8x1_S8x128)
            (subf b (broadcastTo S8x128 (extractStridedSlice S1x128 ![s, 0] b hs) broadcasts_S1x128_S8x128))
            (broadcast S8x128 (Scalar.ofBits .f32 0x00000000#32))))
          (broadcast S8x128 (Scalar.ofBits .f32 0x00000000#32))) q)
        (broadcastTo S8x128 (extractStridedSlice S1x128 ![s, 0] k hs) broadcasts_S1x128_S8x128))
      0x00000000#32 reduces_S8x128_S8 (.inl rfl) rfl) shapeCasts_S8_S8x1) broadcasts_S8x1_S8x128)
    (broadcastTo S8x128 (extractStridedSlice S1x128 ![s, 0] v hs) broadcasts_S1x128_S8x128))

/-- One head's vectors, read as the head they hold. -/
def vecs (q k v b : FVec Ideal S8x128 .f32) (C : FVec Ideal S128x128 .f32) : Head where
  q t x := q (ix2 t x)
  k t x := k (ix2 t x)
  v t x := v (ix2 t x)
  b t x := b (ix2 t x)
  s0 x w := C (ix2 w x)

variable (q k v b eb : FVec Ideal S8x128 .f32) (C : FVec Ideal S128x128 .f32)

/-- The added part is the token's score times its value. -/
theorem added_at (s : Fin 8) (hs : S8x128.Slices ![s.val, 0] S1x128) (acc : FVec Ideal S8x128 .f32) (t : Fin 8) (w : Fin 128) :
    added s.val hs q k v b acc (ix2 t w) = acc (ix2 t w) + (vecs q k v b C).score t s * (vecs q k v b C).v s w := by
  pointwise [added]
  rw [past_at]
  refine congrArg (fun z => acc (ix2 t w) + z * _) ?_
  unfold Head.score Head.decay
  change @Eq EReal _ _
  refine Finset.sum_congr rfl fun x _ => ?_
  simp only [select_ite]
  by_cases h : s ≤ t
  · simp only [if_pos h]
    exact (mul_assoc _ _ _).trans (mul_comm _ _)
  · simp only [if_neg h]
    exact (mul_zero (M₀ := EReal) _).symm

/-- The carried state's part of the output. -/
def carried : FVec Ideal S8x128 .f32 :=
  matmul dot_S8x128_S128x128_S8x128_1_1_0_0_n_n none (truncf .bf16 (mulf q eb) bitsLt_bf16_f32) (truncf .bf16 C bitsLt_bf16_f32)
    (constant S8x128 .f32 0x00000000#32)

theorem carried_at (heb : ∀ t x, eb (ix2 t x) = Ideal.exp (b (ix2 t x))) (t : Fin 8) (w : Fin 128) :
    carried q eb C (ix2 t w) = ∑ x, (vecs q k v b C).q t x * Ideal.exp ((vecs q k v b C).b t x) * (vecs q k v b C).s0 x w := by
  pointwise [carried]
  simp only [heb]
  rfl

/-- The head's output before its norm: the carried state's part, then the eight tokens' parts one after another. -/
def output : FVec Ideal S8x128 .f32 :=
  added 7 slices_S8x128_o7_0_S1x128 q k v b <| added 6 slices_S8x128_o6_0_S1x128 q k v b <|
  added 5 slices_S8x128_o5_0_S1x128 q k v b <| added 4 slices_S8x128_o4_0_S1x128 q k v b <|
  added 3 slices_S8x128_o3_0_S1x128 q k v b <| added 2 slices_S8x128_o2_0_S1x128 q k v b <|
  added 1 slices_S8x128_o1_0_S1x128 q k v b <| added 0 slices_S8x128_o0_0_S1x128 q k v b <| carried q eb C

theorem hidden_at (heb : ∀ t x, eb (ix2 t x) = Ideal.exp (b (ix2 t x))) (t : Fin 8) (w : Fin 128) :
    output q k v b eb C (ix2 t w) = (vecs q k v b C).hidden t w := by
  unfold output
  have e (s : Fin 8) (hs : S8x128.Slices ![s.val, 0] S1x128) {acc : FVec Ideal S8x128 .f32} {z : EReal} (h : acc (ix2 t w) = z) :
      added s.val hs q k v b acc (ix2 t w) = z + (vecs q k v b C).score t s * (vecs q k v b C).v s w := h ▸ added_at q k v b C s hs acc t w
  refine (e 7 _ (e 6 _ (e 5 _ (e 4 _ (e 3 _ (e 2 _ (e 1 _ (e 0 _ (carried_at q k v b eb C heb t w))))))))).trans ?_
  unfold Head.hidden
  rw [Fin.sum_univ_eight]
  simp only [add_assoc]

/-- What the new state's block holds. -/
theorem sNew_at (x w : Fin 128) : k0_pay3 (k0_pay30 C k v b) (ix4 0 0 x w) = (vecs q k v b C).sNew x w := by
  pointwise [k0_pay3, k0_pay30]
  unfold Head.sNew
  refine congrArg₂ (fun a b : EReal => a + b) (mul_comm _ _) ?_
  change @Eq EReal _ _
  exact Finset.sum_congr rfl fun s _ => mul_comm _ _

/-- A head's output before its norm, for any vector that is the output of vectors holding that head. -/
theorem hidden_of {q k v b eb o : FVec Ideal S8x128 .f32} {C : FVec Ideal S128x128 .f32} {H : Head} (e : vecs q k v b C = H)
    (heb : ∀ t x, eb (ix2 t x) = Ideal.exp (b (ix2 t x))) (ho : o = output q k v b eb C) (t : Fin 8) (w : Fin 128) :
    o (ix2 t w) = H.hidden t w := by
  subst e ho
  exact hidden_at q k v b eb C heb t w

/-- A head's new state, for any array that is the new state of vectors holding that head. -/
theorem sNew_of {q k v b : FVec Ideal S8x128 .f32} {C : FVec Ideal S128x128 .f32} {o : FVec Ideal S1x1x128x128 .f32} {H : Head} (e : vecs q k v b C = H)
    (ho : o = k0_pay3 (k0_pay30 C k v b)) (x w : Fin 128) : o (ix4 0 0 x w) = H.sNew x w := by
  subst e ho
  exact sNew_at q k v b C x w

/-- One head's lanes of a whole row of lanes. -/
abbrev lanes (o : ℕ) (hs : S8x512.Slices ![0, o] S8x128) (x : FVec Ideal S8x512 .f32) : FVec Ideal S8x128 .f32 :=
  extractStridedSlice S8x128 ![0, o] x hs

/-- The exponential is taken of the whole row, and a head's lanes of it are the exponentials of the head's sums. -/
theorem exp_at (lb : Vec Ideal S1x512 .f32) (a : Vec Ideal S8x512 .f32) (o : ℕ) (hs : S8x512.Slices ![0, o] S8x128) (t : Fin 8) (x : Fin 128) :
    lanes o hs (k0_pay14 lb a) (ix2 t x) = Ideal.exp (lanes o hs (k0_pay13 lb a) (ix2 t x)) := rfl

end Cert.HgrnIdeal.Block

end
-- ==== Proof.HgrnArray.lean ====
/-
  What the HGRN kernel reads, element by element, and its two result arrays: those of HgrnSpec.
-/
module

public import proofs.«01_k».proof.Proof.Gen.HgrnIdeal.Value
public import Idealize.ShloMosaic.Lib.Pipeline.ReadBack
public import proofs.«01_k».proof.Proof.HgrnBlock

@[expose] public section

set_option maxRecDepth 16384

noncomputable section

open Idealize.ShloMosaic Idealize.ShloMosaic.TcCoe Idealize.SL.Sem
open Idealize.ShloMosaic.Pipeline (Dat)
open Cert.HgrnHead Cert.RunningSum

namespace Cert.HgrnIdeal.Array

open Cert.HgrnIdeal Cert.HgrnIdeal.Gen Cert.HgrnIdeal.Block

variable (m : (ℓ : Loc nD τ sig) → Buf (Elt Ideal) ℓ)

/-- The projected array, the gates' lower bounds, the norm's gain and the carried state, as launched. -/
abbrev P (c : Dev nD) : FVec Ideal S1024x8832 .f32 := m ((c : Thread nD τ).loc main_arg0)
abbrev lb (c : Dev nD) : FVec Ideal S512 .f32 := m ((c : Thread nD τ).loc main_arg1)
abbrev gain (c : Dev nD) : FVec Ideal S512 .f32 := m ((c : Thread nD τ).loc main_arg2)
abbrev st (c : Dev nD) : FVec Ideal S128x4x128x128 .f32 := m ((c : Thread nD τ).loc main_arg3)

/-- The batch row a grid point takes. -/
abbrev row (t : Fin cfg0.N) : Fin 128 := ⟨t.val, t.isLt⟩

/-- Each window's block index at a grid point, on every axis. -/
theorem idx : ∀ t : Fin cfg0.N, (win0_0.index t 0 = t.val ∧ win0_0.index t 1 = 0)
    ∧ (win0_1.index t 0 = 0 ∧ win0_1.index t 1 = 0 ∧ win0_2.index t 0 = 0 ∧ win0_2.index t 1 = 0)
    ∧ (win0_3.index t 0 = t.val ∧ win0_3.index t 1 = 0 ∧ win0_3.index t 2 = 0 ∧ win0_3.index t 3 = 0)
    ∧ (win0_4.index t 0 = t.val ∧ win0_4.index t 1 = 0)
    ∧ (win0_5.index t 0 = t.val ∧ win0_5.index t 1 = 0 ∧ win0_5.index t 2 = 0 ∧ win0_5.index t 3 = 0) :=
  (by decide +kernel : ∀ t : Fin grid0.N, (win0_0.index t 0 = t.val ∧ win0_0.index t 1 = 0)
    ∧ (win0_1.index t 0 = 0 ∧ win0_1.index t 1 = 0 ∧ win0_2.index t 0 = 0 ∧ win0_2.index t 1 = 0)
    ∧ (win0_3.index t 0 = t.val ∧ win0_3.index t 1 = 0 ∧ win0_3.index t 2 = 0 ∧ win0_3.index t 3 = 0)
    ∧ (win0_4.index t 0 = t.val ∧ win0_4.index t 1 = 0)
    ∧ (win0_5.index t 0 = t.val ∧ win0_5.index t 1 = 0 ∧ win0_5.index t 2 = 0 ∧ win0_5.index t 3 = 0))

/-- The projected columns' block. -/
theorem p_at (c : Dev nD) (t : Fin cfg0.N) (s : Fin 8) (j : Fin 2048) :
    X0_0 m c t (ix2 s j) = col (P m c) (row t) s j.val := by
  obtain ⟨⟨h00, h01⟩, -⟩ := idx t
  refine (dif_pos (moved0_0 t (ix2 s j))).trans ?_
  unfold col
  blk_ext [iblk, V_main_arg0, h00, h01]

/-- The lower bounds' block. -/
theorem lb_at (c : Dev nD) (t : Fin cfg0.N) (j : Fin 512) : iblk m c 1 t (ix2 0 j) = lb m c (ix1 j) := by
  obtain ⟨-, ⟨h00, h01, -⟩, -⟩ := idx t
  have e : V m c main_v0 = broadcastInDim S1x512 ![1] bcast_S512_S1x512_1 (lb m c) := by
    show StableHlo.after hostOps0 (fun b => m (c, b)) _ = _
    unfold hostOps0
    after_results
    all_goals rfl
  refine Eq.trans ?_ ((congrFun e (ix2 0 j)).trans ?_)
  · blk_ext [iblk, h00, h01]
  · pointwise []

/-- The gain block. -/
theorem gain_at (c : Dev nD) (t : Fin cfg0.N) (j : Fin 512) : iblk m c 2 t (ix2 0 j) = gain m c (ix1 j) := by
  obtain ⟨-, ⟨-, -, h00, h01⟩, -⟩ := idx t
  have e : V m c main_v1 = broadcastInDim S1x512 ![1] bcast_S512_S1x512_1 (gain m c) := by
    show StableHlo.after hostOps0 (fun b => m (c, b)) _ = _
    unfold hostOps0
    after_results
    all_goals rfl
  refine Eq.trans ?_ ((congrFun e (ix2 0 j)).trans ?_)
  · blk_ext [iblk, h00, h01]
  · pointwise []

/-- The carried states' block. -/
theorem st_at (c : Dev nD) (t : Fin cfg0.N) (h : Fin 4) (x w : Fin 128) :
    iblk m c 3 t (ix4 0 h x w) = st m c (ix4 (row t) h x w) := by
  obtain ⟨-, -, ⟨h00, h01, h02, h03⟩, -⟩ := idx t
  blk_ext [iblk, V_main_arg3, h00, h01, h02, h03]

/-- The queries', forget gates', values' and output gates' columns of the block. -/
abbrev qs (c : Dev nD) (t : Fin cfg0.N) : Vec Ideal S8x512 .f32 := View.ld (X0_0 m c t) (Rect.unit ![0, 0] ![8, 512] inb_S8x2048_S8x512_0_0)
abbrev fs (c : Dev nD) (t : Fin cfg0.N) : Vec Ideal S8x512 .f32 := View.ld (X0_0 m c t) (Rect.unit ![0, 512] ![8, 512] inb_S8x2048_S8x512_0_512)
abbrev vs (c : Dev nD) (t : Fin cfg0.N) : Vec Ideal S8x512 .f32 := View.ld (X0_0 m c t) (Rect.unit ![0, 1024] ![8, 512] inb_S8x2048_S8x512_0_1024)
abbrev gs (c : Dev nD) (t : Fin cfg0.N) : Vec Ideal S8x512 .f32 := View.ld (X0_0 m c t) (Rect.unit ![0, 1536] ![8, 512] inb_S8x2048_S8x512_0_1536)

/-- A head's lanes of those columns, with a matrix that holds the transpose of its carried state, hold the head. -/
theorem head_eq (c : Dev nD) (t : Fin cfg0.N) (h : Fin 4) (o : ℕ) (ho : o = 128 * h.val) (hs : S8x512.Slices ![0, o] S8x128) {C : FVec Ideal S128x128 .f32}
    (hC : ∀ x w, C (ix2 w x) = iblk m c 3 t (ix4 0 h x w)) :
    vecs (lanes o hs (k0_pay15 (qs m c t))) (lanes o hs (k0_pay12 (iblk m c 1 t) (fs m c t))) (lanes o hs (vs m c t))
      (lanes o hs (k0_pay13 (iblk m c 1 t) (fs m c t))) C = head (P m c) (lb m c) (st m c) (row t) h := by
  subst ho
  have e : ∀ (s : Fin 8) (x : Fin 128) (i : ℕ) (hi : i + 512 ≤ 2048) (hj : i + (128 * h.val + x.val) < 2048),
      X0_0 m c t (ix2 s ⟨i + (128 * h.val + x.val), hj⟩) = col (P m c) (row t) s (i + (128 * h.val + x.val)) := fun s x i hi hj => p_at m c t s _
  refine Head.ext ?_ ?_ ?_ ?_ ?_
  · funext s x
    refine Eq.trans ?_ (congrArg silu ((p_at m c t s ⟨128 * h.val + x.val, by omega⟩)))
    show lanes _ hs (k0_pay15 (qs m c t)) (ix2 s x) = _
    pointwise [lanes, k0_pay15, qs]
    rfl
  · funext s x
    refine Eq.trans ?_ (congrArg₂ key (lb_at m c t _) (e s x 512 (by omega) (by omega)))
    show lanes _ hs (k0_pay12 (iblk m c 1 t) (fs m c t)) (ix2 s x) = _
    refine Eq.trans ?_ ((key_at (iblk m c 1 t) (fs m c t) s ⟨128 * h.val + x.val, by omega⟩).trans ?_)
    · pointwise [lanes]
    · pointwise [fs]
  · funext s x
    refine Eq.trans ?_ (e s x 1024 (by omega) (by omega))
    show lanes _ hs (vs m c t) (ix2 s x) = _
    pointwise [lanes, vs]
  · funext s x
    show lanes _ hs (k0_pay13 (iblk m c 1 t) (fs m c t)) (ix2 s x) = _
    refine Eq.trans ?_ ((sums_at (iblk m c 1 t) (fs m c t) s ⟨128 * h.val + x.val, by omega⟩).trans ?_)
    · pointwise [lanes]
    · show _ = upTo (fun r => logForget (lb m c (ix1 ⟨128 * h.val + x.val, by omega⟩)) (col (P m c) (row t) r (512 + (128 * h.val + x.val)))) s
      refine congrArg (fun f : Fin 8 → EReal => upTo f s) (funext fun r => congrArg₂ logForget (lb_at m c t _) ?_)
      refine Eq.trans ?_ (e r x 512 (by omega) (by omega))
      pointwise [fs]
  · funext x w
    exact (hC x w).trans (st_at m c t h x w)

end Cert.HgrnIdeal.Array

end
-- ==== Proof.HgrnFinal.lean ====
/-
  The HGRN kernel's two result arrays are those of HgrnSpec, read off the launched arguments.
-/
module

public import proofs.«01_k».proof.Proof.Gen.HgrnIdeal.Value
public import Idealize.ShloMosaic.Lib.Pipeline.ReadBack
public import proofs.«01_k».proof.Proof.HgrnArray

@[expose] public section

set_option maxRecDepth 16384

noncomputable section

open Idealize.ShloMosaic Idealize.ShloMosaic.TcCoe Idealize.SL.Sem
open Idealize.ShloMosaic.Pipeline (Dat)
open Cert.HgrnHead Cert.RunningSum

namespace Cert.HgrnIdeal.Array

open Cert.HgrnIdeal Cert.HgrnIdeal.Gen Cert.HgrnIdeal.Block

variable (m : (ℓ : Loc nD τ sig) → Buf (Elt Ideal) ℓ)

/-- Each head's vectors hold that head. -/
theorem head0 (c : Dev nD) (t : Fin cfg0.N) :
    vecs (lanes 0 slices_S8x512_o0_0_S8x128 (k0_pay15 (qs m c t))) (lanes 0 slices_S8x512_o0_0_S8x128 (k0_pay12 (iblk m c 1 t) (fs m c t)))
      (lanes 0 slices_S8x512_o0_0_S8x128 (vs m c t)) (lanes 0 slices_S8x512_o0_0_S8x128 (k0_pay13 (iblk m c 1 t) (fs m c t)))
      (k0_pay16 (k0_pay7 (View.ld (iblk m c 3 t) (Rect.unit ![0, 0, 0, 0] ![1, 1, 128, 128] inb_S1x4x128x128_S1x1x128x128_0_0_0_0))))
      = head (P m c) (lb m c) (st m c) (row t) 0 :=
  head_eq m c t 0 0 rfl _ fun x w => by pointwise [k0_pay16, k0_pay7]

theorem head1 (c : Dev nD) (t : Fin cfg0.N) :
    vecs (lanes 128 slices_S8x512_o0_128_S8x128 (k0_pay15 (qs m c t))) (lanes 128 slices_S8x512_o0_128_S8x128 (k0_pay12 (iblk m c 1 t) (fs m c t)))
      (lanes 128 slices_S8x512_o0_128_S8x128 (vs m c t)) (lanes 128 slices_S8x512_o0_128_S8x128 (k0_pay13 (iblk m c 1 t) (fs m c t)))
      (k0_pay16 (k0_pay7 (View.ld (iblk m c 3 t) (Rect.unit ![0, 1, 0, 0] ![1, 1, 128, 128] inb_S1x4x128x128_S1x1x128x128_0_1_0_0))))
      = head (P m c) (lb m c) (st m c) (row t) 1 :=
  head_eq m c t 1 128 rfl _ fun x w => by pointwise [k0_pay16, k0_pay7]

theorem head2 (c : Dev nD) (t : Fin cfg0.N) :
    vecs (lanes 256 slices_S8x512_o0_256_S8x128 (k0_pay15 (qs m c t))) (lanes 256 slices_S8x512_o0_256_S8x128 (k0_pay12 (iblk m c 1 t) (fs m c t)))
      (lanes 256 slices_S8x512_o0_256_S8x128 (vs m c t)) (lanes 256 slices_S8x512_o0_256_S8x128 (k0_pay13 (iblk m c 1 t) (fs m c t)))
      (k0_pay16 (k0_pay7 (View.ld (iblk m c 3 t) (Rect.unit ![0, 2, 0, 0] ![1, 1, 128, 128] inb_S1x4x128x128_S1x1x128x128_0_2_0_0))))
      = head (P m c) (lb m c) (st m c) (row t) 2 :=
  head_eq m c t 2 256 rfl _ fun x w => by pointwise [k0_pay16, k0_pay7]

theorem head3 (c : Dev nD) (t : Fin cfg0.N) :
    vecs (lanes 384 slices_S8x512_o0_384_S8x128 (k0_pay15 (qs m c t))) (lanes 384 slices_S8x512_o0_384_S8x128 (k0_pay12 (iblk m c 1 t) (fs m c t)))
      (lanes 384 slices_S8x512_o0_384_S8x128 (vs m c t)) (lanes 384 slices_S8x512_o0_384_S8x128 (k0_pay13 (iblk m c 1 t) (fs m c t)))
      (k0_pay16 (k0_pay7 (View.ld (iblk m c 3 t) (Rect.unit ![0, 3, 0, 0] ![1, 1, 128, 128] inb_S1x4x128x128_S1x1x128x128_0_3_0_0))))
      = head (P m c) (lb m c) (st m c) (row t) 3 :=
  head_eq m c t 3 384 rfl _ fun x w => by pointwise [k0_pay16, k0_pay7]

/-- The new states. -/
theorem finalS (c : Dev nD) : (dats m 0 c).arrAt 5 cfg0.N = outS (P m c) (lb m c) (st m c) := by
  refine (dats m 0 c).arrAt_eq_of_covers 5 _ (by decide +kernel) fun t hf y => ?_
  blk_simp
  rw [after0_5]
  unfold outsAt0
  dsimp only
  frame_open
  simp (disch := decide) only [↓ View.readCov_skip, ↓ View.readCov_cons_toLoadRect, ↓ View.readCov_fill]
  frame_out
  have e : outS (P m c) (lb m c) (st m c) (((View.whole main_v2_1).slice (win0_5.rect t)).emb y)
      = (head (P m c) (lb m c) (st m c) (row t) (y 1)).sNew (y 2) (y 3) := by
    obtain ⟨-, -, -, -, ⟨h00, h01, h02, h03⟩⟩ := idx t
    refine (?_ : _ = outS _ _ _ (ix4 (row t) (y 1) (y 2) (y 3))).trans rfl
    blk_ext [h00, h01, h02, h03]
  rw [e]
  clear e
  canon_tiles x h
  · idx_vars x
    obtain rfl : x0 = 0 := Subsingleton.elim (α := Fin 1) _ _
    obtain rfl : x1 = 0 := Subsingleton.elim (α := Fin 1) _ _
    rw [show y 1 = (3 : Fin 4) from Fin.ext h1, show y 2 = x2 from Fin.ext h2, show y 3 = x3 from Fin.ext h3]
    exact sNew_of (head3 m c t) rfl x2 x3
  · idx_vars x
    obtain rfl : x0 = 0 := Subsingleton.elim (α := Fin 1) _ _
    obtain rfl : x1 = 0 := Subsingleton.elim (α := Fin 1) _ _
    rw [show y 1 = (2 : Fin 4) from Fin.ext h1, show y 2 = x2 from Fin.ext h2, show y 3 = x3 from Fin.ext h3]
    exact sNew_of (head2 m c t) rfl x2 x3
  · idx_vars x
    obtain rfl : x0 = 0 := Subsingleton.elim (α := Fin 1) _ _
    obtain rfl : x1 = 0 := Subsingleton.elim (α := Fin 1) _ _
    rw [show y 1 = (1 : Fin 4) from Fin.ext h1, show y 2 = x2 from Fin.ext h2, show y 3 = x3 from Fin.ext h3]
    exact sNew_of (head1 m c t) rfl x2 x3
  · idx_vars x
    obtain rfl : x0 = 0 := Subsingleton.elim (α := Fin 1) _ _
    obtain rfl : x1 = 0 := Subsingleton.elim (α := Fin 1) _ _
    rw [show y 1 = (0 : Fin 4) from Fin.ext h1, show y 2 = x2 from Fin.ext h2, show y 3 = x3 from Fin.ext h3]
    exact sNew_of (head0 m c t) rfl x2 x3

/-- The output of a token, from the head's output before its norm. -/
theorem out_eq (c : Dev nD) (t : Fin cfg0.N) (h : Fin 4) (s : Fin 8) (w : Fin 128) {b : FVec Ideal S8x128 .f32} {g0 o0 : EReal}
    (hb : ∀ x, b (ix2 s x) = (head (P m c) (lb m c) (st m c) (row t) h).hidden s x)
    (hg : g0 = iblk m c 2 t (ix2 0 ⟨128 * h.val + w.val, by omega⟩)) (ho : o0 = X0_0 m c t (ix2 s ⟨1536 + (128 * h.val + w.val), by omega⟩)) :
    b (ix2 s w) * Ideal.rsqrt (Ideal.div (∑ x, b (ix2 s x) * b (ix2 s x)) (Ideal.ofBits .f32 0x43000000#32)
      + Ideal.ofBits .f32 0x358637BD#32) * g0 * silu o0 = outAt (P m c) (lb m c) (gain m c) (st m c) (row t) s h w := by
  subst hg ho
  simp only [hb]
  exact congrArg₂ (· * ·) (congrArg₂ (· * ·) rfl (gain_at m c t _)) (congrArg silu (p_at m c t s _))

/-- The element of a token at a lane of the whole row is the element at that lane's head and place in the head. -/
theorem out_lane (c : Dev nD) (t : Fin cfg0.N) (a j : ℕ) (ha : a < 8) (s : Fin 8) (h : Fin 4) (w : Fin 128) (h0 : a = s.val) (h1 : j = 128 * h.val + w.val) :
    outAt (P m c) (lb m c) (gain m c) (st m c) (row t) ⟨a, ha⟩ ⟨j / 128, by omega⟩ ⟨j % 128, by omega⟩ = outAt (P m c) (lb m c) (gain m c) (st m c) (row t) s h w := by
  subst h0 h1
  congr 1
  · exact Fin.ext (by dsimp only; omega)
  · exact Fin.ext (by dsimp only; omega)

/-- A head's block over its root mean square, times the gain and the gate, element by element; one statement per head. -/
theorem gate0 (o : Vec Ideal S8x512 .f32) (b : FVec Ideal S8x128 .f32) (g : Vec Ideal S1x128 .f32) (s : Fin 8) (w : Fin 128) :
    k0_pay31 o b g (ix2 s w) = b (ix2 s w) * Ideal.rsqrt (Ideal.div (∑ x, b (ix2 s x) * b (ix2 s x)) (Ideal.ofBits .f32 0x43000000#32)
      + Ideal.ofBits .f32 0x358637BD#32) * g (ix2 0 w) * silu (o (ix2 s ⟨w.val, by omega⟩)) := by
  pointwise [k0_pay31]
  rfl

theorem gate1 (o : Vec Ideal S8x512 .f32) (b : FVec Ideal S8x128 .f32) (g : Vec Ideal S1x128 .f32) (s : Fin 8) (w : Fin 128) :
    k0_pay50 o b g (ix2 s w) = b (ix2 s w) * Ideal.rsqrt (Ideal.div (∑ x, b (ix2 s x) * b (ix2 s x)) (Ideal.ofBits .f32 0x43000000#32)
      + Ideal.ofBits .f32 0x358637BD#32) * g (ix2 0 w) * silu (o (ix2 s ⟨128 + w.val, by omega⟩)) := by
  pointwise [k0_pay50]
  rfl

theorem gate2 (o : Vec Ideal S8x512 .f32) (b : FVec Ideal S8x128 .f32) (g : Vec Ideal S1x128 .f32) (s : Fin 8) (w : Fin 128) :
    k0_pay76 o b g (ix2 s w) = b (ix2 s w) * Ideal.rsqrt (Ideal.div (∑ x, b (ix2 s x) * b (ix2 s x)) (Ideal.ofBits .f32 0x43000000#32)
      + Ideal.ofBits .f32 0x358637BD#32) * g (ix2 0 w) * silu (o (ix2 s ⟨256 + w.val, by omega⟩)) := by
  pointwise [k0_pay76]
  rfl

theorem gate3 (o : Vec Ideal S8x512 .f32) (b : FVec Ideal S8x128 .f32) (g : Vec Ideal S1x128 .f32) (s : Fin 8) (w : Fin 128) :
    k0_pay2 o b g (ix2 s w) = b (ix2 s w) * Ideal.rsqrt (Ideal.div (∑ x, b (ix2 s x) * b (ix2 s x)) (Ideal.ofBits .f32 0x43000000#32)
      + Ideal.ofBits .f32 0x358637BD#32) * g (ix2 0 w) * silu (o (ix2 s ⟨384 + w.val, by omega⟩)) := by
  pointwise [k0_pay2]
  rfl

set_option maxHeartbeats 800000 in
/-- The output. -/
theorem finalY (c : Dev nD) : (dats m 0 c).arrAt 4 cfg0.N = outY (P m c) (lb m c) (gain m c) (st m c) := by
  refine (dats m 0 c).arrAt_eq_of_covers 4 _ (by decide +kernel) fun t hf y => ?_
  blk_simp
  rw [after0_4]
  unfold outsAt0
  dsimp only
  frame_open
  simp (disch := decide) only [↓ View.readCov_skip, ↓ View.readCov_cons_toLoadRect, ↓ View.readCov_fill]
  frame_out
  have e : outY (P m c) (lb m c) (gain m c) (st m c) (((View.whole main_v2_0).slice (win0_4.rect t)).emb y)
      = outAt (P m c) (lb m c) (gain m c) (st m c) (row t) ⟨(y 0).val, by have h : (y 0).val < 8 := (y 0).isLt; omega⟩ ⟨(y 1).val / 128, by have h : (y 1).val < 512 := (y 1).isLt; omega⟩ ⟨(y 1).val % 128, by omega⟩ := by
    obtain ⟨-, -, -, ⟨h00, h01⟩, -⟩ := idx t
    have hy0 : (y 0).val < 8 := (y 0).isLt
    have ht : t.val < 128 := t.isLt
    refine (?_ : _ = outY (P m c) (lb m c) (gain m c) (st m c) (ix2 ⟨8 * t.val + (y 0).val, by omega⟩ (y 1))).trans ?_
    · blk_ext [h00, h01]
    · unfold outY
      congr 1
      · refine Fin.ext ?_
        show (8 * t.val + (y 0).val) / 8 = t.val
        omega
      · refine Fin.ext ?_
        show (8 * t.val + (y 0).val) % 8 = (y 0).val
        omega
  rw [e]
  clear e
  have y0 : (y 0).val < 8 := (y 0).isLt
  have y1 : (y 1).val < 512 := (y 1).isLt
  canon_tiles x h
  · idx_vars x
    rw [out_lane m c t _ _ _ x0 3 x1 h0 (by simpa using h1)]
    refine (gate3 _ _ _ x0 x1).trans (out_eq m c t 3 x0 x1 (fun z => ?_) ?_ ?_)
    · exact hidden_of (head3 m c t) (exp_at _ _ _ _) rfl x0 z
    · pointwise []
    · pointwise []
  · idx_vars x
    rw [out_lane m c t _ _ _ x0 2 x1 h0 (by simpa using h1)]
    refine (gate2 _ _ _ x0 x1).trans (out_eq m c t 2 x0 x1 (fun z => ?_) ?_ ?_)
    · exact hidden_of (head2 m c t) (exp_at _ _ _ _) rfl x0 z
    · pointwise []
    · pointwise []
  · idx_vars x
    rw [out_lane m c t _ _ _ x0 1 x1 h0 (by simpa using h1)]
    refine (gate1 _ _ _ x0 x1).trans (out_eq m c t 1 x0 x1 (fun z => ?_) ?_ ?_)
    · exact hidden_of (head1 m c t) (exp_at _ _ _ _) rfl x0 z
    · pointwise []
    · pointwise []
  · idx_vars x
    rw [out_lane m c t _ _ _ x0 0 x1 h0 (by simpa using h1)]
    refine (gate0 _ _ _ x0 x1).trans (out_eq m c t 0 x0 x1 (fun z => ?_) ?_ ?_)
    · exact hidden_of (head0 m c t) (exp_at _ _ _ _) rfl x0 z
    · pointwise []
    · pointwise []

end Cert.HgrnIdeal.Array

end
-- ==== Proof.HgrnReference.lean ====
/-
  What the HGRN reference computes, element by element: the head of HgrnSpec, step by step.
-/
module

public import proofs.«01_k».proof.Proof.Gen.HgrnRefIdeal.Run
public import proofs.«01_k».proof.Proof.HgrnSpec
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Cert.HgrnHead Cert.RunningSum

namespace Cert.HgrnRefIdeal.Elements

open Cert.HgrnRefIdeal Cert.HgrnRefIdeal.Gen Cert.HgrnRefIdeal.Value

variable (p : FVec Ideal S1024x8832 .f32) (lb g : FVec Ideal S512 .f32) (st : FVec Ideal S128x4x128x128 .f32)

/-- The ones, over all lanes of all tokens. -/
abbrev ones : FVec Ideal S128x8x512 .f32 := broadcastInDim S128x8x512 ![] bcast_S_S128x8x512 (constant S_ .f32 0x3F800000#32)
/-- The reference's sigmoid. -/
abbrev sigmoid (x : FVec Ideal S128x8x512 .f32) : FVec Ideal S128x8x512 .f32 := Host.divf ones (addf ones (Host.exp (Host.negf x)))
/-- A row over all tokens. -/
abbrev spread (x : FVec Ideal S512 .f32) : FVec Ideal S128x8x512 .f32 :=
  broadcastInDim S128x8x512 ![0, 1, 2] bcast_S1x1x512_S128x8x512_0_1_2 (broadcastInDim S1x1x512 ![2] bcast_S512_S1x1x512_2 x)
/-- A group of 512 columns of the projected array. -/
abbrev group (o : ℕ) (hs : S128x8x8832.Slices ![0, 0, o] S128x8x512) : FVec Ideal S128x8x512 .f32 :=
  extractStridedSlice S128x8x512 ![0, 0, o] (shapeCast _ p shapeCasts_S1024x8832_S128x8x8832) hs
/-- The lanes by heads. -/
abbrev byHead (x : FVec Ideal S128x8x512 .f32) : FVec Ideal S128x4x8x128 .f32 :=
  transpose S128x4x8x128 [0, 2, 1, 3] (shapeCast _ x shapeCasts_S128x8x512_S128x8x4x128) transposes_S128x8x4x128_S128x4x8x128_0_2_1_3
/-- One minus the lower bounds, over all tokens. -/
abbrev rest : FVec Ideal S128x8x512 .f32 := spread (subf (broadcastInDim S512 ![] bcast_S_S512 (constant S_ .f32 0x3F800000#32)) lb)

/-- The reference's queries, keys, values and running sums of the log forget gates, by heads. -/
def queries : FVec Ideal S128x4x8x128 .f32 :=
  byHead (mulf (group p 0 slices_S128x8x8832_S128x8x512_0_0_0) (sigmoid (group p 0 slices_S128x8x8832_S128x8x512_0_0_0)))
def keys : FVec Ideal S128x4x8x128 .f32 :=
  byHead (mulf (rest lb) (sigmoid (Host.negf (group p 512 slices_S128x8x8832_S128x8x512_0_0_512))))
def vals : FVec Ideal S128x4x8x128 .f32 := byHead (group p 1024 slices_S128x8x8832_S128x8x512_0_0_1024)
def sums : FVec Ideal S128x4x8x128 .f32 :=
  Host.reduceWindowAdd ![1, 1, 8, 1] ![1, 1, 1, 1] ![0, 0, 7, 0] ![0, 0, 0, 0]
    (byHead (Host.log (addf (spread lb) (mulf (rest lb) (sigmoid (group p 512 slices_S128x8x8832_S128x8x512_0_0_512))))))
    (broadcastInDim S_ ![] bcast_S_S_ (constant S_ .f32 0x00000000#32)) reduceWindows_S128x4x8x128_S128x4x8x128_w1s1p0_0_w1s1p0_0_w8s1p7_0_w1s1p0_0 h_S_
/-- The mask of the past, over all lanes. -/
def past : IVec S128x4x8x8x128 1 :=
  broadcastInDim S128x4x8x8x128 ![2, 3, 4] bcast_S8x8x1_S128x4x8x8x128_2_3_4 (broadcastInDim S8x8x1 ![0, 1] bcast_S8x8_S8x8x1_0_1
    (select (cmpi .sge (addi (iotaInDim S8x8 32 0) (broadcastInDim S8x8 ![] bcast_S_S8x8 (constantI S_ 32 0#32))) (iotaInDim S8x8 32 1))
      (broadcastInDim S8x8 ![] bcast_S_S8x8 (constantI S_ 1 1#1)) (broadcastInDim S8x8 ![] bcast_S_S8x8 (constantI S_ 1 0#1))))
/-- The zeros where the mask is off. -/
abbrev zeros : FVec Ideal S128x4x8x8x128 .f32 := broadcastInDim S128x4x8x8x128 ![] bcast_S_S128x4x8x8x128 (id (constant S_ .f32 0x00000000#32))
/-- An array over the later token, and over the earlier one. -/
abbrev later (x : FVec Ideal S128x4x8x128 .f32) : FVec Ideal S128x4x8x8x128 .f32 :=
  broadcastInDim S128x4x8x8x128 ![0, 1, 2, 3, 4] bcast_S128x4x8x1x128_S128x4x8x8x128_0_1_2_3_4 (broadcastInDim S128x4x8x1x128 ![0, 1, 2, 4] bcast_S128x4x8x128_S128x4x8x1x128_0_1_2_4 x)
abbrev earlier (x : FVec Ideal S128x4x8x128 .f32) : FVec Ideal S128x4x8x8x128 .f32 :=
  broadcastInDim S128x4x8x8x128 ![0, 1, 2, 3, 4] bcast_S128x4x1x8x128_S128x4x8x8x128_0_1_2_3_4 (broadcastInDim S128x4x1x8x128 ![0, 1, 3, 4] bcast_S128x4x8x128_S128x4x1x8x128_0_1_3_4 x)
/-- The reference's scores. -/
def scores (q k b : FVec Ideal S128x4x8x128 .f32) : FVec Ideal S128x4x8x8 .f32 :=
  Host.reduceAdd (mulf (mulf (later q) (earlier k)) (select past (Host.exp (select past (subf (later b) (earlier b)) zeros)) zeros))
    (constant S_ .f32 0x00000000#32) reducesTo_S128x4x8x8x128_S128x4x8x8_d4 h_S_
/-- The reference's output before its norm. -/
def outs (q k v b : FVec Ideal S128x4x8x128 .f32) : FVec Ideal S128x4x8x128 .f32 :=
  addf (Host.dotGeneral dot_S128x4x8x128_S128x4x128x128_S128x4x8x128_3_2_2_3_01_01 none (mulf q (Host.exp b)) st)
    (Host.dotGeneral dot_S128x4x8x8_S128x4x8x128_S128x4x8x128_3_2_2_3_01_01 none (scores q k b) v)
/-- The last running sums. -/
abbrev last (b : FVec Ideal S128x4x8x128 .f32) : FVec Ideal S128x4x128 .f32 :=
  shapeCast _ (extractStridedSlice S128x4x1x128 ![0, 0, 7, 0] b slices_S128x4x8x128_S128x4x1x128_0_0_7_0) shapeCasts_S128x4x1x128_S128x4x128
/-- The reference's new states. -/
def states (k v b : FVec Ideal S128x4x8x128 .f32) : FVec Ideal S128x4x128x128 .f32 :=
  addf (mulf (broadcastInDim S128x4x128x128 ![0, 1, 2, 3] bcast_S128x4x128x1_S128x4x128x128_0_1_2_3 (broadcastInDim S128x4x128x1 ![0, 1, 2] bcast_S128x4x128_S128x4x128x1_0_1_2 (Host.exp (last b)))) st)
    (Host.dotGeneral dot_S128x4x8x128_S128x4x8x128_S128x4x128x128_2_2_3_3_01_01 none
      (mulf k (Host.exp (subf (broadcastInDim S128x4x8x128 ![0, 1, 2, 3] bcast_S128x4x1x128_S128x4x8x128_0_1_2_3 (broadcastInDim S128x4x1x128 ![0, 1, 3] bcast_S128x4x128_S128x4x1x128_0_1_3 (last b))) b))) v)
/-- The reference's output, from the output before its norm. -/
def final (o : FVec Ideal S128x4x8x128 .f32) : FVec Ideal S1024x512 .f32 :=
  shapeCast _ (mulf (mulf (shapeCast _ (transpose S128x8x4x128 [0, 2, 1, 3] (mulf o (broadcastInDim S128x4x8x128 ![0, 1, 2, 3] bcast_S128x4x8x1_S128x4x8x128_0_1_2_3
      (Host.rsqrt (addf (Host.divf (broadcastInDim S128x4x8x1 ![0, 1, 2] bcast_S128x4x8_S128x4x8x1_0_1_2 (Host.reduceAdd (mulf o o) (constant S_ .f32 0x00000000#32) reducesTo_S128x4x8x128_S128x4x8_d3 h_S_))
        (broadcastInDim S128x4x8x1 ![] bcast_S_S128x4x8x1 (constant S_ .f32 0x43000000#32))) (broadcastInDim S128x4x8x1 ![] bcast_S_S128x4x8x1 (constant S_ .f32 0x358637BD#32))))))
      transposes_S128x4x8x128_S128x8x4x128_0_2_1_3) shapeCasts_S128x8x4x128_S128x8x512) (spread g))
    (mulf (group p 1536 slices_S128x8x8832_S128x8x512_0_0_1536) (sigmoid (group p 1536 slices_S128x8x8832_S128x8x512_0_0_1536)))) shapeCasts_S128x8x512_S1024x512

/-- The head of a batch row. -/
abbrev H (b : Fin 128) (h : Fin 4) : Head := head p lb st b h

theorem select_ite {α : Type} (p : Prop) [Decidable p] (a b : α) :
    Scalar.select (if p then 1#1 else 0#1) a b = if p then a else b := by
  by_cases h : p <;> simp [h, Scalar.select]

/-- An element of the projected array by its row and column. -/
theorem elt {i j : ℕ} {hi : i < 1024} {hj : j < 8832} {b : Fin 128} {t : Fin 8} {j' : ℕ} {hj' : j' < 8832} (ei : i = 8 * b.val + t.val) (ej : j = j') :
    p (ix2 ⟨i, hi⟩ ⟨j, hj⟩) = col p b t j' hj' := by
  subst ei ej
  rfl

/-- An element of a row by its lane. -/
theorem lane {j j' : ℕ} {hj : j < 512} {hj' : j' < 512} (ej : j = j') : lb (ix1 ⟨j, hj⟩) = lb (ix1 ⟨j', hj'⟩) := by
  subst ej
  rfl

theorem past_at (b : Fin 128) (h : Fin 4) (t s : Fin 8) (x : Fin 128) : past (ix5 b h t s x) = if s ≤ t then 1#1 else 0#1 := by
  pointwise [past]
  revert t s
  decide

/-- The reference's arrays, element by element, are the head's values of the same names. -/
theorem q_at (b : Fin 128) (h : Fin 4) (t : Fin 8) (x : Fin 128) : queries p (ix4 b h t x) = (H p lb st b h).q t x := by
  pointwise [queries]
  exact congrArg silu (elt p (by omega) (by omega))

theorem k_at (b : Fin 128) (h : Fin 4) (t : Fin 8) (x : Fin 128) : keys p lb (ix4 b h t x) = (H p lb st b h).k t x := by
  pointwise [keys]
  exact congrArg₂ key (lane lb (by omega)) (elt p (by omega) (by omega))

theorem v_at (b : Fin 128) (h : Fin 4) (t : Fin 8) (x : Fin 128) : vals p (ix4 b h t x) = (H p lb st b h).v t x := by
  pointwise [vals]
  exact elt p (by omega) (by omega)

theorem b_at (b : Fin 128) (h : Fin 4) (t : Fin 8) (x : Fin 128) : sums p lb (ix4 b h t x) = (H p lb st b h).b t x := by
  unfold sums
  refine (window4 _ _ _ (by decide) ?_ b h t x).trans ?_
  · pointwise []
  show _ = upTo (fun s => logForget (lb (ix1 ⟨128 * h.val + x.val, by omega⟩)) (col p b s (512 + (128 * h.val + x.val)))) t
  refine congrArg (fun f : Fin 8 → EReal => upTo f t) (funext fun s => ?_)
  pointwise []
  exact congrArg₂ logForget (lane lb (by omega)) (elt p (by omega) (by omega))

theorem score_at (b : Fin 128) (h : Fin 4) (t s : Fin 8) : scores (queries p) (keys p lb) (sums p lb) (ix4 b h t s) = (H p lb st b h).score t s := by
  unfold scores
  clean_types
  pointwise []
  simp only [past_at, select_ite, q_at p lb st, k_at p lb st, b_at p lb st]
  show _ = ∑ x : Fin 128, (H p lb st b h).q t x * (H p lb st b h).k s x * (H p lb st b h).decay t s x
  refine Finset.sum_congr rfl fun x _ => congrArg (fun e : EReal => (H p lb st b h).q t x * (H p lb st b h).k s x * e) ?_
  unfold Head.decay
  by_cases hp : s ≤ t
  · simp only [if_pos hp]
  · simp only [if_neg hp]
    pointwise [id]

theorem hidden_at (b : Fin 128) (h : Fin 4) (t : Fin 8) (w : Fin 128) :
    outs st (queries p) (keys p lb) (vals p) (sums p lb) (ix4 b h t w) = (H p lb st b h).hidden t w := by
  pointwise [outs]
  simp only [score_at p lb st, q_at p lb st, v_at p lb st, b_at p lb st]
  rfl

section

variable (m : (ℓ : Loc nD τ sig) → Buf (Elt Ideal) ℓ) (c : Dev nD)

/-- The projected array, the gates' lower bounds, the norm's gain and the carried state the reference is given. -/
abbrev P : FVec Ideal S1024x8832 .f32 := m ((c.tc : Thread nD τ).loc main_arg0)
abbrev lo : FVec Ideal S512 .f32 := m ((c.tc : Thread nD τ).loc main_arg1)
abbrev gain : FVec Ideal S512 .f32 := m ((c.tc : Thread nD τ).loc main_arg2)
abbrev carried : FVec Ideal S128x4x128x128 .f32 := m ((c.tc : Thread nD τ).loc main_arg3)

/-- The new states the reference returns. -/
theorem s_eq : res_main_v77 m c = outS (P m c) (lo m c) (carried m c) := by
  refine (?_ : _ = states (carried m c) (keys (P m c) (lo m c)) (vals (P m c)) (sums (P m c) (lo m c))).trans ?_
  · rfl
  funext i
  idx_vars i
  pointwise [states]
  simp only [k_at _ _ (carried m c), v_at _ (lo m c) (carried m c), b_at _ _ (carried m c)]
  rfl

/-- The output the reference returns. -/
theorem y_eq : res_main_v95 m c = outY (P m c) (lo m c) (gain m c) (carried m c) := by
  refine (?_ : _ = final (P m c) (gain m c) (outs (carried m c) (queries (P m c)) (keys (P m c) (lo m c)) (vals (P m c)) (sums (P m c) (lo m c)))).trans ?_
  · rfl
  funext i
  idx_vars i
  unfold final
  clean_types
  pointwise []
  simp only [hidden_at]
  refine congrArg₂ (· * ·) (congrArg₂ (· * ·) rfl (lane _ ?_)) (congrArg silu ?_)
  · show i1.val = 128 * (i1.val / 128) + i1.val % 128
    omega
  · refine elt _ (t := ⟨i0.val % 8, by omega⟩) (b := ⟨i0.val / 8, by omega⟩) ?_ ?_
    · show i0.val = 8 * (i0.val / 8) + i0.val % 8
      omega
    · show 1536 + i1.val = 1536 + (128 * (i1.val / 128) + i1.val % 128)
      omega

end

end Cert.HgrnRefIdeal.Elements

end
-- ==== Proof.HgrnClaims.lean ====
/-
  The claims about the gated linear recurrence, from the runs of the kernel and of the reference.
-/
module

public import proofs.«01_k».proof.Defs
public import proofs.«01_k».proof.Proof.Gen.Hgrn.Frame
public import proofs.«01_k».proof.Proof.HgrnFinal
public import proofs.«01_k».proof.Proof.HgrnReference
public import Idealize.ShloMosaic.Lib.Quiescent

@[expose] public section

noncomputable section

open Idealize.ShloMosaic Idealize.ShloMosaic.TcCoe Idealize.SL.Sem

namespace Cert.Proof.HgrnClaims

/-- The kernel's run ends, its arguments are unchanged and its semaphores are at zero. -/
theorem frame : Cert.quiescent_Hgrn := fun m ρ _ => Cert.Hgrn.Gen.frame m ρ
/-- The same for the kernel over the extended reals. -/
theorem frameIdeal : Cert.quiescent_HgrnIdeal := fun m ρ _ => Cert.HgrnIdeal.Gen.frame m ρ
/-- The same for the reference. -/
theorem frameRef : Cert.quiescent_HgrnRefIdeal := fun m ρ _ =>
  (θ_run Cert.HgrnRefIdeal.defs _ _).mono (fun r h => ⟨fun c => (h c).2.2, sem_eq_zero_of_no_sems (by decide) r.2⟩)
    (Cert.HgrnRefIdeal.Value.run (F := Ideal) m ρ)

/-- No operation of the kernel was replaced by its idealization. -/
theorem preserves : Cert.preserves_Hgrn_HgrnIdeal := trivial

open Cert.HgrnIdeal.Array in
/-- The kernel's results are the reference's, from arguments that agree. -/
theorem algebraic : Cert.algebraic_HgrnIdeal_HgrnRefIdeal := by
  intro m ρ m' ρ' _ hag
  have e : ∀ c : Dev Cert.HgrnIdeal.nD, Cert.HgrnRefIdeal.Elements.P m' c = P m c
      ∧ Cert.HgrnRefIdeal.Elements.lo m' c = lb m c
      ∧ Cert.HgrnRefIdeal.Elements.gain m' c = gain m c
      ∧ Cert.HgrnRefIdeal.Elements.carried m' c = st m c := hag
  refine ⟨fun c => (Cert.HgrnIdeal.Gen.dats m 0 c).arrAt 4 Cert.HgrnIdeal.cfg0.N,
    fun c => (Cert.HgrnIdeal.Gen.dats m 0 c).arrAt 5 Cert.HgrnIdeal.cfg0.N,
    Cert.HgrnIdeal.Value.run_blocks (F := Ideal) m ρ, ?_⟩
  refine (θ_run Cert.HgrnRefIdeal.defs _ _).mono (fun _ h c => ?_) (Cert.HgrnRefIdeal.Value.run (F := Ideal) m' ρ')
  obtain ⟨e0, e1, e2, e3⟩ := e c
  obtain ⟨h0, h1, hargs⟩ := h c
  refine ⟨?_, ?_, hargs⟩
  · beta_reduce
    rw [finalY m c, ← e0, ← e1, ← e2, ← e3]
    exact h0.trans (Cert.HgrnRefIdeal.Elements.y_eq m' c)
  · beta_reduce
    rw [finalS m c, ← e0, ← e1, ← e3]
    exact h1.trans (Cert.HgrnRefIdeal.Elements.s_eq m' c)

end Cert.Proof.HgrnClaims

end
-- ==== Proof.FfnSpec.lean ====
/-
  The gated merge and the feed-forward part: what one row of the result is, from one row of each input and the weights.
-/
module

public import Idealize.ShloMosaic.Lib.Pipeline.ValueKit
public import Idealize.ShloMosaic.Lib.Pointwise

@[expose] public section

set_option maxRecDepth 16384

noncomputable section

open Idealize.ShloMosaic

namespace Cert.FeedForward

/-- A row's deviation from its mean. -/
def centered (x : Fin 1024 → EReal) (d : Fin 1024) : EReal :=
  x d - Ideal.div (∑ k, x k) (Ideal.ofBits .f32 0x44800000#32)

/-- A row normalized to mean zero and variance one, then scaled and shifted. -/
def norm (x g b : Fin 1024 → EReal) (d : Fin 1024) : EReal :=
  centered x d * Ideal.rsqrt (Ideal.div (∑ k, centered x k * centered x k) (Ideal.ofBits .f32 0x44800000#32)
    + Ideal.ofBits .f32 0x3727C5AC#32) * g d + b d

/-- Equal rows, scales and shifts normalize to equal rows. -/
theorem norm_congr {x x' g g' b b' : Fin 1024 → EReal} (hx : ∀ k, x k = x' k) (hg : ∀ k, g k = g' k) (hb : ∀ k, b k = b' k) (d : Fin 1024) :
    norm x g b d = norm x' g' b' d := by
  rw [show x = x' from funext hx, show g = g' from funext hg, show b = b' from funext hb]

/-- The residual connection: a multiple of the row and what is added to it. -/
def residual (x z : Fin 1024 → EReal) (d : Fin 1024) : EReal := Ideal.ofBits .f32 0x3FD744FD#32 * x d + z d

/-- The three branches' outputs, each projected and gated, added and projected once more. -/
def mixed (y0 y1 y2 : Fin 512 → EReal) (s0 s1 s2 : Fin 1024 → EReal) (wb : Fin 3 → Fin 512 → Fin 1024 → EReal)
    (wo : Fin 1024 → Fin 1024 → EReal) (d : Fin 1024) : EReal :=
  ∑ x, (Ideal.logistic (s0 x) * ∑ k, y0 k * wb 0 k x + Ideal.logistic (s1 x) * ∑ k, y1 k * wb 1 k x
    + Ideal.logistic (s2 x) * ∑ k, y2 k * wb 2 k x) * wo x d

/-- One hidden unit: its gate's input times the sigmoid of it, times its other input. -/
def hidden (x g u : Fin 1024 → EReal) : EReal :=
  (∑ k, x k * g k) * Ideal.logistic (∑ k, x k * g k) * ∑ k, x k * u k

/-- All hidden units, projected back. -/
def feed (x : Fin 1024 → EReal) (wi : Fin 1024 → Fin 5632 → EReal) (wo : Fin 2816 → Fin 1024 → EReal) (d : Fin 1024) : EReal :=
  ∑ j : Fin 2816, hidden x (fun k => wi k ⟨j.val, by omega⟩) (fun k => wi k ⟨2816 + j.val, by omega⟩) * wo j d

/-- A sum over the hidden units is the sum over eleven pieces of 256. -/
theorem sum_pieces (f : Fin 2816 → EReal) : ∑ j, f j
    = ∑ s : Fin 256, f ⟨s.val, by omega⟩ + ∑ s : Fin 256, f ⟨256 + s.val, by omega⟩ + ∑ s : Fin 256, f ⟨512 + s.val, by omega⟩
      + ∑ s : Fin 256, f ⟨768 + s.val, by omega⟩ + ∑ s : Fin 256, f ⟨1024 + s.val, by omega⟩ + ∑ s : Fin 256, f ⟨1280 + s.val, by omega⟩
      + ∑ s : Fin 256, f ⟨1536 + s.val, by omega⟩ + ∑ s : Fin 256, f ⟨1792 + s.val, by omega⟩ + ∑ s : Fin 256, f ⟨2048 + s.val, by omega⟩
      + ∑ s : Fin 256, f ⟨2304 + s.val, by omega⟩ + ∑ s : Fin 256, f ⟨2560 + s.val, by omega⟩ := by
  refine (Fin.sum_univ_add (a := 2560) (b := 256) f).trans (congrArg (· + _) ?_)
  refine (Fin.sum_univ_add (a := 2304) (b := 256) _).trans (congrArg (· + _) ?_)
  refine (Fin.sum_univ_add (a := 2048) (b := 256) _).trans (congrArg (· + _) ?_)
  refine (Fin.sum_univ_add (a := 1792) (b := 256) _).trans (congrArg (· + _) ?_)
  refine (Fin.sum_univ_add (a := 1536) (b := 256) _).trans (congrArg (· + _) ?_)
  refine (Fin.sum_univ_add (a := 1280) (b := 256) _).trans (congrArg (· + _) ?_)
  refine (Fin.sum_univ_add (a := 1024) (b := 256) _).trans (congrArg (· + _) ?_)
  refine (Fin.sum_univ_add (a := 768) (b := 256) _).trans (congrArg (· + _) ?_)
  refine (Fin.sum_univ_add (a := 512) (b := 256) _).trans (congrArg (· + _) ?_)
  exact Fin.sum_univ_add (a := 256) (b := 256) _

variable {n : ℕ} (Y0 Y1 Y2 : (⟨2, ![n, 512]⟩ : Shape).Idx → EReal) (P : (⟨2, ![n, 8832]⟩ : Shape).Idx → EReal)
  (H : (⟨2, ![n, 1024]⟩ : Shape).Idx → EReal) (wb : (⟨3, ![3, 512, 1024]⟩ : Shape).Idx → EReal)
  (wo : (⟨2, ![1024, 1024]⟩ : Shape).Idx → EReal) (g1 b1 : (⟨1, ![1024]⟩ : Shape).Idx → EReal)
  (wi : (⟨2, ![1024, 5632]⟩ : Shape).Idx → EReal) (wf : (⟨2, ![2816, 1024]⟩ : Shape).Idx → EReal)
  (g2 b2 : (⟨1, ![1024]⟩ : Shape).Idx → EReal)

/-- A row's mixed branches; the gates are three column ranges of the projected input. -/
def mixedRow (t : Fin n) : Fin 1024 → EReal :=
  mixed (fun k => Y0 (ix2 t k)) (fun k => Y1 (ix2 t k)) (fun k => Y2 (ix2 t k)) (fun k => P (ix2 t ⟨4096 + k.val, by omega⟩))
    (fun k => P (ix2 t ⟨5120 + k.val, by omega⟩)) (fun k => P (ix2 t ⟨6144 + k.val, by omega⟩)) (fun i k d => wb (ix3 i k d))
    fun k d => wo (ix2 k d)

/-- A row after the first residual connection. -/
def firstRow (t : Fin n) : Fin 1024 → EReal :=
  norm (residual (fun k => H (ix2 t k)) (mixedRow Y0 Y1 Y2 P wb wo t)) (fun k => g1 (ix1 k)) fun k => b1 (ix1 k)

/-- A row of the feed-forward part added to the row before it, not yet normalized. -/
def secondRow (t : Fin n) : Fin 1024 → EReal :=
  residual (firstRow Y0 Y1 Y2 P H wb wo g1 b1 t)
    (feed (firstRow Y0 Y1 Y2 P H wb wo g1 b1 t) (fun k j => wi (ix2 k j)) fun j d => wf (ix2 j d))

/-- The result as an array. -/
def out : (⟨2, ![n, 1024]⟩ : Shape).Idx → EReal := fun i =>
  norm (secondRow Y0 Y1 Y2 P H wb wo g1 b1 wi wf (i 0)) (fun k => g2 (ix1 k)) (fun k => b2 (ix1 k)) (i 1)

end Cert.FeedForward

end
-- ==== Proof.FfnBlock.lean ====
/-
  What the merge and feed-forward kernel computes from one block of rows, element by element.
-/
module

public import proofs.«01_k».proof.Proof.Gen.FfnIdeal.Value
public import proofs.«01_k».proof.Proof.FfnSpec

@[expose] public section

set_option maxRecDepth 16384

noncomputable section

open Idealize.ShloMosaic Idealize.ShloMosaic.TcCoe Idealize.SL.Sem
open Cert.FeedForward

namespace Cert.FfnIdeal.Block

open Cert.FfnIdeal Cert.FfnIdeal.Gen

/-- The last normalization. -/
theorem norm_at (z : FVec Ideal S256x1024 .f32) (g b : FVec Ideal S1x1024 .f32) (r : Fin 256) (d : Fin 1024) :
    k0_pay1 z g b (ix2 r d) = norm (fun k => z (ix2 r k)) (fun k => g (ix2 0 k)) (fun k => b (ix2 0 k)) d := by
  pointwise [k0_pay1]
  rfl

/-- The mixed branches. -/
theorem mixed_at (y0 : Vec Ideal S256x512 .f32) (w0 : Vec Ideal S1x512x1024 .bf16) (s0 : Vec Ideal S256x1024 .f32)
    (y1 : Vec Ideal S256x512 .f32) (w1 : Vec Ideal S1x512x1024 .bf16) (s1 : Vec Ideal S256x1024 .f32)
    (y2 : Vec Ideal S256x512 .f32) (w2 : Vec Ideal S1x512x1024 .bf16) (s2 : Vec Ideal S256x1024 .f32) (wo : Vec Ideal S1024x1024 .bf16)
    (wb : Fin 3 → Fin 512 → Fin 1024 → EReal) (h0 : ∀ k d, w0 (ix3 0 k d) = wb 0 k d) (h1 : ∀ k d, w1 (ix3 0 k d) = wb 1 k d)
    (h2 : ∀ k d, w2 (ix3 0 k d) = wb 2 k d) (r : Fin 256) (d : Fin 1024) :
    k0_pay2 (F := Ideal) y0 w0 s0 y1 w1 s1 y2 w2 s2 wo (ix2 r d)
      = mixed (fun k => y0 (ix2 r k)) (fun k => y1 (ix2 r k)) (fun k => y2 (ix2 r k)) (fun k => s0 (ix2 r k)) (fun k => s1 (ix2 r k))
        (fun k => s2 (ix2 r k)) wb (fun k d => wo (ix2 k d)) d := by
  pointwise [k0_pay2]
  simp only [h0, h1, h2]
  rfl

/-- The first residual connection, normalized. -/
theorem first_at (z : FVec Ideal S256x1024 .f32) (h : Vec Ideal S256x1024 .f32) (g b : Vec Ideal S1x1024 .f32) (r : Fin 256) (d : Fin 1024) :
    k0_pay3 (F := Ideal) z h g b (ix2 r d)
      = norm (residual (fun k => h (ix2 r k)) fun k => z (ix2 r k)) (fun k => g (ix2 0 k)) (fun k => b (ix2 0 k)) d := by
  pointwise [k0_pay3]
  rfl

/-- The second residual connection: the eleven pieces of the hidden units add up to the whole. -/
theorem second_at (z : FVec Ideal S256x1024 .f32) (h : Vec Ideal S256x1024 .f32) (g b : Vec Ideal S1x1024 .f32)
    (wi : Vec Ideal S1024x5632 .bf16) (wo : Vec Ideal S2816x1024 .bf16) (r : Fin 256) (d : Fin 1024) :
    k0_pay15 (F := Ideal) (k0_pay3 z h g b) (k0_pay4 z h g b)
      (k0_pay13 (k0_pay4 z h g b)
        (k0_pay11 (k0_pay4 z h g b)
          (k0_pay7 (k0_pay4 z h g b)
            (k0_pay5 z h g b (View.ld wi (Rect.unit ![0, 0] ![1024, 256] inb_S1024x5632_S1024x256_0_0))
              (View.ld wi (Rect.unit ![0, 2816] ![1024, 256] inb_S1024x5632_S1024x256_0_2816)))
            (k0_pay6 (View.ld wo (Rect.unit ![0, 0] ![256, 1024] inb_S2816x1024_S256x1024_0_0)))
            (constant S256x1024 .f32 0#32)
            (View.ld wi (Rect.unit ![0, 256] ![1024, 256] inb_S1024x5632_S1024x256_0_256))
            (View.ld wi (Rect.unit ![0, 3072] ![1024, 256] inb_S1024x5632_S1024x256_0_3072))
            (View.ld wo (Rect.unit ![256, 0] ![256, 1024] inb_S2816x1024_S256x1024_256_0))
            (View.ld wi (Rect.unit ![0, 512] ![1024, 256] inb_S1024x5632_S1024x256_0_512))
            (View.ld wi (Rect.unit ![0, 3328] ![1024, 256] inb_S1024x5632_S1024x256_0_3328))
            (View.ld wo (Rect.unit ![512, 0] ![256, 1024] inb_S2816x1024_S256x1024_512_0)))
          (k0_pay8 (k0_pay4 z h g b) (View.ld wi (Rect.unit ![0, 768] ![1024, 256] inb_S1024x5632_S1024x256_0_768)))
          (k0_pay9 (k0_pay4 z h g b) (View.ld wi (Rect.unit ![0, 3584] ![1024, 256] inb_S1024x5632_S1024x256_0_3584)))
          (k0_pay10 (k0_pay4 z h g b) (View.ld wi (Rect.unit ![0, 768] ![1024, 256] inb_S1024x5632_S1024x256_0_768)))
          (View.ld wo (Rect.unit ![768, 0] ![256, 1024] inb_S2816x1024_S256x1024_768_0))
          (View.ld wi (Rect.unit ![0, 1024] ![1024, 256] inb_S1024x5632_S1024x256_0_1024))
          (View.ld wi (Rect.unit ![0, 3840] ![1024, 256] inb_S1024x5632_S1024x256_0_3840))
          (View.ld wo (Rect.unit ![1024, 0] ![256, 1024] inb_S2816x1024_S256x1024_1024_0))
          (View.ld wi (Rect.unit ![0, 1280] ![1024, 256] inb_S1024x5632_S1024x256_0_1280))
          (View.ld wi (Rect.unit ![0, 4096] ![1024, 256] inb_S1024x5632_S1024x256_0_4096))
          (View.ld wo (Rect.unit ![1280, 0] ![256, 1024] inb_S2816x1024_S256x1024_1280_0)))
        (k0_pay12 (View.ld wi (Rect.unit ![0, 1536] ![1024, 256] inb_S1024x5632_S1024x256_0_1536)))
        (View.ld wi (Rect.unit ![0, 4352] ![1024, 256] inb_S1024x5632_S1024x256_0_4352))
        (View.ld wo (Rect.unit ![1536, 0] ![256, 1024] inb_S2816x1024_S256x1024_1536_0))
        (View.ld wi (Rect.unit ![0, 1792] ![1024, 256] inb_S1024x5632_S1024x256_0_1792))
        (View.ld wi (Rect.unit ![0, 4608] ![1024, 256] inb_S1024x5632_S1024x256_0_4608))
        (View.ld wo (Rect.unit ![1792, 0] ![256, 1024] inb_S2816x1024_S256x1024_1792_0)))
      (k0_pay14 (k0_pay4 z h g b) (View.ld wi (Rect.unit ![0, 2048] ![1024, 256] inb_S1024x5632_S1024x256_0_2048))
        (View.ld wi (Rect.unit ![0, 4864] ![1024, 256] inb_S1024x5632_S1024x256_0_4864)))
      (View.ld wo (Rect.unit ![2048, 0] ![256, 1024] inb_S2816x1024_S256x1024_2048_0))
      (View.ld wi (Rect.unit ![0, 2304] ![1024, 256] inb_S1024x5632_S1024x256_0_2304))
      (View.ld wi (Rect.unit ![0, 5120] ![1024, 256] inb_S1024x5632_S1024x256_0_5120))
      (View.ld wo (Rect.unit ![2304, 0] ![256, 1024] inb_S2816x1024_S256x1024_2304_0))
      (View.ld wi (Rect.unit ![0, 2560] ![1024, 256] inb_S1024x5632_S1024x256_0_2560))
      (View.ld wi (Rect.unit ![0, 5376] ![1024, 256] inb_S1024x5632_S1024x256_0_5376))
      (View.ld wo (Rect.unit ![2560, 0] ![256, 1024] inb_S2816x1024_S256x1024_2560_0)) (ix2 r d)
      = residual (fun k => k0_pay3 z h g b (ix2 r k))
          (feed (fun k => k0_pay3 z h g b (ix2 r k)) (fun k j => wi (ix2 k j)) fun j d => wo (ix2 j d)) d := by
  unfold FeedForward.residual feed
  rw [sum_pieces]
  pointwise [k0_pay15, k0_pay14, k0_pay13, k0_pay12, k0_pay11, k0_pay10, k0_pay9, k0_pay8, k0_pay7, k0_pay6, k0_pay5, k0_pay4]
  simp only [← Nat.add_assoc, Nat.reduceAdd]
  rfl

/-- The second scale, as the block reads it. -/
theorem gain_at (g : Vec Ideal S1x1024 .f32) (k : Fin 1024) : k0_pay16 (F := Ideal) g (ix2 0 k) = g (ix2 0 k) := by
  pointwise [k0_pay16]

section Rows

variable {n : ℕ} (Y0 Y1 Y2 : (⟨2, ![n, 512]⟩ : Shape).Idx → EReal) (P : (⟨2, ![n, 8832]⟩ : Shape).Idx → EReal)
  (H : (⟨2, ![n, 1024]⟩ : Shape).Idx → EReal) (wb : (⟨3, ![3, 512, 1024]⟩ : Shape).Idx → EReal)
  (wo : (⟨2, ![1024, 1024]⟩ : Shape).Idx → EReal) (g1 b1 : (⟨1, ![1024]⟩ : Shape).Idx → EReal)
  (wi : (⟨2, ![1024, 5632]⟩ : Shape).Idx → EReal) (wf : (⟨2, ![2816, 1024]⟩ : Shape).Idx → EReal)
  (g2 b2 : (⟨1, ![1024]⟩ : Shape).Idx → EReal) (row : Fin n)
  (y0 y1 y2 : Vec Ideal S256x512 .f32) (s0 s1 s2 h : Vec Ideal S256x1024 .f32) (w : Vec Ideal S3x512x1024 .bf16)
  (o : Vec Ideal S1024x1024 .bf16) (g b : Vec Ideal S1x1024 .f32) (i : Vec Ideal S1024x5632 .bf16) (f : Vec Ideal S2816x1024 .bf16)
  (g' b' : Vec Ideal S1x1024 .f32) (r : Fin 256)

/-- A row of the blocks of rows holds a row of the arrays, and the other blocks hold the weights. -/
structure Holds : Prop where
  branches : ∀ k, y0 (ix2 r k) = Y0 (ix2 row k) ∧ y1 (ix2 r k) = Y1 (ix2 row k) ∧ y2 (ix2 r k) = Y2 (ix2 row k)
  gates : ∀ k : Fin 1024, s0 (ix2 r k) = P (ix2 row ⟨4096 + k.val, by omega⟩) ∧ s1 (ix2 r k) = P (ix2 row ⟨5120 + k.val, by omega⟩)
    ∧ s2 (ix2 r k) = P (ix2 row ⟨6144 + k.val, by omega⟩)
  input : ∀ k, h (ix2 r k) = H (ix2 row k)
  wb : ∀ q k d, w (ix3 q k d) = wb (ix3 q k d)
  wo : ∀ k d, o (ix2 k d) = wo (ix2 k d)
  first : ∀ k, g (ix2 0 k) = g1 (ix1 k) ∧ b (ix2 0 k) = b1 (ix1 k)
  wi : ∀ k j, i (ix2 k j) = wi (ix2 k j)
  wf : ∀ j d, f (ix2 j d) = wf (ix2 j d)
  second : ∀ k, g' (ix2 0 k) = g2 (ix1 k) ∧ b' (ix2 0 k) = b2 (ix1 k)

/-- A block's mixed branches. -/
abbrev z : FVec Ideal S256x1024 .f32 :=
  k0_pay2 y0 (View.ld w (Rect.unit ![0, 0, 0] ![1, 512, 1024] inb_S3x512x1024_S1x512x1024_0_0_0)) s0
    y1 (View.ld w (Rect.unit ![1, 0, 0] ![1, 512, 1024] inb_S3x512x1024_S1x512x1024_1_0_0)) s1
    y2 (View.ld w (Rect.unit ![2, 0, 0] ![1, 512, 1024] inb_S3x512x1024_S1x512x1024_2_0_0)) s2 o

variable {Y0 Y1 Y2 P H wb wo g1 b1 wi wf g2 b2 row y0 y1 y2 s0 s1 s2 h w o g b i f g' b' r}
  (hb : Holds Y0 Y1 Y2 P H wb wo g1 b1 wi wf g2 b2 row y0 y1 y2 s0 s1 s2 h w o g b i f g' b' r)
include hb

/-- They are the rows' mixed branches. -/
theorem Holds.mixed (d : Fin 1024) : z y0 y1 y2 s0 s1 s2 w o (ix2 r d) = mixedRow Y0 Y1 Y2 P wb wo row d := by
  refine (mixed_at _ _ _ _ _ _ _ _ _ _ (fun q k d => wb (ix3 q k d)) ?_ ?_ ?_ r d).trans ?_
  · intro k d
    pointwise
    exact hb.wb 0 k d
  · intro k d
    pointwise
    exact hb.wb 1 k d
  · intro k d
    pointwise
    exact hb.wb 2 k d
  · simp only [fun k => (hb.branches k).1, fun k => (hb.branches k).2.1, fun k => (hb.branches k).2.2, fun k => (hb.gates k).1,
      fun k => (hb.gates k).2.1, fun k => (hb.gates k).2.2, hb.wo]
    rfl

/-- A block's rows after the first residual connection. -/
theorem Holds.firstRow (d : Fin 1024) :
    k0_pay3 (z y0 y1 y2 s0 s1 s2 w o) h g b (ix2 r d) = FeedForward.firstRow Y0 Y1 Y2 P H wb wo g1 b1 row d := by
  refine (first_at _ _ _ _ r d).trans ?_
  simp only [hb.input, hb.mixed, fun k => (hb.first k).1, fun k => (hb.first k).2]
  rfl

/-- A block's rows after the second residual connection. -/
theorem Holds.secondRow (d : Fin 1024) :
    residual (fun k => k0_pay3 (z y0 y1 y2 s0 s1 s2 w o) h g b (ix2 r k))
        (feed (fun k => k0_pay3 (z y0 y1 y2 s0 s1 s2 w o) h g b (ix2 r k)) (fun k j => i (ix2 k j)) fun j d => f (ix2 j d)) d
      = FeedForward.secondRow Y0 Y1 Y2 P H wb wo g1 b1 wi wf row d := by
  simp only [hb.firstRow, hb.wi, hb.wf]
  rfl

/-- A block's result, from its rows after the second residual connection. -/
theorem Holds.out (x : FVec Ideal S256x1024 .f32)
    (hx : ∀ d, x (ix2 r d) = residual (fun k => k0_pay3 (z y0 y1 y2 s0 s1 s2 w o) h g b (ix2 r k))
      (feed (fun k => k0_pay3 (z y0 y1 y2 s0 s1 s2 w o) h g b (ix2 r k)) (fun k j => i (ix2 k j)) fun j d => f (ix2 j d)) d)
    (d : Fin 1024) : k0_pay1 x (k0_pay16 g') b' (ix2 r d) = FeedForward.out Y0 Y1 Y2 P H wb wo g1 b1 wi wf g2 b2 (ix2 row d) :=
  (norm_at _ _ _ r d).trans (norm_congr (fun k => (hx k).trans (hb.secondRow k)) (fun k => (gain_at _ k).trans (hb.second k).1)
    (fun k => (hb.second k).2) d)

end Rows

end Cert.FfnIdeal.Block

end
-- ==== Proof.FfnReference.lean ====
/-
  What the reference of the merge and feed-forward part computes, element by element.
-/
module

public import proofs.«01_k».proof.Proof.Gen.FfnRefIdeal.Run
public import proofs.«01_k».proof.Proof.FfnSpec
public import Idealize.ShloMosaic.Lib.Tactic.CleanTypes

@[expose] public section

set_option maxRecDepth 16384

noncomputable section

open Idealize.ShloMosaic Idealize.ShloMosaic.TcCoe Idealize.SL.Sem Idealize.ShloMosaic.StableHlo
open Cert.FeedForward

namespace Cert.FfnRefIdeal.Elements

open Cert.FfnRefIdeal Cert.FfnRefIdeal.Gen Cert.FfnRefIdeal.Value

variable (V : Valuation τ sig (Elt Ideal))

abbrev Y0 : FVec Ideal S16384x512 .f32 := V (Proc.devRef .tc main_arg0)
abbrev Y1 : FVec Ideal S16384x512 .f32 := V (Proc.devRef .tc main_arg1)
abbrev Y2 : FVec Ideal S16384x512 .f32 := V (Proc.devRef .tc main_arg2)
abbrev P : FVec Ideal S16384x8832 .f32 := V (Proc.devRef .tc main_arg3)
abbrev H : FVec Ideal S16384x1024 .f32 := V (Proc.devRef .tc main_arg4)
abbrev wb : FVec Ideal S3x512x1024 .f32 := V (Proc.devRef .tc main_arg5)
abbrev wo : FVec Ideal S1024x1024 .f32 := V (Proc.devRef .tc main_arg6)
abbrev g1 : FVec Ideal S1024 .f32 := V (Proc.devRef .tc main_arg7)
abbrev b1 : FVec Ideal S1024 .f32 := V (Proc.devRef .tc main_arg8)
abbrev wi : FVec Ideal S1024x5632 .f32 := V (Proc.devRef .tc main_arg9)
abbrev wf : FVec Ideal S2816x1024 .f32 := V (Proc.devRef .tc main_arg10)
abbrev g2 : FVec Ideal S1024 .f32 := V (Proc.devRef .tc main_arg11)
abbrev b2 : FVec Ideal S1024 .f32 := V (Proc.devRef .tc main_arg12)

/-- A branch's gate is read from the branch's own columns of the projected input. -/
theorem gate_eq (t : Fin 16384) (j i : Fin 8832) (h : i.val = j.val) :
    Ideal.div 1 (1 + Ideal.exp (-(show EReal from V (Proc.devRef .tc main_arg3) (ix2 t i)))) = Ideal.logistic (P V (ix2 t j)) := by
  obtain rfl : i = j := Fin.ext h
  rfl

/-- The first residual connection, before its normalization. -/
theorem residual_at (t : Fin 16384) (d : Fin 1024) : res_main_v19 V (ix2 t d)
    = residual (fun k => H V (ix2 t k)) (mixedRow (Y0 V) (Y1 V) (Y2 V) (P V) (wb V) (wo V) t) d := by
  unfold res_main_v19
  clean_types
  pointwise
  unfold FeedForward.residual mixedRow mixed
  refine congrArg₂ (fun a b : EReal => a + b) rfl (Finset.sum_congr rfl fun x _ => congrArg₂ (fun a b : EReal => a * b) ?_ rfl)
  rw [Fin.sum_univ_three]
  refine congrArg₂ (· + ·) (congrArg₂ (· + ·) ?_ ?_) ?_
  · exact congrArg₂ (fun a b : EReal => a * b) (gate_eq V t ⟨4096 + x.val, by omega⟩ _ (by simp <;> omega)) (Finset.sum_congr rfl fun k _ => mul_comm (G := EReal) _ _)
  · exact congrArg₂ (fun a b : EReal => a * b) (gate_eq V t ⟨5120 + x.val, by omega⟩ _ (by simp <;> omega)) (Finset.sum_congr rfl fun k _ => mul_comm (G := EReal) _ _)
  · exact congrArg₂ (fun a b : EReal => a * b) (gate_eq V t ⟨6144 + x.val, by omega⟩ _ (by simp <;> omega)) (Finset.sum_congr rfl fun k _ => mul_comm (G := EReal) _ _)

/-- The deviation from the mean. -/
theorem centered_at (t : Fin 16384) (d : Fin 1024) : res_main_v25 V (ix2 t d) = centered (fun k => res_main_v19 V (ix2 t k)) d := by
  unfold res_main_v25
  clean_types
  pointwise
  rfl

/-- A row after the first residual connection. -/
theorem first_at (t : Fin 16384) (d : Fin 1024) : res_main_v41 V (ix2 t d)
    = firstRow (Y0 V) (Y1 V) (Y2 V) (P V) (H V) (wb V) (wo V) (g1 V) (b1 V) t d := by
  unfold res_main_v41
  clean_types
  pointwise
  simp only [centered_at, residual_at]
  rfl

/-- The second residual connection, before its normalization. -/
theorem second_at (t : Fin 16384) (d : Fin 1024) : res_main_v50 V (ix2 t d)
    = secondRow (Y0 V) (Y1 V) (Y2 V) (P V) (H V) (wb V) (wo V) (g1 V) (b1 V) (wi V) (wf V) t d := by
  unfold res_main_v50 res_main_v43 res_main_v42
  clean_types
  pointwise
  simp only [first_at]
  rfl

/-- The deviation from the mean. -/
theorem centered2_at (t : Fin 16384) (d : Fin 1024) : res_main_v56 V (ix2 t d) = centered (fun k => res_main_v50 V (ix2 t k)) d := by
  unfold res_main_v56
  clean_types
  pointwise
  rfl

/-- The result. -/
theorem out_eq : val2 V (Proc.devRef .tc main_v72) = out (Y0 V) (Y1 V) (Y2 V) (P V) (H V) (wb V) (wo V) (g1 V) (b1 V) (wi V) (wf V) (g2 V) (b2 V) := by
  rw [val2_main_v72]
  funext i
  clean_types
  idx_vars i
  pointwise
  simp only [centered2_at, second_at]
  rfl

end Cert.FfnRefIdeal.Elements

end
-- ==== Proof.FfnClaims.lean ====
/-
  The claims about the merge and feed-forward part, from the runs of the kernel and of the reference.
-/
module

public import proofs.«01_k».proof.Defs
public import proofs.«01_k».proof.Proof.Gen.Ffn.Frame
public import proofs.«01_k».proof.Proof.FfnArray
public import proofs.«01_k».proof.Proof.FfnReference
public import Idealize.ShloMosaic.Lib.Quiescent

@[expose] public section

noncomputable section

open Idealize.ShloMosaic Idealize.ShloMosaic.TcCoe Idealize.SL.Sem Idealize.ShloMosaic.StableHlo

namespace Cert.Proof.FfnClaims

/-- The kernel's run ends, its arguments are unchanged and its semaphores are at zero. -/
theorem frame : Cert.quiescent_Ffn := fun m ρ _ => Cert.Ffn.Gen.frame m ρ
/-- The same for the kernel over the extended reals. -/
theorem frameIdeal : Cert.quiescent_FfnIdeal := fun m ρ _ => Cert.FfnIdeal.Gen.frame m ρ
/-- The same for the reference. -/
theorem frameRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- No operation of the kernel was replaced by its idealization. -/
theorem preserves : Cert.preserves_Ffn_FfnIdeal := trivial

section Reference
open Cert.FfnRefIdeal Cert.FfnRefIdeal.Gen Cert.FfnRefIdeal.Value

/-- The reference's run ends, and the memory holds what its definitions compute from the arguments. -/
theorem reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72) = val2 (launchContents m c) (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (val2_main_v72 (launchContents m c)).symm, (h c).2⟩) (run (F := Ideal) m ρ)

end Reference

open Cert.FfnIdeal.Array in
/-- The kernel's results are the reference's, from arguments that agree. -/
theorem algebraic : Cert.algebraic_FfnIdeal_FfnRefIdeal := by
  intro m ρ m' ρ' _ hag
  have e : ∀ c : Dev Cert.FfnIdeal.nD, Cert.FfnRefIdeal.Elements.Y0 (launchContents m' c) = Y0 m c
      ∧ Cert.FfnRefIdeal.Elements.Y1 (launchContents m' c) = Y1 m c
      ∧ Cert.FfnRefIdeal.Elements.Y2 (launchContents m' c) = Y2 m c
      ∧ Cert.FfnRefIdeal.Elements.P (launchContents m' c) = P m c
      ∧ Cert.FfnRefIdeal.Elements.H (launchContents m' c) = H m c
      ∧ Cert.FfnRefIdeal.Elements.wb (launchContents m' c) = wb m c
      ∧ Cert.FfnRefIdeal.Elements.wo (launchContents m' c) = wo m c
      ∧ Cert.FfnRefIdeal.Elements.g1 (launchContents m' c) = g1 m c
      ∧ Cert.FfnRefIdeal.Elements.b1 (launchContents m' c) = b1 m c
      ∧ Cert.FfnRefIdeal.Elements.wi (launchContents m' c) = wi m c
      ∧ Cert.FfnRefIdeal.Elements.wf (launchContents m' c) = wf m c
      ∧ Cert.FfnRefIdeal.Elements.g2 (launchContents m' c) = g2 m c
      ∧ Cert.FfnRefIdeal.Elements.b2 (launchContents m' c) = b2 m c := hag
  refine ⟨fun c => (Cert.FfnIdeal.Gen.dats m 0 c).arrAt 15 Cert.FfnIdeal.cfg0.N,
    Cert.FfnIdeal.Value.run_blocks (F := Ideal) m ρ, ?_⟩
  refine (θ_run Cert.FfnRefIdeal.defs _ _).mono (fun _ h c => ?_) (reference m' ρ')
  obtain ⟨e0, e1, e2, e3, e4, e5, e6, e7, e8, e9, e10, e11, e12⟩ := e c
  obtain ⟨h0, hargs⟩ := h c
  refine ⟨?_, hargs⟩
  · beta_reduce
    rw [final m c, ← e0, ← e1, ← e2, ← e3, ← e4, ← e5, ← e6, ← e7, ← e8, ← e9, ← e10, ← e11, ← e12]
    exact h0.trans (Cert.FfnRefIdeal.Elements.out_eq _)

end Cert.Proof.FfnClaims

end
-- ==== Proof.ProjValue.lean ====
/-
  The input projection: what the kernel's result array holds, what the reference computes, and that they are equal.
-/
module

public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Projection

open Cert.ProjIdeal Cert.ProjIdeal.Gen

/-- The weight matrix with its columns in the kernel's order, the tail of each row zero. -/
def reordered (w : FVec Ideal S1024x8720 .f32) : FVec Ideal S1024x8832 .f32 :=
  concatenate S1024x8832 1 [⟨S1024x2048, extractStridedSlice S1024x2048 ![0, 0] w slices_S1024x8720_S1024x2048_0_0⟩,
    ⟨S1024x2048, extractStridedSlice S1024x2048 ![0, 3592] w slices_S1024x8720_S1024x2048_0_3592⟩,
    ⟨S1024x3072, extractStridedSlice S1024x3072 ![0, 5648] w slices_S1024x8720_S1024x3072_0_5648⟩,
    ⟨S1024x1536, extractStridedSlice S1024x1536 ![0, 2048] w slices_S1024x8720_S1024x1536_0_2048⟩,
    ⟨S1024x8, extractStridedSlice S1024x8 ![0, 3584] w slices_S1024x8720_S1024x8_0_3584⟩,
    ⟨S1024x8, extractStridedSlice S1024x8 ![0, 5640] w slices_S1024x8720_S1024x8_0_5640⟩,
    ⟨S1024x112, broadcastInDim S1024x112 ![] bcast_S_S1024x112 (constant (F := Ideal) S_ .f32 0x00000000#32)⟩]
    concatenates_S1024x2048_S1024x2048_S1024x3072_S1024x1536_S1024x8_S1024x8_S1024x112_S1024x8832_d1

/-- The product of the rows and the reordered weights, element by element. -/
def product (h : FVec Ideal S16384x1024 .f32) (w : FVec Ideal S1024x8720 .f32) : FVec Ideal S16384x8832 .f32 :=
  fun i => ∑ k : Fin 1024, h (ix2 (i 0) k) * reordered w (ix2 k (i 1))

variable (m : (ℓ : Loc nD τ sig) → Buf (Elt Ideal) ℓ) (ρ : Dev nD → PrngReg)

/-- The buffer the kernel reads its weights from holds the reordered weights. -/
theorem entry_weights (c : Dev nD) :
    V m c main_v8 = reordered (m ((c : Thread nD τ).loc main_arg1)) := by
  show StableHlo.after hostOps0 (fun b => m (c, b)) _ = _
  unfold hostOps0
  after_results
  all_goals rfl

/-- Each window's block index at a grid point, on both axes. -/
theorem idx : ∀ t : Fin cfg0.N, win0_0.index t 0 = t.val / 3 ∧ win0_0.index t 1 = 0 ∧ win0_1.index t 0 = 0
    ∧ win0_1.index t 1 = t.val % 3 ∧ win0_2.index t 0 = t.val / 3 ∧ win0_2.index t 1 = t.val % 3 :=
  (by decide +kernel : ∀ t : Fin grid0.N, win0_0.index t 0 = t.val / 3 ∧ win0_0.index t 1 = 0 ∧ win0_1.index t 0 = 0
    ∧ win0_1.index t 1 = t.val % 3 ∧ win0_2.index t 0 = t.val / 3 ∧ win0_2.index t 1 = t.val % 3)

/-- The result array holds the product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold product
  pointwise [k0_pay1]
  change @Eq EReal _ _
  refine Finset.sum_congr rfl fun k _ => ?_
  refine congrArg₂ (· * ·) ?_ ?_
  · blk_ext [iblk, V_main_arg0, idx t]
  · refine Eq.trans ?_ (congrFun (entry_weights m c) _)
    blk_ext [iblk, idx t]

/-- The reference's result is the same product: a column of a product is the product with that column, and with a
    zero column it is zero. -/
theorem reference (h : FVec Ideal S16384x1024 .f32) (w : FVec Ideal S1024x8720 .f32) :
    Cert.ProjRefIdeal.Read.val_main_v8 (F := Ideal) h w = product h w := by
  funext i
  idx_vars i
  unfold product reordered
  pointwise [Cert.ProjRefIdeal.Read.val_main_v8, Cert.ProjRefIdeal.Read.val_main_v0, Cert.ProjRefIdeal.Read.val_main_v1,
    Cert.ProjRefIdeal.Read.val_main_v2, Cert.ProjRefIdeal.Read.val_main_v3, Cert.ProjRefIdeal.Read.val_main_v4,
    Cert.ProjRefIdeal.Read.val_main_v5, Cert.ProjRefIdeal.Read.val_main_v6, Cert.ProjRefIdeal.Read.val_main_v7,
    Cert.ProjRefIdeal.Read.val_main_cst]
  split_ifs <;> simp

end Cert.ProjIdeal.Projection

end
-- ==== Proof.ProjClaims.lean ====
/-
  The claims about the input projection, from the runs of the kernel and of the reference.
-/
module

public import proofs.«01_k».proof.Defs
public import proofs.«01_k».proof.Proof.Gen.Proj.Frame
public import proofs.«01_k».proof.Proof.ProjValue
public import Idealize.ShloMosaic.Lib.Quiescent

@[expose] public section

noncomputable section

open Idealize.ShloMosaic Idealize.ShloMosaic.TcCoe Idealize.SL.Sem

namespace Cert.Proof.ProjClaims

/-- The kernel's run ends, its arguments are unchanged and its semaphores are at zero. -/
theorem frame : Cert.quiescent_Proj := fun m ρ _ => Cert.Proj.Gen.frame m ρ
/-- The same for the kernel over the extended reals. -/
theorem frameIdeal : Cert.quiescent_ProjIdeal := fun m ρ _ => Cert.ProjIdeal.Gen.frame m ρ
/-- The same for the reference. -/
theorem frameRef : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- No operation of the kernel was replaced by its idealization. -/
theorem preserves : Cert.preserves_Proj_ProjIdeal := trivial

/-- The kernel's result is the reference's, from arguments that agree. -/
theorem algebraic : Cert.algebraic_ProjIdeal_ProjRefIdeal := by
  intro m ρ m' ρ' _ hag
  refine ⟨fun c => Cert.ProjIdeal.Projection.product (m ((c.tc : Thread _ _).loc Cert.ProjIdeal.main_arg0))
    (m ((c.tc : Thread _ _).loc Cert.ProjIdeal.main_arg1)), ?_, ?_⟩
  · exact (θ_run Cert.ProjIdeal.defs _ _).mono
      (fun _ h c => ⟨(h c).1.trans (Cert.ProjIdeal.Projection.final m c), (h c).2⟩)
      (Cert.ProjIdeal.Value.run_blocks (F := Ideal) m ρ)
  · exact (θ_run Cert.ProjRefIdeal.defs _ _).mono
      (fun _ h c => ⟨(h c).1.trans (by
          rw [(hag c).1, (hag c).2]
          exact (Cert.ProjRefIdeal.Read.val_main_v8_eq _ _).trans (Cert.ProjIdeal.Projection.reference _ _)), (h c).2⟩)
      (Cert.ProjRefIdeal.Value.run (F := Ideal) m' ρ')

end Cert.Proof.ProjClaims

end
-- ==== Proof.Solve.lean ====
/-
  Forward substitution with a strictly lower triangular matrix of eight rows, and the same solution by the doubled
  inverse ((1 − a)(1 + a²))(1 + a⁴): equal where the matrix and the right-hand side are finite.
-/
module

public import Idealize.ShloMosaic.Lib.Pipeline.ValueKit
public import Mathlib.LinearAlgebra.Matrix.Notation
public import Mathlib.Tactic.NoncommRing

@[expose] public section

set_option maxRecDepth 16384

noncomputable section

namespace Cert.Solve

/-- A value that is neither infinity. -/
def IsReal (x : EReal) : Prop := ∃ r : ℝ, x = (r : EReal)

section Substitution

variable {R : Type} [Sub R] [Mul R]

/-- What is left of row `t` of the right-hand side once the first `n` solved rows are subtracted. -/
def rest (a : Fin 8 → Fin 8 → R) (r : Fin 8 → R) : ℕ → Fin 8 → R
  | 0, t => r t
  | n + 1, t => if h : n < 8 then rest a r n t - a t ⟨n, h⟩ * rest a r n ⟨n, h⟩ else rest a r n t

/-- Row `t` of the solution of `x + a x = r`, row after row. -/
def sol (a : Fin 8 → Fin 8 → R) (r : Fin 8 → R) (t : Fin 8) : R := rest a r t.val t

/-- Row `n` is subtracted with its own entry of the matrix. -/
theorem rest_succ (a : Fin 8 → Fin 8 → R) (r : Fin 8 → R) (n : ℕ) (h : n < 8) (t : Fin 8) :
    rest a r (n + 1) t = rest a r n t - a t ⟨n, h⟩ * sol a r ⟨n, h⟩ := dif_pos h

end Substitution

/-- The product of two square tables. -/
def mm (A B : Fin 8 → Fin 8 → EReal) (t s : Fin 8) : EReal := ∑ u, A t u * B u s
/-- The unit table. -/
def ident (t s : Fin 8) : EReal := if t = s then 1 else 0

/-- The inverse by doubling: ((1 − a)(1 + a²))(1 + a⁴). -/
def doubled (a : Fin 8 → Fin 8 → EReal) : Fin 8 → Fin 8 → EReal :=
  mm (mm (fun t s => ident t s - a t s) (fun t s => ident t s + mm a a t s)) (fun t s => ident t s + mm (mm a a) (mm a a) t s)

section Real

variable (A : Matrix (Fin 8) (Fin 8) ℝ) (hA : ∀ t s, t ≤ s → A t s = 0)

include hA in
/-- A power of a strictly lower triangular table vanishes as far below the diagonal as its exponent says. -/
theorem pow_low (n : ℕ) : ∀ t s : Fin 8, t.val < s.val + n → (A ^ n) t s = 0 := by
  induction n with
  | zero => intro t s h; simp [Matrix.one_apply, show t ≠ s by rintro rfl; omega]
  | succ n ih =>
    intro t s h
    rw [pow_succ, Matrix.mul_apply]
    refine Finset.sum_eq_zero fun u _ => ?_
    by_cases hu : u ≤ s
    · rw [hA u s hu, mul_zero]
    · rw [ih t u (by have := Fin.not_le.mp hu; have : s.val < u.val := this; omega), zero_mul]

include hA in
/-- The doubled inverse is the inverse. -/
theorem inv_mul : (((1 - A) * (1 + A * A)) * (1 + (A * A) * (A * A))) * (1 + A) = 1 := by
  have e : A ^ 8 = 0 := by
    ext t s
    exact pow_low A hA 8 t s (by omega)
  have : (((1 - A) * (1 + A * A)) * (1 + (A * A) * (A * A))) * (1 + A) = 1 - A ^ 8 := by noncomm_ring
  rw [this, e, sub_zero]

/-- What is left of a row is the row without the solved rows' parts. -/
theorem rest_eq (r : Fin 8 → ℝ) (t : Fin 8) (n : ℕ) (hn : n ≤ 8) :
    rest A r n t = r t - ∑ s : Fin 8, if s.val < n then A t s * sol A r s else 0 := by
  induction n with
  | zero => simp [rest]
  | succ n ih =>
    rw [rest_succ A r n (by omega), ih (by omega), sub_sub]
    congr 1
    have : ∀ s : Fin 8, (if s.val < n + 1 then A t s * sol A r s else 0)
        = (if s.val < n then A t s * sol A r s else 0) + (if s = ⟨n, by omega⟩ then A t s * sol A r s else 0) := by
      intro s
      by_cases h : s.val < n
      · rw [if_pos (by omega), if_pos h, if_neg (by rintro rfl; simp at h), add_zero]
      · by_cases h' : s.val = n
        · rw [if_pos (by omega), if_neg h, if_pos (Fin.ext h'), zero_add]
        · rw [if_neg (by omega), if_neg h, if_neg (fun e => h' (congrArg Fin.val e)), add_zero]
    simp only [this, Finset.sum_add_distrib, Finset.sum_ite_eq', Finset.sum_ite_eq, Finset.mem_univ, if_true]

include hA in
/-- The substitution solves the system. -/
theorem sol_solves (r : Fin 8 → ℝ) : r = (1 + A).mulVec (sol A r) := by
  funext t
  rw [Matrix.add_mulVec, Matrix.one_mulVec]
  have e := rest_eq A r t t.val (by omega)
  show r t = sol A r t + ∑ s, A t s * sol A r s
  rw [show sol A r t = rest A r t.val t from rfl, e]
  have : (∑ s : Fin 8, if s.val < t.val then A t s * sol A r s else 0) = ∑ s, A t s * sol A r s := by
    refine Finset.sum_congr rfl fun s _ => ?_
    by_cases h : s.val < t.val
    · rw [if_pos h]
    · rw [if_neg h, hA t s (by show t.val ≤ s.val; omega), zero_mul]
  rw [this]
  ring

include hA in
/-- The doubled inverse times the right-hand side is the substitution's solution. -/
theorem real_solve (r : Fin 8 → ℝ) :
    (((1 - A) * (1 + A * A)) * (1 + (A * A) * (A * A))).mulVec r = sol A r := by
  conv_lhs => rw [sol_solves A hA r]
  rw [Matrix.mulVec_mulVec, inv_mul A hA, Matrix.one_mulVec]

end Real

/-- A finite sum of reals in the extended reals. -/
theorem coe_sum {n : ℕ} (f : Fin n → ℝ) : ((∑ i, f i : ℝ) : EReal) = ∑ i, (f i : EReal) := by
  have : ∀ s : Finset (Fin n), ((∑ i ∈ s, f i : ℝ) : EReal) = ∑ i ∈ s, (f i : EReal) := by
    intro s
    induction s using Finset.induction_on with
    | empty => simp
    | insert a s ha ih => rw [Finset.sum_insert ha, Finset.sum_insert ha, EReal.coe_add, ih]
  exact this _

/-- Sums and products of finite values are finite. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ i, IsReal (f i)) : IsReal (∑ i, f i) := by
  choose r hr using h
  exact ⟨∑ i, r i, by rw [coe_sum]; exact Finset.sum_congr rfl fun i _ => hr i⟩

theorem coe_mm (A B : Matrix (Fin 8) (Fin 8) ℝ) :
    mm (fun t s => (A t s : EReal)) (fun t s => (B t s : EReal)) = fun t s => (((A * B) t s : ℝ) : EReal) := by
  funext t s
  rw [Matrix.mul_apply, coe_sum]
  simp only [EReal.coe_mul]
  rfl

theorem coe_one (t s : Fin 8) : ident t s = (((1 : Matrix (Fin 8) (Fin 8) ℝ) t s : ℝ) : EReal) := by
  unfold ident
  rw [Matrix.one_apply]
  by_cases h : t = s
  · rw [if_pos h, if_pos h, EReal.coe_one]
  · rw [if_neg h, if_neg h, EReal.coe_zero]

theorem coe_rest (A : Fin 8 → Fin 8 → ℝ) (r : Fin 8 → ℝ) (n : ℕ) (t : Fin 8) :
    rest (fun t s => (A t s : EReal)) (fun s => (r s : EReal)) n t = ((rest A r n t : ℝ) : EReal) := by
  induction n generalizing t with
  | zero => rfl
  | succ n ih =>
    by_cases h : n < 8
    · exact (dif_pos h).trans ((congrArg₂ (· - ·) (ih t) (congrArg _ (ih _))).trans
        ((congrArg (fun x : ℝ => (x : EReal)) (dif_pos h : rest A r (n + 1) t = _)).trans ((EReal.coe_sub _ _).trans (congrArg _ (EReal.coe_mul _ _)))).symm)
    · exact (dif_neg h).trans ((ih t).trans (congrArg (fun x : ℝ => (x : EReal)) (dif_neg h : rest A r (n + 1) t = _)).symm)

/-- The doubled inverse of a real table. -/
theorem coe_inv (A : Matrix (Fin 8) (Fin 8) ℝ) :
    doubled (fun t s => (A t s : EReal)) = fun t s => ((((1 - A) * (1 + A * A) * (1 + (A * A) * (A * A))) t s : ℝ) : EReal) := by
  have e1 : (fun t s => ident t s - (A t s : EReal)) = fun t s => (((1 - A) t s : ℝ) : EReal) := by
    funext t s
    rw [coe_one, ← EReal.coe_sub, Matrix.sub_apply]
  have e2 (B : Matrix (Fin 8) (Fin 8) ℝ) : (fun t s => ident t s + (B t s : EReal)) = fun t s => (((1 + B) t s : ℝ) : EReal) := by
    funext t s
    rw [coe_one, ← EReal.coe_add, Matrix.add_apply]
  unfold doubled
  rw [coe_mm A A, coe_mm, e1, e2, e2, coe_mm, coe_mm]

theorem coe_solve (A : Matrix (Fin 8) (Fin 8) ℝ) (r : Fin 8 → ℝ) (hA : ∀ t s, t ≤ s → A t s = 0) (t : Fin 8) :
    ∑ s, doubled (fun t s => (A t s : EReal)) t s * (r s : EReal) = sol (fun t s => (A t s : EReal)) (fun s => (r s : EReal)) t := by
  rw [coe_inv]
  simp only [← EReal.coe_mul, ← coe_sum]
  exact (congrArg (fun x : ℝ => (x : EReal)) (congrFun (real_solve A hA r) t)).trans (coe_rest A r t.val t).symm

/-- With a finite strictly lower triangular table and a finite right-hand side, the doubled inverse gives the solution of
    the substitution. -/
theorem doubled_solve (a : Fin 8 → Fin 8 → EReal) (r : Fin 8 → EReal) (ha : ∀ t s, IsReal (a t s)) (hr : ∀ s, IsReal (r s))
    (hl : ∀ t s, t ≤ s → a t s = 0) (t : Fin 8) : ∑ s, doubled a t s * r s = sol a r t := by
  choose A hA using ha
  choose r' hr' using hr
  obtain rfl : a = fun t s => (A t s : EReal) := funext fun t => funext fun s => hA t s
  obtain rfl : r = fun s => (r' s : EReal) := funext hr'
  exact coe_solve A r' (fun t s h => EReal.coe_eq_zero.mp (hl t s h)) t

end Cert.Solve

end
-- ==== Proof.GdnSpec.lean ====
/-
  The gated delta-rule recurrence of one head over a block of eight tokens, and its arrays, in plain mathematics.
-/
module

public import proofs.«01_k».proof.Proof.RunningSum
public import proofs.«01_k».proof.Proof.Solve

@[expose] public section

set_option maxRecDepth 16384

noncomputable section

open Idealize.ShloMosaic Idealize.ShloMosaic.TcCoe
open Cert.RunningSum Cert.Solve

namespace Cert.GdnHead

/-- What one head of one batch row enters the recurrence with: queries, keys and values of eight tokens as the convolution
    leaves them, the tokens' step sizes, the running sums of the log decays, and the carried state. -/
@[ext] structure Head where
  q : Fin 8 → Fin 128 → EReal
  k : Fin 8 → Fin 128 → EReal
  v : Fin 8 → Fin 128 → EReal
  beta : Fin 8 → EReal
  b : Fin 8 → EReal
  s0 : Fin 128 → Fin 128 → EReal

/-- The sigmoid-weighted value. -/
def silu (a : EReal) : EReal := a * Ideal.logistic a
/-- log(1 + eᵃ), written so that no exponential of a large number is taken. -/
def softplus (a : EReal) : EReal := max a 0 + Ideal.log1p (Ideal.exp (-(max a (-a))))
/-- A vector over its length. -/
def unit (x : Fin 128 → EReal) (i : Fin 128) : EReal :=
  x i * Ideal.rsqrt (∑ j, x j * x j + Ideal.ofBits .f32 0x358637BD#32)

namespace Head

variable (H : Head)

/-- The queries of length 1/√128. -/
def qn (t : Fin 8) (x : Fin 128) : EReal := unit (H.q t) x * Ideal.ofBits .f32 0x3DB504F3#32
/-- The keys of length one. -/
def kn (t : Fin 8) (x : Fin 128) : EReal := unit (H.k t) x
/-- What of token `s` token `t` must undo: the step size, the keys' product, the decay in between; nothing unless `s` is before `t`. -/
def a (t s : Fin 8) : EReal :=
  H.beta t * (∑ x, H.kn t x * H.kn s x) * (if s < t then Ideal.exp (H.b t - H.b s) else 0)
/-- The system's solution for the values. -/
def solV (t : Fin 8) (w : Fin 128) : EReal := sol H.a (fun s => H.v s w * H.beta s) t
/-- The system's solution for the decayed keys. -/
def solK (t : Fin 8) (x : Fin 128) : EReal := sol H.a (fun s => H.kn s x * (H.beta s * Ideal.exp (H.b s))) t
/-- What each token writes. -/
def newV (t : Fin 8) (w : Fin 128) : EReal := H.solV t w - ∑ x, H.solK t x * H.s0 x w
/-- The score of token `s` for token `t`. -/
def score (t s : Fin 8) : EReal :=
  (∑ x, H.qn t x * H.kn s x) * (if s ≤ t then Ideal.exp (H.b t - H.b s) else 0)
/-- The head's output before its norm: the carried state's part and the block's tokens' part. -/
def hidden (t : Fin 8) (w : Fin 128) : EReal :=
  ∑ x, H.qn t x * Ideal.exp (H.b t) * H.s0 x w + ∑ s, H.score t s * H.newV s w
/-- The head's output over its root mean square. -/
def normed (t : Fin 8) (w : Fin 128) : EReal :=
  H.hidden t w * Ideal.rsqrt (Ideal.div (∑ x, H.hidden t x * H.hidden t x) (Ideal.ofBits .f32 0x43000000#32)
    + Ideal.ofBits .f32 0x358637BD#32)
/-- The new state. -/
def sNew (x w : Fin 128) : EReal :=
  Ideal.exp (H.b 7) * H.s0 x w + ∑ s, H.kn s x * Ideal.exp (H.b 7 - H.b s) * H.newV s w

end Head

variable (P : (⟨2, ![1024, 8832]⟩ : Shape).Idx → EReal) (cw : (⟨2, ![4, 1536]⟩ : Shape).Idx → EReal)
  (al dt : (⟨1, ![4]⟩ : Shape).Idx → EReal) (g : (⟨1, ![512]⟩ : Shape).Idx → EReal)
  (st : (⟨4, ![128, 4, 128, 128]⟩ : Shape).Idx → EReal) (cv : (⟨3, ![128, 3, 1536]⟩ : Shape).Idx → EReal)

/-- Column `j` of token `t` of batch row `b` in the projected array. -/
def col (b : Fin 128) (t : Fin 8) (j : ℕ) (hj : j < 8832 := by omega) : EReal :=
  P (ix2 ⟨8 * b.val + t.val, by omega⟩ ⟨j, hj⟩)

/-- Row `u` of what the convolution of batch row `b` reads at channel `j`: three carried rows, then the eight tokens. -/
def read (b : Fin 128) (u : ℕ) (j : Fin 1536) (hu : u < 11 := by omega) : EReal :=
  if h : u < 3 then cv (ix3 b ⟨u, h⟩ j) else col P b ⟨u - 3, by omega⟩ (2048 + j.val)

/-- The convolution over four rows. -/
def conv (b : Fin 128) (t : Fin 8) (j : Fin 1536) : EReal :=
  read P cv b t.val j * cw (ix2 0 j) + read P cv b (t.val + 1) j * cw (ix2 1 j) + read P cv b (t.val + 2) j * cw (ix2 2 j)
    + read P cv b (t.val + 3) j * cw (ix2 3 j)

/-- The log decay of a token. -/
def logDecay (b : Fin 128) (h : Fin 4) (t : Fin 8) : EReal :=
  -(Ideal.exp (al (ix1 h))) * softplus (col P b t (8716 + h.val) + dt (ix1 h))

/-- The head `h` of batch row `b`, read off the arguments. -/
def head (b : Fin 128) (h : Fin 4) : Head where
  q t x := silu (conv P cw cv b t ⟨128 * h.val + x.val, by omega⟩)
  k t x := silu (conv P cw cv b t ⟨512 + (128 * h.val + x.val), by omega⟩)
  v t x := silu (conv P cw cv b t ⟨1024 + (128 * h.val + x.val), by omega⟩)
  beta t := Ideal.logistic (col P b t (8712 + h.val))
  b t := upTo (logDecay P al dt b h) t
  s0 x w := st (ix4 b h x w)

/-- The branch's output at token `t` of batch row `b`, lane `w` of head `h`: the normed head, the norm's gain and the
    output gate. -/
def outAt (b : Fin 128) (t : Fin 8) (h : Fin 4) (w : Fin 128) : EReal :=
  (head P cw al dt st cv b h).normed t w * g (ix1 ⟨128 * h.val + w.val, by omega⟩)
    * silu (col P b t (3584 + (128 * h.val + w.val)))

/-- The branch's output as an array. -/
def outY : (⟨2, ![1024, 512]⟩ : Shape).Idx → EReal := fun i =>
  outAt P cw al dt g st cv ⟨(i 0).val / 8, by have h : (i 0).val < 1024 := (i 0).isLt; omega⟩
    ⟨(i 0).val % 8, by omega⟩ ⟨(i 1).val / 128, by have h : (i 1).val < 512 := (i 1).isLt; omega⟩ ⟨(i 1).val % 128, by omega⟩

/-- The new states as an array. -/
def outS : (⟨4, ![128, 4, 128, 128]⟩ : Shape).Idx → EReal := fun i => (head P cw al dt st cv (i 0) (i 1)).sNew (i 2) (i 3)

/-- The rows the next block's convolution starts with: the last three tokens' channels. -/
def outC : (⟨3, ![128, 3, 1536]⟩ : Shape).Idx → EReal := fun i =>
  col P (i 0) ⟨5 + (i 1).val, by have h : (i 1).val < 3 := (i 1).isLt; omega⟩ (2048 + (i 2).val)
    (by have h : (i 2).val < 1536 := (i 2).isLt; omega)

end Cert.GdnHead

end
-- ==== Proof.GdnBlock.lean ====
/-
  What one head of the delta rule kernel's block computes: the head of GdnSpec, from the head's vectors.
-/
module

public import proofs.«01_k».proof.Proof.Gen.GdnIdeal.Value
public import proofs.«01_k».proof.Proof.GdnSpec

@[expose] public section

set_option maxRecDepth 16384

noncomputable section

open Idealize.ShloMosaic Idealize.ShloMosaic.TcCoe Idealize.SL.Sem
open Cert.GdnHead Cert.RunningSum Cert.Solve

namespace Cert.GdnIdeal.Block

open Cert.GdnIdeal Cert.GdnIdeal.Gen

theorem select_ite {α : Type} (p : Prop) [Decidable p] (a b : α) :
    Scalar.select (if p then 1#1 else 0#1) a b = if p then a else b := by
  by_cases h : p <;> simp [h, Scalar.select]

/-- The conversion of a word is its signed value. -/
theorem sitofp_word (w : BitVec 32) : (FloatOps.sitofp (F := Ideal) .f32 w : EReal) = ((w.toInt : ℝ) : EReal) := rfl

/-- The masks of the past with and without the present, and of the present. -/
theorem past_at (t s : Fin 8) : k0_pay14 (ix2 t s) = if s ≤ t then 1#1 else 0#1 := by
  pointwise [k0_pay14]
  revert t s
  decide

theorem before_at (t s : Fin 8) : k0_pay15 (ix2 t s) = if s < t then 1#1 else 0#1 := by
  pointwise [k0_pay15]
  revert t s
  decide

theorem same_at (t s : Fin 8) : k0_pay16 (ix2 t s) = if t = s then 1#1 else 0#1 := by
  pointwise [k0_pay16]
  revert t s
  decide

/-- The tokens' numbers along each axis. -/
abbrev rows : IVec S8x8 32 := iota .tc S8x8 32 [0] iota_S8x8_d0_w32
abbrev cols : IVec S8x8 32 := iota .tc S8x8 32 [1] iota_S8x8_d1_w32
/-- Zeros where a mask is off. -/
abbrev zeros : FVec Ideal S8x8 .f32 := broadcast S8x8 (Scalar.ofBits .f32 0x00000000#32)
/-- The product of two square tables. -/
abbrev sq (x y : FVec Ideal S8x8 .f32) : FVec Ideal S8x8 .f32 :=
  matmul dot_S8x8_S8x8_S8x8_1_0_0_1_n_n (some .fp32) x y (constant S8x8 .f32 0x00000000#32)
/-- The products of two lists of vectors. -/
abbrev prods (x y : FVec Ideal S8x128 .f32) : FVec Ideal S8x8 .f32 :=
  matmul dot_S8x128_S8x128_S8x8_1_1_0_0_n_n none (truncf .bf16 x bitsLt_bf16_f32) (truncf .bf16 y bitsLt_bf16_f32) (constant S8x8 .f32 0x00000000#32)
/-- A list of vectors through the state. -/
abbrev through (x : FVec Ideal S8x128 .f32) (S : FVec Ideal S128x128 .f32) : FVec Ideal S8x128 .f32 :=
  matmul dot_S8x128_S128x128_S8x128_1_0_0_1_n_n none (truncf .bf16 x bitsLt_bf16_f32) (truncf .bf16 S bitsLt_bf16_f32) (constant S8x128 .f32 0x00000000#32)

/-- One head's vectors, read as the head they hold. -/
def vecs (q k v : FVec Ideal S8x128 .f32) (be bb : FVec Ideal S8x1 .f32) (S : FVec Ideal S128x128 .f32) : Head where
  q t x := q (ix2 t x)
  k t x := k (ix2 t x)
  v t x := v (ix2 t x)
  beta t := be (ix2 t 0)
  b t := bb (ix2 t 0)
  s0 x w := S (ix2 x w)

variable (q k v : FVec Ideal S8x128 .f32) (be bb : FVec Ideal S8x1 .f32) (S : FVec Ideal S128x128 .f32)

/-- The queries and keys. -/
theorem qn_at (t : Fin 8) (x : Fin 128) : k0_pay37 (F := Ideal) q (ix2 t x) = (vecs q k v be bb S).qn t x := by
  pointwise [k0_pay37]
  rfl

theorem kn_at (t : Fin 8) (x : Fin 128) : k0_pay38 (F := Ideal) k (ix2 t x) = (vecs q k v be bb S).kn t x := by
  pointwise [k0_pay38]
  rfl

/-- The differences of the running sums. -/
abbrev diff : FVec Ideal S8x8 .f32 := k0_pay42 k0_pay16 bb

theorem diff_at (t s : Fin 8) : diff bb (ix2 t s) = bb (ix2 t 0) - bb (ix2 s 0) := by
  pointwise [k0_pay42]
  refine congrArg (fun z : EReal => bb (ix2 t 0) - z) ?_
  simp only [same_at, select_ite]
  exact (Finset.sum_ite_eq' Finset.univ s fun u => (bb (ix2 u 0) : EReal)).trans (if_pos (Finset.mem_univ _))

/-- The system's matrix. -/
def amat (kn : FVec Ideal S8x128 .f32) : FVec Ideal S8x8 .f32 :=
  mulf (mulf (broadcastTo S8x8 be broadcasts_S8x1_S8x8) (prods kn kn))
    (select k0_pay15 (exp (select k0_pay15 (diff bb) zeros)) zeros)

theorem amat_at (t s : Fin 8) : amat be bb (k0_pay38 k) (ix2 t s) = (vecs q k v be bb S).a t s := by
  pointwise [amat]
  simp only [before_at, select_ite, diff_at, kn_at q k v be bb S]
  unfold Head.a
  by_cases h : s < t
  · simp only [if_pos h]
    rfl
  · simp only [if_neg h]
    exact (mul_zero (M₀ := EReal) _).symm

/-- The unit table. -/
def eye : FVec Ideal S8x8 .f32 := sitofp .f32 (extui 32 k0_pay16 natLt_1_32)

theorem eye_at (t s : Fin 8) : eye (ix2 t s) = ident t s := by
  pointwise [eye]
  rw [same_at]
  unfold ident
  by_cases h : t = s
  · rw [if_pos h, if_pos h]
    simp [sitofp_word]
  · rw [if_neg h, if_neg h]
    simp [sitofp_word]

/-- The doubled inverse. -/
def inverse (a : FVec Ideal S8x8 .f32) : FVec Ideal S8x8 .f32 :=
  sq (sq (subf eye a) (addf eye (sq a a))) (addf eye (sq (sq a a) (sq a a)))

theorem inverse_at {a : FVec Ideal S8x8 .f32} {a' : Fin 8 → Fin 8 → EReal} (ha : ∀ t s, a (ix2 t s) = a' t s) (t s : Fin 8) :
    inverse a (ix2 t s) = doubled a' t s := by
  have e (x y : FVec Ideal S8x8 .f32) (t s : Fin 8) : sq x y (ix2 t s) = ∑ u, x (ix2 t u) * y (ix2 u s) := by pointwise [sq]
  unfold inverse doubled mm
  rw [e]
  refine Finset.sum_congr rfl fun u _ => congrArg₂ (fun a b : EReal => a * b) ?_ ?_
  · rw [e]
    refine Finset.sum_congr rfl fun r _ => congrArg₂ (fun a b : EReal => a * b) ?_ ?_
    · exact congrArg₂ (fun a b : EReal => a - b) (eye_at _ _) (ha _ _)
    · refine congrArg₂ (fun a b : EReal => a + b) (eye_at _ _) ((e _ _ _ _).trans ?_)
      simp only [ha]
  · refine congrArg₂ (fun a b : EReal => a + b) (eye_at _ _) ((e _ _ _ _).trans ?_)
    simp only [e, ha]

/-- The right-hand side: the values and the decayed keys, side by side. -/
def rhs (kn : FVec Ideal S8x128 .f32) : FVec Ideal S8x256 .f32 :=
  concatenate S8x256 1 [⟨S8x128, mulf v (broadcastTo S8x128 be broadcasts_S8x1_S8x128)⟩,
    ⟨S8x128, mulf kn (broadcastTo S8x128 (mulf be (exp bb)) broadcasts_S8x1_S8x128)⟩] concatenates_S8x128_S8x128_S8x256_d1

theorem rhs_v (kn : FVec Ideal S8x128 .f32) (s : Fin 8) (w : Fin 128) (hj : w.val < 256) :
    rhs v be bb kn (ix2 s ⟨w.val, hj⟩) = v (ix2 s w) * be (ix2 s 0) := by
  pointwise [rhs]

theorem rhs_k (kn : FVec Ideal S8x128 .f32) (s : Fin 8) (x : Fin 128) (hj : 128 + x.val < 256) :
    rhs v be bb kn (ix2 s ⟨128 + x.val, hj⟩) = kn (ix2 s x) * (be (ix2 s 0) * Ideal.exp (bb (ix2 s 0))) := by
  pointwise [rhs]

/-- The system solved for the whole right-hand side. -/
def solved (kn : FVec Ideal S8x128 .f32) : FVec Ideal S8x256 .f32 :=
  matmul dot_S8x8_S8x256_S8x256_1_0_0_1_n_n (some .fp32) (inverse (amat be bb kn)) (rhs v be bb kn) (constant S8x256 .f32 0x00000000#32)

/-- What the tokens write. -/
def newVec (kn : FVec Ideal S8x128 .f32) : FVec Ideal S8x128 .f32 :=
  subf (extractStridedSlice S8x128 ![0, 0] (solved v be bb kn) slices_S8x256_o0_0_S8x128)
    (through (extractStridedSlice S8x128 ![0, 128] (solved v be bb kn) slices_S8x256_o0_128_S8x128) S)

/-- That the doubled inverse solves a head's two systems. -/
structure Solves (H : Head) : Prop where
  v : ∀ t w, ∑ s, doubled H.a t s * (H.v s w * H.beta s) = H.solV t w
  k : ∀ t x, ∑ s, doubled H.a t s * (H.kn s x * (H.beta s * Ideal.exp (H.b s))) = H.solK t x

theorem newVec_at (hs : Solves (vecs q k v be bb S)) (t : Fin 8) (w : Fin 128) :
    newVec v be bb S (k0_pay38 k) (ix2 t w) = (vecs q k v be bb S).newV t w := by
  have e (j : Fin 256) : solved v be bb (k0_pay38 k) (ix2 t j) = ∑ s, doubled (vecs q k v be bb S).a t s * rhs v be bb (k0_pay38 k) (ix2 s j) := by
    pointwise [solved]
    simp only [inverse_at (amat_at q k v be bb S)]
  unfold Head.newV
  pointwise [newVec]
  refine congrArg₂ (fun a b : EReal => a - b) ?_ ?_
  · rw [← hs.v, e]
    simp only [rhs_v]
    rfl
  · change @Eq EReal _ _
    refine Finset.sum_congr rfl fun x _ => congrArg (fun z : EReal => z * S (ix2 x w)) ?_
    rw [← hs.k, e]
    simp only [rhs_k, kn_at q k v be bb S]
    rfl

/-- The head's output before its norm. -/
def output (qn kn nv : FVec Ideal S8x128 .f32) : FVec Ideal S8x128 .f32 :=
  addf (through (mulf qn (broadcastTo S8x128 (exp bb) broadcasts_S8x1_S8x128)) S)
    (matmul dot_S8x8_S8x128_S8x128_1_0_0_1_n_n none
      (truncf .bf16 (mulf (prods qn kn) (select k0_pay14 (exp (select k0_pay14 (diff bb) zeros)) zeros)) bitsLt_bf16_f32)
      (truncf .bf16 nv bitsLt_bf16_f32) (constant S8x128 .f32 0x00000000#32))

theorem output_at (hs : Solves (vecs q k v be bb S)) (t : Fin 8) (w : Fin 128) :
    output bb S (k0_pay37 q) (k0_pay38 k) (newVec v be bb S (k0_pay38 k)) (ix2 t w) = (vecs q k v be bb S).hidden t w := by
  unfold Head.hidden
  pointwise [output]
  simp only [past_at, select_ite, diff_at, qn_at q k v be bb S, kn_at q k v be bb S, newVec_at q k v be bb S hs]
  refine congrArg₂ (fun a b : EReal => a + b) rfl ?_
  change @Eq EReal _ _
  refine Finset.sum_congr rfl fun s _ => ?_
  unfold Head.score
  by_cases h : s ≤ t
  · simp only [if_pos h]
    rfl
  · simp only [if_neg h]
    rw [mul_zero (M₀ := EReal), zero_mul (M₀ := EReal)]

/-- What the new state's matrix holds. -/
theorem state_at (hs : Solves (vecs q k v be bb S)) (x w : Fin 128) :
    k0_pay47 (k0_pay38 k) bb S (newVec v be bb S (k0_pay38 k)) (ix3 0 x w) = (vecs q k v be bb S).sNew x w := by
  unfold Head.sNew
  pointwise [k0_pay47]
  simp only [kn_at q k v be bb S, newVec_at q k v be bb S hs]
  rfl

/-- A head's output, from its output before the norm, the norm's gain and the output gate. -/
def gated (o : ℕ) (ho : S8x512.Slices ![0, o] S8x128) (z : FVec Ideal S8x512 .f32) (b : FVec Ideal S8x128 .f32) (g : FVec Ideal S1x128 .f32) :
    FVec Ideal S8x128 .f32 :=
  mulf (mulf (mulf b (broadcastTo S8x128 (rsqrt (addf (divf
      (shapeCast S8x1 (multiReduction .add [1] S8 (mulf b b) 0x00000000#32 reduces_S8x128_S8 (.inl rfl) rfl) shapeCasts_S8_S8x1)
      (broadcast S8x1 (Scalar.ofBits .f32 0x43000000#32))) (broadcast S8x1 (Scalar.ofBits .f32 0x358637BD#32)))) broadcasts_S8x1_S8x128))
    (broadcastTo S8x128 (shapeCast S1x128 g shapeCasts_S1x128_S1x128) broadcasts_S1x128_S8x128))
    (mulf (extractStridedSlice S8x128 ![0, o] z ho) (logistic (extractStridedSlice S8x128 ![0, o] z ho)))

theorem gated_at (o : ℕ) (ho : S8x512.Slices ![0, o] S8x128) (z : FVec Ideal S8x512 .f32) (b : FVec Ideal S8x128 .f32) (g : FVec Ideal S1x128 .f32)
    (s : Fin 8) (w : Fin 128) (hj : o + w.val < 512) :
    gated o ho z b g (ix2 s w) = b (ix2 s w) * Ideal.rsqrt (Ideal.div (∑ x, b (ix2 s x) * b (ix2 s x)) (Ideal.ofBits .f32 0x43000000#32)
      + Ideal.ofBits .f32 0x358637BD#32) * g (ix2 0 w) * silu (z (ix2 s ⟨o + w.val, hj⟩)) := by
  pointwise [gated]
  rfl

end Cert.GdnIdeal.Block

end
-- ==== Proof.GdnFinite.lean ====
/-
  Which of the delta rule's values are finite: the matrix and the decayed keys always, the values where what their
  convolution reads is finite.
-/
module

public import proofs.«01_k».proof.Proof.GdnSpec

@[expose] public section

set_option maxRecDepth 16384

noncomputable section

open Idealize.ShloMosaic Idealize.ShloMosaic.TcCoe
open Cert.RunningSum Cert.Solve

namespace Cert.GdnHead

theorem isReal_coe (r : ℝ) : IsReal (r : EReal) := ⟨r, rfl⟩
theorem isReal_zero : IsReal 0 := ⟨0, rfl⟩

theorem isReal_of_ne {x : EReal} (h0 : x ≠ ⊥) (h1 : x ≠ ⊤) : IsReal x := ⟨x.toReal, (EReal.coe_toReal h1 h0).symm⟩

/-- An exponential is not negative. -/
theorem exp_nonneg (x : EReal) : 0 ≤ Ideal.exp x := by
  induction x with
  | bot => exact le_refl _
  | top => exact le_top
  | coe r => exact EReal.coe_nonneg.mpr (Real.exp_pos r).le

/-- The exponential of anything but ∞ is finite. -/
theorem isReal_exp {x : EReal} (h : x ≠ ⊤) : IsReal (Ideal.exp x) := by
  induction x with
  | bot => exact isReal_zero
  | top => exact absurd rfl h
  | coe r => exact isReal_coe _

/-- A sigmoid is finite. -/
theorem isReal_logistic (x : EReal) : IsReal (Ideal.logistic x) := by
  have key : ∀ y : EReal, 0 ≤ y → IsReal (Ideal.div 1 (1 + y)) := by
    intro y hy
    unfold Ideal.div
    induction y with
    | bot => exact absurd hy (by simp)
    | top =>
      rw [EReal.add_top_of_ne_bot (by exact EReal.coe_ne_bot 1), if_neg EReal.top_ne_zero, EReal.inv_top, mul_zero]
      exact isReal_zero
    | coe r =>
      have hr : (0 : ℝ) ≤ r := EReal.coe_nonneg.mp hy
      have e : (1 : EReal) + (r : EReal) = ((1 + r : ℝ) : EReal) := (EReal.coe_add 1 r).symm
      rw [e, if_neg (fun h => by have := EReal.coe_eq_zero.mp h; linarith), one_mul]
      exact ⟨(1 + r)⁻¹, (EReal.coe_inv _).symm⟩
  exact key _ (exp_nonneg _)

theorem isReal_silu {x : EReal} (h : IsReal x) : IsReal (silu x) := h.mul (isReal_logistic x)

/-- The norm's small constant is positive and finite. -/
theorem eps_pos : ∃ r : ℝ, 0 < r ∧ Ideal.ofBits .f32 0x358637BD#32 = (r : EReal) := by
  refine ⟨_, ?_, by simp only [Ideal.ofBits, Ideal.ieee]; simp [-EReal.coe_mul]; rfl⟩
  positivity

theorem mul_self_nonneg (x : EReal) : 0 ≤ x * x := by
  induction x with
  | bot => simp
  | top => simp
  | coe r => exact EReal.coe_nonneg.mpr (_root_.mul_self_nonneg r)

/-- A vector over its length is finite, whatever the vector. -/
theorem isReal_unit (x : Fin 128 → EReal) (i : Fin 128) : IsReal (unit x i) := by
  unfold unit
  obtain ⟨e, he, e'⟩ := eps_pos
  rw [e']
  have hn : 0 ≤ ∑ j, x j * x j := Finset.sum_nonneg fun j _ => mul_self_nonneg (x j)
  generalize hs : (∑ j, x j * x j) = s at hn
  induction s with
  | bot => exact absurd hn (by simp)
  | top =>
    rw [EReal.top_add_coe]
    exact ⟨0, mul_zero (M₀ := EReal) _⟩
  | coe r =>
    have hr : (0 : ℝ) ≤ r := EReal.coe_nonneg.mp hn
    have hle : x i * x i ≤ (r : EReal) := hs ▸ Finset.single_le_sum (f := fun j => x j * x j) (fun j _ => mul_self_nonneg (x j)) (Finset.mem_univ i)
    have hx : IsReal (x i) := by
      generalize x i = z at hle
      induction z with
      | bot => simp at hle
      | top => simp at hle
      | coe z => exact isReal_coe z
    refine hx.mul ?_
    rw [← EReal.coe_add]
    show IsReal (if r + e < 0 then ⊥ else if r + e = 0 then ⊤ else ((Real.sqrt (r + e))⁻¹ : ℝ))
    rw [if_neg (by linarith), if_neg (by linarith)]
    exact isReal_coe _

/-- log(1 + eᵃ) is not negative. -/
theorem softplus_nonneg (a : EReal) : 0 ≤ softplus a := by
  have key : ∀ y : EReal, 0 ≤ y → 0 ≤ Ideal.log (1 + y) := by
    intro y hy
    induction y with
    | bot => exact absurd hy (by simp)
    | top => rw [EReal.add_top_of_ne_bot (by exact EReal.coe_ne_bot 1)]; exact le_top
    | coe r =>
      have hr : (0 : ℝ) ≤ r := EReal.coe_nonneg.mp hy
      rw [show (1 : EReal) + (r : EReal) = ((1 + r : ℝ) : EReal) from (EReal.coe_add 1 r).symm]
      show 0 ≤ (if 1 + r ≤ 0 then ⊥ else (Real.log (1 + r) : EReal))
      rw [if_neg (by linarith)]
      exact EReal.coe_nonneg.mpr (Real.log_nonneg (by linarith))
  exact add_nonneg (le_max_right _ _) (key _ (exp_nonneg _))

/-- A running sum of terms that are not positive is not positive, and falls. -/
theorem upTo_nonpos {f : Fin 8 → EReal} (hf : ∀ s, f s ≤ 0) (t : Fin 8) : upTo f t ≤ 0 :=
  Finset.sum_nonpos fun s _ => by split <;> simp [hf]

theorem upTo_anti {f : Fin 8 → EReal} (hf : ∀ s, f s ≤ 0) {t s : Fin 8} (h : s ≤ t) : upTo f t ≤ upTo f s := by
  refine Finset.sum_le_sum fun r _ => ?_
  by_cases h1 : r ≤ s
  · rw [if_pos h1, if_pos (h1.trans h)]
  · rw [if_neg h1]
    split
    · exact hf r
    · exact le_refl _

theorem sub_ne_top {x y : EReal} (hx : x ≤ 0) (h : x ≤ y) : x - y ≠ ⊤ := by
  induction x with
  | bot => rw [EReal.bot_sub]; exact bot_ne_top
  | top => simp at hx
  | coe r =>
    induction y with
    | bot => simp at h
    | top => rw [EReal.sub_top]; exact bot_ne_top
    | coe s => rw [← EReal.coe_sub]; exact EReal.coe_ne_top _

section

variable (P : (⟨2, ![1024, 8832]⟩ : Shape).Idx → EReal) (cw : (⟨2, ![4, 1536]⟩ : Shape).Idx → EReal)
  (al dt : (⟨1, ![4]⟩ : Shape).Idx → EReal)
  (st : (⟨4, ![128, 4, 128, 128]⟩ : Shape).Idx → EReal) (cv : (⟨3, ![128, 3, 1536]⟩ : Shape).Idx → EReal)

/-- A log decay is not positive. -/
theorem logDecay_nonpos (b : Fin 128) (h : Fin 4) (t : Fin 8) : logDecay P al dt b h t ≤ 0 := by
  unfold logDecay
  rw [EReal.neg_mul]
  exact EReal.neg_le_zero.mpr (mul_nonneg (exp_nonneg _) (softplus_nonneg _))

variable (b : Fin 128) (h : Fin 4)

/-- The matrix of the system is finite. -/
theorem isReal_a (t s : Fin 8) : IsReal ((head P cw al dt st cv b h).a t s) := by
  unfold Head.a
  refine ((isReal_logistic _).mul (IsReal.sum fun x => (isReal_unit _ x).mul (isReal_unit _ x))).mul ?_
  by_cases hs : s < t
  · rw [if_pos hs]
    exact isReal_exp (sub_ne_top (upTo_nonpos (logDecay_nonpos P al dt b h) t) (upTo_anti (logDecay_nonpos P al dt b h) hs.le))
  · rw [if_neg hs]
    exact isReal_zero

/-- The matrix of the system is strictly lower triangular. -/
theorem a_low (H : Head) (t s : Fin 8) (hs : t ≤ s) : H.a t s = 0 := by
  unfold Head.a
  rw [if_neg (not_lt.mpr hs)]
  exact mul_zero (M₀ := EReal) _

/-- The decayed keys are finite. -/
theorem isReal_key (s : Fin 8) (x : Fin 128) :
    IsReal ((head P cw al dt st cv b h).kn s x * ((head P cw al dt st cv b h).beta s * Ideal.exp ((head P cw al dt st cv b h).b s))) :=
  (isReal_unit _ x).mul ((isReal_logistic _).mul (isReal_exp (ne_of_lt (lt_of_le_of_lt (upTo_nonpos (logDecay_nonpos P al dt b h) s) EReal.zero_lt_top))))

/-- The values' part of the arguments is finite. -/
structure Finite : Prop where
  proj : ∀ (b : Fin 128) (t : Fin 8) (j : ℕ) (hj : j < 512), IsReal (col P b t (3072 + j))
  weight : ∀ (i : Fin 4) (j : ℕ) (hj : j < 512), IsReal (cw (ix2 i ⟨1024 + j, by omega⟩))
  carried : ∀ (b : Fin 128) (i : Fin 3) (j : ℕ) (hj : j < 512), IsReal (cv (ix3 b i ⟨1024 + j, by omega⟩))

variable {P cw cv} in
/-- Then the values times the step sizes are finite. -/
theorem isReal_value (hf : Finite P cw cv) (s : Fin 8) (w : Fin 128) :
    IsReal ((head P cw al dt st cv b h).v s w * (head P cw al dt st cv b h).beta s) := by
  have hr : ∀ (u : ℕ) (hu : u < 11) (j : ℕ) (hj : j < 512), IsReal (read P cv b u ⟨1024 + j, by omega⟩ hu) := by
    intro u hu j hj
    unfold read
    by_cases h3 : u < 3
    · rw [dif_pos h3]
      exact hf.carried b _ j hj
    · rw [dif_neg h3]
      have e := hf.proj b ⟨u - 3, by omega⟩ j hj
      simpa only [col, ← Nat.add_assoc] using e
  refine (isReal_silu ?_).mul (isReal_logistic _)
  unfold conv
  have hj : 128 * h.val + w.val < 512 := by omega
  exact ((((hr _ _ _ hj).mul (hf.weight 0 _ hj)).add ((hr _ _ _ hj).mul (hf.weight 1 _ hj))).add ((hr _ _ _ hj).mul (hf.weight 2 _ hj))).add
    ((hr _ _ _ hj).mul (hf.weight 3 _ hj))

variable {P cw cv} in
/-- The doubled inverse gives the values' solution where the values are finite. -/
theorem solV_eq (hf : Finite P cw cv) (t : Fin 8) (w : Fin 128) :
    ∑ s, doubled (head P cw al dt st cv b h).a t s * ((head P cw al dt st cv b h).v s w * (head P cw al dt st cv b h).beta s)
      = (head P cw al dt st cv b h).solV t w :=
  doubled_solve _ _ (isReal_a P cw al dt st cv b h) (fun s => isReal_value al dt st b h hf s w) (a_low _) t

/-- The doubled inverse gives the decayed keys' solution. -/
theorem solK_eq (t : Fin 8) (x : Fin 128) :
    ∑ s, doubled (head P cw al dt st cv b h).a t s * ((head P cw al dt st cv b h).kn s x * ((head P cw al dt st cv b h).beta s * Ideal.exp ((head P cw al dt st cv b h).b s)))
      = (head P cw al dt st cv b h).solK t x :=
  doubled_solve _ _ (isReal_a P cw al dt st cv b h) (fun s => isReal_key P cw al dt st cv b h s x) (a_low _) t

end

end Cert.GdnHead

end
-- ==== Proof.GdnArray.lean ====
/-
  What the delta rule kernel reads, element by element: its blocks, the rows its convolution reads, and the heads.
-/
module

public import proofs.«01_k».proof.Proof.Gen.GdnIdeal.Value
public import Idealize.ShloMosaic.Lib.Pipeline.ReadBack
public import Idealize.ShloMosaic.Lib.Routing.OpsOne
public import proofs.«01_k».proof.Proof.GdnBlock
public import proofs.«01_k».proof.Proof.GdnFinite

@[expose] public section

set_option maxRecDepth 16384

noncomputable section

open Idealize.ShloMosaic Idealize.ShloMosaic.TcCoe Idealize.SL.Sem
open Idealize.ShloMosaic.Pipeline (Dat)
open Cert.GdnHead Cert.RunningSum

namespace Cert.GdnIdeal.Array

open Cert.GdnIdeal Cert.GdnIdeal.Gen Cert.GdnIdeal.Block

variable (m : (ℓ : Loc nD τ sig) → Buf (Elt Ideal) ℓ)

/-- The projected array, the convolution's weights, the decays' parameters, the norm's gain, the carried states and the
    carried rows of the convolution, as launched. -/
abbrev P (c : Dev nD) : FVec Ideal S1024x8832 .f32 := m ((c : Thread nD τ).loc main_arg0)
abbrev cw (c : Dev nD) : FVec Ideal S4x1536 .f32 := m ((c : Thread nD τ).loc main_arg1)
abbrev al (c : Dev nD) : FVec Ideal S4 .f32 := m ((c : Thread nD τ).loc main_arg2)
abbrev dt (c : Dev nD) : FVec Ideal S4 .f32 := m ((c : Thread nD τ).loc main_arg3)
abbrev gain (c : Dev nD) : FVec Ideal S512 .f32 := m ((c : Thread nD τ).loc main_arg4)
abbrev st (c : Dev nD) : FVec Ideal S128x4x128x128 .f32 := m ((c : Thread nD τ).loc main_arg5)
abbrev cv (c : Dev nD) : FVec Ideal S128x3x1536 .f32 := m ((c : Thread nD τ).loc main_arg6)

/-- The batch row a grid point takes. -/
abbrev row (t : Fin cfg0.N) : Fin 128 := ⟨t.val, t.isLt⟩

/-- Each window's block index at a grid point, on every axis. -/
theorem idx : ∀ t : Fin cfg0.N, (win0_0.index t 0 = t.val ∧ win0_0.index t 1 = 1 ∧ win0_1.index t 0 = t.val ∧ win0_1.index t 1 = 68)
    ∧ (win0_2.index t 0 = 0 ∧ win0_2.index t 1 = 0 ∧ win0_3.index t 0 = 0 ∧ win0_3.index t 1 = 0)
    ∧ (win0_4.index t 0 = 0 ∧ win0_4.index t 1 = 0 ∧ win0_5.index t 0 = 0 ∧ win0_5.index t 1 = 0)
    ∧ (win0_6.index t 0 = t.val ∧ win0_6.index t 1 = 0 ∧ win0_6.index t 2 = 0 ∧ win0_6.index t 3 = 0)
    ∧ (win0_7.index t 0 = t.val ∧ win0_7.index t 1 = 0 ∧ win0_7.index t 2 = 0)
    ∧ (win0_8.index t 0 = t.val ∧ win0_8.index t 1 = 0)
    ∧ (win0_9.index t 0 = t.val ∧ win0_9.index t 1 = 0 ∧ win0_9.index t 2 = 0 ∧ win0_9.index t 3 = 0)
    ∧ (win0_10.index t 0 = t.val ∧ win0_10.index t 1 = 0 ∧ win0_10.index t 2 = 0) :=
  (by decide +kernel : ∀ t : Fin grid0.N, (win0_0.index t 0 = t.val ∧ win0_0.index t 1 = 1 ∧ win0_1.index t 0 = t.val ∧ win0_1.index t 1 = 68)
    ∧ (win0_2.index t 0 = 0 ∧ win0_2.index t 1 = 0 ∧ win0_3.index t 0 = 0 ∧ win0_3.index t 1 = 0)
    ∧ (win0_4.index t 0 = 0 ∧ win0_4.index t 1 = 0 ∧ win0_5.index t 0 = 0 ∧ win0_5.index t 1 = 0)
    ∧ (win0_6.index t 0 = t.val ∧ win0_6.index t 1 = 0 ∧ win0_6.index t 2 = 0 ∧ win0_6.index t 3 = 0)
    ∧ (win0_7.index t 0 = t.val ∧ win0_7.index t 1 = 0 ∧ win0_7.index t 2 = 0)
    ∧ (win0_8.index t 0 = t.val ∧ win0_8.index t 1 = 0)
    ∧ (win0_9.index t 0 = t.val ∧ win0_9.index t 1 = 0 ∧ win0_9.index t 2 = 0 ∧ win0_9.index t 3 = 0)
    ∧ (win0_10.index t 0 = t.val ∧ win0_10.index t 1 = 0 ∧ win0_10.index t 2 = 0))

/-- The projected columns' block. -/
theorem p_at (c : Dev nD) (t : Fin cfg0.N) (s : Fin 8) (j : Fin 2048) :
    X0_0 m c t (ix2 s j) = col (P m c) (row t) s (2048 + j.val) := by
  obtain ⟨⟨h00, h01, -⟩, -⟩ := idx t
  refine (dif_pos (moved0_0 t (ix2 s j))).trans ?_
  unfold col
  blk_ext [iblk, V_main_arg0, h00, h01]

/-- The small columns' block. -/
theorem sm_at (c : Dev nD) (t : Fin cfg0.N) (s : Fin 8) (j : Fin 128) :
    iblk m c 1 t (ix2 s j) = col (P m c) (row t) s (8704 + j.val) := by
  obtain ⟨⟨-, -, h00, h01⟩, -⟩ := idx t
  unfold col
  blk_ext [iblk, V_main_arg0, h00, h01]

/-- The convolution's weights. -/
theorem cw_at (c : Dev nD) (t : Fin cfg0.N) (r : Fin 4) (j : Fin 1536) : iblk m c 2 t (ix2 r j) = cw m c (ix2 r j) := by
  obtain ⟨-, ⟨h00, h01, -⟩, -⟩ := idx t
  blk_ext [iblk, V_main_arg1, h00, h01]

/-- Where a row of four is written into a row of lanes: lane twelve on. -/
abbrev place : IVec S2 32 :=
  concatenate S2 0 [⟨S1, broadcastInDim S1 ![] bcast_S_S1 (constantI S_ 32 0#32)⟩,
    ⟨S1, broadcastInDim S1 ![] bcast_S_S1 (constantI S_ 32 12#32)⟩] concatenates_S1_S1_S2_d0

theorem lands : ∀ k h : Fin 4, scatter_S1x128_S2_S4_0_0_01_0.resultIdx? (ix1 k) place = some (ix2 0 ⟨12 + h.val, by omega⟩) ↔ k = h := by
  decide +kernel

/-- The lanes from the twelfth hold the four entries. -/
theorem placed (x : FVec Ideal S1x128 .f32) (u : FVec Ideal S4 .f32) (h : Fin 4) :
    Host.scatter scatter_S1x128_S2_S4_0_0_01_0 (fun _ b => b) x place u (ix2 0 ⟨12 + h.val, by omega⟩) = u (ix1 h) := by
  refine Routing.scatter_set_hit _ x place u _ _ (fun k hk => ?_) (ix1 h) ((lands h h).2 rfl)
  idx_vars k
  rw [(lands k0 h).1 hk]

/-- The decays' rates and the decays' offsets. -/
theorem al_at (c : Dev nD) (t : Fin cfg0.N) (h : Fin 4) : iblk m c 3 t (ix2 0 ⟨12 + h.val, by omega⟩) = -(Ideal.exp (al m c (ix1 h))) := by
  obtain ⟨-, ⟨-, -, h00, h01⟩, -⟩ := idx t
  have e : V m c main_v7 = Host.scatter scatter_S1x128_S2_S4_0_0_01_0 (fun _ b => b) (broadcastInDim S1x128 ![] bcast_S_S1x128 (constant (F := Ideal) S_ .f32 0x00000000#32))
      place (Host.negf (Host.exp (al m c))) := by
    show StableHlo.after (List.flatten [hostOps0, hostOps0_1, hostOps0_2]) (fun b => m (c, b)) _ = _
    simp only [hostOps0, hostOps0_1, hostOps0_2, List.flatten_cons, List.flatten_nil, List.append_nil, List.cons_append, List.nil_append]
    after_results
    all_goals rfl
  refine Eq.trans ?_ ((congrFun e (ix2 0 ⟨12 + h.val, by omega⟩)).trans ((placed _ _ h).trans ?_))
  · blk_ext [iblk, h00, h01]
  · pointwise []

theorem dt_at (c : Dev nD) (t : Fin cfg0.N) (h : Fin 4) : iblk m c 4 t (ix2 0 ⟨12 + h.val, by omega⟩) = dt m c (ix1 h) := by
  obtain ⟨-, -, ⟨h00, h01, -⟩, -⟩ := idx t
  have e : V m c main_v12 = Host.scatter scatter_S1x128_S2_S4_0_0_01_0 (fun _ b => b) (broadcastInDim S1x128 ![] bcast_S_S1x128 (constant (F := Ideal) S_ .f32 0x00000000#32))
      place (dt m c) := by
    show StableHlo.after (List.flatten [hostOps0, hostOps0_1, hostOps0_2]) (fun b => m (c, b)) _ = _
    simp only [hostOps0, hostOps0_1, hostOps0_2, List.flatten_cons, List.flatten_nil, List.append_nil, List.cons_append, List.nil_append]
    after_results
    all_goals rfl
  refine Eq.trans ?_ ((congrFun e (ix2 0 ⟨12 + h.val, by omega⟩)).trans (placed _ _ h))
  blk_ext [iblk, h00, h01]

/-- The gain block. -/
theorem gain_at (c : Dev nD) (t : Fin cfg0.N) (j : Fin 512) : iblk m c 5 t (ix2 0 j) = gain m c (ix1 j) := by
  obtain ⟨-, -, ⟨-, -, h00, h01⟩, -⟩ := idx t
  have e : V m c main_v13 = broadcastInDim S1x512 ![1] bcast_S512_S1x512_1 (gain m c) := by
    show StableHlo.after (List.flatten [hostOps0, hostOps0_1, hostOps0_2]) (fun b => m (c, b)) _ = _
    simp only [hostOps0, hostOps0_1, hostOps0_2, List.flatten_cons, List.flatten_nil, List.append_nil, List.cons_append, List.nil_append]
    after_results
    all_goals rfl
  refine Eq.trans ?_ ((congrFun e (ix2 0 j)).trans ?_)
  · blk_ext [iblk, h00, h01]
  · pointwise []

/-- The carried states' block. -/
theorem st_at (c : Dev nD) (t : Fin cfg0.N) (h : Fin 4) (x w : Fin 128) :
    iblk m c 6 t (ix4 0 h x w) = st m c (ix4 (row t) h x w) := by
  obtain ⟨-, -, -, ⟨h00, h01, h02, h03⟩, -⟩ := idx t
  blk_ext [iblk, V_main_arg5, h00, h01, h02, h03]

/-- The carried rows' block: five empty rows, then the three carried ones. -/
theorem cv_at (c : Dev nD) (t : Fin cfg0.N) (u : Fin 3) (j : Fin 1536) :
    iblk m c 7 t (ix3 0 ⟨5 + u.val, by omega⟩ j) = cv m c (ix3 (row t) u j) := by
  obtain ⟨-, -, -, -, ⟨h00, h01, h02⟩, -⟩ := idx t
  have e : V m c main_v0 = pad S128x8x1536 ![0, 5, 0] ![0, 0, 0] ![0, 0, 0] (cv m c) (sitofp (F := Ideal) .f32 (constantI S_ 32 0#32))
      pads_S128x3x1536_S128x8x1536_000_500_000 h_S_ := by
    show StableHlo.after (List.flatten [hostOps0, hostOps0_1, hostOps0_2]) (fun b => m (c, b)) _ = _
    simp only [hostOps0, hostOps0_1, hostOps0_2, List.flatten_cons, List.flatten_nil, List.append_nil, List.cons_append, List.nil_append]
    after_results
    all_goals rfl
  refine Eq.trans ?_ ((congrFun e (ix3 (row t) ⟨5 + u.val, by omega⟩ j)).trans ?_)
  · blk_ext [iblk, h00, h01, h02]
  · pointwise []
    rfl

/-- The tokens' rows of the convolution's columns, and the rows before them. -/
abbrev toks (c : Dev nD) (t : Fin cfg0.N) : FVec Ideal S8x1536 .f32 :=
  k0_pay12 (View.ld (X0_0 m c t) (Rect.unit ![0, 0] ![8, 1536] inb_S8x2048_S8x1536_0_0))
abbrev prev (c : Dev nD) (t : Fin cfg0.N) : FVec Ideal S8x1536 .f32 :=
  k0_pay11 (shapeCast S8x1536 (iblk m c 7 t) shapeCasts_S1x8x1536_S8x1536)
/-- The two of them, one after the other. -/
abbrev both (c : Dev nD) (t : Fin cfg0.N) : List (View.Piece (Elt Ideal) S16x1536 .f32) :=
  [⟨Rect.unit ![8, 0] ![8, 1536] inb_S16x1536_S8x1536_8_0, toks m c t⟩, ⟨Rect.unit ![0, 0] ![8, 1536] inb_S16x1536_S8x1536_0_0, prev m c t⟩]

theorem cast12_at (x : Vec Ideal S8x1536 .f32) (s : Fin 8) (j : Fin 1536) : k0_pay12 x (ix2 s j) = x (ix2 s j) := by pointwise [k0_pay12]
theorem cast11_at (x : FVec Ideal S1x8x1536 .f32) (s : Fin 8) (j : Fin 1536) :
    k0_pay11 (shapeCast S8x1536 x shapeCasts_S1x8x1536_S8x1536) (ix2 s j) = x (ix3 0 s j) := by pointwise [k0_pay11]

theorem toks_at (c : Dev nD) (t : Fin cfg0.N) (s : Fin 8) (j : Fin 1536) :
    toks m c t (ix2 s j) = col (P m c) (row t) s (2048 + j.val) := by
  refine (cast12_at _ s j).trans (Eq.trans ?_ (p_at m c t s ⟨j.val, by omega⟩))
  pointwise []

theorem prev_at (c : Dev nD) (t : Fin cfg0.N) (u : Fin 3) (j : Fin 1536) :
    prev m c t (ix2 ⟨5 + u.val, by omega⟩ j) = cv m c (ix3 (row t) u j) :=
  (cast11_at _ _ j).trans (cv_at m c t u j)

/-- Row `n` of the two holds a token's row from the eighth on. -/
theorem late_at (c : Dev nD) (t : Fin cfg0.N) (y : S16x1536.Idx) (s : Fin 8) (j : Fin 1536) (h0 : (y 0).val = 8 + s.val) (h1 : (y 1).val = j.val) :
    View.canon (both m c t) y = col (P m c) (row t) s (2048 + j.val) := by
  have e : (Rect.unit (s := S16x1536) ![8, 0] ![8, 1536] inb_S16x1536_S8x1536_8_0).emb (ix2 s j) = y := by
    funext a
    refine Fin.ext ?_
    fin_cases a
    · exact show 8 + 1 * s.val = (y 0).val by omega
    · exact show 0 + 1 * j.val = (y 1).val by omega
  exact (congrArg (View.canon (both m c t)) e.symm).trans <| (View.canon_cons_emb _ _ _ _).trans (toks_at m c t s j)

/-- and a carried row before it. -/
theorem early_at (c : Dev nD) (t : Fin cfg0.N) (y : S16x1536.Idx) (u : Fin 3) (j : Fin 1536) (h0 : (y 0).val = 5 + u.val) (h1 : (y 1).val = j.val) :
    View.canon (both m c t) y = cv m c (ix3 (row t) u j) := by
  have e : (Rect.unit (s := S16x1536) ![0, 0] ![8, 1536] inb_S16x1536_S8x1536_0_0).emb (ix2 ⟨5 + u.val, by omega⟩ j) = y := by
    funext a
    refine Fin.ext ?_
    fin_cases a
    · exact show 0 + 1 * (5 + u.val) = (y 0).val by omega
    · exact show 0 + 1 * j.val = (y 1).val by omega
  refine (View.canon_cons_of_not_mem _ _ ?_).trans ((congrArg (View.canon _) e.symm).trans ?_)
  rotate_left
  · exact (View.canon_cons_emb _ _ _ _).trans (prev_at m c t u j)
  · intro hy
    obtain ⟨x, hx⟩ := LoadRect.exists_idx_of_mem _ hy
    have h : 8 + 1 * (x 0).val = (y 0).val := congrArg (fun i : S16x1536.Idx => (i 0).val) hx
    omega

/-- The rows the convolution reads, a fixed number of rows apart. -/
abbrev rd (c : Dev nD) (t : Fin cfg0.N) (o : ℕ) (ho : ∀ a, (![o, 0] : Fin 2 → ℕ) a + S8x1536.size a ≤ S16x1536.size a) : FVec Ideal S8x1536 .f32 :=
  (View.whole cc0_scratch1).readCov (both m c t) (Rect.unit (s := S16x1536) ![o, 0] S8x1536.size ho).toLoadRect

theorem rd_canon (L : List (View.Piece (Elt Ideal) S16x1536 .f32)) (o : ℕ) (ho : ∀ a, (![o, 0] : Fin 2 → ℕ) a + S8x1536.size a ≤ S16x1536.size a)
    (x : S8x1536.Idx) :
    (View.whole cc0_scratch1).readCov L (Rect.unit (s := S16x1536) ![o, 0] S8x1536.size ho).toLoadRect x
      = View.canon L ((Rect.unit (s := S16x1536) ![o, 0] S8x1536.size ho).toLoadRect.idx x) :=
  congrFun (View.readCov_eq_canon' (View.whole cc0_scratch1) L (Rect.unit (s := S16x1536) ![o, 0] S8x1536.size ho).toLoadRect) x

theorem rd_at (c : Dev nD) (t : Fin cfg0.N) (o i : ℕ) (ho) (hi : o = 5 + i) (h3 : i < 4) (s : Fin 8) (j : Fin 1536) :
    rd m c t o ho (ix2 s j) = GdnHead.read (P m c) (cv m c) (row t) (s.val + i) j := by
  subst hi
  have hs := s.isLt
  refine (rd_canon (both m c t) (5 + i) ho (ix2 s j)).trans ?_
  unfold GdnHead.read
  split
  · next h =>
    refine early_at m c t _ ⟨s.val + i, h⟩ j ?_ ?_
    · exact show 5 + i + 1 * s.val = 5 + (s.val + i) by omega
    · exact show 0 + 1 * j.val = j.val by omega
  · next h =>
    refine late_at m c t _ ⟨s.val + i - 3, by omega⟩ j ?_ ?_
    · exact show 5 + i + 1 * s.val = 8 + (s.val + i - 3) by omega
    · exact show 0 + 1 * j.val = j.val by omega

/-- The convolution's channels after the sigmoid weighting. -/
abbrev chans (c : Dev nD) (t : Fin cfg0.N) : FVec Ideal S8x1536 .f32 :=
  k0_pay13 (rd m c t 5 inb_S16x1536_S8x1536_5_0) (View.ld (iblk m c 2 t) (Rect.unit ![0, 0] ![1, 1536] inb_S4x1536_S1x1536_0_0))
    (rd m c t 6 inb_S16x1536_S8x1536_6_0) (View.ld (iblk m c 2 t) (Rect.unit ![1, 0] ![1, 1536] inb_S4x1536_S1x1536_1_0))
    (rd m c t 7 inb_S16x1536_S8x1536_7_0) (View.ld (iblk m c 2 t) (Rect.unit ![2, 0] ![1, 1536] inb_S4x1536_S1x1536_2_0))
    (toks m c t) (View.ld (iblk m c 2 t) (Rect.unit ![3, 0] ![1, 1536] inb_S4x1536_S1x1536_3_0))

/-- The weighting of four products, from the eight numbers. -/
theorem conv_at (a b d e : FVec Ideal S8x1536 .f32) (f g h i : Vec Ideal S1x1536 .f32) (s : Fin 8) (j : Fin 1536) :
    k0_pay13 a f b g d h e i (ix2 s j) = silu (a (ix2 s j) * f (ix2 0 j) + b (ix2 s j) * g (ix2 0 j) + d (ix2 s j) * h (ix2 0 j) + e (ix2 s j) * i (ix2 0 j)) := by
  pointwise [k0_pay13]
  rfl

theorem chans_at (c : Dev nD) (t : Fin cfg0.N) (s : Fin 8) (j : Fin 1536) :
    chans m c t (ix2 s j) = silu (conv (P m c) (cw m c) (cv m c) (row t) s j) := by
  have w (r : Fin 4) (hr) : View.ld (iblk m c 2 t) (Rect.unit ![r.val, 0] ![1, 1536] hr) (ix2 0 j) = cw m c (ix2 r j) := by
    refine Eq.trans ?_ (cw_at m c t r j)
    pointwise []
  have l : toks m c t (ix2 s j) = GdnHead.read (P m c) (cv m c) (row t) (s.val + 3) j := by
    refine (toks_at m c t s j).trans ?_
    unfold GdnHead.read
    rw [dif_neg (by omega)]
    rfl
  refine (conv_at _ _ _ _ _ _ _ _ _ _).trans (congrArg silu ?_)
  unfold conv
  exact congrArg₂ (fun a b : EReal => a + b) (congrArg₂ (fun a b : EReal => a + b) (congrArg₂ (fun a b : EReal => a + b)
    (congrArg₂ (fun a b : EReal => a * b) (rd_at m c t 5 0 _ rfl (by omega) s j) (w 0 _))
    (congrArg₂ (fun a b : EReal => a * b) (rd_at m c t 6 1 _ rfl (by omega) s j) (w 1 _)))
    (congrArg₂ (fun a b : EReal => a * b) (rd_at m c t 7 2 _ rfl (by omega) s j) (w 2 _)))
    (congrArg₂ (fun a b : EReal => a * b) l (w 3 _))

/-- The step sizes. -/
theorem beta_at (c : Dev nD) (t : Fin cfg0.N) (s : Fin 8) (h : Fin 4) :
    k0_pay17 (iblk m c 1 t) (ix2 s ⟨8 + h.val, by omega⟩) = Ideal.logistic (col (P m c) (row t) s (8712 + h.val)) := by
  have e : k0_pay17 (iblk m c 1 t) (ix2 s ⟨8 + h.val, by omega⟩) = Ideal.logistic (iblk m c 1 t (ix2 s ⟨8 + h.val, by omega⟩)) := by
    pointwise [k0_pay17]
  rw [e, sm_at]
  refine congrArg Ideal.logistic ?_
  unfold col
  refine congrArg (P m c) (congrArg (ix2 _) (Fin.ext ?_))
  show 8704 + (8 + h.val) = 8712 + h.val
  omega

/-- The running sums' matrix: one up to the token, zero beyond. -/
theorem ones_at (t s : Fin 8) : (FloatOps.sitofp (F := Ideal) .f32 ((k0_pay14 (ix2 t s)).setWidth 32) : EReal) = if s ≤ t then 1 else 0 := by
  rw [past_at]
  by_cases h : s ≤ t
  · rw [if_pos h, if_pos h]
    simp [sitofp_word]
  · rw [if_neg h, if_neg h]
    simp [sitofp_word]

/-- The running sums of the log decays. -/
theorem sums_at (c : Dev nD) (t : Fin cfg0.N) (s : Fin 8) (h : Fin 4) :
    k0_pay18 (iblk m c 1 t) (iblk m c 3 t) (iblk m c 4 t) (ix2 s ⟨12 + h.val, by omega⟩) = upTo (logDecay (P m c) (al m c) (dt m c) (row t) h) s := by
  have g (r : Fin 8) (a d p : EReal) (ha : a = iblk m c 3 t (ix2 0 ⟨12 + h.val, by omega⟩)) (hd : d = iblk m c 4 t (ix2 0 ⟨12 + h.val, by omega⟩))
      (hp : p = iblk m c 1 t (ix2 r ⟨12 + h.val, by omega⟩)) :
      a * (max (p + d) 0 + Ideal.log1p (Ideal.exp (0 - max (p + d) (-(p + d))))) = logDecay (P m c) (al m c) (dt m c) (row t) h r := by
    subst ha hd hp
    rw [al_at, dt_at, sm_at, zero_sub]
    unfold logDecay softplus
    have e : col (P m c) (row t) r (8704 + (12 + h.val)) = col (P m c) (row t) r (8716 + h.val) := by
      unfold col
      exact congrArg (P m c) (congrArg (ix2 _) (Fin.ext (show 8704 + (12 + h.val) = 8716 + h.val by omega)))
    rw [← e]
  pointwise [k0_pay18]
  unfold upTo
  change @Eq EReal _ _
  refine Finset.sum_congr rfl fun r _ => ?_
  refine Eq.trans (congrArg₂ (fun a b : EReal => a * b) (ones_at s r) (g r _ _ _ rfl rfl rfl)) ?_
  by_cases q : r ≤ s
  · rw [if_pos q, if_pos q, one_mul]
  · rw [if_neg q, if_neg q, zero_mul (M₀ := EReal)]

/-- Vectors that hold a head's channels, step sizes, running sums and carried state hold the head. -/
theorem head_eq (c : Dev nD) (t : Fin cfg0.N) (h : Fin 4) {q k v : FVec Ideal S8x128 .f32} {be bb : FVec Ideal S8x1 .f32} {S : FVec Ideal S128x128 .f32}
    (hq : ∀ s x, q (ix2 s x) = chans m c t (ix2 s ⟨128 * h.val + x.val, by omega⟩))
    (hk : ∀ s x, k (ix2 s x) = chans m c t (ix2 s ⟨512 + (128 * h.val + x.val), by omega⟩))
    (hv : ∀ s x, v (ix2 s x) = chans m c t (ix2 s ⟨1024 + (128 * h.val + x.val), by omega⟩))
    (hbe : ∀ s, be (ix2 s 0) = k0_pay17 (iblk m c 1 t) (ix2 s ⟨8 + h.val, by omega⟩))
    (hbb : ∀ s, bb (ix2 s 0) = k0_pay18 (iblk m c 1 t) (iblk m c 3 t) (iblk m c 4 t) (ix2 s ⟨12 + h.val, by omega⟩))
    (hS : ∀ x w, S (ix2 x w) = iblk m c 6 t (ix4 0 h x w)) :
    vecs q k v be bb S = head (P m c) (cw m c) (al m c) (dt m c) (st m c) (cv m c) (row t) h := by
  refine Head.ext ?_ ?_ ?_ ?_ ?_ ?_
  · funext s x
    exact (hq s x).trans (chans_at m c t s _)
  · funext s x
    exact (hk s x).trans (chans_at m c t s _)
  · funext s x
    exact (hv s x).trans (chans_at m c t s _)
  · funext s
    exact (hbe s).trans (beta_at m c t s h)
  · funext s
    exact (hbb s).trans (sums_at m c t s h)
  · funext x w
    exact (hS x w).trans (st_at m c t h x w)

/-- The doubled inverse solves the head's systems where the values are finite. -/
theorem solves (c : Dev nD) (b : Fin 128) (h : Fin 4) (hf : Finite (P m c) (cw m c) (cv m c)) :
    Solves (head (P m c) (cw m c) (al m c) (dt m c) (st m c) (cv m c) b h) where
  v := fun t w => solV_eq (al m c) (dt m c) (st m c) b h hf t w
  k := fun t x => solK_eq (P m c) (cw m c) (al m c) (dt m c) (st m c) (cv m c) b h t x

end Cert.GdnIdeal.Array

end
-- ==== Proof.GdnFinal.lean ====
/-
  The delta rule kernel's three result arrays are those of GdnSpec, read off the launched arguments.
-/
module

public import proofs.«01_k».proof.Proof.Gen.GdnIdeal.Value
public import Idealize.ShloMosaic.Lib.Pipeline.ReadBack
public import proofs.«01_k».proof.Proof.GdnArray

@[expose] public section

set_option maxRecDepth 16384

noncomputable section

open Idealize.ShloMosaic Idealize.ShloMosaic.TcCoe Idealize.SL.Sem
open Idealize.ShloMosaic.Pipeline (Dat)
open Cert.GdnHead Cert.RunningSum

namespace Cert.GdnIdeal.Array

open Cert.GdnIdeal Cert.GdnIdeal.Gen Cert.GdnIdeal.Block

variable (m : (ℓ : Loc nD τ sig) → Buf (Elt Ideal) ℓ)

/-- A head's lanes of the channels, of the step sizes and of the running sums, and its carried state. -/
abbrev part (c : Dev nD) (t : Fin cfg0.N) (o : ℕ) (ho : ∀ a, (![0, o] : Fin 2 → ℕ) a + S8x128.size a ≤ S8x1536.size a) : FVec Ideal S8x128 .f32 :=
  View.ld (Val := Elt Ideal) (e' := .f32) (chans m c t) (Rect.unit (s := S8x1536) ![0, o] S8x128.size ho)
abbrev steps (c : Dev nD) (t : Fin cfg0.N) (o : ℕ) (ho : S8x128.Slices ![0, o] S8x1) : FVec Ideal S8x1 .f32 :=
  extractStridedSlice S8x1 ![0, o] (k0_pay17 (iblk m c 1 t)) ho
abbrev sums (c : Dev nD) (t : Fin cfg0.N) (o : ℕ) (ho : S8x128.Slices ![0, o] S8x1) : FVec Ideal S8x1 .f32 :=
  extractStridedSlice S8x1 ![0, o] (k0_pay18 (iblk m c 1 t) (iblk m c 3 t) (iblk m c 4 t)) ho
abbrev mat (c : Dev nD) (t : Fin cfg0.N) (o : ℕ) (ho : ∀ a, (![0, o, 0, 0] : Fin 4 → ℕ) a + S1x1x128x128.size a ≤ S1x4x128x128.size a) : FVec Ideal S128x128 .f32 :=
  shapeCast S128x128 (shapeCast S1x128x128 (shapeCast S128x128
    (View.ld (Val := Elt Ideal) (e' := .f32) (iblk m c 6 t) (Rect.unit (s := S1x4x128x128) ![0, o, 0, 0] S1x1x128x128.size ho) : FVec Ideal S1x1x128x128 .f32)
    shapeCasts_S1x1x128x128_S128x128) shapeCasts_S128x128_S1x128x128) shapeCasts_S1x128x128_S128x128

theorem part_at (x : FVec Ideal S8x1536 .f32) (o : ℕ) (ho : ∀ a, (![0, o] : Fin 2 → ℕ) a + S8x128.size a ≤ S8x1536.size a) (s : Fin 8) (w : Fin 128) (j : Fin 1536) (hj : j.val = o + w.val) :
    (View.ld (Val := Elt Ideal) (e' := .f32) x (Rect.unit (s := S8x1536) ![0, o] S8x128.size ho) : FVec Ideal S8x128 .f32) (ix2 s w) = x (ix2 s j) := by
  have e : (⟨o + w.val, hj ▸ j.isLt⟩ : Fin 1536) = j := Fin.ext hj.symm
  refine Eq.trans ?_ (congrArg (fun i => x (ix2 s i)) e)
  pointwise []

theorem lane_at (x : FVec Ideal S8x128 .f32) (o : ℕ) (ho : S8x128.Slices ![0, o] S8x1) (s : Fin 8) (j : Fin 128) (hj : j.val = o) :
    extractStridedSlice S8x1 ![0, o] x ho (ix2 s 0) = x (ix2 s j) := by
  subst hj
  pointwise []

theorem squeeze_at (x : FVec Ideal S1x1x128x128 .f32) (a w : Fin 128) :
    shapeCast S128x128 (shapeCast S1x128x128 (shapeCast S128x128 x shapeCasts_S1x1x128x128_S128x128) shapeCasts_S128x128_S1x128x128)
      shapeCasts_S1x128x128_S128x128 (ix2 a w) = x (ix4 0 0 a w) := by
  pointwise []

theorem mat_at (x : FVec Ideal S1x4x128x128 .f32) (h : Fin 4) (ho : ∀ a, (![0, h.val, 0, 0] : Fin 4 → ℕ) a + S1x1x128x128.size a ≤ S1x4x128x128.size a) (a w : Fin 128) :
    (View.ld (Val := Elt Ideal) (e' := .f32) x (Rect.unit (s := S1x4x128x128) ![0, h.val, 0, 0] S1x1x128x128.size ho) : FVec Ideal S1x1x128x128 .f32) (ix4 0 0 a w)
      = x (ix4 0 h a w) := by
  refine congrArg x (funext fun d => Fin.ext ?_)
  fin_cases d
  · exact show 0 + 1 * 0 = 0 by omega
  · exact show h.val + 1 * 0 = h.val by omega
  · exact show 0 + 1 * a.val = a.val by omega
  · exact show 0 + 1 * w.val = w.val by omega

/-- These hold the head. -/
theorem head_of (c : Dev nD) (t : Fin cfg0.N) (h : Fin 4) (o1 o2 o3 l1 l2 r : ℕ) (e1 : o1 = 128 * h.val) (e2 : o2 = 512 + 128 * h.val)
    (e3 : o3 = 1024 + 128 * h.val) (f1 : l1 = 8 + h.val) (f2 : l2 = 12 + h.val) (er : r = h.val) (h1 h2 h3 h4 h5 h6) :
    vecs (part m c t o1 h1) (part m c t o2 h2) (part m c t o3 h3) (steps m c t l1 h4) (sums m c t l2 h5) (mat m c t r h6)
      = head (P m c) (cw m c) (al m c) (dt m c) (st m c) (cv m c) (row t) h := by
  subst er
  refine head_eq m c t h (fun s x => ?_) (fun s x => ?_) (fun s x => ?_) (fun s => ?_) (fun s => ?_) (fun x w => ?_)
  · exact part_at _ _ _ _ _ _ (by dsimp only; omega)
  · exact part_at _ _ _ _ _ _ (by dsimp only; omega)
  · exact part_at _ _ _ _ _ _ (by dsimp only; omega)
  · exact lane_at _ _ _ _ _ (by dsimp only; omega)
  · exact lane_at _ _ _ _ _ (by dsimp only; omega)
  · exact (squeeze_at _ x w).trans (mat_at _ h _ x w)

theorem head0 (c : Dev nD) (t : Fin cfg0.N) :
    vecs (part m c t 0 inb_S8x1536_S8x128_0_0) (part m c t 512 inb_S8x1536_S8x128_0_512) (part m c t 1024 inb_S8x1536_S8x128_0_1024)
      (steps m c t 8 slices_S8x128_o0_8_S8x1) (sums m c t 12 slices_S8x128_o0_12_S8x1) (mat m c t 0 inb_S1x4x128x128_S1x1x128x128_0_0_0_0)
      = head (P m c) (cw m c) (al m c) (dt m c) (st m c) (cv m c) (row t) 0 :=
  head_of m c t 0 0 512 1024 8 12 0 rfl rfl rfl rfl rfl rfl _ _ _ _ _ _

theorem head1 (c : Dev nD) (t : Fin cfg0.N) :
    vecs (part m c t 128 inb_S8x1536_S8x128_0_128) (part m c t 640 inb_S8x1536_S8x128_0_640) (part m c t 1152 inb_S8x1536_S8x128_0_1152)
      (steps m c t 9 slices_S8x128_o0_9_S8x1) (sums m c t 13 slices_S8x128_o0_13_S8x1) (mat m c t 1 inb_S1x4x128x128_S1x1x128x128_0_1_0_0)
      = head (P m c) (cw m c) (al m c) (dt m c) (st m c) (cv m c) (row t) 1 :=
  head_of m c t 1 128 640 1152 9 13 1 rfl rfl rfl rfl rfl rfl _ _ _ _ _ _

theorem head2 (c : Dev nD) (t : Fin cfg0.N) :
    vecs (part m c t 256 inb_S8x1536_S8x128_0_256) (part m c t 768 inb_S8x1536_S8x128_0_768) (part m c t 1280 inb_S8x1536_S8x128_0_1280)
      (steps m c t 10 slices_S8x128_o0_10_S8x1) (sums m c t 14 slices_S8x128_o0_14_S8x1) (mat m c t 2 inb_S1x4x128x128_S1x1x128x128_0_2_0_0)
      = head (P m c) (cw m c) (al m c) (dt m c) (st m c) (cv m c) (row t) 2 :=
  head_of m c t 2 256 768 1280 10 14 2 rfl rfl rfl rfl rfl rfl _ _ _ _ _ _

theorem head3 (c : Dev nD) (t : Fin cfg0.N) :
    vecs (part m c t 384 inb_S8x1536_S8x128_0_384) (part m c t 896 inb_S8x1536_S8x128_0_896) (part m c t 1408 inb_S8x1536_S8x128_0_1408)
      (steps m c t 11 slices_S8x128_o0_11_S8x1) (sums m c t 15 slices_S8x128_o0_15_S8x1) (mat m c t 3 inb_S1x4x128x128_S1x1x128x128_0_3_0_0)
      = head (P m c) (cw m c) (al m c) (dt m c) (st m c) (cv m c) (row t) 3 :=
  head_of m c t 3 384 896 1408 11 15 3 rfl rfl rfl rfl rfl rfl _ _ _ _ _ _

section heads

variable {q k v : FVec Ideal S8x128 .f32} {be bb : FVec Ideal S8x1 .f32} {S : FVec Ideal S128x128 .f32} {H : Head}

/-- The matrix stored for a head is its new state. -/
theorem state_of (h : vecs q k v be bb S = H) (hs : Solves H) {z : FVec Ideal S1x1x128x128 .f32}
    (hz : z = shapeCast S1x1x128x128 (shapeCast S128x128 (k0_pay47 (k0_pay38 k) bb S (newVec v be bb S (k0_pay38 k))) shapeCasts_S1x128x128_S128x128)
      shapeCasts_S128x128_S1x1x128x128) (x w : Fin 128) : z (ix4 0 0 x w) = H.sNew x w := by
  subst h hz
  refine Eq.trans ?_ (state_at q k v be bb S hs x w)
  generalize k0_pay47 (k0_pay38 k) bb S (newVec v be bb S (k0_pay38 k)) = y
  pointwise []

/-- The block stored for a head is its normed output times gain and gate. -/
theorem out_of (h : vecs q k v be bb S = H) (hs : Solves H) {z : FVec Ideal S8x128 .f32} (o : ℕ) (ho : S8x512.Slices ![0, o] S8x128)
    (y : FVec Ideal S8x512 .f32) (g : FVec Ideal S1x128 .f32)
    (hz : z = gated o ho y (output bb S (k0_pay37 q) (k0_pay38 k) (newVec v be bb S (k0_pay38 k))) g) (s : Fin 8) (w : Fin 128) (hj : o + w.val < 512) :
    z (ix2 s w) = H.normed s w * g (ix2 0 w) * silu (y (ix2 s ⟨o + w.val, hj⟩)) := by
  subst h hz
  refine (gated_at o ho y _ g s w hj).trans ?_
  simp only [output_at q k v be bb S hs]
  rfl

end heads

variable (hf : ∀ c, Finite (P m c) (cw m c) (cv m c))

include hf in
/-- The new states. -/
theorem finalS (c : Dev nD) : (dats m 0 c).arrAt 9 cfg0.N = outS (P m c) (cw m c) (al m c) (dt m c) (st m c) (cv m c) := by
  refine (dats m 0 c).arrAt_eq_of_covers 9 _ (by decide +kernel) fun t _ y => ?_
  blk_simp
  rw [after0_9]
  unfold outsAt0
  dsimp only
  frame_open
  simp (disch := decide) only [↓ View.readCov_skip, ↓ View.readCov_cons_toLoadRect, ↓ View.readCov_fill]
  frame_out
  have e : outS (P m c) (cw m c) (al m c) (dt m c) (st m c) (cv m c) (((View.whole main_v14_1).slice (win0_9.rect t)).emb y)
      = (head (P m c) (cw m c) (al m c) (dt m c) (st m c) (cv m c) (row t) (y 1)).sNew (y 2) (y 3) := by
    obtain ⟨-, -, -, -, -, -, ⟨h00, h01, h02, h03⟩, -⟩ := idx t
    refine (?_ : _ = outS _ _ _ _ _ _ (ix4 (row t) (y 1) (y 2) (y 3))).trans rfl
    blk_ext [h00, h01, h02, h03]
  rw [e]
  clear e
  canon_tiles x h
  · idx_vars x
    obtain rfl : x0 = 0 := Subsingleton.elim (α := Fin 1) _ _
    obtain rfl : x1 = 0 := Subsingleton.elim (α := Fin 1) _ _
    rw [show y 1 = (3 : Fin 4) from Fin.ext h1, show y 2 = x2 from Fin.ext h2, show y 3 = x3 from Fin.ext h3]
    exact state_of (head3 m c t) (solves m c _ _ (hf c)) rfl x2 x3
  · idx_vars x
    obtain rfl : x0 = 0 := Subsingleton.elim (α := Fin 1) _ _
    obtain rfl : x1 = 0 := Subsingleton.elim (α := Fin 1) _ _
    rw [show y 1 = (2 : Fin 4) from Fin.ext h1, show y 2 = x2 from Fin.ext h2, show y 3 = x3 from Fin.ext h3]
    exact state_of (head2 m c t) (solves m c _ _ (hf c)) rfl x2 x3
  · idx_vars x
    obtain rfl : x0 = 0 := Subsingleton.elim (α := Fin 1) _ _
    obtain rfl : x1 = 0 := Subsingleton.elim (α := Fin 1) _ _
    rw [show y 1 = (1 : Fin 4) from Fin.ext h1, show y 2 = x2 from Fin.ext h2, show y 3 = x3 from Fin.ext h3]
    exact state_of (head1 m c t) (solves m c _ _ (hf c)) rfl x2 x3
  · idx_vars x
    obtain rfl : x0 = 0 := Subsingleton.elim (α := Fin 1) _ _
    obtain rfl : x1 = 0 := Subsingleton.elim (α := Fin 1) _ _
    rw [show y 1 = (0 : Fin 4) from Fin.ext h1, show y 2 = x2 from Fin.ext h2, show y 3 = x3 from Fin.ext h3]
    exact state_of (head0 m c t) (solves m c _ _ (hf c)) rfl x2 x3

theorem rows_canon (L : List (View.Piece (Elt Ideal) S16x1536 .f32)) (x : S3x1536.Idx) :
    (View.whole cc0_scratch1).readCov L (Rect.unit (s := S16x1536) ![13, 0] ![3, 1536] inb_S16x1536_S3x1536_13_0).toLoadRect x
      = View.canon L ((Rect.unit (s := S16x1536) ![13, 0] ![3, 1536] inb_S16x1536_S3x1536_13_0).toLoadRect.idx x) :=
  congrFun (View.readCov_eq_canon' (View.whole cc0_scratch1) L (Rect.unit (s := S16x1536) ![13, 0] ![3, 1536] inb_S16x1536_S3x1536_13_0).toLoadRect) x

theorem cast80_at (x : FVec Ideal S3x1536 .f32) (r : Fin 3) (j : Fin 1536) : k0_pay80 x (ix3 0 r j) = x (ix2 r j) := by pointwise [k0_pay80]

/-- The last three rows are the last three tokens' channels. -/
theorem rows_at (c : Dev nD) (t : Fin cfg0.N) (r : Fin 3) (j : Fin 1536) :
    k0_pay80 ((View.whole cc0_scratch1).readCov (both m c t) (Rect.unit (s := S16x1536) ![13, 0] ![3, 1536] inb_S16x1536_S3x1536_13_0).toLoadRect) (ix3 0 r j)
      = outC (P m c) (ix3 (row t) r j) := by
  refine (cast80_at _ r j).trans ((rows_canon (both m c t) (ix2 r j)).trans ?_)
  refine (late_at m c t _ ⟨5 + r.val, by omega⟩ j ?_ ?_).trans rfl
  · exact show 13 + 1 * r.val = 8 + (5 + r.val) by omega
  · exact show 0 + 1 * j.val = j.val by omega

/-- The rows the next block's convolution starts with. -/
theorem finalC (c : Dev nD) : (dats m 0 c).arrAt 10 cfg0.N = outC (P m c) := by
  refine (dats m 0 c).arrAt_eq_of_covers 10 _ (by decide +kernel) fun t _ y => ?_
  blk_simp
  rw [after0_10]
  unfold outsAt0
  dsimp only
  frame_open
  simp (disch := decide) only [↓ View.readCov_skip, ↓ View.readCov_cons_toLoadRect, ↓ View.readCov_fill]
  frame_out
  have e : outC (P m c) (((View.whole main_v14_2).slice (win0_10.rect t)).emb y) = outC (P m c) (ix3 (row t) (y 1) (y 2)) := by
    obtain ⟨-, -, -, -, -, -, -, ⟨h00, h01, h02⟩⟩ := idx t
    blk_ext [h00, h01, h02]
  rw [e]
  clear e
  idx_vars y
  obtain rfl : y0 = 0 := Subsingleton.elim (α := Fin 1) _ _
  exact rows_at m c t y1 y2

/-- The output of a token, from the head's normed output. -/
theorem out_eq (c : Dev nD) (t : Fin cfg0.N) (h : Fin 4) (s : Fin 8) (w : Fin 128) {n g0 o0 : EReal}
    (hn : n = (head (P m c) (cw m c) (al m c) (dt m c) (st m c) (cv m c) (row t) h).normed s w)
    (hg : g0 = iblk m c 5 t (ix2 0 ⟨128 * h.val + w.val, by omega⟩)) (ho : o0 = X0_0 m c t (ix2 s ⟨1536 + (128 * h.val + w.val), by omega⟩)) :
    n * g0 * silu o0 = outAt (P m c) (cw m c) (al m c) (dt m c) (gain m c) (st m c) (cv m c) (row t) s h w := by
  subst hn hg ho
  unfold outAt
  have e : X0_0 m c t (ix2 s ⟨1536 + (128 * h.val + w.val), by omega⟩) = col (P m c) (row t) s (3584 + (128 * h.val + w.val)) := by
    refine (p_at m c t s _).trans ?_
    unfold col
    exact congrArg (P m c) (congrArg (ix2 _) (Fin.ext (show 2048 + (1536 + (128 * h.val + w.val)) = 3584 + (128 * h.val + w.val) by omega)))
  exact congrArg₂ (fun a b : EReal => a * b) (congrArg (fun z : EReal => _ * z) (gain_at m c t _)) (congrArg silu e)

/-- The element of a token at a lane of the whole row is the element at that lane's head and place in the head. -/
theorem out_lane (c : Dev nD) (t : Fin cfg0.N) (a j : ℕ) (ha : a < 8) (s : Fin 8) (h : Fin 4) (w : Fin 128) (h0 : a = s.val) (h1 : j = 128 * h.val + w.val) :
    outAt (P m c) (cw m c) (al m c) (dt m c) (gain m c) (st m c) (cv m c) (row t) ⟨a, ha⟩ ⟨j / 128, by omega⟩ ⟨j % 128, by omega⟩
      = outAt (P m c) (cw m c) (al m c) (dt m c) (gain m c) (st m c) (cv m c) (row t) s h w := by
  subst h0 h1
  congr 1
  · exact Fin.ext (by dsimp only; omega)
  · exact Fin.ext (by dsimp only; omega)

/-- The output gates' columns, and a head's lanes of the gain. -/
abbrev gates (c : Dev nD) (t : Fin cfg0.N) : FVec Ideal S8x512 .f32 :=
  View.ld (Val := Elt Ideal) (e' := .f32) (X0_0 m c t) (Rect.unit (s := S8x2048) ![0, 1536] S8x512.size inb_S8x2048_S8x512_0_1536)
abbrev gainOf (c : Dev nD) (t : Fin cfg0.N) (o : ℕ) (ho : ∀ a, (![0, o] : Fin 2 → ℕ) a + S1x128.size a ≤ S1x512.size a) : FVec Ideal S1x128 .f32 :=
  View.ld (Val := Elt Ideal) (e' := .f32) (iblk m c 5 t) (Rect.unit (s := S1x512) ![0, o] S1x128.size ho)

theorem gates_at (x : FVec Ideal S8x2048 .f32) (s : Fin 8) (j : Fin 512) :
    (View.ld (Val := Elt Ideal) (e' := .f32) x (Rect.unit (s := S8x2048) ![0, 1536] S8x512.size inb_S8x2048_S8x512_0_1536) : FVec Ideal S8x512 .f32) (ix2 s j) = x (ix2 s ⟨1536 + j.val, by omega⟩) := by
  pointwise []

theorem gainOf_at (x : FVec Ideal S1x512 .f32) (o : ℕ) (ho : ∀ a, (![0, o] : Fin 2 → ℕ) a + S1x128.size a ≤ S1x512.size a) (w : Fin 128) (hj : o + w.val < 512) :
    (View.ld (Val := Elt Ideal) (e' := .f32) x (Rect.unit (s := S1x512) ![0, o] S1x128.size ho) : FVec Ideal S1x128 .f32) (ix2 0 w) = x (ix2 0 ⟨o + w.val, hj⟩) := by
  pointwise []

include hf in
set_option maxHeartbeats 800000 in
/-- The output. -/
theorem finalY (c : Dev nD) : (dats m 0 c).arrAt 8 cfg0.N = outY (P m c) (cw m c) (al m c) (dt m c) (gain m c) (st m c) (cv m c) := by
  refine (dats m 0 c).arrAt_eq_of_covers 8 _ (by decide +kernel) fun t _ y => ?_
  blk_simp
  rw [after0_8]
  unfold outsAt0
  dsimp only
  frame_open
  simp (disch := decide) only [↓ View.readCov_skip, ↓ View.readCov_cons_toLoadRect, ↓ View.readCov_fill]
  frame_out
  have e : outY (P m c) (cw m c) (al m c) (dt m c) (gain m c) (st m c) (cv m c) (((View.whole main_v14_0).slice (win0_8.rect t)).emb y)
      = outAt (P m c) (cw m c) (al m c) (dt m c) (gain m c) (st m c) (cv m c) (row t) ⟨(y 0).val, by have h : (y 0).val < 8 := (y 0).isLt; omega⟩ ⟨(y 1).val / 128, by have h : (y 1).val < 512 := (y 1).isLt; omega⟩ ⟨(y 1).val % 128, by omega⟩ := by
    obtain ⟨-, -, -, -, -, ⟨h00, h01⟩, -⟩ := idx t
    have hy0 : (y 0).val < 8 := (y 0).isLt
    have ht : t.val < 128 := t.isLt
    refine (?_ : _ = outY (P m c) (cw m c) (al m c) (dt m c) (gain m c) (st m c) (cv m c) (ix2 ⟨8 * t.val + (y 0).val, by omega⟩ (y 1))).trans ?_
    · blk_ext [h00, h01]
    · unfold outY
      congr 1
      · refine Fin.ext ?_
        show (8 * t.val + (y 0).val) / 8 = t.val
        omega
      · refine Fin.ext ?_
        show (8 * t.val + (y 0).val) % 8 = (y 0).val
        omega
  rw [e]
  clear e
  have y0 : (y 0).val < 8 := (y 0).isLt
  have y1 : (y 1).val < 512 := (y 1).isLt
  canon_tiles x h
  · idx_vars x
    rw [out_lane m c t _ _ _ x0 3 x1 h0 (by simpa using h1)]
    refine (out_of (head3 m c t) (solves m c _ _ (hf c)) 384 slices_S8x512_o0_384_S8x128 (gates m c t) (gainOf m c t 384 inb_S1x512_S1x128_0_384) rfl x0 x1 (by omega)).trans
      (out_eq m c t 3 x0 x1 rfl (gainOf_at _ _ _ _ _) (gates_at _ _ _))
  · idx_vars x
    rw [out_lane m c t _ _ _ x0 2 x1 h0 (by simpa using h1)]
    refine (out_of (head2 m c t) (solves m c _ _ (hf c)) 256 slices_S8x512_o0_256_S8x128 (gates m c t) (gainOf m c t 256 inb_S1x512_S1x128_0_256) rfl x0 x1 (by omega)).trans
      (out_eq m c t 2 x0 x1 rfl (gainOf_at _ _ _ _ _) (gates_at _ _ _))
  · idx_vars x
    rw [out_lane m c t _ _ _ x0 1 x1 h0 (by simpa using h1)]
    refine (out_of (head1 m c t) (solves m c _ _ (hf c)) 128 slices_S8x512_o0_128_S8x128 (gates m c t) (gainOf m c t 128 inb_S1x512_S1x128_0_128) rfl x0 x1 (by omega)).trans
      (out_eq m c t 1 x0 x1 rfl (gainOf_at _ _ _ _ _) (gates_at _ _ _))
  · idx_vars x
    rw [out_lane m c t _ _ _ x0 0 x1 h0 (by simpa using h1)]
    refine (out_of (head0 m c t) (solves m c _ _ (hf c)) 0 slices_S8x512_o0_0_S8x128 (gates m c t) (gainOf m c t 0 inb_S1x512_S1x128_0_0) rfl x0 x1 (by omega)).trans
      (out_eq m c t 0 x0 x1 rfl (gainOf_at _ _ _ _ _) (gates_at _ _ _))

end Cert.GdnIdeal.Array

end
-- ==== Proof.GdnReference.lean ====
/-
  What the delta rule's reference computes, element by element: the head of GdnSpec, step by step.
-/
module

public import proofs.«01_k».proof.Proof.Gen.GdnRefIdeal.Run
public import proofs.«01_k».proof.Proof.GdnSpec
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Cert.GdnHead Cert.RunningSum Cert.Solve

namespace Cert.GdnRefIdeal.Elements

open Cert.GdnRefIdeal Cert.GdnRefIdeal.Gen Cert.GdnRefIdeal.Value

variable (p : FVec Ideal S1024x8832 .f32) (cw : FVec Ideal S4x1536 .f32) (al dt : FVec Ideal S4 .f32) (g : FVec Ideal S512 .f32)
  (st : FVec Ideal S128x4x128x128 .f32) (cv : FVec Ideal S128x3x1536 .f32)

/-- The projected array by batch rows. -/
abbrev rowsOf : FVec Ideal S128x8x8832 .f32 := shapeCast _ p shapeCasts_S1024x8832_S128x8x8832
/-- The rows the convolution reads: three carried ones, then the eight tokens'. -/
def lines : FVec Ideal S128x11x1536 .f32 :=
  concatenate S128x11x1536 1 [⟨S128x3x1536, cv⟩, ⟨S128x8x1536, (extractStridedSlice S128x8x1536 ![0, 0, 2048] (rowsOf p) slices_S128x8x8832_S128x8x1536_0_0_2048)⟩]
    concatenates_S128x3x1536_S128x8x1536_S128x11x1536_d1
/-- Eight of these rows times one row of weights. -/
abbrev tap (x : FVec Ideal S128x11x1536 .f32) (o : ℕ) (hx : S128x11x1536.Slices ![0, o, 0] S128x8x1536) (hw : S4x1536.Slices ![o, 0] S1x1536) : FVec Ideal S128x8x1536 .f32 :=
  mulf (extractStridedSlice S128x8x1536 ![0, o, 0] x hx)
    (broadcastInDim S128x8x1536 ![0, 1, 2] bcast_S1x1x1536_S128x8x1536_0_1_2 (broadcastInDim S1x1x1536 ![2] bcast_S1536_S1x1x1536_2
      (shapeCast _ (extractStridedSlice S1x1536 ![o, 0] cw hw) shapeCasts_S1x1536_S1536)))
/-- The convolution. -/
def convolved (x : FVec Ideal S128x11x1536 .f32) : FVec Ideal S128x8x1536 .f32 :=
  addf (addf (addf (addf (broadcastInDim S128x8x1536 ![] bcast_S_S128x8x1536 (constant S_ .f32 0x00000000#32))
    (tap cw x 0 slices_S128x11x1536_S128x8x1536_0_0_0 slices_S4x1536_S1x1536_0_0)) (tap cw x 1 slices_S128x11x1536_S128x8x1536_0_1_0 slices_S4x1536_S1x1536_1_0))
    (tap cw x 2 slices_S128x11x1536_S128x8x1536_0_2_0 slices_S4x1536_S1x1536_2_0)) (tap cw x 3 slices_S128x11x1536_S128x8x1536_0_3_0 slices_S4x1536_S1x1536_3_0)
/-- An array times its sigmoid. -/
def weighted (x : FVec Ideal S128x8x1536 .f32) : FVec Ideal S128x8x1536 .f32 :=
  mulf x (Host.divf (broadcastInDim S128x8x1536 ![] bcast_S_S128x8x1536 (constant S_ .f32 0x3F800000#32))
    (addf (broadcastInDim S128x8x1536 ![] bcast_S_S128x8x1536 (constant S_ .f32 0x3F800000#32)) (Host.exp (Host.negf x))))
/-- The channels. -/
abbrev chan : FVec Ideal S128x8x1536 .f32 := weighted (convolved cw (lines p cv))
/-- A group of 512 channels by heads. -/
abbrev byHead (x : FVec Ideal S128x8x1536 .f32) (o : ℕ) (hs : S128x8x1536.Slices ![0, 0, o] S128x8x512) : FVec Ideal S128x4x8x128 .f32 :=
  transpose S128x4x8x128 [0, 2, 1, 3] (shapeCast _ (extractStridedSlice S128x8x512 ![0, 0, o] x hs) shapeCasts_S128x8x512_S128x8x4x128) transposes_S128x8x4x128_S128x4x8x128_0_2_1_3
/-- Vectors over their lengths. -/
def units (x : FVec Ideal S128x4x8x128 .f32) : FVec Ideal S128x4x8x128 .f32 :=
  mulf x (broadcastInDim S128x4x8x128 ![0, 1, 2, 3] bcast_S128x4x8x1_S128x4x8x128_0_1_2_3 (Host.rsqrt (addf
    (broadcastInDim S128x4x8x1 ![0, 1, 2] bcast_S128x4x8_S128x4x8x1_0_1_2 (Host.reduceAdd (mulf x x) (constant S_ .f32 0x00000000#32) reducesTo_S128x4x8x128_S128x4x8_d3 h_S_))
    (broadcastInDim S128x4x8x1 ![] bcast_S_S128x4x8x1 (constant S_ .f32 0x358637BD#32)))))
/-- The reference's queries, keys and values, by heads. -/
def queries : FVec Ideal S128x4x8x128 .f32 :=
  mulf (units (byHead (chan p cw cv) 0 slices_S128x8x1536_S128x8x512_0_0_0)) (broadcastInDim S128x4x8x128 ![] bcast_S_S128x4x8x128 (constant S_ .f32 0x3DB504F3#32))
def keys : FVec Ideal S128x4x8x128 .f32 := units (byHead (chan p cw cv) 512 slices_S128x8x1536_S128x8x512_0_0_512)
def vals : FVec Ideal S128x4x8x128 .f32 := byHead (chan p cw cv) 1024 slices_S128x8x1536_S128x8x512_0_0_1024
/-- The step sizes. -/
def steps : FVec Ideal S128x4x8 .f32 :=
  transpose S128x4x8 [0, 2, 1] (Host.divf (broadcastInDim S128x8x4 ![] bcast_S_S128x8x4 (constant S_ .f32 0x3F800000#32))
    (addf (broadcastInDim S128x8x4 ![] bcast_S_S128x8x4 (constant S_ .f32 0x3F800000#32))
      (Host.exp (Host.negf (extractStridedSlice S128x8x4 ![0, 0, 8712] (rowsOf p) slices_S128x8x8832_S128x8x4_0_0_8712))))) transposes_S128x8x4_S128x4x8_0_2_1
/-- The decays' arguments, and zeros of their shape. -/
def arg : FVec Ideal S128x8x4 .f32 :=
  addf (extractStridedSlice S128x8x4 ![0, 0, 8716] (rowsOf p) slices_S128x8x8832_S128x8x4_0_0_8716)
    (broadcastInDim S128x8x4 ![0, 1, 2] bcast_S1x1x4_S128x8x4_0_1_2 (broadcastInDim S1x1x4 ![2] bcast_S4_S1x1x4_2 dt))
abbrev nothing : FVec Ideal S128x8x4 .f32 := broadcastInDim S128x8x4 ![] bcast_S_S128x8x4 (constant S_ .f32 0x00000000#32)
/-- The log decays. -/
def decays (x : FVec Ideal S128x8x4 .f32) : FVec Ideal S128x4x8 .f32 :=
  transpose S128x4x8 [0, 2, 1] (mulf (broadcastInDim S128x8x4 ![0, 1, 2] bcast_S1x1x4_S128x8x4_0_1_2 (broadcastInDim S1x1x4 ![2] bcast_S4_S1x1x4_2 (Host.negf (Host.exp al))))
    (select (cmpf .une (subf x nothing) (subf x nothing)) (addf x nothing)
      (addf (maximumf x nothing) (Host.log1p (Host.exp (Host.negf (Host.absf (subf x nothing)))))))) transposes_S128x8x4_S128x4x8_0_2_1
/-- Their running sums. -/
def sums : FVec Ideal S128x4x8 .f32 :=
  Host.reduceWindowAdd ![1, 1, 8] ![1, 1, 1] ![0, 0, 7] ![0, 0, 0] (decays al (arg p dt)) (broadcastInDim S_ ![] bcast_S_S_ (constant S_ .f32 0x00000000#32))
    reduceWindows_S128x4x8_S128x4x8_w1s1p0_0_w1s1p0_0_w8s1p7_0 h_S_
/-- The mask of the tokens a number of places before a token, over all heads. -/
def mask (n : BitVec 32) : IVec S128x4x8x8 1 :=
  broadcastInDim S128x4x8x8 ![2, 3] bcast_S8x8_S128x4x8x8_2_3 (select (cmpi .sge (addi (iotaInDim S8x8 32 0) (broadcastInDim S8x8 ![] bcast_S_S8x8 (constantI S_ 32 n))) (iotaInDim S8x8 32 1))
    (broadcastInDim S8x8 ![] bcast_S_S8x8 (constantI S_ 1 1#1)) (broadcastInDim S8x8 ![] bcast_S_S8x8 (constantI S_ 1 0#1)))
/-- The zeros where the mask is off. -/
abbrev zeros : FVec Ideal S128x4x8x8 .f32 := broadcastInDim S128x4x8x8 ![] bcast_S_S128x4x8x8 (id (constant S_ .f32 0x00000000#32))
/-- A number of a token over its row, or over its vector. -/
abbrev later (x : FVec Ideal S128x4x8 .f32) : FVec Ideal S128x4x8x8 .f32 :=
  broadcastInDim S128x4x8x8 ![0, 1, 2, 3] bcast_S128x4x8x1_S128x4x8x8_0_1_2_3 (broadcastInDim S128x4x8x1 ![0, 1, 2] bcast_S128x4x8_S128x4x8x1_0_1_2 x)
abbrev earlier (x : FVec Ideal S128x4x8 .f32) : FVec Ideal S128x4x8x8 .f32 :=
  broadcastInDim S128x4x8x8 ![0, 1, 2, 3] bcast_S128x4x1x8_S128x4x8x8_0_1_2_3 (broadcastInDim S128x4x1x8 ![0, 1, 3] bcast_S128x4x8_S128x4x1x8_0_1_3 x)
abbrev along (x : FVec Ideal S128x4x8 .f32) : FVec Ideal S128x4x8x128 .f32 :=
  broadcastInDim S128x4x8x128 ![0, 1, 2, 3] bcast_S128x4x8x1_S128x4x8x128_0_1_2_3 (broadcastInDim S128x4x8x1 ![0, 1, 2] bcast_S128x4x8_S128x4x8x1_0_1_2 x)
/-- The decay in between, under a mask. -/
def between (m : IVec S128x4x8x8 1) (b : FVec Ideal S128x4x8 .f32) : FVec Ideal S128x4x8x8 .f32 :=
  select m (Host.exp (select m (subf (later b) (earlier b)) zeros)) zeros
/-- The products of two tokens' vectors. -/
abbrev products (x y : FVec Ideal S128x4x8x128 .f32) : FVec Ideal S128x4x8x8 .f32 :=
  Host.dotGeneral dot_S128x4x8x128_S128x4x8x128_S128x4x8x8_3_3_2_2_01_01 none x y
/-- The system's matrix. -/
def system (k : FVec Ideal S128x4x8x128 .f32) (be b : FVec Ideal S128x4x8 .f32) : FVec Ideal S128x4x8x8 .f32 :=
  mulf (mulf (later be) (products k k)) (between (mask 4294967295#32) b)
/-- The system's right sides: the values, then the decayed keys. -/
def sides (k v : FVec Ideal S128x4x8x128 .f32) (be b : FVec Ideal S128x4x8 .f32) : FVec Ideal S128x4x8x256 .f32 :=
  concatenate S128x4x8x256 3 [⟨S128x4x8x128, mulf v (along be)⟩, ⟨S128x4x8x128, mulf k (along (mulf be (Host.exp b)))⟩] concatenates_S128x4x8x128_S128x4x8x128_S128x4x8x256_d3

/-- One row of the right sides. -/
abbrev pick (r : FVec Ideal S128x4x8x256 .f32) (n : ℕ) (h : S128x4x8x256.Slices ![0, 0, n, 0] S128x4x1x256) : FVec Ideal S128x4x256 .f32 :=
  shapeCast _ (extractStridedSlice S128x4x1x256 ![0, 0, n, 0] r h) shapeCasts_S128x4x1x256_S128x4x256
/-- A row less an entry of the matrix times another row. -/
abbrev less (a : FVec Ideal S128x4x8x8 .f32) (n i : ℕ) (h : S128x4x8x8.Slices ![0, 0, n, i] S128x4x1x1) (x y : FVec Ideal S128x4x256 .f32) : FVec Ideal S128x4x256 .f32 :=
  subf x (mulf (broadcastInDim S128x4x256 ![0, 1, 2] bcast_S128x4x1_S128x4x256_0_1_2 (broadcastInDim S128x4x1 ![0, 1] bcast_S128x4_S128x4x1_0_1
    (shapeCast _ (extractStridedSlice S128x4x1x1 ![0, 0, n, i] a h) shapeCasts_S128x4x1x1_S128x4))) y)

section rows

variable (a : FVec Ideal S128x4x8x8 .f32) (r : FVec Ideal S128x4x8x256 .f32)

/-- The rows of the solution, each from the ones before it. -/
def row0 : FVec Ideal S128x4x256 .f32 := pick r 0 slices_S128x4x8x256_S128x4x1x256_0_0_0_0
def row1 : FVec Ideal S128x4x256 .f32 := less a 1 0 slices_S128x4x8x8_S128x4x1x1_0_0_1_0 (pick r 1 slices_S128x4x8x256_S128x4x1x256_0_0_1_0) (row0 r)
def row2 : FVec Ideal S128x4x256 .f32 :=
  less a 2 1 slices_S128x4x8x8_S128x4x1x1_0_0_2_1 (less a 2 0 slices_S128x4x8x8_S128x4x1x1_0_0_2_0 (pick r 2 slices_S128x4x8x256_S128x4x1x256_0_0_2_0) (row0 r)) (row1 a r)
def row3 : FVec Ideal S128x4x256 .f32 :=
  less a 3 2 slices_S128x4x8x8_S128x4x1x1_0_0_3_2 (less a 3 1 slices_S128x4x8x8_S128x4x1x1_0_0_3_1 (less a 3 0 slices_S128x4x8x8_S128x4x1x1_0_0_3_0
    (pick r 3 slices_S128x4x8x256_S128x4x1x256_0_0_3_0) (row0 r)) (row1 a r)) (row2 a r)
def row4 : FVec Ideal S128x4x256 .f32 :=
  less a 4 3 slices_S128x4x8x8_S128x4x1x1_0_0_4_3 (less a 4 2 slices_S128x4x8x8_S128x4x1x1_0_0_4_2 (less a 4 1 slices_S128x4x8x8_S128x4x1x1_0_0_4_1
    (less a 4 0 slices_S128x4x8x8_S128x4x1x1_0_0_4_0 (pick r 4 slices_S128x4x8x256_S128x4x1x256_0_0_4_0) (row0 r)) (row1 a r)) (row2 a r)) (row3 a r)
def row5 : FVec Ideal S128x4x256 .f32 :=
  less a 5 4 slices_S128x4x8x8_S128x4x1x1_0_0_5_4 (less a 5 3 slices_S128x4x8x8_S128x4x1x1_0_0_5_3 (less a 5 2 slices_S128x4x8x8_S128x4x1x1_0_0_5_2
    (less a 5 1 slices_S128x4x8x8_S128x4x1x1_0_0_5_1 (less a 5 0 slices_S128x4x8x8_S128x4x1x1_0_0_5_0 (pick r 5 slices_S128x4x8x256_S128x4x1x256_0_0_5_0)
      (row0 r)) (row1 a r)) (row2 a r)) (row3 a r)) (row4 a r)
def row6 : FVec Ideal S128x4x256 .f32 :=
  less a 6 5 slices_S128x4x8x8_S128x4x1x1_0_0_6_5 (less a 6 4 slices_S128x4x8x8_S128x4x1x1_0_0_6_4 (less a 6 3 slices_S128x4x8x8_S128x4x1x1_0_0_6_3
    (less a 6 2 slices_S128x4x8x8_S128x4x1x1_0_0_6_2 (less a 6 1 slices_S128x4x8x8_S128x4x1x1_0_0_6_1 (less a 6 0 slices_S128x4x8x8_S128x4x1x1_0_0_6_0
      (pick r 6 slices_S128x4x8x256_S128x4x1x256_0_0_6_0) (row0 r)) (row1 a r)) (row2 a r)) (row3 a r)) (row4 a r)) (row5 a r)
def row7 : FVec Ideal S128x4x256 .f32 :=
  less a 7 6 slices_S128x4x8x8_S128x4x1x1_0_0_7_6 (less a 7 5 slices_S128x4x8x8_S128x4x1x1_0_0_7_5 (less a 7 4 slices_S128x4x8x8_S128x4x1x1_0_0_7_4
    (less a 7 3 slices_S128x4x8x8_S128x4x1x1_0_0_7_3 (less a 7 2 slices_S128x4x8x8_S128x4x1x1_0_0_7_2 (less a 7 1 slices_S128x4x8x8_S128x4x1x1_0_0_7_1
      (less a 7 0 slices_S128x4x8x8_S128x4x1x1_0_0_7_0 (pick r 7 slices_S128x4x8x256_S128x4x1x256_0_0_7_0) (row0 r)) (row1 a r)) (row2 a r)) (row3 a r)) (row4 a r))
      (row5 a r)) (row6 a r)

/-- Eight rows, one after the other. -/
def stacked (x0 x1 x2 x3 x4 x5 x6 x7 : FVec Ideal S128x4x256 .f32) : FVec Ideal S128x4x8x256 .f32 :=
  concatenate S128x4x8x256 2
    [⟨S128x4x1x256, broadcastInDim S128x4x1x256 ![0, 1, 3] bcast_S128x4x256_S128x4x1x256_0_1_3 x0⟩, ⟨S128x4x1x256, broadcastInDim S128x4x1x256 ![0, 1, 3] bcast_S128x4x256_S128x4x1x256_0_1_3 x1⟩,
      ⟨S128x4x1x256, broadcastInDim S128x4x1x256 ![0, 1, 3] bcast_S128x4x256_S128x4x1x256_0_1_3 x2⟩, ⟨S128x4x1x256, broadcastInDim S128x4x1x256 ![0, 1, 3] bcast_S128x4x256_S128x4x1x256_0_1_3 x3⟩,
      ⟨S128x4x1x256, broadcastInDim S128x4x1x256 ![0, 1, 3] bcast_S128x4x256_S128x4x1x256_0_1_3 x4⟩, ⟨S128x4x1x256, broadcastInDim S128x4x1x256 ![0, 1, 3] bcast_S128x4x256_S128x4x1x256_0_1_3 x5⟩,
      ⟨S128x4x1x256, broadcastInDim S128x4x1x256 ![0, 1, 3] bcast_S128x4x256_S128x4x1x256_0_1_3 x6⟩, ⟨S128x4x1x256, broadcastInDim S128x4x1x256 ![0, 1, 3] bcast_S128x4x256_S128x4x1x256_0_1_3 x7⟩]
    concatenates_S128x4x1x256_S128x4x1x256_S128x4x1x256_S128x4x1x256_S128x4x1x256_S128x4x1x256_S128x4x1x256_S128x4x1x256_S128x4x8x256_d2

/-- The solution. -/
def solution : FVec Ideal S128x4x8x256 .f32 :=
  stacked (row0 r) (row1 a r) (row2 a r) (row3 a r) (row4 a r) (row5 a r) (row6 a r) (row7 a r)

end rows

/-- What each token writes, from the solution. -/
def written (x : FVec Ideal S128x4x8x256 .f32) : FVec Ideal S128x4x8x128 .f32 :=
  subf (extractStridedSlice S128x4x8x128 ![0, 0, 0, 0] x slices_S128x4x8x256_S128x4x8x128_0_0_0_0)
    (Host.dotGeneral dot_S128x4x8x128_S128x4x128x128_S128x4x8x128_3_2_2_3_01_01 none (extractStridedSlice S128x4x8x128 ![0, 0, 0, 128] x slices_S128x4x8x256_S128x4x8x128_0_0_0_128) st)
/-- The reference's output before its norm. -/
def outs (q k n : FVec Ideal S128x4x8x128 .f32) (b : FVec Ideal S128x4x8 .f32) : FVec Ideal S128x4x8x128 .f32 :=
  addf (Host.dotGeneral dot_S128x4x8x128_S128x4x128x128_S128x4x8x128_3_2_2_3_01_01 none (mulf q (along (Host.exp b))) st)
    (Host.dotGeneral dot_S128x4x8x8_S128x4x8x128_S128x4x8x128_3_2_2_3_01_01 none (mulf (products q k) (between (mask 0#32) b)) n)
/-- The last running sums. -/
abbrev last (b : FVec Ideal S128x4x8 .f32) : FVec Ideal S128x4 .f32 :=
  shapeCast _ (extractStridedSlice S128x4x1 ![0, 0, 7] b slices_S128x4x8_S128x4x1_0_0_7) shapeCasts_S128x4x1_S128x4
/-- The reference's new states. -/
def states (k n : FVec Ideal S128x4x8x128 .f32) (b : FVec Ideal S128x4x8 .f32) : FVec Ideal S128x4x128x128 .f32 :=
  addf (mulf (broadcastInDim S128x4x128x128 ![0, 1, 2, 3] bcast_S128x4x1x1_S128x4x128x128_0_1_2_3 (broadcastInDim S128x4x1x1 ![0, 1] bcast_S128x4_S128x4x1x1_0_1 (Host.exp (last b)))) st)
    (Host.dotGeneral dot_S128x4x8x128_S128x4x8x128_S128x4x128x128_2_2_3_3_01_01 none
      (mulf k (along (Host.exp (subf (broadcastInDim S128x4x8 ![0, 1, 2] bcast_S128x4x1_S128x4x8_0_1_2 (broadcastInDim S128x4x1 ![0, 1] bcast_S128x4_S128x4x1_0_1 (last b))) b)))) n)
/-- The output gates' columns. -/
abbrev gates : FVec Ideal S128x8x512 .f32 := extractStridedSlice S128x8x512 ![0, 0, 3584] (rowsOf p) slices_S128x8x8832_S128x8x512_0_0_3584
/-- The reference's output, from the output before its norm. -/
def final (o : FVec Ideal S128x4x8x128 .f32) : FVec Ideal S1024x512 .f32 :=
  shapeCast _ (mulf (mulf (shapeCast _ (transpose S128x8x4x128 [0, 2, 1, 3] (mulf o (broadcastInDim S128x4x8x128 ![0, 1, 2, 3] bcast_S128x4x8x1_S128x4x8x128_0_1_2_3
      (Host.rsqrt (addf (Host.divf (broadcastInDim S128x4x8x1 ![0, 1, 2] bcast_S128x4x8_S128x4x8x1_0_1_2 (Host.reduceAdd (mulf o o) (constant S_ .f32 0x00000000#32) reducesTo_S128x4x8x128_S128x4x8_d3 h_S_))
        (broadcastInDim S128x4x8x1 ![] bcast_S_S128x4x8x1 (constant S_ .f32 0x43000000#32))) (broadcastInDim S128x4x8x1 ![] bcast_S_S128x4x8x1 (constant S_ .f32 0x358637BD#32))))))
      transposes_S128x4x8x128_S128x8x4x128_0_2_1_3) shapeCasts_S128x8x4x128_S128x8x512)
      (broadcastInDim S128x8x512 ![0, 1, 2] bcast_S1x1x512_S128x8x512_0_1_2 (broadcastInDim S1x1x512 ![2] bcast_S512_S1x1x512_2 g)))
    (mulf (gates p) (Host.divf (broadcastInDim S128x8x512 ![] bcast_S_S128x8x512 (constant S_ .f32 0x3F800000#32))
      (addf (broadcastInDim S128x8x512 ![] bcast_S_S128x8x512 (constant S_ .f32 0x3F800000#32)) (Host.exp (Host.negf (gates p))))))) shapeCasts_S128x8x512_S1024x512

/-- The head of a batch row. -/
abbrev H (b : Fin 128) (h : Fin 4) : Head := head p cw al dt st cv b h

theorem select_ite {α : Type} (p : Prop) [Decidable p] (a b : α) :
    Scalar.select (if p then 1#1 else 0#1) a b = if p then a else b := by
  by_cases h : p <;> simp [h, Scalar.select]

/-- An element of the projected array by its row and column. -/
theorem elt {i j : ℕ} {hi : i < 1024} {hj : j < 8832} {b : Fin 128} {t : Fin 8} {j' : ℕ} {hj' : j' < 8832} (ei : i = 8 * b.val + t.val) (ej : j = j') :
    p (ix2 ⟨i, hi⟩ ⟨j, hj⟩) = col p b t j' hj' := by
  subst ei ej
  rfl

/-- An element of a row by its lane. -/
theorem lane {j j' : ℕ} {hj : j < 512} {hj' : j' < 512} (ej : j = j') : g (ix1 ⟨j, hj⟩) = g (ix1 ⟨j', hj'⟩) := by
  subst ej
  rfl

theorem early_at (b : Fin 128) (u : Fin 3) (j : Fin 1536) : lines p cv (ix3 b ⟨u.val, by omega⟩ j) = cv (ix3 b u j) := by
  pointwise [lines]

theorem late_at (b : Fin 128) (t : Fin 8) (j : Fin 1536) : lines p cv (ix3 b ⟨3 + t.val, by omega⟩ j) = col p b t (2048 + j.val) := by
  pointwise [lines]
  exact elt p (by omega) (by omega)

/-- The rows the convolution reads. -/
theorem lines_at (b : Fin 128) (u : ℕ) (hu : u < 11) (j : Fin 1536) : lines p cv (ix3 b ⟨u, hu⟩ j) = GdnHead.read p cv b u j := by
  unfold GdnHead.read
  split
  · next h => exact early_at p cv b ⟨u, h⟩ j
  · next h =>
    have e : (⟨u, hu⟩ : Fin 11) = ⟨3 + (u - 3), by omega⟩ := Fin.ext (by dsimp only; omega)
    exact (congrArg (fun i => lines p cv (ix3 b i j)) e).trans (late_at p cv b ⟨u - 3, by omega⟩ j)

theorem convolved_at (x : FVec Ideal S128x11x1536 .f32) (b : Fin 128) (t : Fin 8) (j : Fin 1536) :
    convolved cw x (ix3 b t j) = x (ix3 b ⟨t.val, by omega⟩ j) * cw (ix2 0 j) + x (ix3 b ⟨t.val + 1, by omega⟩ j) * cw (ix2 1 j)
      + x (ix3 b ⟨t.val + 2, by omega⟩ j) * cw (ix2 2 j) + x (ix3 b ⟨t.val + 3, by omega⟩ j) * cw (ix2 3 j) := by
  pointwise [convolved]
  simp only [Nat.add_comm 1 t.val, Nat.add_comm 2 t.val, Nat.add_comm 3 t.val]

theorem weighted_at (x : FVec Ideal S128x8x1536 .f32) (b : Fin 128) (t : Fin 8) (j : Fin 1536) : weighted x (ix3 b t j) = silu (x (ix3 b t j)) := by
  pointwise [weighted]
  rfl

theorem chan_at (b : Fin 128) (t : Fin 8) (j : Fin 1536) : chan p cw cv (ix3 b t j) = silu (conv p cw cv b t j) := by
  refine (weighted_at _ b t j).trans (congrArg silu ((convolved_at cw _ b t j).trans ?_))
  simp only [lines_at]
  rfl

theorem byHead_at (x : FVec Ideal S128x8x1536 .f32) (o : ℕ) (hs) (b : Fin 128) (h : Fin 4) (t : Fin 8) (w : Fin 128) (hj : o + (128 * h.val + w.val) < 1536) :
    byHead x o hs (ix4 b h t w) = x (ix3 b t ⟨o + (128 * h.val + w.val), hj⟩) := by
  pointwise []
  exact congrArg (fun i => x (ix3 b t i)) (Fin.ext (by dsimp only; omega))

theorem units_at (x : FVec Ideal S128x4x8x128 .f32) (b : Fin 128) (h : Fin 4) (t : Fin 8) (w : Fin 128) :
    units x (ix4 b h t w) = unit (fun j => x (ix4 b h t j)) w := by
  unfold units
  clean_types
  pointwise []
  rfl

/-- The reference's arrays, element by element, are the head's values of the same names. -/
theorem q_at (b : Fin 128) (h : Fin 4) (t : Fin 8) (x : Fin 128) : queries p cw cv (ix4 b h t x) = (H p cw al dt st cv b h).qn t x := by
  have e : queries p cw cv (ix4 b h t x) = units (byHead (chan p cw cv) 0 slices_S128x8x1536_S128x8x512_0_0_0) (ix4 b h t x) * Ideal.ofBits .f32 0x3DB504F3#32 := by
    unfold queries
    generalize units (byHead (chan p cw cv) 0 slices_S128x8x1536_S128x8x512_0_0_0) = y
    pointwise []
  refine e.trans (congrArg (fun z : EReal => z * Ideal.ofBits .f32 0x3DB504F3#32) ?_)
  refine (units_at _ b h t x).trans (congrArg (fun f => unit f x) (funext fun y => ?_))
  refine (byHead_at _ 0 _ b h t y (by omega)).trans ((chan_at p cw cv b t _).trans ?_)
  exact congrArg (fun i => silu (conv p cw cv b t i)) (Fin.ext (by dsimp only; omega))

theorem k_at (b : Fin 128) (h : Fin 4) (t : Fin 8) (x : Fin 128) : keys p cw cv (ix4 b h t x) = (H p cw al dt st cv b h).kn t x := by
  refine (units_at _ b h t x).trans (congrArg (fun f => unit f x) (funext fun y => ?_))
  exact (byHead_at _ 512 _ b h t y (by omega)).trans (chan_at p cw cv b t _)

theorem v_at (b : Fin 128) (h : Fin 4) (t : Fin 8) (x : Fin 128) : vals p cw cv (ix4 b h t x) = (H p cw al dt st cv b h).v t x :=
  (byHead_at _ 1024 _ b h t x (by omega)).trans (chan_at p cw cv b t _)

theorem beta_at (b : Fin 128) (h : Fin 4) (t : Fin 8) : steps p (ix3 b h t) = (H p cw al dt st cv b h).beta t := by
  pointwise [steps]
  exact congrArg Ideal.logistic (elt p (by omega) (by omega))

theorem arg_at (b : Fin 128) (h : Fin 4) (t : Fin 8) : arg p dt (ix3 b t h) = col p b t (8716 + h.val) + dt (ix1 h) := by
  pointwise [arg]
  exact congrArg (fun z : EReal => z + dt (ix1 h)) (elt p (by omega) (by omega))

theorem decays_at (x : FVec Ideal S128x8x4 .f32) (b : Fin 128) (h : Fin 4) (t : Fin 8) :
    decays al x (ix3 b h t) = -(Ideal.exp (al (ix1 h))) * softplus (x (ix3 b t h)) := by
  pointwise [decays]
  rw [if_neg fun hne => hne rfl]
  rfl

theorem b_at (b : Fin 128) (h : Fin 4) (t : Fin 8) : sums p al dt (ix3 b h t) = (H p cw al dt st cv b h).b t := by
  unfold sums
  refine (window3 _ _ _ (by decide) ?_ b h t).trans ?_
  · pointwise []
  exact congrArg (fun f : Fin 8 → EReal => upTo f t) (funext fun s => (decays_at al _ b h s).trans
    (congrArg (fun z => -(Ideal.exp (al (ix1 h))) * softplus z) (arg_at p dt b h s)))

theorem before_at (b : Fin 128) (h : Fin 4) (t s : Fin 8) : mask 4294967295#32 (ix4 b h t s) = if s < t then 1#1 else 0#1 := by
  pointwise [mask]
  revert t s
  decide

theorem upto_at (b : Fin 128) (h : Fin 4) (t s : Fin 8) : mask 0#32 (ix4 b h t s) = if s ≤ t then 1#1 else 0#1 := by
  pointwise [mask]
  revert t s
  decide

theorem between_at (m : IVec S128x4x8x8 1) (x : FVec Ideal S128x4x8 .f32) (b : Fin 128) (h : Fin 4) (t s : Fin 8) (q : Prop) [Decidable q]
    (hm : m (ix4 b h t s) = if q then 1#1 else 0#1) : between m x (ix4 b h t s) = if q then Ideal.exp (x (ix3 b h t) - x (ix3 b h s)) else 0 := by
  pointwise [between]
  simp only [hm, select_ite]
  by_cases hq : q
  · simp only [if_pos hq]
  · simp only [if_neg hq]
    pointwise [id]

theorem products_at (x y : FVec Ideal S128x4x8x128 .f32) (b : Fin 128) (h : Fin 4) (t s : Fin 8) :
    products x y (ix4 b h t s) = ∑ j, x (ix4 b h t j) * y (ix4 b h s j) := by
  pointwise []

theorem system_at (k : FVec Ideal S128x4x8x128 .f32) (be x : FVec Ideal S128x4x8 .f32) (b : Fin 128) (h : Fin 4) (t s : Fin 8) :
    system k be x (ix4 b h t s) = be (ix3 b h t) * products k k (ix4 b h t s) * between (mask 4294967295#32) x (ix4 b h t s) := by
  unfold system
  generalize products k k = y
  generalize between (mask 4294967295#32) x = z
  pointwise []

theorem a_at (b : Fin 128) (h : Fin 4) (t s : Fin 8) :
    system (keys p cw cv) (steps p) (sums p al dt) (ix4 b h t s) = (H p cw al dt st cv b h).a t s := by
  refine (system_at _ _ _ b h t s).trans ?_
  rw [between_at _ _ b h t s _ (before_at b h t s), products_at]
  simp only [k_at p cw al dt st cv, beta_at p cw al dt st cv, b_at p cw al dt st cv]
  rfl

theorem sideV_at (b : Fin 128) (h : Fin 4) (t : Fin 8) (w : Fin 128) :
    sides (keys p cw cv) (vals p cw cv) (steps p) (sums p al dt) (ix4 b h t ⟨w.val, by omega⟩) = (H p cw al dt st cv b h).v t w * (H p cw al dt st cv b h).beta t := by
  pointwise [sides]
  rw [v_at p cw al dt st cv, beta_at p cw al dt st cv]

theorem sideK_at (b : Fin 128) (h : Fin 4) (t : Fin 8) (w : Fin 128) :
    sides (keys p cw cv) (vals p cw cv) (steps p) (sums p al dt) (ix4 b h t ⟨128 + w.val, by omega⟩)
      = (H p cw al dt st cv b h).kn t w * ((H p cw al dt st cv b h).beta t * Ideal.exp ((H p cw al dt st cv b h).b t)) := by
  pointwise [sides]
  rw [k_at p cw al dt st cv, beta_at p cw al dt st cv, b_at p cw al dt st cv]

theorem pick_at (r : FVec Ideal S128x4x8x256 .f32) (n : ℕ) (hs) (hn : n < 8) (b : Fin 128) (h : Fin 4) (j : Fin 256) :
    pick r n hs (ix3 b h j) = r (ix4 b h ⟨n, hn⟩ j) := by
  pointwise []

theorem less_at (a : FVec Ideal S128x4x8x8 .f32) (n i : ℕ) (hs) (hn : n < 8) (hi : i < 8) (x y : FVec Ideal S128x4x256 .f32) (b : Fin 128) (h : Fin 4) (j : Fin 256) :
    less a n i hs x y (ix3 b h j) = x (ix3 b h j) - a (ix4 b h ⟨n, hn⟩ ⟨i, hi⟩) * y (ix3 b h j) := by
  pointwise []

theorem stacked_at (x0 x1 x2 x3 x4 x5 x6 x7 : FVec Ideal S128x4x256 .f32) (b : Fin 128) (h : Fin 4) (t : Fin 8) (j : Fin 256) :
    stacked x0 x1 x2 x3 x4 x5 x6 x7 (ix4 b h t j) = ![x0, x1, x2, x3, x4, x5, x6, x7] t (ix3 b h j) := by
  pointwise [stacked]
  fin_cases t <;> rfl

section solve

variable (a : FVec Ideal S128x4x8x8 .f32) (r : FVec Ideal S128x4x8x256 .f32) (b : Fin 128) (h : Fin 4) (j : Fin 256)

/-- A column of the system. -/
abbrev A (t s : Fin 8) : EReal := a (ix4 b h t s)
abbrev R (t : Fin 8) : EReal := r (ix4 b h t j)

variable {a r b h j}

/-- One more row taken off. -/
theorem take {n i : ℕ} {hs} (hn : n < 8) (hi : i < 8) {x y : FVec Ideal S128x4x256 .f32} (hx : x (ix3 b h j) = rest (A a b h) (R r b h j) i ⟨n, hn⟩)
    (hy : y (ix3 b h j) = sol (A a b h) (R r b h j) ⟨i, hi⟩) : less a n i hs x y (ix3 b h j) = rest (A a b h) (R r b h j) (i + 1) ⟨n, hn⟩ := by
  rw [less_at a n i hs hn hi x y b h j, hx, hy, rest_succ _ _ i hi]

theorem none (n : ℕ) {hs} (hn : n < 8) : pick r n hs (ix3 b h j) = rest (A a b h) (R r b h j) 0 ⟨n, hn⟩ := pick_at r n hs hn b h j

/-- The reference's rows are the solution's. -/
theorem row0_at : row0 r (ix3 b h j) = sol (A a b h) (R r b h j) 0 := none 0 (by omega)
theorem row1_at : row1 a r (ix3 b h j) = sol (A a b h) (R r b h j) 1 := take (n := 1) (i := 0) (by omega) (by omega) (none 1 (by omega)) row0_at
theorem row2_at : row2 a r (ix3 b h j) = sol (A a b h) (R r b h j) 2 :=
  take (n := 2) (i := 1) (by omega) (by omega) (take (by omega) (by omega) (none 2 (by omega)) row0_at) row1_at
theorem row3_at : row3 a r (ix3 b h j) = sol (A a b h) (R r b h j) 3 :=
  take (n := 3) (i := 2) (by omega) (by omega) (take (by omega) (by omega) (take (by omega) (by omega) (none 3 (by omega)) row0_at) row1_at) row2_at
theorem row4_at : row4 a r (ix3 b h j) = sol (A a b h) (R r b h j) 4 :=
  take (n := 4) (i := 3) (by omega) (by omega) (take (by omega) (by omega) (take (by omega) (by omega) (take (by omega) (by omega) (none 4 (by omega)) row0_at) row1_at) row2_at) row3_at
theorem row5_at : row5 a r (ix3 b h j) = sol (A a b h) (R r b h j) 5 :=
  take (n := 5) (i := 4) (by omega) (by omega) (take (by omega) (by omega) (take (by omega) (by omega) (take (by omega) (by omega) (take (by omega) (by omega)
    (none 5 (by omega)) row0_at) row1_at) row2_at) row3_at) row4_at
theorem row6_at : row6 a r (ix3 b h j) = sol (A a b h) (R r b h j) 6 :=
  take (n := 6) (i := 5) (by omega) (by omega) (take (by omega) (by omega) (take (by omega) (by omega) (take (by omega) (by omega) (take (by omega) (by omega)
    (take (by omega) (by omega) (none 6 (by omega)) row0_at) row1_at) row2_at) row3_at) row4_at) row5_at
theorem row7_at : row7 a r (ix3 b h j) = sol (A a b h) (R r b h j) 7 :=
  take (n := 7) (i := 6) (by omega) (by omega) (take (by omega) (by omega) (take (by omega) (by omega) (take (by omega) (by omega) (take (by omega) (by omega)
    (take (by omega) (by omega) (take (by omega) (by omega) (none 7 (by omega)) row0_at) row1_at) row2_at) row3_at) row4_at) row5_at) row6_at

theorem solution_at (t : Fin 8) : solution a r (ix4 b h t j) = sol (A a b h) (R r b h j) t := by
  refine (stacked_at _ _ _ _ _ _ _ _ b h t j).trans ?_
  fin_cases t
  exacts [row0_at, row1_at, row2_at, row3_at, row4_at, row5_at, row6_at, row7_at]

end solve

/-- The solution for the reference's system. -/
abbrev solved : FVec Ideal S128x4x8x256 .f32 :=
  solution (system (keys p cw cv) (steps p) (sums p al dt)) (sides (keys p cw cv) (vals p cw cv) (steps p) (sums p al dt))

theorem solV_at (b : Fin 128) (h : Fin 4) (t : Fin 8) (w : Fin 128) :
    solved p cw al dt cv (ix4 b h t ⟨w.val, by omega⟩) = (H p cw al dt st cv b h).solV t w :=
  (solution_at t).trans <| congrArg₂ (fun x y => sol x y t) (funext₂ fun t s => a_at p cw al dt st cv b h t s) (funext fun s => sideV_at p cw al dt st cv b h s w)

theorem solK_at (b : Fin 128) (h : Fin 4) (t : Fin 8) (w : Fin 128) :
    solved p cw al dt cv (ix4 b h t ⟨128 + w.val, by omega⟩) = (H p cw al dt st cv b h).solK t w :=
  (solution_at t).trans <| congrArg₂ (fun x y => sol x y t) (funext₂ fun t s => a_at p cw al dt st cv b h t s) (funext fun s => sideK_at p cw al dt st cv b h s w)

theorem written_at (x : FVec Ideal S128x4x8x256 .f32) (b : Fin 128) (h : Fin 4) (t : Fin 8) (w : Fin 128) :
    written st x (ix4 b h t w) = x (ix4 b h t ⟨w.val, by omega⟩) - ∑ j : Fin 128, x (ix4 b h t ⟨128 + j.val, by omega⟩) * st (ix4 b h j w) := by
  pointwise [written]

/-- What each token writes. -/
abbrev news : FVec Ideal S128x4x8x128 .f32 := written st (solved p cw al dt cv)

theorem newV_at (b : Fin 128) (h : Fin 4) (t : Fin 8) (w : Fin 128) : news p cw al dt st cv (ix4 b h t w) = (H p cw al dt st cv b h).newV t w := by
  refine (written_at st _ b h t w).trans ?_
  simp only [solV_at p cw al dt st cv, solK_at p cw al dt st cv]
  rfl

theorem outs_at (q k n : FVec Ideal S128x4x8x128 .f32) (x : FVec Ideal S128x4x8 .f32) (b : Fin 128) (h : Fin 4) (t : Fin 8) (w : Fin 128) :
    outs st q k n x (ix4 b h t w) = ∑ j, q (ix4 b h t j) * Ideal.exp (x (ix3 b h t)) * st (ix4 b h j w)
      + ∑ s, products q k (ix4 b h t s) * between (mask 0#32) x (ix4 b h t s) * n (ix4 b h s w) := by
  unfold outs
  generalize products q k = y
  generalize between (mask 0#32) x = z
  pointwise []

theorem hidden_at (b : Fin 128) (h : Fin 4) (t : Fin 8) (w : Fin 128) :
    outs st (queries p cw cv) (keys p cw cv) (news p cw al dt st cv) (sums p al dt) (ix4 b h t w) = (H p cw al dt st cv b h).hidden t w := by
  refine (outs_at st _ _ _ _ b h t w).trans ?_
  simp only [between_at _ _ b h t _ _ (upto_at b h t _), products_at, newV_at, q_at p cw al dt st cv, k_at p cw al dt st cv, b_at p cw al dt st cv]
  rfl

theorem states_at (k n : FVec Ideal S128x4x8x128 .f32) (x : FVec Ideal S128x4x8 .f32) (b : Fin 128) (h : Fin 4) (y w : Fin 128) :
    states st k n x (ix4 b h y w) = Ideal.exp (x (ix3 b h 7)) * st (ix4 b h y w)
      + ∑ s, k (ix4 b h s y) * Ideal.exp (x (ix3 b h 7) - x (ix3 b h s)) * n (ix4 b h s w) := by
  pointwise [states]

section

variable (m : (ℓ : Loc nD τ sig) → Buf (Elt Ideal) ℓ) (c : Dev nD)

/-- The seven arrays the reference is given. -/
abbrev P : FVec Ideal S1024x8832 .f32 := m ((c.tc : Thread nD τ).loc main_arg0)
abbrev weight : FVec Ideal S4x1536 .f32 := m ((c.tc : Thread nD τ).loc main_arg1)
abbrev rate : FVec Ideal S4 .f32 := m ((c.tc : Thread nD τ).loc main_arg2)
abbrev bias : FVec Ideal S4 .f32 := m ((c.tc : Thread nD τ).loc main_arg3)
abbrev gain : FVec Ideal S512 .f32 := m ((c.tc : Thread nD τ).loc main_arg4)
abbrev carried : FVec Ideal S128x4x128x128 .f32 := m ((c.tc : Thread nD τ).loc main_arg5)
abbrev front : FVec Ideal S128x3x1536 .f32 := m ((c.tc : Thread nD τ).loc main_arg6)

theorem lines_eq : res_main_v5 (F := Ideal) (StableHlo.launchContents m c) = lines (P m c) (front m c) := rfl
theorem chan_eq : res_main_v36 (F := Ideal) (StableHlo.launchContents m c) = chan (P m c) (weight m c) (front m c) := rfl
theorem keys_eq : res_main_v63 (F := Ideal) (StableHlo.launchContents m c) = keys (P m c) (weight m c) (front m c) := rfl
theorem queries_eq : res_main_v55 (F := Ideal) (StableHlo.launchContents m c) = queries (P m c) (weight m c) (front m c) := rfl
theorem steps_eq : res_main_v70 (F := Ideal) (StableHlo.launchContents m c) = steps (P m c) := rfl
theorem sums_eq : res_main_v85 (F := Ideal) (StableHlo.launchContents m c) = sums (P m c) (rate m c) (bias m c) := rfl
theorem system_eq : res_main_v98 (F := Ideal) (StableHlo.launchContents m c) = system (keys (P m c) (weight m c) (front m c)) (steps (P m c)) (sums (P m c) (rate m c) (bias m c)) := rfl
theorem sides_eq : res_main_v107 (F := Ideal) (StableHlo.launchContents m c)
    = sides (keys (P m c) (weight m c) (front m c)) (vals (P m c) (weight m c) (front m c)) (steps (P m c)) (sums (P m c) (rate m c) (bias m c)) := rfl

theorem r0 : res_main_v109 (F := Ideal) (StableHlo.launchContents m c) = row0 (res_main_v107 (F := Ideal) (StableHlo.launchContents m c)) := rfl
theorem r1 : res_main_v117 (F := Ideal) (StableHlo.launchContents m c) = row1 (res_main_v98 (F := Ideal) (StableHlo.launchContents m c)) (res_main_v107 (F := Ideal) (StableHlo.launchContents m c)) := rfl
theorem r2 : res_main_v131 (F := Ideal) (StableHlo.launchContents m c) = row2 (res_main_v98 (F := Ideal) (StableHlo.launchContents m c)) (res_main_v107 (F := Ideal) (StableHlo.launchContents m c)) := rfl
theorem r3 : res_main_v151 (F := Ideal) (StableHlo.launchContents m c) = row3 (res_main_v98 (F := Ideal) (StableHlo.launchContents m c)) (res_main_v107 (F := Ideal) (StableHlo.launchContents m c)) := rfl
theorem r4 : res_main_v177 (F := Ideal) (StableHlo.launchContents m c) = row4 (res_main_v98 (F := Ideal) (StableHlo.launchContents m c)) (res_main_v107 (F := Ideal) (StableHlo.launchContents m c)) := rfl
theorem r5 : res_main_v209 (F := Ideal) (StableHlo.launchContents m c) = row5 (res_main_v98 (F := Ideal) (StableHlo.launchContents m c)) (res_main_v107 (F := Ideal) (StableHlo.launchContents m c)) := rfl
theorem r6 : res_main_v247 (F := Ideal) (StableHlo.launchContents m c) = row6 (res_main_v98 (F := Ideal) (StableHlo.launchContents m c)) (res_main_v107 (F := Ideal) (StableHlo.launchContents m c)) := rfl

theorem solution_eq : res_main_v300 (F := Ideal) (StableHlo.launchContents m c) = solved (P m c) (weight m c) (rate m c) (bias m c) (front m c) := by
  unfold solved
  rw [← system_eq, ← sides_eq]
  unfold solution
  rw [← r0, ← r1, ← r2, ← r3, ← r4, ← r5, ← r6]
  rfl

theorem news_eq : res_main_v304 (F := Ideal) (StableHlo.launchContents m c) = news (P m c) (weight m c) (rate m c) (bias m c) (carried m c) (front m c) := by
  unfold news
  rw [← solution_eq]
  rfl

theorem outs_eq : res_main_v316 (F := Ideal) (StableHlo.launchContents m c)
    = outs (carried m c) (queries (P m c) (weight m c) (front m c)) (keys (P m c) (weight m c) (front m c))
        (news (P m c) (weight m c) (rate m c) (bias m c) (carried m c) (front m c)) (sums (P m c) (rate m c) (bias m c)) := by
  rw [← news_eq, ← queries_eq, ← keys_eq, ← sums_eq]
  rfl

/-- The new states the reference returns. -/
theorem s_eq : states (carried m c) (res_main_v63 (F := Ideal) (StableHlo.launchContents m c)) (res_main_v304 (F := Ideal) (StableHlo.launchContents m c))
    (res_main_v85 (F := Ideal) (StableHlo.launchContents m c)) = outS (P m c) (weight m c) (rate m c) (bias m c) (carried m c) (front m c) := by
  rw [news_eq, keys_eq, sums_eq]
  funext i
  idx_vars i
  refine (states_at _ _ _ _ i0 i1 i2 i3).trans ?_
  simp only [newV_at, k_at _ _ (rate m c) (bias m c) (carried m c), b_at _ (weight m c) _ _ (carried m c) (front m c)]
  rfl

/-- The output the reference returns. -/
theorem y_eq : final (P m c) (gain m c) (res_main_v316 (F := Ideal) (StableHlo.launchContents m c))
    = outY (P m c) (weight m c) (rate m c) (bias m c) (gain m c) (carried m c) (front m c) := by
  rw [outs_eq]
  funext i
  idx_vars i
  unfold final
  clean_types
  pointwise []
  simp only [hidden_at]
  refine congrArg₂ (· * ·) (congrArg₂ (· * ·) rfl (lane _ ?_)) (congrArg silu ?_)
  · show i1.val = 128 * (i1.val / 128) + i1.val % 128
    omega
  · refine elt _ (t := ⟨i0.val % 8, by omega⟩) (b := ⟨i0.val / 8, by omega⟩) ?_ ?_
    · show i0.val = 8 * (i0.val / 8) + i0.val % 8
      omega
    · show 3584 + i1.val = 3584 + (128 * (i1.val / 128) + i1.val % 128)
      omega

/-- The rows the next block's convolution starts with, as the reference returns them. -/
theorem c_eq : extractStridedSlice S128x3x1536 ![0, 8, 0] (lines (P m c) (front m c)) slices_S128x11x1536_S128x3x1536_0_8_0 = outC (P m c) := by
  funext i
  idx_vars i
  refine Eq.trans ?_ (late_at (P m c) (front m c) i0 ⟨5 + i1.val, by omega⟩ i2)
  generalize lines (P m c) (front m c) = x
  pointwise []
  exact congrArg (fun j => x (ix3 i0 j i2)) (Fin.ext (by dsimp only; omega))

end

end Cert.GdnRefIdeal.Elements

end
-- ==== Proof.GdnClaims.lean ====
/-
  The claims about the gated delta-rule recurrence, from the runs of the kernel and of the reference.
-/
module

public import proofs.«01_k».proof.Defs
public import proofs.«01_k».proof.Proof.Gen.Gdn.Frame
public import proofs.«01_k».proof.Proof.GdnFinal
public import proofs.«01_k».proof.Proof.GdnReference
public import Idealize.ShloMosaic.Lib.Quiescent

@[expose] public section

noncomputable section

open Idealize.ShloMosaic Idealize.ShloMosaic.TcCoe Idealize.SL.Sem

namespace Cert.Proof.GdnClaims

/-- The shapes in the precondition fit. -/
theorem shapes : Cert.Pre_values_finite.Facts where
  slices_S1024x8832_S1024x512_0_3072 := by decide
  bcast_S_S1024x512 := by decide
  slices_S4x1536_S4x512_0_1024 := by decide
  bcast_S_S4x512 := by decide
  slices_S128x3x1536_S128x3x512_0_0_1024 := by decide
  bcast_S_S128x3x512 := by decide

attribute [local instance] shapes

/-- The kernel's run ends, its arguments are unchanged and its semaphores are at zero. -/
theorem frame : Cert.quiescent_Gdn := fun m ρ _ => Cert.Gdn.Gen.frame m ρ
/-- The same for the kernel over the extended reals. -/
theorem frameIdeal : Cert.quiescent_GdnIdeal := fun m ρ _ => Cert.GdnIdeal.Gen.frame m ρ
/-- The same for the reference. -/
theorem frameRef : Cert.quiescent_GdnRefIdeal := fun m ρ _ =>
  (θ_run Cert.GdnRefIdeal.defs _ _).mono (fun r h => ⟨fun c => (h c).2.2.2, sem_eq_zero_of_no_sems (by decide) r.2⟩)
    (Cert.GdnRefIdeal.Value.run (F := Ideal) m ρ)
/-- Both under the precondition. -/
theorem frameIdealPre : Cert.quiescent_GdnIdeal_pre_values_finite := fun m ρ _ => frameIdeal m ρ trivial
theorem frameRefPre : Cert.quiescent_GdnRefIdeal_pre_values_finite := fun m ρ _ => frameRef m ρ trivial

/-- No operation of the kernel was replaced by its idealization. -/
theorem preserves : Cert.preserves_Gdn_GdnIdeal := trivial

/-- A number whose absolute value is below infinity is real. -/
theorem isReal_of_lt (x : EReal) (h : Ideal.cmp .olt (max x (-x)) (Ideal.ofBits .f32 0x7F800000#32) = 1#1) : Cert.Solve.IsReal x := by
  have e : Ideal.ofBits .f32 0x7F800000#32 = (⊤ : EReal) := by simp [Ideal.ofBits, Ideal.ieee]
  rw [e] at h
  have hlt : max x (-x) < ⊤ := by
    by_contra hn
    simp [Ideal.cmp, hn] at h
  refine Cert.GdnHead.isReal_of_ne ?_ ?_
  · rintro rfl
    simp at hlt
  · rintro rfl
    simp at hlt

section elements

open Cert.Pre_values_finite

variable (p : FVec Ideal S1024x8832 .f32) (cw : FVec Ideal S4x1536 .f32) (al dt : FVec Ideal S4 .f32) (g : FVec Ideal S512 .f32)
  (st : FVec Ideal S128x4x128x128 .f32) (cv : FVec Ideal S128x3x1536 .f32)

/-- The precondition's three parts, element by element. -/
theorem part1 (r : Fin 1024) (j : Fin 512) : (fn p cw al dt g st cv).1 (ix2 r j)
    = Ideal.cmp .olt (max (p (ix2 r ⟨3072 + j.val, by omega⟩)) (-(p (ix2 r ⟨3072 + j.val, by omega⟩)))) (Ideal.ofBits .f32 0x7F800000#32) := by
  unfold fn
  pointwise []
  rfl

theorem part2 (i : Fin 4) (j : Fin 512) : (fn p cw al dt g st cv).2.1 (ix2 i j)
    = Ideal.cmp .olt (max (cw (ix2 i ⟨1024 + j.val, by omega⟩)) (-(cw (ix2 i ⟨1024 + j.val, by omega⟩)))) (Ideal.ofBits .f32 0x7F800000#32) := by
  unfold fn
  pointwise []
  rfl

theorem part3 (b : Fin 128) (i : Fin 3) (j : Fin 512) : (fn p cw al dt g st cv).2.2 (ix3 b i j)
    = Ideal.cmp .olt (max (cv (ix3 b i ⟨1024 + j.val, by omega⟩)) (-(cv (ix3 b i ⟨1024 + j.val, by omega⟩)))) (Ideal.ofBits .f32 0x7F800000#32) := by
  unfold fn
  pointwise []
  rfl

end elements

open Cert.GdnIdeal.Array in
/-- What the precondition says of the arguments. -/
theorem finite (m : (ℓ : Loc Cert.GdnIdeal.nD Cert.GdnIdeal.τ Cert.GdnIdeal.sig) → Buf (Elt Ideal) ℓ) (h : Cert.Pre_GdnIdeal_values_finite m)
    (c : Dev Cert.GdnIdeal.nD) : Cert.GdnHead.Finite (P m c) (cw m c) (cv m c) := by
  obtain ⟨h0, h1, h2⟩ := h c
  refine ⟨fun b t j hj => isReal_of_lt _ ?_, fun i j hj => isReal_of_lt _ ?_, fun b i j hj => isReal_of_lt _ ?_⟩
  · exact (part1 (P m c) (cw m c) (al m c) (dt m c) (gain m c) (st m c) (cv m c) ⟨8 * b.val + t.val, by omega⟩ ⟨j, hj⟩).symm.trans (congrFun h0 _)
  · exact (part2 (P m c) (cw m c) (al m c) (dt m c) (gain m c) (st m c) (cv m c) i ⟨j, hj⟩).symm.trans (congrFun h1 _)
  · exact (part3 (P m c) (cw m c) (al m c) (dt m c) (gain m c) (st m c) (cv m c) b i ⟨j, hj⟩).symm.trans (congrFun h2 _)

open Cert.GdnIdeal.Array in
/-- The kernel's results are the reference's, from arguments that agree. -/
theorem algebraic : Cert.algebraic_GdnIdeal_GdnRefIdeal_pre_values_finite := by
  intro m ρ m' ρ' hpre hag
  have e : ∀ c : Dev Cert.GdnIdeal.nD, Cert.GdnRefIdeal.Elements.P m' c = P m c
      ∧ Cert.GdnRefIdeal.Elements.weight m' c = cw m c
      ∧ Cert.GdnRefIdeal.Elements.rate m' c = al m c
      ∧ Cert.GdnRefIdeal.Elements.bias m' c = dt m c
      ∧ Cert.GdnRefIdeal.Elements.gain m' c = gain m c
      ∧ Cert.GdnRefIdeal.Elements.carried m' c = st m c
      ∧ Cert.GdnRefIdeal.Elements.front m' c = cv m c := hag
  have hf := finite m hpre
  refine ⟨fun c => (Cert.GdnIdeal.Gen.dats m 0 c).arrAt 8 Cert.GdnIdeal.cfg0.N,
    fun c => (Cert.GdnIdeal.Gen.dats m 0 c).arrAt 9 Cert.GdnIdeal.cfg0.N,
    fun c => (Cert.GdnIdeal.Gen.dats m 0 c).arrAt 10 Cert.GdnIdeal.cfg0.N,
    Cert.GdnIdeal.Value.run_blocks (F := Ideal) m ρ, ?_⟩
  refine (θ_run Cert.GdnRefIdeal.defs _ _).mono (fun _ h c => ?_) (Cert.GdnRefIdeal.Value.run (F := Ideal) m' ρ')
  obtain ⟨e0, e1, e2, e3, e4, e5, e6⟩ := e c
  obtain ⟨h0, h1, h2, hargs⟩ := h c
  refine ⟨?_, ?_, ?_, hargs⟩
  · beta_reduce
    rw [finalY m hf c, ← e0, ← e1, ← e2, ← e3, ← e4, ← e5, ← e6]
    exact h0.trans (Cert.GdnRefIdeal.Elements.y_eq m' c)
  · beta_reduce
    rw [finalS m hf c, ← e0, ← e1, ← e2, ← e3, ← e5, ← e6]
    exact h1.trans (Cert.GdnRefIdeal.Elements.s_eq m' c)
  · beta_reduce
    rw [finalC m c, ← e0]
    exact h2.trans (Cert.GdnRefIdeal.Elements.c_eq m' c)

end Cert.Proof.GdnClaims

end
-- ==== Proof.FfnSampleArray.lean ====
/-
  What the merge and feed-forward kernel's result array holds at the sample batch's 1024 rows.
-/
module

public import proofs.«01_k».proof.Proof.Gen.FfnSampleIdeal.Value
public import proofs.«01_k».proof.Proof.FfnBlock

@[expose] public section

set_option maxRecDepth 16384

noncomputable section

open Idealize.ShloMosaic Idealize.ShloMosaic.TcCoe Idealize.SL.Sem
open Idealize.ShloMosaic.Pipeline (Dat)
open Cert.FeedForward

namespace Cert.FfnSampleIdeal.Array

open Cert.FfnSampleIdeal Cert.FfnSampleIdeal.Gen Cert.FfnIdeal.Block

variable (m : (ℓ : Loc nD τ sig) → Buf (Elt Ideal) ℓ) (c : Dev nD)

abbrev Y0 : FVec Ideal S1024x512 .f32 := m ((c : Thread nD τ).loc main_arg0)
abbrev Y1 : FVec Ideal S1024x512 .f32 := m ((c : Thread nD τ).loc main_arg1)
abbrev Y2 : FVec Ideal S1024x512 .f32 := m ((c : Thread nD τ).loc main_arg2)
abbrev P : FVec Ideal S1024x8832 .f32 := m ((c : Thread nD τ).loc main_arg3)
abbrev H : FVec Ideal S1024x1024 .f32 := m ((c : Thread nD τ).loc main_arg4)
abbrev wb : FVec Ideal S3x512x1024 .f32 := m ((c : Thread nD τ).loc main_arg5)
abbrev wo : FVec Ideal S1024x1024 .f32 := m ((c : Thread nD τ).loc main_arg6)
abbrev g1 : FVec Ideal S1024 .f32 := m ((c : Thread nD τ).loc main_arg7)
abbrev b1 : FVec Ideal S1024 .f32 := m ((c : Thread nD τ).loc main_arg8)
abbrev wi : FVec Ideal S1024x5632 .f32 := m ((c : Thread nD τ).loc main_arg9)
abbrev wf : FVec Ideal S2816x1024 .f32 := m ((c : Thread nD τ).loc main_arg10)
abbrev g2 : FVec Ideal S1024 .f32 := m ((c : Thread nD τ).loc main_arg11)
abbrev b2 : FVec Ideal S1024 .f32 := m ((c : Thread nD τ).loc main_arg12)

/-- The array row that a row of a grid point's block is. -/
abbrev row (t : Fin cfg0.N) (r : Fin 256) : Fin 1024 := ⟨256 * t.val + r.val, by have h : t.val < 4 := t.isLt; omega⟩

/-- The windows that move with the grid point: their block index on both axes. -/
theorem idx : ∀ t : Fin cfg0.N, (win0_0.index t 0 = t.val ∧ win0_0.index t 1 = 0 ∧ win0_1.index t 0 = t.val ∧ win0_1.index t 1 = 0
    ∧ win0_2.index t 0 = t.val ∧ win0_2.index t 1 = 0) ∧ (win0_3.index t 0 = t.val ∧ win0_3.index t 1 = 4
    ∧ win0_4.index t 0 = t.val ∧ win0_4.index t 1 = 5 ∧ win0_5.index t 0 = t.val ∧ win0_5.index t 1 = 6)
    ∧ win0_6.index t 0 = t.val ∧ win0_6.index t 1 = 0 ∧ win0_15.index t 0 = t.val ∧ win0_15.index t 1 = 0 :=
  (by decide +kernel : ∀ t : Fin grid0.N, (win0_0.index t 0 = t.val ∧ win0_0.index t 1 = 0 ∧ win0_1.index t 0 = t.val ∧ win0_1.index t 1 = 0
    ∧ win0_2.index t 0 = t.val ∧ win0_2.index t 1 = 0) ∧ (win0_3.index t 0 = t.val ∧ win0_3.index t 1 = 4
    ∧ win0_4.index t 0 = t.val ∧ win0_4.index t 1 = 5 ∧ win0_5.index t 0 = t.val ∧ win0_5.index t 1 = 6)
    ∧ win0_6.index t 0 = t.val ∧ win0_6.index t 1 = 0 ∧ win0_15.index t 0 = t.val ∧ win0_15.index t 1 = 0)

/-- The windows that stay at the whole array: their block index is zero on every axis. -/
theorem idxStill : ∀ t : Fin cfg0.N, (win0_7.index t 0 = 0 ∧ win0_7.index t 1 = 0 ∧ win0_7.index t 2 = 0 ∧ win0_8.index t 0 = 0
    ∧ win0_8.index t 1 = 0) ∧ (win0_9.index t 0 = 0 ∧ win0_9.index t 1 = 0 ∧ win0_10.index t 0 = 0 ∧ win0_10.index t 1 = 0)
    ∧ (win0_11.index t 0 = 0 ∧ win0_11.index t 1 = 0 ∧ win0_12.index t 0 = 0 ∧ win0_12.index t 1 = 0)
    ∧ win0_13.index t 0 = 0 ∧ win0_13.index t 1 = 0 ∧ win0_14.index t 0 = 0 ∧ win0_14.index t 1 = 0 :=
  (by decide +kernel : ∀ t : Fin grid0.N, (win0_7.index t 0 = 0 ∧ win0_7.index t 1 = 0 ∧ win0_7.index t 2 = 0 ∧ win0_8.index t 0 = 0
    ∧ win0_8.index t 1 = 0) ∧ (win0_9.index t 0 = 0 ∧ win0_9.index t 1 = 0 ∧ win0_10.index t 0 = 0 ∧ win0_10.index t 1 = 0)
    ∧ (win0_11.index t 0 = 0 ∧ win0_11.index t 1 = 0 ∧ win0_12.index t 0 = 0 ∧ win0_12.index t 1 = 0)
    ∧ win0_13.index t 0 = 0 ∧ win0_13.index t 1 = 0 ∧ win0_14.index t 0 = 0 ∧ win0_14.index t 1 = 0)

/-- The buffers the kernel reads its weights from hold them, the normalizations' vectors as one row each. -/
theorem entry : (V m c main_v0 = truncf (F := Ideal) .bf16 (wb m c) bitsLt_bf16_f32 ∧ V m c main_v1 = truncf (F := Ideal) .bf16 (wo m c) bitsLt_bf16_f32)
    ∧ (V m c main_v2 = broadcastInDim S1x1024 ![1] bcast_S1024_S1x1024_1 (g1 m c) ∧ V m c main_v3 = broadcastInDim S1x1024 ![1] bcast_S1024_S1x1024_1 (b1 m c))
    ∧ (V m c main_v4 = truncf (F := Ideal) .bf16 (wi m c) bitsLt_bf16_f32 ∧ V m c main_v5 = truncf (F := Ideal) .bf16 (wf m c) bitsLt_bf16_f32)
    ∧ V m c main_v6 = broadcastInDim S1x1024 ![1] bcast_S1024_S1x1024_1 (g2 m c) ∧ V m c main_v7 = broadcastInDim S1x1024 ![1] bcast_S1024_S1x1024_1 (b2 m c) := by
  refine ⟨⟨?_, ?_⟩, ⟨?_, ?_⟩, ⟨?_, ?_⟩, ?_, ?_⟩
  all_goals
    show StableHlo.after hostOps0 (fun b => m (c, b)) _ = _
    unfold hostOps0
    after_results
  all_goals rfl

/-- The branches' blocks. -/
theorem y_at (t : Fin cfg0.N) (r : Fin 256) (k : Fin 512) : iblk m c 0 t (ix2 r k) = Y0 m c (ix2 (row t r) k)
    ∧ iblk m c 1 t (ix2 r k) = Y1 m c (ix2 (row t r) k) ∧ iblk m c 2 t (ix2 r k) = Y2 m c (ix2 (row t r) k) := by
  obtain ⟨⟨h0, h1, h2, h3, h4, h5⟩, -⟩ := idx t
  refine ⟨?_, ?_, ?_⟩
  · blk_ext [iblk, V_main_arg0, h0, h1]
  · blk_ext [iblk, V_main_arg1, h2, h3]
  · blk_ext [iblk, V_main_arg2, h4, h5]

/-- The gates' blocks. -/
theorem gate_at (t : Fin cfg0.N) (r : Fin 256) (k : Fin 1024) : X0_3 m c t (ix2 r k) = P m c (ix2 (row t r) ⟨4096 + k.val, by omega⟩)
    ∧ X0_4 m c t (ix2 r k) = P m c (ix2 (row t r) ⟨5120 + k.val, by omega⟩)
    ∧ X0_5 m c t (ix2 r k) = P m c (ix2 (row t r) ⟨6144 + k.val, by omega⟩) := by
  obtain ⟨-, ⟨h0, h1, h2, h3, h4, h5⟩, -⟩ := idx t
  refine ⟨(dif_pos (moved0_3 t (ix2 r k))).trans ?_, (dif_pos (moved0_4 t (ix2 r k))).trans ?_, (dif_pos (moved0_5 t (ix2 r k))).trans ?_⟩
  · blk_ext [iblk, V_main_arg3, h0, h1]
  · blk_ext [iblk, V_main_arg3, h2, h3]
  · blk_ext [iblk, V_main_arg3, h4, h5]

/-- The residual's block. -/
theorem h_at (t : Fin cfg0.N) (r : Fin 256) (k : Fin 1024) : iblk m c 6 t (ix2 r k) = H m c (ix2 (row t r) k) := by
  obtain ⟨-, -, h0, h1, -⟩ := idx t
  blk_ext [iblk, V_main_arg4, h0, h1]

/-- The branches' projections. -/
theorem wb_at (t : Fin cfg0.N) (n : Fin 3) (k : Fin 512) (d : Fin 1024) : iblk m c 7 t (ix3 n k d) = wb m c (ix3 n k d) := by
  obtain ⟨⟨h0, h1, h2, -⟩, -⟩ := idxStill t
  refine Eq.trans ?_ (congrFun (entry m c).1.1 _)
  blk_ext [iblk, h0, h1, h2]

/-- The output projection. -/
theorem wo_at (t : Fin cfg0.N) (k d : Fin 1024) : iblk m c 8 t (ix2 k d) = wo m c (ix2 k d) := by
  obtain ⟨⟨-, -, -, h0, h1⟩, -⟩ := idxStill t
  refine Eq.trans ?_ (congrFun (entry m c).1.2 _)
  blk_ext [iblk, h0, h1]

/-- The first normalization's scale and shift. -/
theorem gb1_at (t : Fin cfg0.N) (k : Fin 1024) : iblk m c 9 t (ix2 0 k) = g1 m c (ix1 k) ∧ iblk m c 10 t (ix2 0 k) = b1 m c (ix1 k) := by
  obtain ⟨-, ⟨h0, h1, h2, h3⟩, -⟩ := idxStill t
  constructor
  · refine Eq.trans (b := V m c main_v2 (ix2 0 k)) ?_ ?_
    · blk_ext [iblk, h0, h1]
    · rw [(entry m c).2.1.1]
      pointwise
  · refine Eq.trans (b := V m c main_v3 (ix2 0 k)) ?_ ?_
    · blk_ext [iblk, h2, h3]
    · rw [(entry m c).2.1.2]
      pointwise

/-- The hidden units' input weights. -/
theorem wi_at (t : Fin cfg0.N) (k : Fin 1024) (j : Fin 5632) : iblk m c 11 t (ix2 k j) = wi m c (ix2 k j) := by
  obtain ⟨-, -, ⟨h0, h1, -⟩, -⟩ := idxStill t
  refine Eq.trans ?_ (congrFun (entry m c).2.2.1.1 _)
  blk_ext [iblk, h0, h1]

/-- The hidden units' output weights. -/
theorem wf_at (t : Fin cfg0.N) (j : Fin 2816) (d : Fin 1024) : iblk m c 12 t (ix2 j d) = wf m c (ix2 j d) := by
  obtain ⟨-, -, ⟨-, -, h0, h1⟩, -⟩ := idxStill t
  refine Eq.trans ?_ (congrFun (entry m c).2.2.1.2 _)
  blk_ext [iblk, h0, h1]

/-- The second normalization's scale and shift. -/
theorem gb2_at (t : Fin cfg0.N) (k : Fin 1024) : iblk m c 13 t (ix2 0 k) = g2 m c (ix1 k) ∧ iblk m c 14 t (ix2 0 k) = b2 m c (ix1 k) := by
  obtain ⟨-, -, -, h0, h1, h2, h3⟩ := idxStill t
  constructor
  · refine Eq.trans (b := V m c main_v6 (ix2 0 k)) ?_ ?_
    · blk_ext [iblk, h0, h1]
    · rw [(entry m c).2.2.2.1]
      pointwise
  · refine Eq.trans (b := V m c main_v7 (ix2 0 k)) ?_ ?_
    · blk_ext [iblk, h2, h3]
    · rw [(entry m c).2.2.2.2]
      pointwise

/-- A grid point's blocks hold the arrays' rows and the weights. -/
theorem holds (t : Fin cfg0.N) (r : Fin 256) : Holds (Y0 m c) (Y1 m c) (Y2 m c) (P m c) (H m c) (wb m c) (wo m c) (g1 m c) (b1 m c)
    (wi m c) (wf m c) (g2 m c) (b2 m c) (row t r) (iblk m c 0 t) (iblk m c 1 t) (iblk m c 2 t) (X0_3 m c t) (X0_4 m c t) (X0_5 m c t)
    (iblk m c 6 t) (iblk m c 7 t) (iblk m c 8 t) (iblk m c 9 t) (iblk m c 10 t) (iblk m c 11 t) (iblk m c 12 t) (iblk m c 13 t)
    (iblk m c 14 t) r :=
  ⟨y_at m c t r, gate_at m c t r, h_at m c t r, wb_at m c t, wo_at m c t, gb1_at m c t, wi_at m c t, wf_at m c t, gb2_at m c t⟩

/-- The result array. -/
theorem final : (dats m 0 c).arrAt 15 cfg0.N = out (Y0 m c) (Y1 m c) (Y2 m c) (P m c) (H m c) (wb m c) (wo m c) (g1 m c) (b1 m c)
    (wi m c) (wf m c) (g2 m c) (b2 m c) := by
  refine (dats m 0 c).arrAt_eq_of_covers 15 _ (by decide +kernel) fun t hf y => ?_
  blk_simp
  rw [after0_15]
  unfold outsAt0
  frame_open
  frame_out
  obtain ⟨-, -, -, -, h0, h1⟩ := idx t
  idx_vars y
  refine Eq.trans (b := out (Y0 m c) (Y1 m c) (Y2 m c) (P m c) (H m c) (wb m c) (wo m c) (g1 m c) (b1 m c)
    (wi m c) (wf m c) (g2 m c) (b2 m c) (ix2 (row t y0) y1)) ?_ ?_
  · exact (holds m c t y0).out _ (fun d => second_at _ _ _ _ _ _ y0 d) y1
  · blk_ext [h0, h1]

end Cert.FfnSampleIdeal.Array

end
-- ==== Proof.FfnSampleReference.lean ====
/-
  What the reference of the merge and feed-forward part computes at the sample batch's 1024 rows, element by element.
-/
module

public import proofs.«01_k».proof.Proof.Gen.FfnSampleRefIdeal.Run
public import proofs.«01_k».proof.Proof.FfnSpec
public import Idealize.ShloMosaic.Lib.Tactic.CleanTypes

@[expose] public section

set_option maxRecDepth 16384

noncomputable section

open Idealize.ShloMosaic Idealize.ShloMosaic.TcCoe Idealize.SL.Sem Idealize.ShloMosaic.StableHlo
open Cert.FeedForward

namespace Cert.FfnSampleRefIdeal.Elements

open Cert.FfnSampleRefIdeal Cert.FfnSampleRefIdeal.Gen Cert.FfnSampleRefIdeal.Value

variable (V : Valuation τ sig (Elt Ideal))

abbrev Y0 : FVec Ideal S1024x512 .f32 := V (Proc.devRef .tc main_arg0)
abbrev Y1 : FVec Ideal S1024x512 .f32 := V (Proc.devRef .tc main_arg1)
abbrev Y2 : FVec Ideal S1024x512 .f32 := V (Proc.devRef .tc main_arg2)
abbrev P : FVec Ideal S1024x8832 .f32 := V (Proc.devRef .tc main_arg3)
abbrev H : FVec Ideal S1024x1024 .f32 := V (Proc.devRef .tc main_arg4)
abbrev wb : FVec Ideal S3x512x1024 .f32 := V (Proc.devRef .tc main_arg5)
abbrev wo : FVec Ideal S1024x1024 .f32 := V (Proc.devRef .tc main_arg6)
abbrev g1 : FVec Ideal S1024 .f32 := V (Proc.devRef .tc main_arg7)
abbrev b1 : FVec Ideal S1024 .f32 := V (Proc.devRef .tc main_arg8)
abbrev wi : FVec Ideal S1024x5632 .f32 := V (Proc.devRef .tc main_arg9)
abbrev wf : FVec Ideal S2816x1024 .f32 := V (Proc.devRef .tc main_arg10)
abbrev g2 : FVec Ideal S1024 .f32 := V (Proc.devRef .tc main_arg11)
abbrev b2 : FVec Ideal S1024 .f32 := V (Proc.devRef .tc main_arg12)

/-- A branch's gate is read from the branch's own columns of the projected input. -/
theorem gate_eq (t : Fin 1024) (j i : Fin 8832) (h : i.val = j.val) :
    Ideal.div 1 (1 + Ideal.exp (-(show EReal from V (Proc.devRef .tc main_arg3) (ix2 t i)))) = Ideal.logistic (P V (ix2 t j)) := by
  obtain rfl : i = j := Fin.ext h
  rfl

/-- The first residual connection, before its normalization. -/
theorem residual_at (t : Fin 1024) (d : Fin 1024) : res_main_v19 V (ix2 t d)
    = residual (fun k => H V (ix2 t k)) (mixedRow (Y0 V) (Y1 V) (Y2 V) (P V) (wb V) (wo V) t) d := by
  unfold res_main_v19
  clean_types
  pointwise
  unfold FeedForward.residual mixedRow mixed
  refine congrArg₂ (fun a b : EReal => a + b) rfl (Finset.sum_congr rfl fun x _ => congrArg₂ (fun a b : EReal => a * b) ?_ rfl)
  rw [Fin.sum_univ_three]
  refine congrArg₂ (· + ·) (congrArg₂ (· + ·) ?_ ?_) ?_
  · exact congrArg₂ (fun a b : EReal => a * b) (gate_eq V t ⟨4096 + x.val, by omega⟩ _ (by simp <;> omega)) (Finset.sum_congr rfl fun k _ => mul_comm (G := EReal) _ _)
  · exact congrArg₂ (fun a b : EReal => a * b) (gate_eq V t ⟨5120 + x.val, by omega⟩ _ (by simp <;> omega)) (Finset.sum_congr rfl fun k _ => mul_comm (G := EReal) _ _)
  · exact congrArg₂ (fun a b : EReal => a * b) (gate_eq V t ⟨6144 + x.val, by omega⟩ _ (by simp <;> omega)) (Finset.sum_congr rfl fun k _ => mul_comm (G := EReal) _ _)

/-- The deviation from the mean. -/
theorem centered_at (t : Fin 1024) (d : Fin 1024) : res_main_v25 V (ix2 t d) = centered (fun k => res_main_v19 V (ix2 t k)) d := by
  unfold res_main_v25
  clean_types
  pointwise
  rfl

/-- A row after the first residual connection. -/
theorem first_at (t : Fin 1024) (d : Fin 1024) : res_main_v41 V (ix2 t d)
    = firstRow (Y0 V) (Y1 V) (Y2 V) (P V) (H V) (wb V) (wo V) (g1 V) (b1 V) t d := by
  unfold res_main_v41
  clean_types
  pointwise
  simp only [centered_at, residual_at]
  rfl

/-- The second residual connection, before its normalization. -/
theorem second_at (t : Fin 1024) (d : Fin 1024) : res_main_v50 V (ix2 t d)
    = secondRow (Y0 V) (Y1 V) (Y2 V) (P V) (H V) (wb V) (wo V) (g1 V) (b1 V) (wi V) (wf V) t d := by
  unfold res_main_v50 res_main_v43 res_main_v42
  clean_types
  pointwise
  simp only [first_at]
  rfl

/-- The deviation from the mean. -/
theorem centered2_at (t : Fin 1024) (d : Fin 1024) : res_main_v56 V (ix2 t d) = centered (fun k => res_main_v50 V (ix2 t k)) d := by
  unfold res_main_v56
  clean_types
  pointwise
  rfl

/-- The result. -/
theorem out_eq : val2 V (Proc.devRef .tc main_v72) = out (Y0 V) (Y1 V) (Y2 V) (P V) (H V) (wb V) (wo V) (g1 V) (b1 V) (wi V) (wf V) (g2 V) (b2 V) := by
  rw [val2_main_v72]
  funext i
  clean_types
  idx_vars i
  pointwise
  simp only [centered2_at, second_at]
  rfl

end Cert.FfnSampleRefIdeal.Elements

end
-- ==== Proof.FfnSampleClaims.lean ====
/-
  The claims about the merge and feed-forward part at the sample batch's 1024 rows, from the runs of the kernel and of the reference.
-/
module

public import proofs.«01_k».proof.Defs
public import proofs.«01_k».proof.Proof.Gen.FfnSample.Frame
public import proofs.«01_k».proof.Proof.FfnSampleArray
public import proofs.«01_k».proof.Proof.FfnSampleReference
public import Idealize.ShloMosaic.Lib.Quiescent

@[expose] public section

noncomputable section

open Idealize.ShloMosaic Idealize.ShloMosaic.TcCoe Idealize.SL.Sem Idealize.ShloMosaic.StableHlo

namespace Cert.Proof.FfnSampleClaims

/-- The kernel's run ends, its arguments are unchanged and its semaphores are at zero. -/
theorem frame : Cert.quiescent_FfnSample := fun m ρ _ => Cert.FfnSample.Gen.frame m ρ
/-- The same for the kernel over the extended reals. -/
theorem frameIdeal : Cert.quiescent_FfnSampleIdeal := fun m ρ _ => Cert.FfnSampleIdeal.Gen.frame m ρ
/-- The same for the reference. -/
theorem frameRef : Cert.quiescent_FfnSampleRefIdeal := fun m ρ _ =>
  (θ_run Cert.FfnSampleRefIdeal.defs _ _).mono (fun r h => ⟨fun c => (h c).2, sem_eq_zero_of_no_sems (by decide) r.2⟩)
    (Cert.FfnSampleRefIdeal.Value.run (F := Ideal) m ρ)

/-- No operation of the kernel was replaced by its idealization. -/
theorem preserves : Cert.preserves_FfnSample_FfnSampleIdeal := trivial

section Reference
open Cert.FfnSampleRefIdeal Cert.FfnSampleRefIdeal.Gen Cert.FfnSampleRefIdeal.Value

/-- The reference's run ends, and the memory holds what its definitions compute from the arguments. -/
theorem reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72) = val2 (launchContents m c) (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (val2_main_v72 (launchContents m c)).symm, (h c).2⟩) (run (F := Ideal) m ρ)

end Reference

open Cert.FfnSampleIdeal.Array in
/-- The kernel's results are the reference's, from arguments that agree. -/
theorem algebraic : Cert.algebraic_FfnSampleIdeal_FfnSampleRefIdeal := by
  intro m ρ m' ρ' _ hag
  have e : ∀ c : Dev Cert.FfnSampleIdeal.nD, Cert.FfnSampleRefIdeal.Elements.Y0 (launchContents m' c) = Y0 m c
      ∧ Cert.FfnSampleRefIdeal.Elements.Y1 (launchContents m' c) = Y1 m c
      ∧ Cert.FfnSampleRefIdeal.Elements.Y2 (launchContents m' c) = Y2 m c
      ∧ Cert.FfnSampleRefIdeal.Elements.P (launchContents m' c) = P m c
      ∧ Cert.FfnSampleRefIdeal.Elements.H (launchContents m' c) = H m c
      ∧ Cert.FfnSampleRefIdeal.Elements.wb (launchContents m' c) = wb m c
      ∧ Cert.FfnSampleRefIdeal.Elements.wo (launchContents m' c) = wo m c
      ∧ Cert.FfnSampleRefIdeal.Elements.g1 (launchContents m' c) = g1 m c
      ∧ Cert.FfnSampleRefIdeal.Elements.b1 (launchContents m' c) = b1 m c
      ∧ Cert.FfnSampleRefIdeal.Elements.wi (launchContents m' c) = wi m c
      ∧ Cert.FfnSampleRefIdeal.Elements.wf (launchContents m' c) = wf m c
      ∧ Cert.FfnSampleRefIdeal.Elements.g2 (launchContents m' c) = g2 m c
      ∧ Cert.FfnSampleRefIdeal.Elements.b2 (launchContents m' c) = b2 m c := hag
  refine ⟨fun c => (Cert.FfnSampleIdeal.Gen.dats m 0 c).arrAt 15 Cert.FfnSampleIdeal.cfg0.N,
    Cert.FfnSampleIdeal.Value.run_blocks (F := Ideal) m ρ, ?_⟩
  refine (θ_run Cert.FfnSampleRefIdeal.defs _ _).mono (fun _ h c => ?_) (reference m' ρ')
  obtain ⟨e0, e1, e2, e3, e4, e5, e6, e7, e8, e9, e10, e11, e12⟩ := e c
  obtain ⟨h0, hargs⟩ := h c
  refine ⟨?_, hargs⟩
  · beta_reduce
    rw [final m c, ← e0, ← e1, ← e2, ← e3, ← e4, ← e5, ← e6, ← e7, ← e8, ← e9, ← e10, ← e11, ← e12]
    exact h0.trans (Cert.FfnSampleRefIdeal.Elements.out_eq _)

end Cert.Proof.FfnSampleClaims

end
-- ==== Proof.HgrnPromptTrips.lean ====
/-
  The pieces a trip of the kernel's loop writes don't depend on what the output block held before it, so neither do
  the pieces of all trips.
-/
module

public import proofs.«01_k».proof.Proof.Gen.HgrnPromptIdeal.Frame.Runs

@[expose] public section

set_option maxRecDepth 16384

noncomputable section

namespace Cert.HgrnPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (X_arg2 : BufTy.Contents (Elt F) arg2.view.ty) (X_arg3 : BufTy.Contents (Elt F) arg3.view.ty) (X_arg4 : BufTy.Contents (Elt F) arg4.view.ty)

/-- One trip's pieces, from two contents of the output block. -/
theorem trip_entry (k : Fin k0_t1_loop.trips) (f f' : BufTy.Contents (Elt F) arg6.view.ty) (g : BufTy.Contents (Elt F) arg8.view.ty) :
    tripL_k0_t1 (F := F) 𝒱 c bd i arg2 harg2 arg3 harg3 arg4 harg4 arg5 harg5 arg6 harg6 arg7 harg7 arg8 harg8 X_arg2 X_arg3 X_arg4 k f g = tripL_k0_t1 (F := F) 𝒱 c bd i arg2 harg2 arg3 harg3 arg4 harg4 arg5 harg5 arg6 harg6 arg7 harg7 arg8 harg8 X_arg2 X_arg3 X_arg4 k f' g := by
  unfold tripL_k0_t1 trip_k0_t1
  rfl

/-- The pieces of the trips before the `k`th, from two contents of the output block. -/
theorem pieces_entry (G G' : BufTy.Contents (Elt F) arg6.view.ty) (g : BufTy.Contents (Elt F) arg8.view.ty) (k : ℕ) :
    pb_k0_t1 (F := F) 𝒱 c bd i arg2 harg2 arg3 harg3 arg4 harg4 arg5 harg5 arg6 harg6 arg7 harg7 arg8 harg8 X_arg2 X_arg3 X_arg4 G g k = pb_k0_t1 (F := F) 𝒱 c bd i arg2 harg2 arg3 harg3 arg4 harg4 arg5 harg5 arg6 harg6 arg7 harg7 arg8 harg8 X_arg2 X_arg3 X_arg4 G' g k := by
  induction k with
  | zero => rfl
  | succ k ih =>
    rw [pb_k0_t1.eq_2, pb_k0_t1.eq_2, ih]
    unfold pb_k0_t1Step
    split
    · rw [trip_entry (F := F) 𝒱 c bd i arg2 harg2 arg3 harg3 arg4 harg4 arg5 harg5 arg6 harg6 arg7 harg7 arg8 harg8 X_arg2 X_arg3 X_arg4 _ _ (arg6.view.writes (Elt F) G' (pb_k0_t1 (F := F) 𝒱 c bd i arg2 harg2 arg3 harg3 arg4 harg4 arg5 harg5 arg6 harg6 arg7 harg7 arg8 harg8 X_arg2 X_arg3 X_arg4 G' g k).1)]
    · rfl

end Cert.HgrnPromptIdeal.Gen

end
-- ==== Proof.HgrnPromptRun.lean ====
/-
  The body's run on whole blocks at the three kinds of grid points: the first, a middle and the last of a sequence.
  After the loop the pieces are stated over what the output block held before; they don't depend on it.
-/
module

public import proofs.«01_k».proof.Proof.HgrnPromptTrips

@[expose] public section

set_option maxRecDepth 16384

noncomputable section

namespace Cert.HgrnPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

/-- At the first point of a sequence: the carried states are set from the entry states, the loop runs, nothing is stored into the final states.
    The pieces written into each buffer, with the proof that the body's run leaves them. -/
noncomputable def kernelRun0_A (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S256x2048 .f32) (x1 : Vec F S1x512 .f32) (x2 : Vec F S1x512 .f32) (x3 : Vec F S1x4x128x128 .f32) :
    Σ' (L4 : List (View.Piece (Elt F) S256x512 .f32)), Σ' (L5 : List (View.Piece (Elt F) S1x4x128x128 .f32)), { LS0 : List (View.Piece (Elt F) S4x128x128 .f32) //
      ∀ (xi5 : Vec F S1x4x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_hgrn2 i arg2 harg2 arg3 harg3 arg4 harg4 arg5 harg5 arg6 harg6 arg7 harg7 arg8 harg8) K } := by
  refine ⟨?_, [], ?_, fun xi5 E K => ?run⟩
  case run =>
    simp only [cc0_hgrn2_eq_skeleton]; unfold cc0_hgrn2_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    rw [pieces_entry (G := f4) (G' := arg6.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

set_option maxHeartbeats 1000000 in
/-- At a point in the middle of a sequence: the loop runs from the states the point before left.
    The pieces written into each buffer, with the proof that the body's run leaves them. -/
noncomputable def kernelRun0_B (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S256x2048 .f32) (x1 : Vec F S1x512 .f32) (x2 : Vec F S1x512 .f32) (x3 : Vec F S1x4x128x128 .f32) (xs0 : Vec F S4x128x128 .f32) :
    Σ' (L4 : List (View.Piece (Elt F) S256x512 .f32)), Σ' (L5 : List (View.Piece (Elt F) S1x4x128x128 .f32)), { LS0 : List (View.Piece (Elt F) S4x128x128 .f32) //
      ∀ (xi5 : Vec F S1x4x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_hgrn2 i arg2 harg2 arg3 harg3 arg4 harg4 arg5 harg5 arg6 harg6 arg7 harg7 arg8 harg8) K } := by
  refine ⟨?_, [], ?_, fun xi5 E K => ?run⟩
  case run =>
    simp only [cc0_hgrn2_eq_skeleton]; unfold cc0_hgrn2_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0 | sl_exact hc1)
    sl_step
    rw [pieces_entry (G := f4) (G' := arg6.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

set_option maxHeartbeats 1000000 in
/-- At the last point of a sequence: the loop runs and the states it leaves are stored as the final states.
    The pieces written into each buffer, with the proof that the body's run leaves them. -/
noncomputable def kernelRun0_C (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S256x2048 .f32) (x1 : Vec F S1x512 .f32) (x2 : Vec F S1x512 .f32) (x3 : Vec F S1x4x128x128 .f32) (xs0 : Vec F S4x128x128 .f32) :
    Σ' (L4 : List (View.Piece (Elt F) S256x512 .f32)), Σ' (L5 : List (View.Piece (Elt F) S1x4x128x128 .f32)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_hgrn2 i arg2 harg2 arg3 harg3 arg4 harg4 arg5 harg5 arg6 harg6 arg7 harg7 arg8 harg8) K } := by
  refine ⟨?_, ?_, ?_, fun E K => ?run⟩
  case run =>
    simp only [cc0_hgrn2_eq_skeleton]; unfold cc0_hgrn2_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | sl_exact hc0 | sl_exact hc1)
    sl_step
    unfold kernelRun0_C.sl.v7 kernelRun0_C.sl.v13 kernelRun0_C.sl.v19 kernelRun0_C.sl.v25
    rw [pieces_entry (G := f4) (G' := arg6.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.HgrnPromptIdeal.Gen

end
-- ==== Proof.HgrnPromptFrame.lean ====
/-
  The launch's run: what the output blocks and the carried states hold point by point, and that the launch ends with the
  arguments unchanged.
-/
module

public import proofs.«01_k».proof.Proof.HgrnPromptRun
public import Idealize.ShloMosaic.Lib.Claim

@[expose] public section

set_option maxRecDepth 16384

noncomputable section

namespace Cert.HgrnPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces cover the block. -/
theorem cover0_A_4 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S256x2048 .f32) (x1 : Vec F S1x512 .f32) (x2 : Vec F S1x512 .f32) (x3 : Vec F S1x4x128x128 .f32) (y : S256x512.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S64x128.size (by sl_kernel_rfl) y

/-- What the run leaves in the output block. -/
def out0_A_4 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S256x2048 .f32) (x1 : Vec F S1x512 .f32) (x2 : Vec F S1x512 .f32) (x3 : Vec F S1x4x128x128 .f32) : Vec F S256x512 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- What the run leaves in the output block. -/
def out0_A_5 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S256x2048 .f32) (x1 : Vec F S1x512 .f32) (x2 : Vec F S1x512 .f32) (x3 : Vec F S1x4x128x128 .f32) : Vec F S1x4x128x128 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3).2.1)

/-- The pieces cover the carried states. -/
theorem scover0_A_0 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S256x2048 .f32) (x1 : Vec F S1x512 .f32) (x2 : Vec F S1x512 .f32) (x3 : Vec F S1x4x128x128 .f32) (y : S4x128x128.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S1x128x128.size (by sl_kernel_rfl) y

/-- What the run leaves in the carried states. -/
def sout0_A_0 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : cond0_0 i) (hc1 : ¬cond0_1 i)
    (x0 : Vec F S256x2048 .f32) (x1 : Vec F S1x512 .f32) (x2 : Vec F S1x512 .f32) (x3 : Vec F S1x4x128x128 .f32) : Vec F S4x128x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.2.1)

/-- The pieces cover the block. -/
theorem cover0_B_4 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S256x2048 .f32) (x1 : Vec F S1x512 .f32) (x2 : Vec F S1x512 .f32) (x3 : Vec F S1x4x128x128 .f32) (xs0 : Vec F S4x128x128 .f32) (y : S256x512.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S64x128.size (by sl_kernel_rfl) y

/-- What the run leaves in the output block. -/
def out0_B_4 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S256x2048 .f32) (x1 : Vec F S1x512 .f32) (x2 : Vec F S1x512 .f32) (x3 : Vec F S1x4x128x128 .f32) (xs0 : Vec F S4x128x128 .f32) : Vec F S256x512 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0).1)

/-- What the run leaves in the output block. -/
def out0_B_5 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S256x2048 .f32) (x1 : Vec F S1x512 .f32) (x2 : Vec F S1x512 .f32) (x3 : Vec F S1x4x128x128 .f32) (xs0 : Vec F S4x128x128 .f32) : Vec F S1x4x128x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 xs0).2.1)

/-- The pieces cover the carried states. -/
theorem scover0_B_0 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S256x2048 .f32) (x1 : Vec F S1x512 .f32) (x2 : Vec F S1x512 .f32) (x3 : Vec F S1x4x128x128 .f32) (xs0 : Vec F S4x128x128 .f32) (y : S4x128x128.Idx) :
    ∃ pc ∈ (kernelRun0_B c i arg2 harg2 arg3 harg3 arg4 harg4 arg5 harg5 arg6 harg6 arg7 harg7 arg8 harg8 hc0 hc1 x0 x1 x2 x3 xs0).2.2.1, y ∈ pc.1.set :=
  View.cover_of_tiledL (kernelRun0_B c i arg2 harg2 arg3 harg3 arg4 harg4 arg5 harg5 arg6 harg6 arg7 harg7 arg8 harg8 hc0 hc1 x0 x1 x2 x3 xs0).2.2.1 S1x128x128.size (by sl_kernel_rfl) y

/-- What the run leaves in the carried states. -/
def sout0_B_0 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : ¬cond0_1 i)
    (x0 : Vec F S256x2048 .f32) (x1 : Vec F S1x512 .f32) (x2 : Vec F S1x512 .f32) (x3 : Vec F S1x4x128x128 .f32) (xs0 : Vec F S4x128x128 .f32) : Vec F S4x128x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).2.2.1)

/-- The pieces cover the block. -/
theorem cover0_C_4 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S256x2048 .f32) (x1 : Vec F S1x512 .f32) (x2 : Vec F S1x512 .f32) (x3 : Vec F S1x4x128x128 .f32) (xs0 : Vec F S4x128x128 .f32) (y : S256x512.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S64x128.size (by sl_kernel_rfl) y

/-- What the run leaves in the output block. -/
def out0_C_4 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S256x2048 .f32) (x1 : Vec F S1x512 .f32) (x2 : Vec F S1x512 .f32) (x3 : Vec F S1x4x128x128 .f32) (xs0 : Vec F S4x128x128 .f32) : Vec F S256x512 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)

/-- The pieces cover the block. -/
theorem cover0_C_5 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S256x2048 .f32) (x1 : Vec F S1x512 .f32) (x2 : Vec F S1x512 .f32) (x3 : Vec F S1x4x128x128 .f32) (xs0 : Vec F S4x128x128 .f32) (y : S1x4x128x128.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S1x1x128x128.size (by sl_kernel_rfl) y

/-- What the run leaves in the output block. -/
def out0_C_5 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S256x2048 .f32) (x1 : Vec F S1x512 .f32) (x2 : Vec F S1x512 .f32) (x3 : Vec F S1x4x128x128 .f32) (xs0 : Vec F S4x128x128 .f32) : Vec F S1x4x128x128 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)

/-- The pieces cover the carried states. -/
theorem scover0_C_0 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S256x2048 .f32) (x1 : Vec F S1x512 .f32) (x2 : Vec F S1x512 .f32) (x3 : Vec F S1x4x128x128 .f32) (xs0 : Vec F S4x128x128 .f32) (y : S4x128x128.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S1x128x128.size (by sl_kernel_rfl) y

/-- What the run leaves in the carried states. -/
def sout0_C_0 (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (hc0 : ¬cond0_0 i) (hc1 : cond0_1 i)
    (x0 : Vec F S256x2048 .f32) (x1 : Vec F S1x512 .f32) (x2 : Vec F S1x512 .f32) (x3 : Vec F S1x4x128x128 .f32) (xs0 : Vec F S4x128x128 .f32) : Vec F S4x128x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)

/-- What the output blocks and the carried states hold after each point. -/
def outsAt0 (c : Dev nD) : (n : ℕ) → n < cfg0.N → Vec F S256x512 .f32 × Vec F S1x4x128x128 .f32 × Vec F S4x128x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (X0_0 m c ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (X0_0 m c ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (X0_0 m c ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by have hN : n + 1 < 64 := lt_of_lt_of_eq hn (show cfg0.N = 64 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (X0_0 m c ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (X0_0 m c ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (X0_0 m c ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (X0_0 m c ⟨n + 1, hn⟩) (iblk m c 1 ⟨n + 1, hn⟩) (iblk m c 2 ⟨n + 1, hn⟩) (iblk m c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (X0_0 m c ⟨n + 1, hn⟩) (iblk m c 1 ⟨n + 1, hn⟩) (iblk m c 2 ⟨n + 1, hn⟩) (iblk m c 3 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (X0_0 m c ⟨n + 1, hn⟩) (iblk m c 1 ⟨n + 1, hn⟩) (iblk m c 2 ⟨n + 1, hn⟩) (iblk m c 3 ⟨n + 1, hn⟩) (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (X0_0 m c ⟨n + 1, hn⟩) (iblk m c 1 ⟨n + 1, hn⟩) (iblk m c 2 ⟨n + 1, hn⟩) (iblk m c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (X0_0 m c ⟨n + 1, hn⟩) (iblk m c 1 ⟨n + 1, hn⟩) (iblk m c 2 ⟨n + 1, hn⟩) (iblk m c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (X0_0 m c ⟨n + 1, hn⟩) (iblk m c 1 ⟨n + 1, hn⟩) (iblk m c 2 ⟨n + 1, hn⟩) (iblk m c 3 ⟨n + 1, hn⟩) (outsAt0 c n (Nat.lt_of_succ_lt hn)).2.2)

/-- The same at a point of this kind. -/
theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (X0_0 m c t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (X0_0 m c t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (X0_0 m c t) (iblk m c 1 t) (iblk m c 2 t) (iblk m c 3 t)) := by
  obtain ⟨n, hn⟩ := t
  cases n with
  | zero => exact rfl
  | succ n => exact (dif_pos h0).trans ((dif_neg h1).trans rfl)

/-- The same at a point of this kind. -/
theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (X0_0 m c t) (iblk m c 1 t) (iblk m c 2 t) (iblk m c 3 t) (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (X0_0 m c t) (iblk m c 1 t) (iblk m c 2 t) (iblk m c 3 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (X0_0 m c t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The same at a point of this kind. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (X0_0 m c t) (iblk m c 1 t) (iblk m c 2 t) (iblk m c 3 t) (outsAt0 m c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (X0_0 m c t) (iblk m c 1 t) (iblk m c 2 t) (iblk m c 3 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (X0_0 m c t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The states' invariant: before the first point they hold anything, later what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

/-- The states' invariant at a position of this kind. -/
theorem PhiS_zero (c : Dev nD) (n : ℕ) (h : n ≤ cfg0.N) (hz : n = 0) : PhiS m c n h = Pipeline.ΦA spec0 c := by
  subst hz; rfl

/-- The states' invariant at a position of this kind. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- The states' invariant at a position of this kind. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- What every window's block holds after a point, and the invariant. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- An array starts with what the host operations left in it. -/
theorem A_eq (c : Dev nD) (w : Fin cfg0.W) : (dats m 0 c).A w = V m c (Pipeline.arrRef spec0 w) := by
  dsimp only [dats]

/-- The states' invariant at a position of this kind. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- A window's block after a point. -/
theorem after0_0 (c : Dev nD) (t : Fin cfg0.N) : (dats m 0 c).after 0 t = X0_0 m c t := by dsimp only [dats]
/-- A window's block after a point. -/
theorem after0_1 (c : Dev nD) (t : Fin cfg0.N) : (dats m 0 c).after 1 t = iblk m c 1 t := by dsimp only [dats]
/-- A window's block after a point. -/
theorem after0_2 (c : Dev nD) (t : Fin cfg0.N) : (dats m 0 c).after 2 t = iblk m c 2 t := by dsimp only [dats]
/-- A window's block after a point. -/
theorem after0_3 (c : Dev nD) (t : Fin cfg0.N) : (dats m 0 c).after 3 t = iblk m c 3 t := by dsimp only [dats]
/-- A window's block after a point. -/
theorem after0_4 (c : Dev nD) (t : Fin cfg0.N) : (dats m 0 c).after 4 t = (outsAt0 m c t.val t.isLt).1 := by dsimp only [dats]
/-- A window's block after a point. -/
theorem after0_5 (c : Dev nD) (t : Fin cfg0.N) : (dats m 0 c).after 5 t = (outsAt0 m c t.val t.isLt).2.1 := by dsimp only [dats]

/-- An input window's block before a point. -/
theorem before0_0 (c : Dev nD) (t : Fin cfg0.N) (d) : (dats m 0 c).before 0 t d = X0_0 m c t :=
  before0_0_of m (dats m 0 c) (A_eq m c 0) (after0_0 m c) t d
/-- An input window's block before a point. -/
theorem before0_1 (c : Dev nD) (t : Fin cfg0.N) (d) : (dats m 0 c).before 1 t d = iblk m c 1 t :=
  before0_1_of m (dats m 0 c) (A_eq m c 1) (after0_1 m c) t d
/-- An input window's block before a point. -/
theorem before0_2 (c : Dev nD) (t : Fin cfg0.N) (d) : (dats m 0 c).before 2 t d = iblk m c 2 t :=
  before0_2_of m (dats m 0 c) (A_eq m c 2) (after0_2 m c) t d
/-- An input window's block before a point. -/
theorem before0_3 (c : Dev nD) (t : Fin cfg0.N) (d) : (dats m 0 c).before 3 t d = iblk m c 3 t :=
  before0_3_of m (dats m 0 c) (A_eq m c 3) (after0_3 m c) t d

/-- What the body's run starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body's run ends with. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in

/-- The body's run at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_4 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (X0_0 m c t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _)
        iexists _; iexact H5
      · rw [PhiS_castSucc m c t, PhiS_pos m c _ _ hz]
        rw [outsAt0_A m c t h0 h1]
        unfold out0_A_4 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (X0_0 m c t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _)
        iexists _; iexact H5
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_4 out0_C_5 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (X0_0 m c t) (iblk m c 1 t) (iblk m c 2 t) (iblk m c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_4 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (X0_0 m c t) (iblk m c 1 t) (iblk m c 2 t) (iblk m c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _)
        iexists _; iexact H5

/-- The body called at a point. -/
theorem defs₀_row (t : Fin cfg0.N) :
    defs₀ (F := F) .tc cfg0.body (cfg0.bodyArgs t (cfg0.slots t)) = bodyAt0 t := by
  unfold defs₀; rw [Defs.onTc_tc]

/-- The body's run, as the launch asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant gives back the states after a point. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The invariant gives back the states at the end. -/
theorem hout (c : Dev nD) : (dats m 0 c).Φ (Fin.last cfg0.N) ⊢ Pipeline.ΦA spec0 c :=
  Phi_out m c _ (by rw [Fin.val_last]; have : cfg0.N = 64 := N_0; omega)
set_option backward.isDefEq.respectTransparency.types false in

/-- The launch ends with its semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch ends with every window's array as stated. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run ends, its arguments are unchanged and its semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.HgrnPromptIdeal.Gen

end
-- ==== Proof.HgrnPromptSpec.lean ====
/-
  The states the gated linear recurrence carries through a fresh sequence, chunk of 64 tokens by chunk.
-/
module

public import proofs.«01_k».proof.Proof.HgrnSpec

@[expose] public section

set_option maxRecDepth 16384

noncomputable section

open Idealize.ShloMosaic Idealize.ShloMosaic.TcCoe
open Cert.HgrnHead

namespace Cert.HgrnChunks

/-- The sum of a chunk's entries up to and including token `t`. -/
def sumTo (f : Fin 64 → EReal) (t : Fin 64) : EReal := ∑ s : Fin 64, if s ≤ t then f s else 0

/-- The running sums of the log forget gates of a lane with lower bound `l`, from the chunk's preactivations. -/
def decayTo (l : EReal) (a : Fin 64 → EReal) (t : Fin 64) : EReal := sumTo (fun s => logForget l (a s)) t

/-- A head's state after a chunk: the state before it decayed over the chunk, and each token's key times its value
    decayed over the tokens after it. -/
def step (l : Fin 128 → EReal) (a v : Fin 64 → Fin 128 → EReal) (S : Fin 128 → Fin 128 → EReal) (x w : Fin 128) : EReal :=
  Ideal.exp (decayTo (l x) (fun s => a s x) 63) * S x w
    + ∑ s, key (l x) (a s x) * Ideal.exp (decayTo (l x) (fun s => a s x) 63 - decayTo (l x) (fun s => a s x) s) * v s w

variable (P : (⟨2, ![16384, 8832]⟩ : Shape).Idx → EReal) (lb : (⟨1, ![512]⟩ : Shape).Idx → EReal)

/-- Column `j` of row `r` of the projected array. -/
def col (r j : ℕ) : EReal := P (ix2 ⟨r % 16384, by omega⟩ ⟨j % 8832, by omega⟩)

/-- The lower bounds of head `h`. -/
def low (h : Fin 4) (x : Fin 128) : EReal := lb (ix1 ⟨128 * h.val + x.val, by omega⟩)
/-- The forget gates' preactivations of head `h` in the chunk that starts at row `r`. -/
def pre (r : ℕ) (h : Fin 4) (s : Fin 64) (x : Fin 128) : EReal := col P (r + s.val) (512 + (128 * h.val + x.val))
/-- The values of head `h` in that chunk. -/
def vals (r : ℕ) (h : Fin 4) (s : Fin 64) (w : Fin 128) : EReal := col P (r + s.val) (1024 + (128 * h.val + w.val))

/-- The state of head `h` of sequence `b` after `n` chunks. -/
def state (b : ℕ) (h : Fin 4) : ℕ → Fin 128 → Fin 128 → EReal
  | 0 => fun _ _ => 0
  | n + 1 => step (low lb h) (pre P (2048 * b + 64 * n) h) (vals P (2048 * b + 64 * n) h) (state b h n)

/-- The states after the whole sequences, as an array. -/
def final : (⟨4, ![8, 4, 128, 128]⟩ : Shape).Idx → EReal := fun i => state P lb (i 0).val (i 1) 32 (i 2) (i 3)

end Cert.HgrnChunks

end
-- ==== Proof.HgrnPromptStep.lean ====
/-
  What one trip of the HGRN kernel's loop leaves in the scratch block of states: the states after one more chunk.
-/
module

public import proofs.«01_k».proof.Proof.HgrnPromptFrame
public import proofs.«01_k».proof.Proof.HgrnPromptSpec
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Cert.HgrnHead Cert.HgrnChunks

namespace Cert.HgrnPromptIdeal.States

open Cert.HgrnPromptIdeal Cert.HgrnPromptIdeal.Gen

/-- The mask of the past. -/
theorem past_at : ∀ t s : Fin 64,
    IntOp.cmpi CmpIPredicate.sge (BitVec.ofNat 32 t.val) (BitVec.ofNat 32 s.val) = if s ≤ t then 1#1 else 0#1 := by
  decide +kernel

/-- The conversion of a word is its signed value. -/
theorem sitofp_word (w : BitVec 32) : (FloatOps.sitofp (F := Ideal) .f32 w : EReal) = ((w.toInt : ℝ) : EReal) := rfl

/-- The keys. -/
theorem key_at (l : Vec Ideal S1x512 .f32) (a : Vec Ideal S64x512 .f32) (t : Fin 64) (j : Fin 512) :
    k0_pay11 (F := Ideal) l a (ix2 t j) = key (l (ix2 0 j)) (a (ix2 t j)) := by
  pointwise [k0_pay11, k0_pay10]
  simp only [zero_sub]
  rfl

/-- The product with the mask of the past is the running sum of the log forget gates. -/
theorem sums_at (l : Vec Ideal S1x512 .f32) (a : Vec Ideal S64x512 .f32) (t : Fin 64) (j : Fin 512) :
    k0_pay12 (F := Ideal) l a (ix2 t j) = decayTo (l (ix2 0 j)) (fun s => a (ix2 s j)) t := by
  pointwise [k0_pay12, k0_pay10]
  unfold decayTo sumTo
  change @Eq EReal _ _
  refine Finset.sum_congr rfl fun s _ => ?_
  rw [past_at]
  by_cases h : s ≤ t
  · rw [if_pos h, if_pos h]
    refine (congrArg (· * _) (?_ : _ = (1 : EReal))).trans (one_mul _)
    simp [sitofp_word]
  · rw [if_neg h, if_neg h]
    refine (congrArg (· * _) (?_ : _ = (0 : EReal))).trans (zero_mul _)
    simp [sitofp_word]

/-- One head's new state, transposed, from the old one and the chunk's keys, values and running sums. -/
theorem new_at (C : FVec Ideal S128x128 .f32) (k v b : FVec Ideal S64x128 .f32) (w x : Fin 128) :
    k0_pay131 C k v b (ix3 0 w x)
      = Ideal.exp (b (ix2 63 x)) * C (ix2 w x) + ∑ s, k (ix2 s x) * Ideal.exp (b (ix2 63 x) - b (ix2 s x)) * v (ix2 s w) := by
  pointwise [k0_pay131]
  refine congrArg₂ (fun a b : EReal => a + b) (mul_comm _ _) ?_
  change @Eq EReal _ _
  exact Finset.sum_congr rfl fun s _ => mul_comm _ _

theorem new_of {C : FVec Ideal S128x128 .f32} {k v b : FVec Ideal S64x128 .f32} {l : Fin 128 → EReal} {a u : Fin 64 → Fin 128 → EReal}
    {S : Fin 128 → Fin 128 → EReal} (hC : ∀ x w, C (ix2 w x) = S x w) (hk : ∀ s x, k (ix2 s x) = key (l x) (a s x))
    (hv : ∀ s w, v (ix2 s w) = u s w) (hb : ∀ s x, b (ix2 s x) = decayTo (l x) (fun s => a s x) s) (w x : Fin 128) :
    k0_pay131 C k v b (ix3 0 w x) = step l a u S x w := by
  rw [new_at]
  simp only [hC, hk, hv, hb]
  rfl

theorem off1 : ∀ k : Fin k0_t1_loop.trips, k0_off1 k = ![64 * k.val, 512] := by decide +kernel
theorem off3 : ∀ k : Fin k0_t1_loop.trips, k0_off3 k = ![64 * k.val, 1024] := by decide +kernel
theorem trip_lt (k : Fin k0_t1_loop.trips) : k.val < 4 := Nat.lt_of_lt_of_le k.isLt k0_t1_abs.2.1

variable (𝒱 : Variants) (c : Dev nD) (bd : Option 𝒱.V) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole) (X2 : BufTy.Contents (Elt Ideal) arg2.view.ty) (X3 : BufTy.Contents (Elt Ideal) arg3.view.ty) (X4 : BufTy.Contents (Elt Ideal) arg4.view.ty)

/-- Head `h` of what a block of lower bounds reads. -/
def lowOf (h : Fin 4) (x : Fin 128) : EReal := arg3.view.read (Elt Ideal) X3 (ix2 0 ⟨128 * h.val + x.val, by omega⟩)
/-- Head `h` of the columns from `o` on of the rows a trip takes. -/
def colsOf (k : Fin k0_t1_loop.trips) (o : ℕ) (ho : o + 512 ≤ 2048) (h : Fin 4) (s : Fin 64) (x : Fin 128) : EReal :=
  arg2.view.read (Elt Ideal) X2 (ix2 ⟨64 * k.val + s.val, by have := trip_lt k; omega⟩ ⟨o + (128 * h.val + x.val), by omega⟩)

/-- What a block of transposed states holds. -/
def held (Z : S4x128x128.Idx → EReal) (h : Fin 4) (x w : Fin 128) : EReal := Z (ix3 h w x)

/-- The block at `n` is what a piece written there last holds, -/
theorem hit {κ : Kind} {sp : Space} {sg : RefSig} (V : View sg κ sp S4x128x128 .f32) (f : V.ty.Contents (Elt Ideal)) (L : List (View.Piece (Elt Ideal) S4x128x128 .f32))
    {n : ℕ} (inb : ∀ a, (![n, 0, 0] : Fin 3 → ℕ) a + (![1, 128, 128] : Fin 3 → ℕ) a ≤ S4x128x128.size a) (p : FVec Ideal S1x128x128 .f32) (h : Fin 4) (w x : Fin 128) (e : h.val = n) :
    V.read (Elt Ideal) (V.writes (Elt Ideal) f (⟨Rect.unit ![n, 0, 0] ![1, 128, 128] inb, p⟩ :: L)) (ix3 h w x) = p (ix3 0 w x) :=
  View.read_writes_cons_unit_of_mem V f inb p L (ix3 h w x) (ix3 0 w x) rfl fun a => by
    fin_cases a
    · exact e
    · exact (Nat.zero_add _).symm
    · exact (Nat.zero_add _).symm

/-- and a piece written elsewhere doesn't matter to it. -/
theorem miss {κ : Kind} {sp : Space} {sg : RefSig} (V : View sg κ sp S4x128x128 .f32) (f : V.ty.Contents (Elt Ideal)) (L : List (View.Piece (Elt Ideal) S4x128x128 .f32))
    {n : ℕ} (inb : ∀ a, (![n, 0, 0] : Fin 3 → ℕ) a + (![1, 128, 128] : Fin 3 → ℕ) a ≤ S4x128x128.size a) (p : FVec Ideal S1x128x128 .f32) (h : Fin 4) (w x : Fin 128) (e : h.val ≠ n) :
    V.read (Elt Ideal) (V.writes (Elt Ideal) f (⟨Rect.unit ![n, 0, 0] ![1, 128, 128] inb, p⟩ :: L)) (ix3 h w x)
      = V.read (Elt Ideal) (V.writes (Elt Ideal) f L) (ix3 h w x) :=
  View.read_writes_cons_unit_of_not_mem V f inb p L (ix3 h w x) rfl 0 (by
    show h.val < n ∨ n + 1 ≤ h.val
    omega)

/-- The block at `n` that a trip loads. -/
theorem load_at (g : BufTy.Contents (Elt Ideal) arg8.view.ty) {n : ℕ} (inb : ∀ a, (![n, 0, 0] : Fin 3 → ℕ) a + (![1, 128, 128] : Fin 3 → ℕ) a ≤ S4x128x128.size a)
    (h : Fin 4) (w x : Fin 128) (e : h.val = n) :
    View.readAt (Elt Ideal) arg8.view (Rect.unit (s := S4x128x128) ![n, 0, 0] ![1, 128, 128] inb).toLoadRect g (ix3 (0 : Fin 1) w x) = held (arg8.view.read (Elt Ideal) g) h x w := by
  refine congrArg (arg8.view.read (Elt Ideal) g) (funext fun a => Fin.ext ?_)
  fin_cases a
  · show n + 1 * 0 = h.val
    omega
  · show 0 + 1 * w.val = w.val
    omega
  · show 0 + 1 * x.val = x.val
    omega

/-- The forget gates' preactivations a trip loads. -/
theorem gates_at (k : Fin k0_t1_loop.trips) (h : Fin 4) (s : Fin 64) (x : Fin 128) :
    View.readAt (Elt Ideal) arg2.view (Rect.unit (s := S256x2048) (k0_off1 k) S64x512.size (k0_off1_inb k)).toLoadRect X2 (ix2 s ⟨128 * h.val + x.val, by omega⟩)
      = colsOf arg2 X2 k 512 (by omega) h s x := by
  refine congrArg (arg2.view.read (Elt Ideal) X2) (funext fun a => Fin.ext ?_)
  fin_cases a
  · show k0_off1 k 0 + 1 * s.val = 64 * k.val + s.val
    rw [off1 k]
    show 64 * k.val + 1 * s.val = _
    omega
  · show k0_off1 k 1 + 1 * (128 * h.val + x.val) = 512 + (128 * h.val + x.val)
    rw [off1 k]
    show 512 + 1 * (128 * h.val + x.val) = _
    omega

/-- The values a trip loads. -/
theorem vals_at (k : Fin k0_t1_loop.trips) (h : Fin 4) (s : Fin 64) (x : Fin 128) :
    View.readAt (Elt Ideal) arg2.view (Rect.unit (s := S256x2048) (k0_off3 k) S64x512.size (k0_off3_inb k)).toLoadRect X2 (ix2 s ⟨128 * h.val + x.val, by omega⟩)
      = colsOf arg2 X2 k 1024 (by omega) h s x := by
  refine congrArg (arg2.view.read (Elt Ideal) X2) (funext fun a => Fin.ext ?_)
  fin_cases a
  · show k0_off3 k 0 + 1 * s.val = 64 * k.val + s.val
    rw [off3 k]
    show 64 * k.val + 1 * s.val = _
    omega
  · show k0_off3 k 1 + 1 * (128 * h.val + x.val) = 1024 + (128 * h.val + x.val)
    rw [off3 k]
    show 1024 + 1 * (128 * h.val + x.val) = _
    omega

/-- The lower bounds a trip loads. -/
theorem low_at (h : Fin 4) (x : Fin 128) :
    View.readAt (Elt Ideal) arg3.view (Rect.unit ![0, 0] S1x512.size inb_S1x512_S1x512_0_0).toLoadRect X3 (ix2 0 ⟨128 * h.val + x.val, by omega⟩)
      = lowOf arg3 X3 h x := by
  refine congrArg (arg3.view.read (Elt Ideal) X3) (funext fun a => Fin.ext ?_)
  fin_cases a
  · rfl
  · show 0 + 1 * (128 * h.val + x.val) = 128 * h.val + x.val
    omega

/-- The keys and the running sums a trip makes of what it loads. -/
theorem keys_of (k : Fin k0_t1_loop.trips) (h : Fin 4) (s : Fin 64) (x : Fin 128) :
    k0_pay11 (View.readAt (Elt Ideal) arg3.view (Rect.unit ![0, 0] S1x512.size inb_S1x512_S1x512_0_0).toLoadRect X3)
        (View.readAt (Elt Ideal) arg2.view (Rect.unit (s := S256x2048) (k0_off1 k) S64x512.size (k0_off1_inb k)).toLoadRect X2) (ix2 s ⟨128 * h.val + x.val, by omega⟩)
      = key (lowOf arg3 X3 h x) (colsOf arg2 X2 k 512 (by omega) h s x) := by
  rw [key_at, low_at, gates_at]

theorem sums_of (k : Fin k0_t1_loop.trips) (h : Fin 4) (s : Fin 64) (x : Fin 128) :
    k0_pay12 (View.readAt (Elt Ideal) arg3.view (Rect.unit ![0, 0] S1x512.size inb_S1x512_S1x512_0_0).toLoadRect X3)
        (View.readAt (Elt Ideal) arg2.view (Rect.unit (s := S256x2048) (k0_off1 k) S64x512.size (k0_off1_inb k)).toLoadRect X2) (ix2 s ⟨128 * h.val + x.val, by omega⟩)
      = decayTo (lowOf arg3 X3 h x) (fun s => colsOf arg2 X2 k 512 (by omega) h s x) s := by
  rw [sums_at, low_at]
  exact congrArg (fun a => decayTo _ a s) (funext fun r => gates_at arg2 X2 k h r x)

/-- The four pieces a trip writes over any contents read as the states after the chunk. -/
theorem trip_read (k : Fin k0_t1_loop.trips) (f6 : BufTy.Contents (Elt Ideal) arg6.view.ty) (g : BufTy.Contents (Elt Ideal) arg8.view.ty)
    {κ : Kind} {sp : Space} {sg : RefSig} (V : View sg κ sp S4x128x128 .f32) (f : V.ty.Contents (Elt Ideal)) (L : List (View.Piece (Elt Ideal) S4x128x128 .f32)) (h : Fin 4) (x w : Fin 128) :
    V.read (Elt Ideal) (V.writes (Elt Ideal) f ((tripL_k0_t1 (F := Ideal) 𝒱 c bd i arg2 harg2 arg3 harg3 arg4 harg4 arg5 harg5 arg6 harg6 arg7 harg7 arg8 harg8 X2 X3 X4 k f6 g).2 ++ L)) (ix3 h w x)
      = step (lowOf arg3 X3 h) (colsOf arg2 X2 k 512 (by omega) h) (colsOf arg2 X2 k 1024 (by omega) h) (held (arg8.view.read (Elt Ideal) g) h) x w := by
  unfold tripL_k0_t1 trip_k0_t1
  dsimp only [List.cons_append, List.nil_append]
  obtain rfl | rfl | rfl | rfl : h = 0 ∨ h = 1 ∨ h = 2 ∨ h = 3 := by omega
  · rw [miss _ _ _ _ _ _ _ _ (by decide), miss _ _ _ _ _ _ _ _ (by decide), miss _ _ _ _ _ _ _ _ (by decide)]
    refine (hit _ _ _ _ _ _ _ _ (by rfl)).trans ?_
    refine new_of (fun x w => ?_) (fun s x => ?_) (fun s w => ?_) (fun s x => ?_) w x
    · refine Eq.trans ?_ (load_at arg8 g inb_S4x128x128_S1x128x128_0_0_0 0 w x rfl)
      pointwise [trip_k0_t1.sl.r_6, k0_pay15]
    · refine Eq.trans ?_ (keys_of arg2 arg3 X2 X3 k 0 s x)
      pointwise [trip_k0_t1.sl.r_8, k0_pay17]
    · refine Eq.trans ?_ (vals_at arg2 X2 k 0 s w)
      pointwise [trip_k0_t1.sl.r_9, k0_pay18]
    · refine Eq.trans ?_ (sums_of arg2 arg3 X2 X3 k 0 s x)
      pointwise [trip_k0_t1.sl.r_10, k0_pay19]
  · rw [miss _ _ _ _ _ _ _ _ (by decide), miss _ _ _ _ _ _ _ _ (by decide)]
    refine (hit _ _ _ _ _ _ _ _ (by rfl)).trans ?_
    refine new_of (C := trip_k0_t1.sl.r_99 arg8 g) (k := trip_k0_t1.sl.r_101 arg2 arg3 X2 X3 k) (v := trip_k0_t1.sl.r_102 arg2 X2 k)
      (b := trip_k0_t1.sl.r_103 arg2 arg3 X2 X3 k) (fun x w => ?_) (fun s x => ?_) (fun s w => ?_) (fun s x => ?_) w x
    · refine Eq.trans ?_ (load_at arg8 g inb_S4x128x128_S1x128x128_1_0_0 1 w x rfl)
      pointwise [trip_k0_t1.sl.r_99, trip_k0_t1.sl.v1768, k0_pay134]
    · refine Eq.trans ?_ (keys_of arg2 arg3 X2 X3 k 1 s x)
      pointwise [trip_k0_t1.sl.r_101, trip_k0_t1.sl.r, k0_pay136]
    · refine Eq.trans ?_ (vals_at arg2 X2 k 1 s w)
      pointwise [trip_k0_t1.sl.r_102, trip_k0_t1.sl.r_4, k0_pay137]
    · refine Eq.trans ?_ (sums_of arg2 arg3 X2 X3 k 1 s x)
      pointwise [trip_k0_t1.sl.r_103, trip_k0_t1.sl.r_1, k0_pay138]
  · rw [miss _ _ _ _ _ _ _ _ (by decide)]
    refine (hit _ _ _ _ _ _ _ _ (by rfl)).trans ?_
    refine new_of (C := trip_k0_t1.sl.r_187 arg8 g) (k := trip_k0_t1.sl.r_189 arg2 arg3 X2 X3 k) (v := trip_k0_t1.sl.r_190 arg2 X2 k)
      (b := trip_k0_t1.sl.r_191 arg2 arg3 X2 X3 k) (fun x w => ?_) (fun s x => ?_) (fun s w => ?_) (fun s x => ?_) w x
    · refine Eq.trans ?_ (load_at arg8 g inb_S4x128x128_S1x128x128_2_0_0 2 w x rfl)
      pointwise [trip_k0_t1.sl.r_187, trip_k0_t1.sl.v3492, k0_pay250]
    · refine Eq.trans ?_ (keys_of arg2 arg3 X2 X3 k 2 s x)
      pointwise [trip_k0_t1.sl.r_189, trip_k0_t1.sl.r, k0_pay252]
    · refine Eq.trans ?_ (vals_at arg2 X2 k 2 s w)
      pointwise [trip_k0_t1.sl.r_190, trip_k0_t1.sl.r_4, k0_pay253]
    · refine Eq.trans ?_ (sums_of arg2 arg3 X2 X3 k 2 s x)
      pointwise [trip_k0_t1.sl.r_191, trip_k0_t1.sl.r_1, k0_pay254]
  · refine (hit _ _ _ _ _ _ _ _ (by rfl)).trans ?_
    refine new_of (C := trip_k0_t1.sl.r_280 arg8 g) (k := trip_k0_t1.sl.r_282 arg2 arg3 X2 X3 k) (v := trip_k0_t1.sl.r_283 arg2 X2 k)
      (b := trip_k0_t1.sl.r_284 arg2 arg3 X2 X3 k) (fun x w => ?_) (fun s x => ?_) (fun s w => ?_) (fun s x => ?_) w x
    · refine Eq.trans ?_ (load_at arg8 g inb_S4x128x128_S1x128x128_3_0_0 3 w x rfl)
      pointwise [trip_k0_t1.sl.r_280, trip_k0_t1.sl.v5216, k0_pay370]
    · refine Eq.trans ?_ (keys_of arg2 arg3 X2 X3 k 3 s x)
      pointwise [trip_k0_t1.sl.r_282, trip_k0_t1.sl.r, k0_pay372]
    · refine Eq.trans ?_ (vals_at arg2 X2 k 3 s w)
      pointwise [trip_k0_t1.sl.r_283, trip_k0_t1.sl.r_4, k0_pay373]
    · refine Eq.trans ?_ (sums_of arg2 arg3 X2 X3 k 3 s x)
      pointwise [trip_k0_t1.sl.r_284, trip_k0_t1.sl.r_1, k0_pay374]

end Cert.HgrnPromptIdeal.States

end
-- ==== Proof.HgrnPromptLoop.lean ====
/-
  The states the HGRN kernel's loop carries through the points of its grid: after each point, those of the chunks so far.
-/
module

public import proofs.«01_k».proof.Proof.HgrnPromptStep

@[expose] public section

set_option maxRecDepth 16384

noncomputable section

open Idealize.ShloMosaic Idealize.ShloMosaic.TcCoe Idealize.SL.Sem
open Cert.HgrnHead Cert.HgrnChunks

namespace Cert.HgrnPromptIdeal.States

open Cert.HgrnPromptIdeal Cert.HgrnPromptIdeal.Gen

variable (P : (⟨2, ![16384, 8832]⟩ : Shape).Idx → EReal) (lb : (⟨1, ![512]⟩ : Shape).Idx → EReal) (b n : ℕ)
variable (c : Dev nD) (i : grid0.Coords) (arg2 : Memref sig .tc .vmem S256x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x4x128x128 .f32) (harg5 : arg5.IsWhole) (arg6 : Memref sig .tc .vmem S256x512 .f32) (harg6 : arg6.IsWhole) (arg7 : Memref sig .tc .vmem S1x4x128x128 .f32) (harg7 : arg7.IsWhole) (arg8 : Memref sig .tc .vmem S4x128x128 .f32) (harg8 : arg8.IsWhole)
variable (x0 : Vec Ideal S256x2048 .f32) (x1 x2 : Vec Ideal S1x512 .f32)

/-- The four chunks of the rows `x0` are sequence `b`'s from chunk `n` on. -/
def Rows : Prop := ∀ (s : Fin 256) (j : Fin 2048), x0 (ix2 s j) = col P (2048 * b + 64 * n + s.val) j.val
/-- The block `x1` holds the lower bounds. -/
def Bounds : Prop := ∀ j : Fin 512, x1 (ix2 0 j) = lb (ix1 j)

variable {P lb b n x0 x1}

theorem cols_of (hp : Rows P b n x0) (k : Fin k0_t1_loop.trips) (o : ℕ) (ho : o + 512 ≤ 2048) (h : Fin 4) (s : Fin 64) (x : Fin 128) :
    colsOf arg2 (harg2.unread (Val := Elt Ideal) x0) k o ho h s x = col P (2048 * b + 64 * (n + k.val) + s.val) (o + (128 * h.val + x.val)) := by
  refine (congrFun (harg2.read_unread (Val := Elt Ideal) x0) _).trans ((hp _ _).trans ?_)
  refine congrArg (fun r => col P r _) ?_
  show 2048 * b + 64 * n + (64 * k.val + s.val) = _
  omega

theorem low_of (hl : Bounds lb x1) (h : Fin 4) : lowOf arg3 (harg3.unread (Val := Elt Ideal) x1) h = low lb h := by
  funext x
  exact (congrFun (harg3.read_unread (Val := Elt Ideal) x1) _).trans (hl _)

/-- A trip, over what reads as the states before its chunk. -/
theorem trip_state (hp : Rows P b n x0) (hl : Bounds lb x1) (k : Fin k0_t1_loop.trips) (X4 : BufTy.Contents (Elt Ideal) arg4.view.ty)
    (f6 : BufTy.Contents (Elt Ideal) arg6.view.ty) (g : BufTy.Contents (Elt Ideal) arg8.view.ty)
    {κ : Kind} {sp : Space} {sg : RefSig} (V : View sg κ sp S4x128x128 .f32) (f : V.ty.Contents (Elt Ideal)) (L : List (View.Piece (Elt Ideal) S4x128x128 .f32))
    (h : Fin 4) (hg : held (arg8.view.read (Elt Ideal) g) h = state P lb b h (n + k.val)) :
    held (V.read (Elt Ideal) (V.writes (Elt Ideal) f ((tripL_k0_t1 (F := Ideal) Variants.none c none i arg2 harg2 arg3 harg3 arg4 harg4 arg5 harg5 arg6 harg6 arg7 harg7 arg8 harg8 (harg2.unread (Val := Elt Ideal) x0) (harg3.unread (Val := Elt Ideal) x1) X4 k f6 g).2 ++ L))) h
      = state P lb b h (n + k.val + 1) := by
  funext x w
  refine (trip_read Variants.none c none i arg2 harg2 arg3 harg3 arg4 harg4 arg5 harg5 arg6 harg6 arg7 harg7 arg8 harg8 _ _ X4 k f6 g V f L h x w).trans ?_
  rw [hg, low_of arg3 harg3 hl]
  show step _ _ _ _ x w = step _ _ _ _ x w
  congr 1
  · exact funext fun s => funext fun x => cols_of arg2 harg2 hp k 512 (by omega) h s x
  · exact funext fun s => funext fun x => cols_of arg2 harg2 hp k 1024 (by omega) h s x

/-- After some trips. -/
theorem trips_state (hp : Rows P b n x0) (hl : Bounds lb x1) (X4 : BufTy.Contents (Elt Ideal) arg4.view.ty)
    (f6 : BufTy.Contents (Elt Ideal) arg6.view.ty) (g : BufTy.Contents (Elt Ideal) arg8.view.ty) (h : Fin 4)
    (hg : held (arg8.view.read (Elt Ideal) g) h = state P lb b h n) (k : ℕ) (hk : k ≤ k0_t1_loop.trips) :
    held (arg8.view.read (Elt Ideal) (arg8.view.writes (Elt Ideal) g
      (pb_k0_t1 (F := Ideal) Variants.none c none i arg2 harg2 arg3 harg3 arg4 harg4 arg5 harg5 arg6 harg6 arg7 harg7 arg8 harg8 (harg2.unread (Val := Elt Ideal) x0) (harg3.unread (Val := Elt Ideal) x1) X4 f6 g k).2)) h
      = state P lb b h (n + k) := by
  induction k with
  | zero => exact hg
  | succ k ih =>
    rw [pb_k0_t1_succ (F := Ideal) Variants.none c none i arg2 harg2 arg3 harg3 arg4 harg4 arg5 harg5 arg6 harg6 arg7 harg7 arg8 harg8 _ _ X4 f6 g ⟨k, hk⟩]
    exact trip_state c i arg2 harg2 arg3 harg3 arg4 harg4 arg5 harg5 arg6 harg6 arg7 harg7 arg8 harg8 hp hl ⟨k, hk⟩ X4 _ _ _ _ _ h (ih (by omega))

/-- After all four, over any contents. -/
theorem loop_state (hp : Rows P b n x0) (hl : Bounds lb x1) (X4 : BufTy.Contents (Elt Ideal) arg4.view.ty)
    (f6 : BufTy.Contents (Elt Ideal) arg6.view.ty) (g : BufTy.Contents (Elt Ideal) arg8.view.ty)
    {κ : Kind} {sp : Space} {sg : RefSig} (V : View sg κ sp S4x128x128 .f32) (f : V.ty.Contents (Elt Ideal)) (h : Fin 4)
    (hg : held (arg8.view.read (Elt Ideal) g) h = state P lb b h n) :
    held (V.read (Elt Ideal) (V.writes (Elt Ideal) f
      (pb_k0_t1 (F := Ideal) Variants.none c none i arg2 harg2 arg3 harg3 arg4 harg4 arg5 harg5 arg6 harg6 arg7 harg7 arg8 harg8 (harg2.unread (Val := Elt Ideal) x0) (harg3.unread (Val := Elt Ideal) x1) X4 f6 g
        (Scf.trips 0#32 (Scalar.addi 0#32 4#32) 1#32)).2)) h = state P lb b h (n + 4) := by
  rw [show Scf.trips 0#32 (Scalar.addi 0#32 4#32) 1#32 = 3 + 1 by decide +kernel]
  have hk : 3 < k0_t1_loop.trips := by decide +kernel
  rw [pb_k0_t1_succ (F := Ideal) Variants.none c none i arg2 harg2 arg3 harg3 arg4 harg4 arg5 harg5 arg6 harg6 arg7 harg7 arg8 harg8 _ _ X4 f6 g ⟨3, hk⟩]
  exact trip_state c i arg2 harg2 arg3 harg3 arg4 harg4 arg5 harg5 arg6 harg6 arg7 harg7 arg8 harg8 hp hl ⟨3, hk⟩ X4 _ _ V f _ h (trips_state c i arg2 harg2 arg3 harg3 arg4 harg4 arg5 harg5 arg6 harg6 arg7 harg7 arg8 harg8 hp hl X4 f6 g h hg 3 (by omega))

/-- After a point in the middle of a sequence. -/
theorem after_B (hp : Rows P b n x0) (hl : Bounds lb x1) (hc0 : ¬cond0_0 i) (hc1 : ¬cond0_1 i) (x3 : Vec Ideal S1x4x128x128 .f32) (xs : Vec Ideal S4x128x128 .f32)
    (h : Fin 4) (hx : held xs h = state P lb b h n) :
    held (sout0_B_0 c i arg2 harg2 arg3 harg3 arg4 harg4 arg5 harg5 arg6 harg6 arg7 harg7 arg8 harg8 hc0 hc1 x0 x1 x2 x3 xs) h = state P lb b h (n + 4) := by
  unfold sout0_B_0 kernelRun0_B
  dsimp only
  exact loop_state c i arg2 harg2 arg3 harg3 arg4 harg4 arg5 harg5 arg6 harg6 arg7 harg7 arg8 harg8 hp hl _ _ _ VS0_0 _ h ((congrArg (fun Z => held Z h) (harg8.read_unread (Val := Elt Ideal) xs)).trans hx)

/-- After the last point of a sequence. -/
theorem after_C (hp : Rows P b n x0) (hl : Bounds lb x1) (hc0 : ¬cond0_0 i) (hc1 : cond0_1 i) (x3 : Vec Ideal S1x4x128x128 .f32) (xs : Vec Ideal S4x128x128 .f32)
    (h : Fin 4) (hx : held xs h = state P lb b h n) :
    held (sout0_C_0 c i arg2 harg2 arg3 harg3 arg4 harg4 arg5 harg5 arg6 harg6 arg7 harg7 arg8 harg8 hc0 hc1 x0 x1 x2 x3 xs) h = state P lb b h (n + 4) := by
  unfold sout0_C_0 kernelRun0_C
  dsimp only
  exact loop_state c i arg2 harg2 arg3 harg3 arg4 harg4 arg5 harg5 arg6 harg6 arg7 harg7 arg8 harg8 hp hl _ _ _ VS0_0 _ h ((congrArg (fun Z => held Z h) (harg8.read_unread (Val := Elt Ideal) xs)).trans hx)

/-- A head's transposed entry state, where the entry states are zero. -/
theorem zero_of (x3 : Vec Ideal S1x4x128x128 .f32) (h0 : ∀ y, x3 y = 0) {n : ℕ} (inb : ∀ a, (![0, n, 0, 0] : Fin 4 → ℕ) a + S1x1x128x128.size a ≤ S1x4x128x128.size a)
    (j : S1x1x128x128.Idx) : View.readAt (Elt Ideal) arg5.view (Rect.unit (s := S1x4x128x128) ![0, n, 0, 0] S1x1x128x128.size inb).toLoadRect (harg5.unread (Val := Elt Ideal) x3) j = (0 : EReal) :=
  (congrFun (harg5.read_unread (Val := Elt Ideal) x3) _).trans (h0 _)

/-- After the first point of a sequence. -/
theorem after_A (hp : Rows P b 0 x0) (hl : Bounds lb x1) (hc0 : cond0_0 i) (hc1 : ¬cond0_1 i) (x3 : Vec Ideal S1x4x128x128 .f32) (h0 : ∀ y, x3 y = 0) (h : Fin 4) :
    held (sout0_A_0 c i arg2 harg2 arg3 harg3 arg4 harg4 arg5 harg5 arg6 harg6 arg7 harg7 arg8 harg8 hc0 hc1 x0 x1 x2 x3) h = state P lb b h 4 := by
  unfold sout0_A_0 kernelRun0_A
  dsimp only
  rw [View.writes_append]
  refine loop_state (n := 0) c i arg2 harg2 arg3 harg3 arg4 harg4 arg5 harg5 arg6 harg6 arg7 harg7 arg8 harg8 hp hl _ _ _ VS0_0 _ h ?_
  funext x w
  show _ = (0 : EReal)
  unfold kernelRun0_A.sl.HS0_4
  obtain rfl | rfl | rfl | rfl : h = 0 ∨ h = 1 ∨ h = 2 ∨ h = 3 := by omega
  · refine (miss _ _ _ _ _ _ _ _ (by decide)).trans ((miss _ _ _ _ _ _ _ _ (by decide)).trans ((miss _ _ _ _ _ _ _ _ (by decide)).trans ?_))
    refine (hit _ _ _ _ _ _ _ _ (by rfl)).trans ?_
    refine Eq.trans ?_ (zero_of arg5 harg5 x3 h0 inb_S1x4x128x128_S1x1x128x128_0_0_0_0 (ix4 0 0 x w))
    pointwise [k0_pay1]
  · refine (miss _ _ _ _ _ _ _ _ (by decide)).trans ((miss _ _ _ _ _ _ _ _ (by decide)).trans ?_)
    refine (hit _ _ _ _ _ _ _ _ (by rfl)).trans ?_
    refine Eq.trans ?_ (zero_of arg5 harg5 x3 h0 inb_S1x4x128x128_S1x1x128x128_0_1_0_0 (ix4 0 0 x w))
    pointwise [k0_pay2]
  · refine (miss _ _ _ _ _ _ _ _ (by decide)).trans ?_
    refine (hit _ _ _ _ _ _ _ _ (by rfl)).trans ?_
    refine Eq.trans ?_ (zero_of arg5 harg5 x3 h0 inb_S1x4x128x128_S1x1x128x128_0_2_0_0 (ix4 0 0 x w))
    pointwise [k0_pay3]
  · refine (hit _ _ _ _ _ _ _ _ (by rfl)).trans ?_
    refine Eq.trans ?_ (zero_of arg5 harg5 x3 h0 inb_S1x4x128x128_S1x1x128x128_0_3_0_0 (ix4 0 0 x w))
    pointwise [k0_pay4]

/-- The final states a point stores at the end of a sequence. -/
theorem stored_C (hp : Rows P b n x0) (hl : Bounds lb x1) (hc0 : ¬cond0_0 i) (hc1 : cond0_1 i) (x3 : Vec Ideal S1x4x128x128 .f32) (xs : Vec Ideal S4x128x128 .f32)
    (hx : ∀ h, held xs h = state P lb b h n) (y : S1x4x128x128.Idx) :
    out0_C_5 c i arg2 harg2 arg3 harg3 arg4 harg4 arg5 harg5 arg6 harg6 arg7 harg7 arg8 harg8 hc0 hc1 x0 x1 x2 x3 xs y = state P lb b (y 1) (n + 4) (y 2) (y 3) := by
  unfold out0_C_5 kernelRun0_C
  dsimp only
  have e : ∀ (h : Fin 4) (x w : Fin 128), held (arg8.view.read (Elt Ideal) (arg8.view.writes (Elt Ideal) (harg8.unread (Val := Elt Ideal) xs) _)) h x w = state P lb b h (n + 4) x w :=
    fun h x w => congrFun (congrFun (loop_state c i arg2 harg2 arg3 harg3 arg4 harg4 arg5 harg5 arg6 harg6 arg7 harg7 arg8 harg8 hp hl (harg4.unread (Val := Elt Ideal) x2) arg6.view.junk _ arg8.view (harg8.unread (Val := Elt Ideal) xs) h
      ((congrArg (fun Z => held Z h) (harg8.read_unread (Val := Elt Ideal) xs)).trans (hx h))) x) w
  rw [View.read_writes_junk_eq_canon]
  canon_tiles x q
  · idx_vars x
    obtain rfl : x0 = 0 := Subsingleton.elim (α := Fin 1) _ _
    obtain rfl : x1 = 0 := Subsingleton.elim (α := Fin 1) _ _
    rw [show y 1 = (3 : Fin 4) from Fin.ext q1, show y 2 = x2 from Fin.ext q2, show y 3 = x3 from Fin.ext q3]
    refine Eq.trans ?_ (e 3 x2 x3)
    refine Eq.trans ?_ (load_at arg8 _ inb_S4x128x128_S1x128x128_3_0_0 3 x3 x2 rfl)
    pointwise [k0_pay9]
  · idx_vars x
    obtain rfl : x0 = 0 := Subsingleton.elim (α := Fin 1) _ _
    obtain rfl : x1 = 0 := Subsingleton.elim (α := Fin 1) _ _
    rw [show y 1 = (2 : Fin 4) from Fin.ext q1, show y 2 = x2 from Fin.ext q2, show y 3 = x3 from Fin.ext q3]
    refine Eq.trans ?_ (e 2 x2 x3)
    refine Eq.trans ?_ (load_at arg8 _ inb_S4x128x128_S1x128x128_2_0_0 2 x3 x2 rfl)
    pointwise [k0_pay8]
  · idx_vars x
    obtain rfl : x0 = 0 := Subsingleton.elim (α := Fin 1) _ _
    obtain rfl : x1 = 0 := Subsingleton.elim (α := Fin 1) _ _
    rw [show y 1 = (1 : Fin 4) from Fin.ext q1, show y 2 = x2 from Fin.ext q2, show y 3 = x3 from Fin.ext q3]
    refine Eq.trans ?_ (e 1 x2 x3)
    refine Eq.trans ?_ (load_at arg8 _ inb_S4x128x128_S1x128x128_1_0_0 1 x3 x2 rfl)
    pointwise [k0_pay7]
  · idx_vars x
    obtain rfl : x0 = 0 := Subsingleton.elim (α := Fin 1) _ _
    obtain rfl : x1 = 0 := Subsingleton.elim (α := Fin 1) _ _
    rw [show y 1 = (0 : Fin 4) from Fin.ext q1, show y 2 = x2 from Fin.ext q2, show y 3 = x3 from Fin.ext q3]
    refine Eq.trans ?_ (e 0 x2 x3)
    refine Eq.trans ?_ (load_at arg8 _ inb_S4x128x128_S1x128x128_0_0_0 0 x3 x2 rfl)
    pointwise [k0_pay6]

end Cert.HgrnPromptIdeal.States

end
-- ==== Proof.HgrnPromptFinal.lean ====
/-
  The final states the HGRN kernel's launch leaves are those after the last chunk, read off the launched arguments.
-/
module

public import proofs.«01_k».proof.Proof.HgrnPromptLoop

@[expose] public section

set_option maxRecDepth 16384

noncomputable section

open Idealize.ShloMosaic Idealize.ShloMosaic.TcCoe Idealize.SL.Sem
open Idealize.ShloMosaic.Pipeline (Dat)
open Cert.HgrnHead Cert.HgrnChunks

namespace Cert.HgrnPromptIdeal.States

open Cert.HgrnPromptIdeal Cert.HgrnPromptIdeal.Gen

attribute [local irreducible] state

variable (m : (ℓ : Loc nD τ sig) → Buf (Elt Ideal) ℓ)

/-- The projected array and the gates' lower bounds, as launched. -/
abbrev P (c : Dev nD) : FVec Ideal S16384x8832 .f32 := m ((c : Thread nD τ).loc main_arg0)
abbrev lb (c : Dev nD) : FVec Ideal S512 .f32 := m ((c : Thread nD τ).loc main_arg1)

/-- Each window's block index at a grid point, on every axis. -/
theorem idx : ∀ t : Fin cfg0.N, (win0_0.index t 0 = t.val ∧ win0_0.index t 1 = 0)
    ∧ (win0_1.index t 0 = 0 ∧ win0_1.index t 1 = 0)
    ∧ (win0_5.index t 0 = t.val / 8 ∧ win0_5.index t 1 = 0 ∧ win0_5.index t 2 = 0 ∧ win0_5.index t 3 = 0) :=
  (by decide +kernel : ∀ t : Fin grid0.N, (win0_0.index t 0 = t.val ∧ win0_0.index t 1 = 0)
    ∧ (win0_1.index t 0 = 0 ∧ win0_1.index t 1 = 0)
    ∧ (win0_5.index t 0 = t.val / 8 ∧ win0_5.index t 1 = 0 ∧ win0_5.index t 2 = 0 ∧ win0_5.index t 3 = 0))

/-- The projected columns' block. -/
theorem p_at (c : Dev nD) (t : Fin cfg0.N) (s : Fin 256) (j : Fin 2048) :
    X0_0 m c t (ix2 s j) = P m c (ix2 ⟨256 * t.val + s.val, by have h : t.val < 64 := t.isLt; omega⟩ ⟨j.val, by omega⟩) := by
  obtain ⟨⟨h00, h01⟩, -⟩ := idx t
  refine (dif_pos (moved0_0 t (ix2 s j))).trans ?_
  blk_ext [iblk, V_main_arg0, h00, h01]

theorem rows (c : Dev nD) (t : Fin cfg0.N) : Rows (P m c) (t.val / 8) (4 * (t.val % 8)) (X0_0 m c t) := fun s j => by
  have ht : t.val < 64 := t.isLt
  refine (p_at m c t s j).trans ?_
  unfold HgrnChunks.col
  congr 2
  · refine Fin.ext ?_
    show 256 * t.val + s.val = (2048 * (t.val / 8) + 64 * (4 * (t.val % 8)) + s.val) % 16384
    omega
  · refine Fin.ext ?_
    show j.val = j.val % 8832
    omega

/-- The lower bounds' block. -/
theorem bounds (c : Dev nD) (t : Fin cfg0.N) : Bounds (lb m c) (iblk m c 1 t) := fun j => by
  obtain ⟨-, ⟨h00, h01⟩, -⟩ := idx t
  have e : V m c main_v0 = broadcastInDim S1x512 ![1] bcast_S512_S1x512_1 (lb m c) := by
    show StableHlo.after hostOps0 (fun b => m (c, b)) _ = _
    unfold hostOps0
    after_results
    all_goals rfl
  refine Eq.trans ?_ ((congrFun e (ix2 0 j)).trans ?_)
  · blk_ext [iblk, h00, h01]
  · pointwise []

/-- The entry states are zero. -/
theorem entry_zero (c : Dev nD) (t : Fin cfg0.N) (y : S1x4x128x128.Idx) : iblk m c 3 t y = (0 : EReal) := by
  have e : V m c main_v2 = broadcastInDim S8x4x128x128 ![] bcast_S_S8x4x128x128 (constant (F := Ideal) S_ .f32 0x00000000#32) := by
    show StableHlo.after hostOps0 (fun b => m (c, b)) _ = _
    unfold hostOps0
    after_results
    all_goals rfl
  have z : ∀ i, V m c main_v2 i = (0 : EReal) := fun i => (congrFun e i).trans (by pointwise [])
  unfold iblk
  exact z _

/-- What the carried states hold after each point. -/
theorem carried (c : Dev nD) : ∀ (n : ℕ) (hn : n < cfg0.N) (h : Fin 4),
    held (outsAt0 m c n hn).2.2 h = state (P m c) (lb m c) (n / 8) h (4 * (n % 8) + 4) := by
  intro n
  induction n using Nat.strong_induction_on with
  | _ n ih =>
    intro hn h
    have hr := rows m c ⟨n, hn⟩
    by_cases h0 : n % 8 = 0
    · rw [outsAt0_A m c ⟨n, hn⟩ h0 (by dsimp only; omega)]
      dsimp only at hr ⊢
      rw [h0] at hr
      refine Eq.trans ?_ (congrArg (fun k => state (P m c) (lb m c) (n / 8) h (4 * k + 4)) h0.symm)
      exact after_A _ _ _ _ _ _ _ _ _ _ _ _ _ _ _ _ _ hr (bounds m c ⟨n, hn⟩) _ _ _ (entry_zero m c ⟨n, hn⟩) h
    · have hp : held (outsAt0 m c (n - 1) (by omega)).2.2 h = state (P m c) (lb m c) (n / 8) h (4 * (n % 8)) := by
        rw [ih (n - 1) (by omega) (by omega) h, show (n - 1) / 8 = n / 8 by omega, show 4 * ((n - 1) % 8) + 4 = 4 * (n % 8) by omega]
      by_cases h1 : n % 8 = 7
      · rw [outsAt0_C m c ⟨n, hn⟩ h0 h1]
        exact after_C _ _ _ _ _ _ _ _ _ _ _ _ _ _ _ _ _ hr (bounds m c ⟨n, hn⟩) _ _ _ _ h hp
      · rw [outsAt0_B m c ⟨n, hn⟩ h0 h1]
        exact after_B _ _ _ _ _ _ _ _ _ _ _ _ _ _ _ _ _ hr (bounds m c ⟨n, hn⟩) _ _ _ _ h hp

set_option maxHeartbeats 4000000 in
/-- What a sequence's last point stores. -/
theorem stored (c : Dev nD) (t : Fin cfg0.N) (h1 : t.val % 8 = 7) (y : S1x4x128x128.Idx) :
    (outsAt0 m c t.val t.isLt).2.1 y = state (P m c) (lb m c) (t.val / 8) (y 1) 32 (y 2) (y 3) := by
  have h0 : ¬t.val % 8 = 0 := by omega
  have hr : Rows (P m c) (t.val / 8) 28 (X0_0 m c t) := by
    have := rows m c t
    rwa [h1] at this
  have hx : ∀ h, held (outsAt0 m c (t.val - 1) (Nat.lt_of_le_of_lt (Nat.sub_le _ _) t.isLt)).2.2 h = state (P m c) (lb m c) (t.val / 8) h 28 := fun h => by
    rw [carried m c (t.val - 1) _ h, show (t.val - 1) / 8 = t.val / 8 by omega, show 4 * ((t.val - 1) % 8) + 4 = 28 by omega]
  have e : (outsAt0 m c t.val t.isLt).2.1 = _ := congrArg (fun o => o.2.1) (outsAt0_C m c t h0 h1)
  rw [e]
  have q := stored_C (n := 28) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 2 t) hr (bounds m c t)
    (fun h => h0 ((hcond0_0 t).mp h)) ((hcond0_1 t).mpr h1) (iblk m c 3 t) _ hx y
  exact q

/-- The final states. -/
theorem finalS (c : Dev nD) : (dats m 0 c).arrAt 5 cfg0.N = final (P m c) (lb m c) := by
  refine (dats m 0 c).arrAt_eq_of_covers 5 _ (by decide +kernel) fun t hf y => ?_
  have h1 : t.val % 8 = 7 := (by decide +kernel : ∀ t : Fin grid0.N, (cfg0.win 5).flush t = true → t.val % 8 = 7) t hf
  blk_simp
  rw [after0_5]
  refine (stored m c t h1 y).trans ?_
  obtain ⟨-, -, ⟨h00, h01, h02, h03⟩⟩ := idx t
  have ht : t.val < 64 := t.isLt
  refine Eq.trans (?_ : _ = final (P m c) (lb m c) (ix4 ⟨t.val / 8, by omega⟩ (y 1) (y 2) (y 3))) ?_
  · rfl
  · blk_ext [h00, h01, h02, h03]

variable (ρ : Dev nD → PrngReg)

/-- The launch ends with the final states in its second result and its arguments unchanged. -/
theorem run : θ_run defs (onTc (τ := τ) (main (F := Ideal))) ⟨m, fun _ => 0, ρ⟩ fun r => ∀ c : Dev nD,
      r.2.mem ((c : Thread nD τ).loc main_v3_1) = final (P m c) (lb m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 5).trans (finalS m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.HgrnPromptIdeal.States

end
-- ==== Proof.HgrnPromptWindow.lean ====
/-
  The host's running sum over a chunk of 64 tokens.
-/
module

public import proofs.«01_k».proof.Proof.RunningSum
public import proofs.«01_k».proof.Proof.HgrnPromptSpec

@[expose] public section

set_option maxRecDepth 16384

noncomputable section

open Idealize.ShloMosaic Idealize.ShloMosaic.TcCoe

namespace Cert.HgrnChunks

/-- A 64-entry table continued by zero. -/
def beyond (f : Fin 64 → EReal) (n : ℕ) : EReal := if h : n < 64 then f ⟨n, h⟩ else 0

/-- Sixty-four places of which the first 63 may lie before the table: turning them by `t + 1` places puts the entry up to
    `t` at its own place, and the places before the table after `t`. -/
theorem turned (f : Fin 64 → EReal) (t : Fin 64) :
    (∑ k : Fin 64, if 63 ≤ t.val + k.val then beyond f (t.val + k.val - 63) else 0) = sumTo f t := by
  unfold sumTo
  refine Fintype.sum_equiv (Equiv.addRight (t + 1)) _ _ fun k => ?_
  have ht := t.isLt
  have hk := k.isLt
  have e : (k + (t + 1) : Fin 64).val = (k.val + (t.val + 1)) % 64 := by
    rw [Fin.val_add, Fin.val_add]
    show (k.val + (t.val + 1) % 64) % 64 = _
    omega
  show _ = if k + (t + 1) ≤ t then f (k + (t + 1)) else 0
  by_cases hp : 63 ≤ t.val + k.val
  · rw [if_pos hp, if_pos (Fin.le_def.mpr (by rw [e]; omega))]
    unfold beyond
    rw [dif_pos (by omega)]
    exact congrArg f (Fin.ext (by rw [e]; show t.val + k.val - 63 = _; omega))
  · rw [if_neg hp, if_neg (fun h => by have := Fin.le_def.mp h; rw [e] at this; omega)]

/-- A sum over the positions of a window of 64 along the third of four axes. -/
theorem sum_window (g : (⟨4, ![1, 1, 64, 1]⟩ : Shape).Idx → EReal) : ∑ w, g w = ∑ k : Fin 64, g (ix4 0 0 k 0) := by
  symm
  refine Fintype.sum_bijective (fun k : Fin 64 => (ix4 0 0 k 0 : (⟨4, ![1, 1, 64, 1]⟩ : Shape).Idx)) ⟨fun a b h => ?_, fun y => ?_⟩ _ _ fun _ => rfl
  · exact congrFun h 2
  · idx_vars y
    obtain rfl : y0 = 0 := Subsingleton.elim (α := Fin 1) _ _
    obtain rfl : y1 = 0 := Subsingleton.elim (α := Fin 1) _ _
    obtain rfl : y3 = 0 := Subsingleton.elim (α := Fin 1) _ _
    exact ⟨_, rfl⟩

/-- The host's running sum along the third axis of an [8, 4, 64, 128] array: entry `t` is the sum of the entries up to `t`. -/
theorem window (x : (⟨4, ![8, 4, 64, 128]⟩ : Shape).Idx → EReal) (init)
    (h : (⟨4, ![8, 4, 64, 128]⟩ : Shape).ReduceWindows ![1, 1, 64, 1] ![1, 1, 1, 1] ![0, 0, 63, 0] ![0, 0, 0, 0] ⟨4, ![8, 4, 64, 128]⟩) (hu)
    (h0 : init (Shape.Idx.first (s := ⟨0, ![]⟩) hu) = 0) (a : Fin 8) (b : Fin 4) (t : Fin 64) (d : Fin 128) :
    Host.reduceWindowAdd (F := Ideal) (φ := .f32) ![1, 1, 64, 1] ![1, 1, 1, 1] ![0, 0, 63, 0] ![0, 0, 0, 0] x init h hu (ix4 a b t d)
      = sumTo (fun s => x (ix4 a b s d)) t := by
  unfold Host.reduceWindowAdd
  rw [h0, Ideal.hostReduceWindowAdd_def]
  unfold Ideal.hostReduceWindowAdd Host.reduceWindow
  refine (RunningSum.foldl_finRange _).trans ?_
  refine (Fintype.sum_equiv ((⟨4, ![1, 1, 64, 1]⟩ : Shape).rowMajor.symm) _
    (fun w : (⟨4, ![1, 1, 64, 1]⟩ : Shape).Idx => if 63 ≤ t.val + (w 2).val then beyond (fun s => x (ix4 a b s d)) (t.val + (w 2).val - 63) else 0)
    fun k => ?_).trans ((sum_window _).trans (turned _ t))
  let w := (⟨4, ![1, 1, 64, 1]⟩ : Shape).rowMajor.symm k
  have h0 : (w 0).val < 1 := (w 0).isLt
  have h1 : (w 1).val < 1 := (w 1).isLt
  have h2 : (w 2).val < 64 := (w 2).isLt
  have h3 : (w 3).val < 1 := (w 3).isLt
  have ha := a.isLt
  have hb := b.isLt
  have ht := t.isLt
  have hd := d.isLt
  by_cases hp : 63 ≤ t.val + (w 2).val
  · refine Eq.trans ?_ (if_pos hp).symm
    refine (dif_pos fun c => ?_).trans ?_
    rotate_left
    · refine Eq.trans ?_ (dif_pos (show t.val + (w 2).val - 63 < 64 by omega)).symm
      refine congrArg x (funext fun c => ?_)
      fin_cases c
      · exact Fin.ext (show a.val * 1 + (w 0).val - 0 = a.val by omega)
      · exact Fin.ext (show b.val * 1 + (w 1).val - 0 = b.val by omega)
      · exact Fin.ext (show t.val * 1 + (w 2).val - 63 = t.val + (w 2).val - 63 by omega)
      · exact Fin.ext (show d.val * 1 + (w 3).val - 0 = d.val by omega)
    · fin_cases c
      · show 0 ≤ a.val * 1 + (w 0).val ∧ a.val * 1 + (w 0).val - 0 < 8
        omega
      · show 0 ≤ b.val * 1 + (w 1).val ∧ b.val * 1 + (w 1).val - 0 < 4
        omega
      · show 63 ≤ t.val * 1 + (w 2).val ∧ t.val * 1 + (w 2).val - 63 < 64
        omega
      · show 0 ≤ d.val * 1 + (w 3).val ∧ d.val * 1 + (w 3).val - 0 < 128
        omega
  · refine Eq.trans ?_ (if_neg hp).symm
    refine dif_neg fun hin => ?_
    have h63 : 63 ≤ t.val * 1 + (w 2).val := (hin 2).1
    omega

end Cert.HgrnChunks

end
-- ==== Proof.HgrnPromptReference.lean ====
/-
  What the HGRN reference's scan over a fresh sequence's chunks computes, element by element: the states of HgrnPromptSpec.
-/
module

public import proofs.«01_k».proof.Proof.Gen.HgrnPromptRefIdeal.Run
public import proofs.«01_k».proof.Proof.HgrnPromptWindow
public import Idealize.ShloMosaic.Lib.Pipeline.ValueKit
public import Idealize.ShloMosaic.Lib.Pointwise
public import Idealize.ShloMosaic.Lib.Tactic.CleanTypes
public import Idealize.ShloMosaic.Lib.DynamicIndex

@[expose] public section

set_option maxRecDepth 16384

noncomputable section

open Idealize.ShloMosaic Idealize.ShloMosaic.TcCoe Idealize.ShloMosaic.Tactic Idealize.ShloMosaic.StableHlo Idealize.SL.Sem
open Cert.HgrnHead Cert.HgrnChunks

namespace Cert.HgrnPromptRefIdeal.Elements

open Cert.HgrnPromptRefIdeal Cert.HgrnPromptRefIdeal.Gen Cert.HgrnPromptRefIdeal.Value

section

variable (p : FVec Ideal S16384x8832 .f32) (lb : FVec Ideal S512 .f32)

/-- The ones, over all lanes of all tokens. -/
abbrev ones : FVec Ideal S8x2048x512 .f32 := broadcastInDim S8x2048x512 ![] bcast_S_S8x2048x512 (constant S_ .f32 0x3F800000#32)
/-- The reference's sigmoid. -/
abbrev sigmoid (x : FVec Ideal S8x2048x512 .f32) : FVec Ideal S8x2048x512 .f32 := Host.divf ones (addf ones (Host.exp (Host.negf x)))
/-- A row over all tokens. -/
abbrev spread (x : FVec Ideal S512 .f32) : FVec Ideal S8x2048x512 .f32 :=
  broadcastInDim S8x2048x512 ![0, 1, 2] bcast_S1x1x512_S8x2048x512_0_1_2 (broadcastInDim S1x1x512 ![2] bcast_S512_S1x1x512_2 x)
/-- A group of 512 columns of the projected array. -/
abbrev group (o : ℕ) (hs : S8x2048x8832.Slices ![0, 0, o] S8x2048x512) : FVec Ideal S8x2048x512 .f32 :=
  extractStridedSlice S8x2048x512 ![0, 0, o] (shapeCast _ p shapeCasts_S16384x8832_S8x2048x8832) hs
/-- The lanes by chunks and heads. -/
abbrev byChunk (x : FVec Ideal S8x2048x512 .f32) : FVec Ideal S32x8x4x64x128 .f32 :=
  transpose S32x8x4x64x128 [2, 0, 1, 3, 4] (shapeCast S8x4x32x64x128
    (transpose S8x4x2048x128 [0, 2, 1, 3] (shapeCast S8x2048x4x128 x shapeCasts_S8x2048x512_S8x2048x4x128) transposes_S8x2048x4x128_S8x4x2048x128_0_2_1_3)
    shapeCasts_S8x4x2048x128_S8x4x32x64x128) transposes_S8x4x32x64x128_S32x8x4x64x128_2_0_1_3_4
/-- One minus the lower bounds, over all tokens. -/
abbrev rest : FVec Ideal S8x2048x512 .f32 := spread (subf (broadcastInDim S512 ![] bcast_S_S512 (constant S_ .f32 0x3F800000#32)) lb)
/-- The reference's keys, values and log forget gates, by chunks and heads. -/
def keys : FVec Ideal S32x8x4x64x128 .f32 :=
  byChunk (mulf (rest lb) (sigmoid (Host.negf (group p 512 slices_S8x2048x8832_S8x2048x512_0_0_512))))
def values : FVec Ideal S32x8x4x64x128 .f32 := byChunk (group p 1024 slices_S8x2048x8832_S8x2048x512_0_0_1024)
def gates : FVec Ideal S32x8x4x64x128 .f32 :=
  byChunk (Host.log (addf (spread lb) (mulf (rest lb) (sigmoid (group p 512 slices_S8x2048x8832_S8x2048x512_0_0_512)))))

/-- An element of the projected array by its row and column. -/
theorem elt {i j : ℕ} {hi : i < 16384} {hj : j < 8832} {i' j' : ℕ} (ei : i = i') (ej : j = j') :
    p (ix2 ⟨i, hi⟩ ⟨j, hj⟩) = HgrnChunks.col p i' j' := by
  subst ei ej
  unfold HgrnChunks.col
  exact congrArg₂ (fun a b => p (ix2 a b)) (Fin.ext (Nat.mod_eq_of_lt hi).symm) (Fin.ext (Nat.mod_eq_of_lt hj).symm)

/-- A lower bound by its lane. -/
theorem lane {j : ℕ} {hj : j < 512} {h : Fin 4} {x : Fin 128} (ej : j = 128 * h.val + x.val) : lb (ix1 ⟨j, hj⟩) = low lb h x := by
  subst ej
  rfl

theorem keys_at (n : Fin 32) (b : Fin 8) (h : Fin 4) (s : Fin 64) (x : Fin 128) :
    keys p lb (ix5 n b h s x) = key (low lb h x) (pre p (2048 * b.val + 64 * n.val) h s x) := by
  unfold HgrnChunks.pre
  pointwise [keys]
  exact congrArg₂ key (lane lb (by omega)) (elt p (by omega) (by omega))

theorem values_at (n : Fin 32) (b : Fin 8) (h : Fin 4) (s : Fin 64) (w : Fin 128) :
    values p (ix5 n b h s w) = vals p (2048 * b.val + 64 * n.val) h s w := by
  unfold HgrnChunks.vals
  pointwise [values]
  exact elt p (by omega) (by omega)

theorem gates_at (n : Fin 32) (b : Fin 8) (h : Fin 4) (s : Fin 64) (x : Fin 128) :
    gates p lb (ix5 n b h s x) = logForget (low lb h x) (pre p (2048 * b.val + 64 * n.val) h s x) := by
  unfold HgrnChunks.pre
  pointwise [gates]
  exact congrArg₂ logForget (lane lb (by omega)) (elt p (by omega) (by omega))

end

/-! ## One chunk -/

section

variable (V : Valuation τ sig (Elt Ideal)) (n : Fin 32)

/-- The chunk the scan's counter names, of an array by chunks. -/
theorem chunk_at (hc : V (Proc.devRef .tc main_v43_3) = fun _ => BitVec.ofNat 32 n.val) (x : FVec Ideal S32x8x4x64x128 .f32)
    (b : Fin 8) (h : Fin 4) (s : Fin 64) (w : Fin 128) :
    shapeCast S8x4x64x128 (Host.dynamicSlice S1x8x4x64x128 x (fun k => (((![V (Proc.devRef .tc main_v43_3), constantI S_ 32 0#32, constantI S_ 32 0#32, constantI S_ 32 0#32, constantI S_ 32 0#32] : Fin 5 → (⟨S_, .i32⟩ : BufTy).Contents (Elt Ideal))) k (Shape.Idx.first h_S_)).toInt) sliceFits_S32x8x4x64x128_S1x8x4x64x128)
      shapeCasts_S1x8x4x64x128_S8x4x64x128 (ix4 b h s w) = x (ix5 n b h s w) := by
  have hs : S32x8x4x64x128.Slices ![n.val, 0, 0, 0, 0] S1x8x4x64x128 := by
    clear hc
    revert n
    decide +kernel
  have hn : (BitVec.ofNat 32 n.val).toInt = (n.val : ℤ) := by
    clear hs hc
    revert n
    decide +kernel
  rw [Host.dynamicSlice_eq_extractStridedSlice S1x8x4x64x128 x _ ![n.val, 0, 0, 0, 0] _ hs fun a => ?_]
  · pointwise []
  · rw [hc]
    fin_cases a
    · exact hn
    all_goals rfl

variable (p : FVec Ideal S16384x8832 .f32) (lb : FVec Ideal S512 .f32)

theorem sums_at (hc : V (Proc.devRef .tc main_v43_3) = fun _ => BitVec.ofNat 32 n.val) (hg : V (Proc.devRef .tc main_v43_2) = gates p lb)
    (b : Fin 8) (h : Fin 4) (s : Fin 64) (x : Fin 128) :
    (res_main_while0b_v47 V : FVec Ideal S8x4x64x128 .f32) (ix4 b h s x)
      = decayTo (low lb h x) (fun s => pre p (2048 * b.val + 64 * n.val) h s x) s := by
  unfold res_main_while0b_v47
  refine (window _ _ _ (by decide) ?_ b h s x).trans ?_
  · pointwise []
  unfold decayTo
  refine congrArg (fun f : Fin 64 → EReal => sumTo f s) (funext fun s => ?_)
  refine (chunk_at V n hc _ b h s x).trans ?_
  rw [hg, gates_at]

/-- A trip of the scan turns the states before a chunk into those after it. -/
theorem trip_at (hc : V (Proc.devRef .tc main_v43_3) = fun _ => BitVec.ofNat 32 n.val) (hk : V (Proc.devRef .tc main_v43_0) = keys p lb)
    (hv : V (Proc.devRef .tc main_v43_1) = values p) (hg : V (Proc.devRef .tc main_v43_2) = gates p lb) (b : Fin 8) (h : Fin 4) (x w : Fin 128) :
    (step_main_v43_4 V : FVec Ideal S8x4x128x128 .f32) (ix4 b h x w)
      = step (low lb h) (pre p (2048 * b.val + 64 * n.val) h) (vals p (2048 * b.val + 64 * n.val) h)
          (fun x w => (V (Proc.devRef .tc main_v43_4) : FVec Ideal S8x4x128x128 .f32) (ix4 b h x w)) x w := by
  unfold step_main_v43_4
  have hK := fun s x => (chunk_at V n hc (V (Proc.devRef .tc main_v43_0)) b h s x).trans ((congrFun hk _).trans (keys_at p lb n b h s x))
  have hV := fun s x => (chunk_at V n hc (V (Proc.devRef .tc main_v43_1)) b h s x).trans ((congrFun hv _).trans (values_at p n b h s x))
  have hB := fun s x => sums_at V n p lb hc hg b h s x
  unfold res_main_while0b_v49
  generalize res_main_while0b_v47 V = B at hB ⊢
  generalize shapeCast S8x4x64x128 (Host.dynamicSlice S1x8x4x64x128 (V (Proc.devRef .tc main_v43_0)) _ _) _ = K at hK ⊢
  generalize shapeCast S8x4x64x128 (Host.dynamicSlice S1x8x4x64x128 (V (Proc.devRef .tc main_v43_1)) _ _) _ = U at hV ⊢
  generalize V (Proc.devRef .tc main_v43_4) = S
  clean_types
  pointwise [id]
  simp only [hK, hV, hB]
  rfl

end

/-! ## The scan -/

section

variable (m : (ℓ : Loc nD τ sig) → Buf (Elt Ideal) ℓ) (c : Dev nD)

/-- The projected array and the gates' lower bounds the reference is given. -/
abbrev P : FVec Ideal S16384x8832 .f32 := m ((c.tc : Thread nD τ).loc main_arg0)
abbrev lo : FVec Ideal S512 .f32 := m ((c.tc : Thread nD τ).loc main_arg1)

theorem entry_keys : entryContents preI m c (Proc.devRef .tc main_v43_0) = keys (P m c) (lo m c) := by
  simp only [entryContents, afterL_cons, afterL_nil]
  after_reads_simp
  rfl

theorem entry_values : entryContents preI m c (Proc.devRef .tc main_v43_1) = values (P m c) := by
  simp only [entryContents, afterL_cons, afterL_nil]
  after_reads_simp
  rfl

theorem entry_gates : entryContents preI m c (Proc.devRef .tc main_v43_2) = gates (P m c) (lo m c) := by
  simp only [entryContents, afterL_cons, afterL_nil]
  after_reads_simp
  rfl

theorem entry_states : entryContents preI m c (Proc.devRef .tc main_v43_4)
    = (broadcastInDim S8x4x128x128 ![] bcast_S_S8x4x128x128 (constant S_ .f32 0x00000000#32) : FVec Ideal S8x4x128x128 .f32) := by
  simp only [entryContents, afterL_cons, afterL_nil]
  after_reads_simp
  rfl

/-- What the scan carries before its `n`-th trip. -/
theorem before (n : ℕ) : n ≤ 32 →
    let V := STEP^[n] (entryContents preI m c)
    V (Proc.devRef .tc main_v43_0) = keys (P m c) (lo m c) ∧ V (Proc.devRef .tc main_v43_1) = values (P m c)
      ∧ V (Proc.devRef .tc main_v43_2) = gates (P m c) (lo m c) ∧ V (Proc.devRef .tc main_v43_3) = (fun _ => BitVec.ofNat 32 n)
      ∧ ∀ (b : Fin 8) (h : Fin 4) (x w : Fin 128),
          (V (Proc.devRef .tc main_v43_4) : FVec Ideal S8x4x128x128 .f32) (ix4 b h x w) = state (P m c) (lo m c) b.val h n x w := by
  induction n with
  | zero =>
    refine fun _ => ⟨entry_keys m c, entry_values m c, entry_gates m c, ctr_entry m c, fun b h x w => ?_⟩
    refine (congrFun (entry_states m c) _).trans ?_
    unfold state
    pointwise []
  | succ n ih =>
    intro hn
    obtain ⟨h0, h1, h2, h3, h4⟩ := ih (by omega)
    show let V := STEP^[n + 1] (entryContents preI m c); _
    rw [Function.iterate_succ_apply']
    generalize STEP^[n] (entryContents preI m c) = V at h0 h1 h2 h3 h4
    refine ⟨(STEP_main_v43_0 V).trans h0, (STEP_main_v43_1 V).trans h1, (STEP_main_v43_2 V).trans h2, (STEP_main_v43_3 V).trans ?_, fun b h x w => ?_⟩
    · unfold step_main_v43_3
      rw [h3]
      funext i
      show BitVec.ofNat 32 n + 1#32 = BitVec.ofNat 32 (n + 1)
      rw [← BitVec.ofNat_add_ofNat]
    · refine (congrFun (STEP_main_v43_4 V) _).trans ((trip_at V ⟨n, by omega⟩ (P m c) (lo m c) h3 h0 h1 h2 b h x w).trans ?_)
      simp only [h4]
      rfl

/-- The states the reference returns. -/
theorem s_eq : (STEP^[32] (entryContents preI m c)) (Proc.devRef .tc main_v43_4) = final (P m c) (lo m c) := by
  obtain ⟨-, -, -, -, h⟩ := before m c 32 le_rfl
  funext i
  idx_vars i
  exact h i0 i1 i2 i3

end

end Cert.HgrnPromptRefIdeal.Elements

end
-- ==== Proof.HgrnPromptClaims.lean ====
/-
  The claims about the gated linear recurrence's states after fresh sequences, from the runs of the kernel and of the reference.
-/
module

public import proofs.«01_k».proof.Defs
public import proofs.«01_k».proof.Proof.HgrnPromptFloatFrame
public import proofs.«01_k».proof.Proof.HgrnPromptFrame
public import proofs.«01_k».proof.Proof.HgrnPromptFinal
public import proofs.«01_k».proof.Proof.HgrnPromptReference
public import Idealize.ShloMosaic.Lib.Quiescent

@[expose] public section

noncomputable section

open Idealize.ShloMosaic Idealize.ShloMosaic.TcCoe Idealize.SL.Sem

namespace Cert.Proof.HgrnPromptClaims

/-- The kernel's run ends, its arguments are unchanged and its semaphores are at zero. -/
theorem frame : Cert.quiescent_HgrnPrompt := fun m ρ _ => Cert.HgrnPrompt.Gen.frame m ρ
/-- The same for the kernel over the extended reals. -/
theorem frameIdeal : Cert.quiescent_HgrnPromptIdeal := fun m ρ _ => Cert.HgrnPromptIdeal.Gen.frame m ρ
/-- The same for the reference. -/
theorem frameRef : Cert.quiescent_HgrnPromptRefIdeal := fun m ρ _ =>
  (θ_run Cert.HgrnPromptRefIdeal.defs _ _).mono (fun r h => ⟨fun c => (h c).2, sem_eq_zero_of_no_sems (by decide) r.2⟩)
    (Cert.HgrnPromptRefIdeal.Value.run (F := Ideal) m ρ)

/-- No operation of the kernel was replaced by its idealization. -/
theorem preserves : Cert.preserves_HgrnPrompt_HgrnPromptIdeal := trivial

open Cert.HgrnPromptIdeal.States in
/-- The kernel's states are the reference's, from arguments that agree. -/
theorem algebraic : Cert.algebraic_HgrnPromptIdeal_HgrnPromptRefIdeal := by
  intro m ρ m' ρ' _ hag
  have e : ∀ c : Dev Cert.HgrnPromptIdeal.nD, Cert.HgrnPromptRefIdeal.Elements.P m' c = P m c
      ∧ Cert.HgrnPromptRefIdeal.Elements.lo m' c = lb m c := fun c => ⟨(hag c).1, (hag c).2.1⟩
  refine ⟨fun c => Cert.HgrnChunks.final (P m c) (lb m c), run m ρ, ?_⟩
  refine (θ_run Cert.HgrnPromptRefIdeal.defs _ _).mono (fun _ h c => ?_) (Cert.HgrnPromptRefIdeal.Value.run (F := Ideal) m' ρ')
  obtain ⟨e0, e1⟩ := e c
  refine ⟨?_, (h c).2⟩
  beta_reduce
  rw [← e0, ← e1]
  exact (h c).1.trans (Cert.HgrnPromptRefIdeal.Elements.s_eq m' c)

end Cert.Proof.HgrnPromptClaims

end
-- ==== Proof.lean ====
/-
  Every claim of this certificate, assembled: the frames, the idealizations, and the equality of kernel and reference.
-/
module

public import proofs.«01_k».proof.Defs
public import proofs.«01_k».proof.Proof.MlstmClaims
public import proofs.«01_k».proof.Proof.HgrnClaims
public import proofs.«01_k».proof.Proof.FfnClaims
public import proofs.«01_k».proof.Proof.ProjClaims
public import proofs.«01_k».proof.Proof.GdnClaims
public import proofs.«01_k».proof.Proof.FfnSampleClaims
public import proofs.«01_k».proof.Proof.HgrnPromptClaims
public import proofs.«01_k».proof.Proof.Gen.Mlstm
public import proofs.«01_k».proof.Proof.Gen.MlstmIdeal
public import proofs.«01_k».proof.Proof.Gen.MlstmRefIdeal
public import proofs.«01_k».proof.Proof.Gen.Hgrn
public import proofs.«01_k».proof.Proof.Gen.HgrnIdeal
public import proofs.«01_k».proof.Proof.Gen.HgrnRefIdeal
public import proofs.«01_k».proof.Proof.Gen.Ffn
public import proofs.«01_k».proof.Proof.Gen.FfnIdeal
public import proofs.«01_k».proof.Proof.Gen.FfnRefIdeal
public import proofs.«01_k».proof.Proof.Gen.Proj
public import proofs.«01_k».proof.Proof.Gen.ProjIdeal
public import proofs.«01_k».proof.Proof.Gen.ProjRefIdeal
public import proofs.«01_k».proof.Proof.Gen.Gdn
public import proofs.«01_k».proof.Proof.Gen.GdnIdeal
public import proofs.«01_k».proof.Proof.Gen.GdnRefIdeal
public import proofs.«01_k».proof.Proof.Gen.FfnSample
public import proofs.«01_k».proof.Proof.Gen.FfnSampleIdeal
public import proofs.«01_k».proof.Proof.Gen.FfnSampleRefIdeal
public import proofs.«01_k».proof.Proof.Gen.HgrnPrompt
public import proofs.«01_k».proof.Proof.Gen.HgrnPromptIdeal
public import proofs.«01_k».proof.Proof.Gen.HgrnPromptRefIdeal

@[expose] public section

noncomputable section

namespace Cert.Proof

open Idealize.ShloMosaic Idealize.SL.Sem

/-- The certificate's claims hold. -/
theorem claim : Cert.Claim :=
  ⟨Cert.Mlstm.Gen.facts, Cert.MlstmIdeal.Gen.facts, Cert.MlstmRefIdeal.Gen.facts,
    Cert.Hgrn.Gen.facts, Cert.HgrnIdeal.Gen.facts, Cert.HgrnRefIdeal.Gen.facts,
    Cert.Ffn.Gen.facts, Cert.FfnIdeal.Gen.facts, Cert.FfnRefIdeal.Gen.facts,
    Cert.Proj.Gen.facts, Cert.ProjIdeal.Gen.facts, Cert.ProjRefIdeal.Gen.facts,
    Cert.Gdn.Gen.facts, Cert.GdnIdeal.Gen.facts, Cert.GdnRefIdeal.Gen.facts,
    Cert.FfnSample.Gen.facts, Cert.FfnSampleIdeal.Gen.facts, Cert.FfnSampleRefIdeal.Gen.facts,
    Cert.HgrnPrompt.Gen.facts, Cert.HgrnPromptIdeal.Gen.facts, Cert.HgrnPromptRefIdeal.Gen.facts,
    GdnClaims.shapes,
    MlstmClaims.frame, MlstmClaims.frameIdeal, MlstmClaims.frameRef,
    HgrnClaims.frame, HgrnClaims.frameIdeal, HgrnClaims.frameRef,
    FfnClaims.frame, FfnClaims.frameIdeal, FfnClaims.frameRef,
    ProjClaims.frame, ProjClaims.frameIdeal, ProjClaims.frameRef,
    GdnClaims.frame, GdnClaims.frameIdeal, GdnClaims.frameIdealPre, GdnClaims.frameRef, GdnClaims.frameRefPre,
    FfnSampleClaims.frame, FfnSampleClaims.frameIdeal, FfnSampleClaims.frameRef,
    HgrnPromptClaims.frame, HgrnPromptClaims.frameIdeal, HgrnPromptClaims.frameRef,
    MlstmClaims.preserves, HgrnClaims.preserves, FfnClaims.preserves, ProjClaims.preserves, GdnClaims.preserves, FfnSampleClaims.preserves, HgrnPromptClaims.preserves,
    MlstmClaims.algebraic, HgrnClaims.algebraic, FfnClaims.algebraic, ProjClaims.algebraic, FfnSampleClaims.algebraic, HgrnPromptClaims.algebraic, GdnClaims.algebraic⟩

end Cert.Proof

end
